-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v16_1)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_v28) = v3 c
          ∧ r.2.mem ((c.tc : Thread Cert.Reference7Ideal.nD Cert.Reference7Ideal.τ).loc Cert.Reference7Ideal.main_v17) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x1024 .f32) (main_arg2 : FVec F S8192x512 .f32) (main_arg3 : FVec F S8192x512 .f32) : IVec S8192x1024 1 × IVec S8192x1024 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite7.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x512 : S_.BroadcastsInDim S8192x512 (![] : Fin 0 → Fin S8192x512.rank)
  bcast_S_S8192x2048 : S_.BroadcastsInDim S8192x2048 (![] : Fin 0 → Fin S8192x2048.rank)
  bcast_S_S1x512 : S_.BroadcastsInDim S1x512 (![] : Fin 0 → Fin S1x512.rank)

variable [Facts]

def fn {F : FTy → Type} [FloatOps F] (main_arg0 : FVec F S8192x1024 .bf16) (main_arg1 : FVec F S1024x1024 .bf16) (main_arg2 : FVec F S8192x512 .f32) (main_arg3 : FVec F S8192x512 .f32) (main_arg4 : FVec F S8192x2048 .f32) (main_arg5 : FVec F S1x512 .f32) : IVec S8192x1024 1 × IVec S1024x1024 1 × IVec S8192x512 1 × IVec S8192x512 1 × IVec S8192x2048 1 × IVec S1x512 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Kernel.lean ====
abbrev S8192x1024 : Shape := ⟨2, ![8192, 1024]⟩
abbrev S8192x512 : Shape := ⟨2, ![8192, 512]⟩
abbrev S36 : Shape := ⟨1, ![36]⟩
abbrev S_ : Shape := ⟨0, ![]⟩
abbrev S1024x512 : Shape := ⟨2, ![1024, 512]⟩
abbrev S1 : Shape := ⟨1, ![1]⟩
abbrev S1024x256 : Shape := ⟨2, ![1024, 256]⟩
abbrev S4x1024x128 : Shape := ⟨3, ![4, 1024, 128]⟩
abbrev S1024x128 : Shape := ⟨2, ![1024, 128]⟩
abbrev S1024x1024 : Shape := ⟨2, ![1024, 1024]⟩
abbrev S1x1024x128 : Shape := ⟨3, ![1, 1024, 128]⟩
abbrev S1024 : Shape := ⟨1, ![1024]⟩
abbrev S1024x1 : Shape := ⟨2, ![1024, 1]⟩
abbrev S8192x8x64 : Shape := ⟨3, ![8192, 8, 64]⟩
abbrev S8192x8 : Shape := ⟨2, ![8192, 8]⟩
abbrev S8192x8x1 : Shape := ⟨3, ![8192, 8, 1]⟩
abbrev S8192x256 : Shape := ⟨2, ![8192, 256]⟩
abbrev S2x1024x128 : Shape := ⟨3, ![2, 1024, 128]⟩

abbrev nBuf : Space → Nat
  | .hbm => 31
  | .vmem => 33
  | .smem => 4
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x512, .bf16⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x8x64, .f32⟩
  | .hbm, ⟨18, _⟩ => ⟨S_, .f32⟩
  | .hbm, ⟨19, _⟩ => ⟨S8192x8, .f32⟩
  | .hbm, ⟨20, _⟩ => ⟨S8192x8x1, .f32⟩
  | .hbm, ⟨21, _⟩ => ⟨S8192x8x64, .f32⟩
  | .hbm, ⟨22, _⟩ => ⟨S8192x512, .f32⟩
  | .hbm, ⟨23, _⟩ => ⟨S8192x512, .bf16⟩
  | .hbm, ⟨24, _⟩ => ⟨S8192x1024, .f32⟩
  | .hbm, ⟨25, _⟩ => ⟨S8192x1024, .f32⟩
  | .hbm, ⟨26, _⟩ => ⟨S8192x512, .bf16⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S8192x256, .f32⟩
  | .local _ .vmem, ⟨26, _⟩ => ⟨S8192x256, .f32⟩
  | .local _ .vmem, ⟨27, _⟩ => ⟨S1024x256, .f32⟩
  | .local _ .vmem, ⟨28, _⟩ => ⟨S1024x256, .f32⟩
  | .local _ .vmem, ⟨29, _⟩ => ⟨S1024x128, .bf16⟩
  | .local _ .vmem, ⟨30, _⟩ => ⟨S1024x128, .bf16⟩
  | .local _ .vmem, ⟨31, _⟩ => ⟨S2x1024x128, .f32⟩
  | .local _ .vmem, ⟨32, _⟩ => ⟨S2x1024x128, .f32⟩
  | .local _ .smem, ⟨0, _⟩ => ⟨S36, .i32⟩
  | .local _ .smem, ⟨1, _⟩ => ⟨S36, .i32⟩
  | .local _ .smem, ⟨2, _⟩ => ⟨S36, .i32⟩
  | .local _ .smem, ⟨3, _⟩ => ⟨S36, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 36], ![false, false]⟩

abbrev pre1 : Pipeline.Prefetch sig := ⟨2, ![main_c_1.idx, main_c_2.idx], fun | 0 => main_c_1.names | 1 => main_c_2.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_mult1 (v1 : BitVec 32) : BitVec 32 :=
  let c1024_i32 : BitVec 32 := 1024#32
  let v20 : BitVec 32 := Scalar.muli v1 c1024_i32
  v20
def k1_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k1_off2 (v1 : BitVec 32) : Fin 2 → Nat :=
  let c1024_i32 : BitVec 32 := 1024#32
  let v20 : BitVec 32 := Scalar.muli v1 c1024_i32
  let v21 : BitVec 32 := v20
  let v80 : Index := Scalar.indexCast v21
  let c0_47 : Index := 0#32
  ![v80.toNat, 0]
def k1_off3 (v1 : BitVec 32) : Fin 2 → Nat :=
  let c1024_i32 : BitVec 32 := 1024#32
  let v20 : BitVec 32 := Scalar.muli v1 c1024_i32
  let v21 : BitVec 32 := v20
  let v119 : Index := Scalar.indexCast v21
  let c128_72 : Index := 128#32
  ![v119.toNat, 128]
def k1_mult2 (v1 : BitVec 32) : BitVec 32 :=
  let c1024_i32 : BitVec 32 := 1024#32
  let v20 : BitVec 32 := Scalar.muli v1 c1024_i32
  v20
def k1_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k1_off4 (v1 : BitVec 32) : Fin 2 → Nat :=
  let c1024_i32 : BitVec 32 := 1024#32
  let v20 : BitVec 32 := Scalar.muli v1 c1024_i32
  let v21 : BitVec 32 := v20
  let v85 : Index := Scalar.indexCast v21
  let c0_48 : Index := 0#32
  ![v85.toNat, 0]
def k1_off5 (v1 : BitVec 32) : Fin 2 → Nat :=
  let c1024_i32 : BitVec 32 := 1024#32
  let v20 : BitVec 32 := Scalar.muli v1 c1024_i32
  let v21 : BitVec 32 := v20
  let v126 : Index := Scalar.indexCast v21
  let c128_74 : Index := 128#32
  ![v126.toNat, 128]

def k1_chk1 (v1 : BitVec 32) (v3 : BitVec 32) : Prop :=
  (∀ (k1_h3 : k1_cond3 v1 v3 = 1#1), 1024 ∣ (k1_mult1 v1).toNat) ∧
  (∀ (k1_h3 : k1_cond3 v1 v3 = 1#1), ∀ a, (k1_off2 v1) a + S1024x128.size a ≤ S8192x256.size a) ∧
  (∀ (k1_h3 : k1_cond3 v1 v3 = 1#1), ∀ a, (k1_off3 v1) a + S1024x128.size a ≤ S8192x256.size a) ∧
  (∀ (k1_h4 : k1_cond4 v1 v3 = 1#1), 1024 ∣ (k1_mult2 v1).toNat) ∧
  (∀ (k1_h4 : k1_cond4 v1 v3 = 1#1), ∀ a, (k1_off4 v1) a + S1024x128.size a ≤ S8192x256.size a) ∧
  (∀ (k1_h4 : k1_cond4 v1 v3 = 1#1), ∀ a, (k1_off5 v1) a + S1024x128.size a ≤ S8192x256.size a)
theorem k1_mult1_dvd : ∀ (v1 : BitVec 32) (v3 : BitVec 32) (k1_hw1 : k1_chk1 v1 v3), ∀ (k1_h3 : k1_cond3 v1 v3 = 1#1), 1024 ∣ (k1_mult1 v1).toNat := fun v1 v3 k1_hw1 k1_h3 => k1_hw1.1 k1_h3
theorem k1_off2_inb : ∀ (v1 : BitVec 32) (v3 : BitVec 32) (k1_hw1 : k1_chk1 v1 v3), ∀ (k1_h3 : k1_cond3 v1 v3 = 1#1), ∀ a, (k1_off2 v1) a + S1024x128.size a ≤ S8192x256.size a := fun v1 v3 k1_hw1 k1_h3 => k1_hw1.2.1 k1_h3
theorem k1_off3_inb : ∀ (v1 : BitVec 32) (v3 : BitVec 32) (k1_hw1 : k1_chk1 v1 v3), ∀ (k1_h3 : k1_cond3 v1 v3 = 1#1), ∀ a, (k1_off3 v1) a + S1024x128.size a ≤ S8192x256.size a := fun v1 v3 k1_hw1 k1_h3 => k1_hw1.2.2.1 k1_h3
theorem k1_mult2_dvd : ∀ (v1 : BitVec 32) (v3 : BitVec 32) (k1_hw1 : k1_chk1 v1 v3), ∀ (k1_h4 : k1_cond4 v1 v3 = 1#1), 1024 ∣ (k1_mult2 v1).toNat := fun v1 v3 k1_hw1 k1_h4 => k1_hw1.2.2.2.1 k1_h4
theorem k1_off4_inb : ∀ (v1 : BitVec 32) (v3 : BitVec 32) (k1_hw1 : k1_chk1 v1 v3), ∀ (k1_h4 : k1_cond4 v1 v3 = 1#1), ∀ a, (k1_off4 v1) a + S1024x128.size a ≤ S8192x256.size a := fun v1 v3 k1_hw1 k1_h4 => k1_hw1.2.2.2.2.1 k1_h4
theorem k1_off5_inb : ∀ (v1 : BitVec 32) (v3 : BitVec 32) (k1_hw1 : k1_chk1 v1 v3), ∀ (k1_h4 : k1_cond4 v1 v3 = 1#1), ∀ a, (k1_off5 v1) a + S1024x128.size a ≤ S8192x256.size a := fun v1 v3 k1_hw1 k1_h4 => k1_hw1.2.2.2.2.2 k1_h4

def k1_cond1 (i : grid1.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k1_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc1_transform_0 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_1 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  ![v1.toNat, arg0.toNat]

def cc1_transform_2 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  ![v1.toNat, arg0.toNat]

def cc1_transform_3 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_4 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_5 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  ![v1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  ![v1.toNat, arg0.toNat]

def cc1_transform_8 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  ![v1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S8192x1024 : Shape := ⟨2, ![8192, 1024]⟩
abbrev S8192x512 : Shape := ⟨2, ![8192, 512]⟩
abbrev S8192x8x128 : Shape := ⟨3, ![8192, 8, 128]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x128 : Shape := ⟨3, ![8, 8192, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x8x128, .f32⟩
  | .hbm, ⟨5, _⟩ => ⟨S8192x8x128, .f32⟩
  | .hbm, ⟨6, _⟩ => ⟨S8192x8x64, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x64x8192, .f32⟩
  | .hbm, ⟨63, _⟩ => ⟨S8192x8x64, .f32⟩
  | .hbm, ⟨64, _⟩ => ⟨S8192x512, .f32⟩
  | .hbm, ⟨65, _⟩ => ⟨S8192x8x64, .f32⟩
  | .hbm, ⟨66, _⟩ => ⟨S8x64x8192, .f32⟩
  | .hbm, ⟨67, _⟩ => ⟨S8x8192x8192, .f32⟩
  | .hbm, ⟨68, _⟩ => ⟨S8x64x8192, .f32⟩
  | .hbm, ⟨69, _⟩ => ⟨S8192x8x64, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x128, .f32⟩
  | .hbm, ⟨91, _⟩ => ⟨S8192x8x128, .f32⟩
  | .hbm, ⟨92, _⟩ => ⟨S8x8192x128, .f32⟩
  | .hbm, ⟨93, _⟩ => ⟨S8192x8x128, .f32⟩
  | .hbm, ⟨94, _⟩ => ⟨S8192x512, .f32⟩
  | .hbm, ⟨95, _⟩ => ⟨S8192x1024, .f32⟩
  | .hbm, ⟨96, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel2.lean ====
abbrev S8192x4224 : Shape := ⟨2, ![8192, 4224]⟩
abbrev S1024x4224 : Shape := ⟨2, ![1024, 4224]⟩
abbrev S8192x1024 : Shape := ⟨2, ![8192, 1024]⟩
abbrev S1x1024 : Shape := ⟨2, ![1, 1024]⟩
abbrev S1024x1024 : Shape := ⟨2, ![1024, 1024]⟩
abbrev S512x4224 : Shape := ⟨2, ![512, 4224]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S1024x1024, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x4224 : Shape := ⟨2, ![8192, 4224]⟩
abbrev S1024x4224 : Shape := ⟨2, ![1024, 4224]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1024x4224, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x4224, .f32⟩
  | .hbm, ⟨28, _⟩ => ⟨S8192x4224, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024x1024, .f32⟩
  | .hbm, ⟨56, _⟩ => ⟨S8192x1024, .f32⟩
  | .hbm, ⟨57, _⟩ => ⟨S1024x1024, .f32⟩
  | .hbm, ⟨58, _⟩ => ⟨S1024x1024, .f32⟩
  | .hbm, ⟨59, _⟩ => ⟨S8192x1024, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S8192x4224 : Shape := ⟨2, ![8192, 4224]⟩
abbrev S8192x1024 : Shape := ⟨2, ![8192, 1024]⟩
abbrev S4224x1024 : Shape := ⟨2, ![4224, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4224, .bf16⟩
  | .hbm, ⟨1, _⟩ => ⟨S8192x1024, .bf16⟩
  | .hbm, ⟨2, _⟩ => ⟨S4224x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4224 : Shape := ⟨2, ![8192, 4224]⟩
abbrev S8192x1024 : Shape := ⟨2, ![8192, 1024]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S8192x1024, .bf16⟩
  | .hbm, ⟨2, _⟩ => ⟨S_, .f32⟩
  | .hbm, ⟨3, _⟩ => ⟨S1024x4224, .f32⟩
  | .hbm, ⟨4, _⟩ => ⟨S8192x1024, .f32⟩
  | .hbm, ⟨5, _⟩ => ⟨S8192x4224, .f32⟩
  | .hbm, ⟨6, _⟩ => ⟨S8192x4224, .f32⟩
  | .hbm, ⟨7, _⟩ => ⟨S4224x1024, .f32⟩
  | .hbm, ⟨8, _⟩ => ⟨S1024x4224, .f32⟩
  | .hbm, ⟨9, _⟩ => ⟨S4224x1024, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x4224 : Shape := ⟨2, ![1024, 4224]⟩
abbrev S8192x4224 : Shape := ⟨2, ![8192, 4224]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x4224, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x1024 : Shape := ⟨2, ![8192, 1024]⟩
abbrev S1x1024 : Shape := ⟨2, ![1, 1024]⟩
abbrev S1024x4224 : Shape := ⟨2, ![1024, 4224]⟩
abbrev S_ : Shape := ⟨0, ![]⟩
abbrev S8192 : Shape := ⟨1, ![8192]⟩
abbrev S8192x1 : Shape := ⟨2, ![8192, 1]⟩
abbrev S8192x4224 : Shape := ⟨2, ![8192, 4224]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4224, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4224, .f32⟩
  | .hbm, ⟨19, _⟩ => ⟨S8192x4224, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S8192x512 : Shape := ⟨2, ![8192, 512]⟩
abbrev S8192x2048 : Shape := ⟨2, ![8192, 2048]⟩
abbrev S1x512 : Shape := ⟨2, ![1, 512]⟩
abbrev S1024x1024 : Shape := ⟨2, ![1024, 1024]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S1x512, .f32⟩
  | .hbm, ⟨4, _⟩ => ⟨S1024x1024, .bf16⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x512 : Shape := ⟨2, ![8192, 512]⟩
abbrev S8192x2048 : Shape := ⟨2, ![8192, 2048]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x2048, .f32⟩
  | .hbm, ⟨3, _⟩ => ⟨S1x512, .f32⟩
  | .hbm, ⟨4, _⟩ => ⟨S1024x1024, .bf16⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S1x512 : Shape := ⟨2, ![1, 512]⟩
abbrev S256x1024 : Shape := ⟨2, ![256, 1024]⟩
abbrev S256x512 : Shape := ⟨2, ![256, 512]⟩
abbrev S1024x512 : Shape := ⟨2, ![1024, 512]⟩
abbrev S512 : Shape := ⟨1, ![512]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2048, .f32⟩
  | .hbm, ⟨5, _⟩ => ⟨S1x512, .f32⟩
  | .hbm, ⟨6, _⟩ => ⟨S8192x512, .bf16⟩
  | .hbm, ⟨7, _⟩ => ⟨S8192x512, .f32⟩
  | .hbm, ⟨8, _⟩ => ⟨S8192x512, .bf16⟩
  | .hbm, ⟨9, _⟩ => ⟨S8192x1024, .bf16⟩
  | .hbm, ⟨10, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x1024, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x1024, .bf16⟩
  | .local _ .vmem, ⟨17, _⟩ => ⟨S256x1024, .bf16⟩
  | .local _ .vmem, ⟨18, _⟩ => ⟨S1x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x1024 : Shape := ⟨2, ![8192, 1024]⟩
abbrev S1024x1024 : Shape := ⟨2, ![1024, 1024]⟩
abbrev S8192x512 : Shape := ⟨2, ![8192, 512]⟩
abbrev S8192x2048 : Shape := ⟨2, ![8192, 2048]⟩
abbrev S1x512 : Shape := ⟨2, ![1, 512]⟩
abbrev S_ : Shape := ⟨0, ![]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .f32⟩
  | .hbm, ⟨4, _⟩ => ⟨S8192x2048, .f32⟩
  | .hbm, ⟨5, _⟩ => ⟨S1x512, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x8x64, .f32⟩
  | .hbm, ⟨44, _⟩ => ⟨S_, .f32⟩
  | .hbm, ⟨45, _⟩ => ⟨S8192x8, .f32⟩
  | .hbm, ⟨46, _⟩ => ⟨S8192x8x1, .f32⟩
  | .hbm, ⟨47, _⟩ => ⟨S8192x512, .bf16⟩
  | .hbm, ⟨48, _⟩ => ⟨S8192x8x64, .f32⟩
  | .hbm, ⟨49, _⟩ => ⟨S8192x512, .f32⟩
  | .hbm, ⟨50, _⟩ => ⟨S8192x512, .bf16⟩
  | .hbm, ⟨51, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v8_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v8_1 : Ref sig .tc := ⟨.hbm, 25, rfl⟩
abbrev main_v8_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.RunsFwd.lean ====
/- What one point of the forward call does, by the control path its schedule words select. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The schedule tables and scratch buffers of call 0, as the body is handed them. -/
abbrev tbM0_0 : Memref sig .tc .smem S36 .i32 := Memref.whole main_c
abbrev tbM0_1 : Memref sig .tc .smem S36 .i32 := Memref.whole main_c_0
/-- The word of this schedule table at point `i`. -/
abbrev tv0_0 (i : grid0.Coords) (T : S36.Idx → Elt F .i32) : Elt F .i32 :=
  View.readAt (Elt F) (tbM0_0).view (Rect.unit (s := S36) (k0_off1 i) S1.size (k0_off1_inb i)).toLoadRect T (Shape.Idx.first (numel1_S1.symm ▸ Nat.one_pos))
/-- The word of this schedule table at point `i`. -/
abbrev tv0_1 (i : grid0.Coords) (T : S36.Idx → Elt F .i32) : Elt F .i32 :=
  View.readAt (Elt F) (tbM0_1).view (Rect.unit (s := S36) (k0_off1 i) S1.size (k0_off1_inb i)).toLoadRect T (Shape.Idx.first (numel1_S1.symm ▸ Nat.one_pos))
abbrev scM0_0 : Memref sig .tc .vmem S4x1024x128 .f32 := Memref.whole cc0_scratch0
abbrev scM0_1 : Memref sig .tc .vmem S4x1024x128 .f32 := Memref.whole cc0_scratch1
abbrev scM0_2 : Memref sig .tc .vmem S4x1024x128 .f32 := Memref.whole cc0_scratch2

set_option backward.proofsInPublic true in
set_option maxHeartbeats 8000000 in
/-- First query block: running maximum, sum and product are reset, the diagonal block is folded in, the outputs are written. -/
def run0_A (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    Σ' (out0 : List (View.Piece (Elt F) S1024x256 .f32)) (out1 : List (View.Piece (Elt F) S1024x256 .f32)) (sc0 : Buf (Elt F) ((c : Thread nD τ).loc cc0_scratch0)) (sc1 : Buf (Elt F) ((c : Thread nD τ).loc cc0_scratch1)), { sc2 : Buf (Elt F) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (∃ f, arg7.view.loc (c : Thread nD τ) ↦[arg7.view.set]{fullShare} arg7.view.writes (Elt F) f out0)
          ∗ (∃ f, arg8.view.loc (c : Thread nD τ) ↦[arg8.view.set]{fullShare} arg8.view.writes (Elt F) f out1)
          ∗ (scM0_0.view.loc (c : Thread nD τ) ↦{fullShare} sc0)
          ∗ (scM0_1.view.loc (c : Thread nD τ) ↦{fullShare} sc1)
          ∗ (scM0_2.view.loc (c : Thread nD τ) ↦{fullShare} sc2)) -∗ K ⟨⟩))
        ⊢ wp frame (wpE (defs₀ (F := F)) Variants.none c none) Set.univ
            (cc0_attn_fwd i tbM0_0 (Memref.isWhole_whole _) tbM0_1 (Memref.isWhole_whole _) arg4 harg4 arg5 harg5 arg6 harg6 arg7 harg7 arg8 harg8 scM0_0 (Memref.isWhole_whole _) scM0_1 (Memref.isWhole_whole _) scM0_2 (Memref.isWhole_whole _)) K } :=
  ⟨_, _, _, _, _, fun K => by
    rw [cc0_attn_fwd_eq_skeleton]; unfold cc0_attn_fwd_skel
    iintro ⟨H0, H1, H2, HT0, HT1, HO0, HO1, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (with_reducible exact h1) | (with_reducible exact h2) | (with_reducible exact h3) | (with_reducible exact h4))
    sl_step
    iapply Hk
    isplitl [H0]; · iexact H0
    isplitl [H1]; · iexact H1
    isplitl [H2]; · iexact H2
    isplitl [HT0]; · iexact HT0
    isplitl [HT1]; · iexact HT1
    isplitl [HO0]; · iexists _; iexact HO0
    isplitl [HO1]; · iexists _; iexact HO1
    isplitl [HS0]; · iexact HS0
    isplitl [HS1]; · iexact HS1
    iexact HS2⟩

set_option backward.proofsInPublic true in
set_option maxHeartbeats 8000000 in
/-- First key block of a later query block: reset, then an unmasked block is folded in. -/
def run0_B (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : Scalar.cmpi .ne (Scalar.extui (Scalar.cmpi .eq (tv0_1 i T1) 0#32)) 0#32 = 1#1) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    Σ' (sc0 : Buf (Elt F) ((c : Thread nD τ).loc cc0_scratch0)) (sc1 : Buf (Elt F) ((c : Thread nD τ).loc cc0_scratch1)), { sc2 : Buf (Elt F) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} sc0)
          ∗ (scM0_1.view.loc (c : Thread nD τ) ↦{fullShare} sc1)
          ∗ (scM0_2.view.loc (c : Thread nD τ) ↦{fullShare} sc2)) -∗ K ⟨⟩))
        ⊢ wp frame (wpE (defs₀ (F := F)) Variants.none c none) Set.univ
            (cc0_attn_fwd i tbM0_0 (Memref.isWhole_whole _) tbM0_1 (Memref.isWhole_whole _) arg4 harg4 arg5 harg5 arg6 harg6 arg7 harg7 arg8 harg8 scM0_0 (Memref.isWhole_whole _) scM0_1 (Memref.isWhole_whole _) scM0_2 (Memref.isWhole_whole _)) K } :=
  ⟨_, _, _, fun K => by
    rw [cc0_attn_fwd_eq_skeleton]; unfold cc0_attn_fwd_skel
    iintro ⟨H0, H1, H2, HT0, HT1, HO0, HO1, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (with_reducible exact h1) | (with_reducible exact h2) | (with_reducible exact h3) | (with_reducible exact h4))
    sl_step
    iapply Hk
    isplitl [H0]; · iexact H0
    isplitl [H1]; · iexact H1
    isplitl [H2]; · iexact H2
    isplitl [HT0]; · iexact HT0
    isplitl [HT1]; · iexact HT1
    isplitl [HO0]; · iexact HO0
    isplitl [HO1]; · iexact HO1
    isplitl [HS0]; · iexact HS0
    isplitl [HS1]; · iexact HS1
    iexact HS2⟩

set_option backward.proofsInPublic true in
set_option maxHeartbeats 8000000 in
/-- A further unmasked block is folded in. -/
def run0_C (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : ¬(Scalar.cmpi .ne (Scalar.extui (Scalar.cmpi .eq (tv0_1 i T1) 0#32)) 0#32 = 1#1)) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    Σ' (sc0 : Buf (Elt F) ((c : Thread nD τ).loc cc0_scratch0)) (sc1 : Buf (Elt F) ((c : Thread nD τ).loc cc0_scratch1)), { sc2 : Buf (Elt F) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} sc0)
          ∗ (scM0_1.view.loc (c : Thread nD τ) ↦{fullShare} sc1)
          ∗ (scM0_2.view.loc (c : Thread nD τ) ↦{fullShare} sc2)) -∗ K ⟨⟩))
        ⊢ wp frame (wpE (defs₀ (F := F)) Variants.none c none) Set.univ
            (cc0_attn_fwd i tbM0_0 (Memref.isWhole_whole _) tbM0_1 (Memref.isWhole_whole _) arg4 harg4 arg5 harg5 arg6 harg6 arg7 harg7 arg8 harg8 scM0_0 (Memref.isWhole_whole _) scM0_1 (Memref.isWhole_whole _) scM0_2 (Memref.isWhole_whole _)) K } :=
  ⟨_, _, _, fun K => by
    rw [cc0_attn_fwd_eq_skeleton]; unfold cc0_attn_fwd_skel
    iintro ⟨H0, H1, H2, HT0, HT1, HO0, HO1, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (with_reducible exact h1) | (with_reducible exact h2) | (with_reducible exact h3) | (with_reducible exact h4))
    sl_step
    iapply Hk
    isplitl [H0]; · iexact H0
    isplitl [H1]; · iexact H1
    isplitl [H2]; · iexact H2
    isplitl [HT0]; · iexact HT0
    isplitl [HT1]; · iexact HT1
    isplitl [HO0]; · iexact HO0
    isplitl [HO1]; · iexact HO1
    isplitl [HS0]; · iexact HS0
    isplitl [HS1]; · iexact HS1
    iexact HS2⟩

set_option backward.proofsInPublic true in
set_option maxHeartbeats 8000000 in
/-- The diagonal block of a later query block is folded in and the outputs are written. -/
def run0_D (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    Σ' (out0 : List (View.Piece (Elt F) S1024x256 .f32)) (out1 : List (View.Piece (Elt F) S1024x256 .f32)) (sc0 : Buf (Elt F) ((c : Thread nD τ).loc cc0_scratch0)) (sc1 : Buf (Elt F) ((c : Thread nD τ).loc cc0_scratch1)), { sc2 : Buf (Elt F) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (arg7.view.loc (c : Thread nD τ) ↦[arg7.view.set]{fullShare} arg7.view.rep y0)
          ∗ (arg8.view.loc (c : Thread nD τ) ↦[arg8.view.set]{fullShare} arg8.view.rep y1)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare} T0)
          ∗ (tbM0_1.view.loc (c : Thread nD τ) ↦{fullShare} T1)
          ∗ (∃ f, arg7.view.loc (c : Thread nD τ) ↦[arg7.view.set]{fullShare} arg7.view.writes (Elt F) f out0)
          ∗ (∃ f, arg8.view.loc (c : Thread nD τ) ↦[arg8.view.set]{fullShare} arg8.view.writes (Elt F) f out1)
          ∗ (scM0_0.view.loc (c : Thread nD τ) ↦{fullShare} sc0)
          ∗ (scM0_1.view.loc (c : Thread nD τ) ↦{fullShare} sc1)
          ∗ (scM0_2.view.loc (c : Thread nD τ) ↦{fullShare} sc2)) -∗ K ⟨⟩))
        ⊢ wp frame (wpE (defs₀ (F := F)) Variants.none c none) Set.univ
            (cc0_attn_fwd i tbM0_0 (Memref.isWhole_whole _) tbM0_1 (Memref.isWhole_whole _) arg4 harg4 arg5 harg5 arg6 harg6 arg7 harg7 arg8 harg8 scM0_0 (Memref.isWhole_whole _) scM0_1 (Memref.isWhole_whole _) scM0_2 (Memref.isWhole_whole _)) K } :=
  ⟨_, _, _, _, _, fun K => by
    rw [cc0_attn_fwd_eq_skeleton]; unfold cc0_attn_fwd_skel
    iintro ⟨H0, H1, H2, HT0, HT1, HO0, HO1, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (with_reducible exact h1) | (with_reducible exact h2) | (with_reducible exact h3) | (with_reducible exact h4))
    sl_step
    iapply Hk
    isplitl [H0]; · iexact H0
    isplitl [H1]; · iexact H1
    isplitl [H2]; · iexact H2
    isplitl [HT0]; · iexact HT0
    isplitl [HT1]; · iexact HT1
    isplitl [HO0]; · iexists _; iexact HO0
    isplitl [HO1]; · iexists _; iexact HO1
    isplitl [HS0]; · iexact HS0
    isplitl [HS1]; · iexact HS1
    iexact HS2⟩

end Cert.Attn

end
-- ==== Proof.RunsBwd.lean ====
/- What one point of the backward call does, by the control path its schedule words select: from the input
   blocks, the gradient of q accumulated so far and the two accumulators of the key block, the body runs to the stores listed. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The schedule tables and scratch buffers of call 1, as the body is handed them. -/
abbrev tbM1_0 : Memref sig .tc .smem S36 .i32 := Memref.whole main_c_1
abbrev tbM1_1 : Memref sig .tc .smem S36 .i32 := Memref.whole main_c_2
/-- The word of this schedule table at point `i`. -/
abbrev tv1_0 (i : grid1.Coords) (T : S36.Idx → Elt F .i32) : Elt F .i32 :=
  View.readAt (Elt F) (tbM1_0).view (Rect.unit (s := S36) (k1_off1 i) S1.size (k1_off1_inb i)).toLoadRect T (Shape.Idx.first (numel1_S1.symm ▸ Nat.one_pos))
/-- The word of this schedule table at point `i`. -/
abbrev tv1_1 (i : grid1.Coords) (T : S36.Idx → Elt F .i32) : Elt F .i32 :=
  View.readAt (Elt F) (tbM1_1).view (Rect.unit (s := S36) (k1_off1 i) S1.size (k1_off1_inb i)).toLoadRect T (Shape.Idx.first (numel1_S1.symm ▸ Nat.one_pos))
abbrev scM1_0 : Memref sig .tc .vmem S2x1024x128 .f32 := Memref.whole cc1_scratch0
abbrev scM1_1 : Memref sig .tc .vmem S2x1024x128 .f32 := Memref.whole cc1_scratch1

set_option backward.proofsInPublic true in
set_option maxHeartbeats 8000000 in
/-- First point of a head pair: the accumulated gradients are set to zero, then the diagonal block is added. -/
def run1_A (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : k1_cond1 i = 1#1) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    Σ' (out0 : List (View.Piece (Elt F) S8192x256 .f32)) (sc0 : Buf (Elt F) ((c : Thread nD τ).loc cc1_scratch0)), { sc1 : Buf (Elt F) ((c : Thread nD τ).loc cc1_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.rep y0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} xa0)
          ∗ (scM1_1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (∃ f, arg10.view.loc (c : Thread nD τ) ↦[arg10.view.set]{fullShare} arg10.view.writes (Elt F) f out0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} sc0)
          ∗ (scM1_1.view.loc (c : Thread nD τ) ↦{fullShare} sc1)) -∗ K ⟨⟩))
        ⊢ wp frame (wpE (defs₀ (F := F)) Variants.none c none) Set.univ
            (cc1_attn_bwd i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _)) K } :=
  ⟨_, _, _, fun K => by
    rw [cc1_attn_bwd_eq_skeleton]; unfold cc1_attn_bwd_skel
    iintro ⟨H0, H1, H2, H3, H4, H5, HT0, HT1, HO0, HO1, HO2, HS0, HS1, Hk⟩
    have hS0 : scM1_0.IsWhole := Memref.isWhole_whole _
    have hS1 : scM1_1.IsWhole := Memref.isWhole_whole _
    have hT0 : tbM1_0.IsWhole := Memref.isWhole_whole _
    have hT1 : tbM1_1.IsWhole := Memref.isWhole_whole _
    sl_exec! (disch := first | (with_reducible exact chk) | (with_reducible exact h1) | (with_reducible exact h2) | (with_reducible exact h3) | (with_reducible exact h4) | (with_reducible exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO0]; · iexists _; iexact HO0
    isplitl [HO1]; · iexact HO1
    isplitl [HO2]; · iexact HO2
    isplitl [HS0]; · iexact HS0
    iexact HS1⟩

set_option backward.proofsInPublic true in
set_option maxHeartbeats 8000000 in
/-- Diagonal block that is not the first point nor the last key block: the key block's accumulators start at zero. -/
def run1_B (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    Σ' (out0 : List (View.Piece (Elt F) S8192x256 .f32)) (sc0 : Buf (Elt F) ((c : Thread nD τ).loc cc1_scratch0)), { sc1 : Buf (Elt F) ((c : Thread nD τ).loc cc1_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.rep y0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} xa0)
          ∗ (scM1_1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.writes (Elt F) (arg10.view.rep y0) out0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} sc0)
          ∗ (scM1_1.view.loc (c : Thread nD τ) ↦{fullShare} sc1)) -∗ K ⟨⟩))
        ⊢ wp frame (wpE (defs₀ (F := F)) Variants.none c none) Set.univ
            (cc1_attn_bwd i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _)) K } :=
  ⟨_, _, _, fun K => by
    rw [cc1_attn_bwd_eq_skeleton]; unfold cc1_attn_bwd_skel
    iintro ⟨H0, H1, H2, H3, H4, H5, HT0, HT1, HO0, HO1, HO2, HS0, HS1, Hk⟩
    have hS0 : scM1_0.IsWhole := Memref.isWhole_whole _
    have hS1 : scM1_1.IsWhole := Memref.isWhole_whole _
    have hT0 : tbM1_0.IsWhole := Memref.isWhole_whole _
    have hT1 : tbM1_1.IsWhole := Memref.isWhole_whole _
    sl_exec! (disch := first | (with_reducible exact chk) | (with_reducible exact h1) | (with_reducible exact h2) | (with_reducible exact h3) | (with_reducible exact h4) | (with_reducible exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO0]; · iexact HO0
    isplitl [HO1]; · iexact HO1
    isplitl [HO2]; · iexact HO2
    isplitl [HS0]; · iexact HS0
    iexact HS1⟩

set_option backward.proofsInPublic true in
set_option maxHeartbeats 8000000 in
/-- Block below the diagonal, not in the last query block. -/
def run1_C (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : ¬(k1_cond5 (tv1_0 i T0) = 1#1)) :
    Σ' (out0 : List (View.Piece (Elt F) S8192x256 .f32)) (sc0 : Buf (Elt F) ((c : Thread nD τ).loc cc1_scratch0)), { sc1 : Buf (Elt F) ((c : Thread nD τ).loc cc1_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.rep y0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} xa0)
          ∗ (scM1_1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.writes (Elt F) (arg10.view.rep y0) out0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} sc0)
          ∗ (scM1_1.view.loc (c : Thread nD τ) ↦{fullShare} sc1)) -∗ K ⟨⟩))
        ⊢ wp frame (wpE (defs₀ (F := F)) Variants.none c none) Set.univ
            (cc1_attn_bwd i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _)) K } :=
  ⟨_, _, _, fun K => by
    rw [cc1_attn_bwd_eq_skeleton]; unfold cc1_attn_bwd_skel
    iintro ⟨H0, H1, H2, H3, H4, H5, HT0, HT1, HO0, HO1, HO2, HS0, HS1, Hk⟩
    have hS0 : scM1_0.IsWhole := Memref.isWhole_whole _
    have hS1 : scM1_1.IsWhole := Memref.isWhole_whole _
    have hT0 : tbM1_0.IsWhole := Memref.isWhole_whole _
    have hT1 : tbM1_1.IsWhole := Memref.isWhole_whole _
    sl_exec! (disch := first | (with_reducible exact chk) | (with_reducible exact h1) | (with_reducible exact h2) | (with_reducible exact h3) | (with_reducible exact h4) | (with_reducible exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO0]; · iexact HO0
    isplitl [HO1]; · iexact HO1
    isplitl [HO2]; · iexact HO2
    isplitl [HS0]; · iexact HS0
    iexact HS1⟩

set_option backward.proofsInPublic true in
set_option maxHeartbeats 8000000 in
/-- Block below the diagonal in the last query block: the key block's gradients are written out. -/
def run1_D (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) :
    Σ' (out0 : List (View.Piece (Elt F) S8192x256 .f32)) (out1 : List (View.Piece (Elt F) S1024x256 .f32)) (out2 : List (View.Piece (Elt F) S1024x128 .bf16)) (sc0 : Buf (Elt F) ((c : Thread nD τ).loc cc1_scratch0)), { sc1 : Buf (Elt F) ((c : Thread nD τ).loc cc1_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.rep y0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} xa0)
          ∗ (scM1_1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.writes (Elt F) (arg10.view.rep y0) out0)
          ∗ (∃ f, arg11.view.loc (c : Thread nD τ) ↦[arg11.view.set]{fullShare} arg11.view.writes (Elt F) f out1)
          ∗ (∃ f, arg12.view.loc (c : Thread nD τ) ↦[arg12.view.set]{fullShare} arg12.view.writes (Elt F) f out2)
          ∗ (scM1_0.view.loc (c : Thread nD τ) ↦{fullShare} sc0)
          ∗ (scM1_1.view.loc (c : Thread nD τ) ↦{fullShare} sc1)) -∗ K ⟨⟩))
        ⊢ wp frame (wpE (defs₀ (F := F)) Variants.none c none) Set.univ
            (cc1_attn_bwd i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _)) K } :=
  ⟨_, _, _, _, _, fun K => by
    rw [cc1_attn_bwd_eq_skeleton]; unfold cc1_attn_bwd_skel
    iintro ⟨H0, H1, H2, H3, H4, H5, HT0, HT1, HO0, HO1, HO2, HS0, HS1, Hk⟩
    have hS0 : scM1_0.IsWhole := Memref.isWhole_whole _
    have hS1 : scM1_1.IsWhole := Memref.isWhole_whole _
    have hT0 : tbM1_0.IsWhole := Memref.isWhole_whole _
    have hT1 : tbM1_1.IsWhole := Memref.isWhole_whole _
    sl_exec! (disch := first | (with_reducible exact chk) | (with_reducible exact h1) | (with_reducible exact h2) | (with_reducible exact h3) | (with_reducible exact h4) | (with_reducible exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO0]; · iexact HO0
    isplitl [HO1]; · iexists _; iexact HO1
    isplitl [HO2]; · iexists _; iexact HO2
    isplitl [HS0]; · iexact HS0
    iexact HS1⟩

set_option backward.proofsInPublic true in
set_option maxHeartbeats 8000000 in
/-- Last diagonal block: the key block's accumulators start at zero and are written out. -/
def run1_E (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) :
    Σ' (out0 : List (View.Piece (Elt F) S8192x256 .f32)) (out1 : List (View.Piece (Elt F) S1024x256 .f32)) (out2 : List (View.Piece (Elt F) S1024x128 .bf16)) (sc0 : Buf (Elt F) ((c : Thread nD τ).loc cc1_scratch0)), { sc1 : Buf (Elt F) ((c : Thread nD τ).loc cc1_scratch1) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.rep y0)
          ∗ (arg11.view.loc (c : Thread nD τ) ↦[arg11.view.set]{fullShare} arg11.view.rep y1)
          ∗ (arg12.view.loc (c : Thread nD τ) ↦[arg12.view.set]{fullShare} arg12.view.rep y2)
          ∗ (scM1_0.view.loc (c : Thread nD τ) ↦{fullShare} xa0)
          ∗ (scM1_1.view.loc (c : Thread nD τ) ↦{fullShare} xa1)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM1_0.view.loc (c : Thread nD τ) ↦{fullShare} T0)
          ∗ (tbM1_1.view.loc (c : Thread nD τ) ↦{fullShare} T1)
          ∗ (arg10.view.loc (c : Thread nD τ) ↦[arg10.view.set]{fullShare} arg10.view.writes (Elt F) (arg10.view.rep y0) out0)
          ∗ (∃ f, arg11.view.loc (c : Thread nD τ) ↦[arg11.view.set]{fullShare} arg11.view.writes (Elt F) f out1)
          ∗ (∃ f, arg12.view.loc (c : Thread nD τ) ↦[arg12.view.set]{fullShare} arg12.view.writes (Elt F) f out2)
          ∗ (scM1_0.view.loc (c : Thread nD τ) ↦{fullShare} sc0)
          ∗ (scM1_1.view.loc (c : Thread nD τ) ↦{fullShare} sc1)) -∗ K ⟨⟩))
        ⊢ wp frame (wpE (defs₀ (F := F)) Variants.none c none) Set.univ
            (cc1_attn_bwd i tbM1_0 (Memref.isWhole_whole _) tbM1_1 (Memref.isWhole_whole _) arg4 harg4 arg5 harg5 arg6 harg6 arg7 harg7 arg8 harg8 arg9 harg9 arg10 harg10 arg11 harg11 arg12 harg12 scM1_0 (Memref.isWhole_whole _) scM1_1 (Memref.isWhole_whole _)) K } :=
  ⟨_, _, _, _, _, fun K => by
    rw [cc1_attn_bwd_eq_skeleton]; unfold cc1_attn_bwd_skel
    iintro ⟨H0, H1, H2, H3, H4, H5, HT0, HT1, HO0, HO1, HO2, HS0, HS1, Hk⟩
    have hS0 : scM1_0.IsWhole := Memref.isWhole_whole _
    have hS1 : scM1_1.IsWhole := Memref.isWhole_whole _
    have hT0 : tbM1_0.IsWhole := Memref.isWhole_whole _
    have hT1 : tbM1_1.IsWhole := Memref.isWhole_whole _
    sl_exec! (disch := first | (with_reducible exact chk) | (with_reducible exact h1) | (with_reducible exact h2) | (with_reducible exact h3) | (with_reducible exact h4) | (with_reducible exact h5))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO0]; · iexact HO0
    isplitl [HO1]; · iexists _; iexact HO1
    isplitl [HO2]; · iexists _; iexact HO2
    isplitl [HS0]; · iexact HS0
    iexact HS1⟩

end Cert.Attn

end
-- ==== Proof.Sched.lean ====
/- The two calls' schedules: the tables' words, the pipelines at them, and what is decided at each grid point. -/
module

public import proofs.«01_k».proof.Proof.RunsFwd
public import proofs.«01_k».proof.Proof.RunsBwd
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The schedule tables -/

/-- The forward call's query-block and key-block tables, the backward call's query-block and key-block tables. -/
abbrev tab0 : S36.Idx → Elt F .i32 := fun i => lit0 (S36.rowMajor i)
abbrev tab1 : S36.Idx → Elt F .i32 := fun i => lit1 (S36.rowMajor i)
abbrev tab2 : S36.Idx → Elt F .i32 := fun i => lit2 (S36.rowMajor i)
abbrev tab3 : S36.Idx → Elt F .i32 := fun i => lit3 (S36.rowMajor i)

set_option backward.proofsInPublic true in
/-- The forward call's tables together. -/
def pf0 : pre0.Contents (Elt F) := fun | ⟨0, _⟩ => tab0 | ⟨1, _⟩ => tab1 | ⟨_ + 2, h⟩ => absurd h (by simp)
set_option backward.proofsInPublic true in
/-- The backward call's tables together. -/
def pf1 : pre1.Contents (Elt F) := fun | ⟨0, _⟩ => tab2 | ⟨1, _⟩ => tab3 | ⟨_ + 2, h⟩ => absurd h (by simp)

/-! ## Every block of every window inside its array -/

theorem inbI0_0 : ∀ i : grid0.Coords, ∀ a, (cc0_transform_0 k0_off1_inb numel1_S1 (pf0 (F := Ideal)) i a + 1) * S1024x512.size a ≤ S8192x1024.size a := by decide +kernel
theorem inb0_0 : ∀ i : grid0.Coords, ∀ a, (cc0_transform_0 k0_off1_inb numel1_S1 (pf0 (F := F)) i a + 1) * S1024x512.size a ≤ S8192x1024.size a := fun i a => inbI0_0 i a

theorem inbI0_1 : ∀ i : grid0.Coords, ∀ a, (cc0_transform_1 k0_off1_inb numel1_S1 (pf0 (F := Ideal)) i a + 1) * S1024x512.size a ≤ S8192x1024.size a := by decide +kernel
theorem inb0_1 : ∀ i : grid0.Coords, ∀ a, (cc0_transform_1 k0_off1_inb numel1_S1 (pf0 (F := F)) i a + 1) * S1024x512.size a ≤ S8192x1024.size a := fun i a => inbI0_1 i a

theorem inbI0_2 : ∀ i : grid0.Coords, ∀ a, (cc0_transform_2 k0_off1_inb numel1_S1 (pf0 (F := Ideal)) i a + 1) * S1024x256.size a ≤ S8192x512.size a := by decide +kernel
theorem inb0_2 : ∀ i : grid0.Coords, ∀ a, (cc0_transform_2 k0_off1_inb numel1_S1 (pf0 (F := F)) i a + 1) * S1024x256.size a ≤ S8192x512.size a := fun i a => inbI0_2 i a

theorem inbI0_3 : ∀ i : grid0.Coords, ∀ a, (cc0_transform_3 k0_off1_inb numel1_S1 (pf0 (F := Ideal)) i a + 1) * S1024x256.size a ≤ S8192x512.size a := by decide +kernel
theorem inb0_3 : ∀ i : grid0.Coords, ∀ a, (cc0_transform_3 k0_off1_inb numel1_S1 (pf0 (F := F)) i a + 1) * S1024x256.size a ≤ S8192x512.size a := fun i a => inbI0_3 i a

theorem inbI0_4 : ∀ i : grid0.Coords, ∀ a, (cc0_transform_4 k0_off1_inb numel1_S1 (pf0 (F := Ideal)) i a + 1) * S1024x256.size a ≤ S8192x512.size a := by decide +kernel
theorem inb0_4 : ∀ i : grid0.Coords, ∀ a, (cc0_transform_4 k0_off1_inb numel1_S1 (pf0 (F := F)) i a + 1) * S1024x256.size a ≤ S8192x512.size a := fun i a => inbI0_4 i a

/-- The side condition of call 0 at its tables. -/
theorem okA0 : ok0 (F := F) pf0 :=
  ⟨fun i => ⟨inb0_0 i, .inr (Affine.block_words_dvd (s := S8192x1024) (p := EltTy.packing .bf16) (by decide) (by decide))⟩,
   fun i => ⟨inb0_1 i, .inr (Affine.block_words_dvd (s := S8192x1024) (p := EltTy.packing .bf16) (by decide) (by decide))⟩,
   fun i => ⟨inb0_2 i, .inr (Affine.block_words_dvd (s := S8192x512) (p := EltTy.packing .bf16) (by decide) (by decide))⟩,
   fun i => ⟨inb0_3 i, .inl rfl⟩,
   fun i => ⟨inb0_4 i, .inl rfl⟩⟩

theorem inbI1_0 : ∀ i : grid1.Coords, ∀ a, (cc1_transform_0 k1_off1_inb numel1_S1 (pf1 (F := Ideal)) i a + 1) * S1024x256.size a ≤ S8192x1024.size a := by decide +kernel
theorem inb1_0 : ∀ i : grid1.Coords, ∀ a, (cc1_transform_0 k1_off1_inb numel1_S1 (pf1 (F := F)) i a + 1) * S1024x256.size a ≤ S8192x1024.size a := fun i a => inbI1_0 i a

theorem inbI1_1 : ∀ i : grid1.Coords, ∀ a, (cc1_transform_1 k1_off1_inb numel1_S1 (pf1 (F := Ideal)) i a + 1) * S1024x256.size a ≤ S8192x1024.size a := by decide +kernel
theorem inb1_1 : ∀ i : grid1.Coords, ∀ a, (cc1_transform_1 k1_off1_inb numel1_S1 (pf1 (F := F)) i a + 1) * S1024x256.size a ≤ S8192x1024.size a := fun i a => inbI1_1 i a

theorem inbI1_2 : ∀ i : grid1.Coords, ∀ a, (cc1_transform_2 k1_off1_inb numel1_S1 (pf1 (F := Ideal)) i a + 1) * S1024x128.size a ≤ S8192x512.size a := by decide +kernel
theorem inb1_2 : ∀ i : grid1.Coords, ∀ a, (cc1_transform_2 k1_off1_inb numel1_S1 (pf1 (F := F)) i a + 1) * S1024x128.size a ≤ S8192x512.size a := fun i a => inbI1_2 i a

theorem inbI1_3 : ∀ i : grid1.Coords, ∀ a, (cc1_transform_3 k1_off1_inb numel1_S1 (pf1 (F := Ideal)) i a + 1) * S1024x128.size a ≤ S8192x512.size a := by decide +kernel
theorem inb1_3 : ∀ i : grid1.Coords, ∀ a, (cc1_transform_3 k1_off1_inb numel1_S1 (pf1 (F := F)) i a + 1) * S1024x128.size a ≤ S8192x512.size a := fun i a => inbI1_3 i a

theorem inbI1_4 : ∀ i : grid1.Coords, ∀ a, (cc1_transform_4 k1_off1_inb numel1_S1 (pf1 (F := Ideal)) i a + 1) * S1024x128.size a ≤ S8192x512.size a := by decide +kernel
theorem inb1_4 : ∀ i : grid1.Coords, ∀ a, (cc1_transform_4 k1_off1_inb numel1_S1 (pf1 (F := F)) i a + 1) * S1024x128.size a ≤ S8192x512.size a := fun i a => inbI1_4 i a

theorem inbI1_5 : ∀ i : grid1.Coords, ∀ a, (cc1_transform_5 k1_off1_inb numel1_S1 (pf1 (F := Ideal)) i a + 1) * S1024x128.size a ≤ S8192x512.size a := by decide +kernel
theorem inb1_5 : ∀ i : grid1.Coords, ∀ a, (cc1_transform_5 k1_off1_inb numel1_S1 (pf1 (F := F)) i a + 1) * S1024x128.size a ≤ S8192x512.size a := fun i a => inbI1_5 i a

theorem inbI1_6 : ∀ i : grid1.Coords, ∀ a, (cc1_transform_6 i a + 1) * S8192x256.size a ≤ S8192x1024.size a := by decide +kernel
theorem inb1_6 : ∀ i : grid1.Coords, ∀ a, (cc1_transform_6 i a + 1) * S8192x256.size a ≤ S8192x1024.size a := fun i a => inbI1_6 i a

theorem inbI1_7 : ∀ i : grid1.Coords, ∀ a, (cc1_transform_7 k1_off1_inb numel1_S1 (pf1 (F := Ideal)) i a + 1) * S1024x256.size a ≤ S8192x1024.size a := by decide +kernel
theorem inb1_7 : ∀ i : grid1.Coords, ∀ a, (cc1_transform_7 k1_off1_inb numel1_S1 (pf1 (F := F)) i a + 1) * S1024x256.size a ≤ S8192x1024.size a := fun i a => inbI1_7 i a

theorem inbI1_8 : ∀ i : grid1.Coords, ∀ a, (cc1_transform_8 k1_off1_inb numel1_S1 (pf1 (F := Ideal)) i a + 1) * S1024x128.size a ≤ S8192x512.size a := by decide +kernel
theorem inb1_8 : ∀ i : grid1.Coords, ∀ a, (cc1_transform_8 k1_off1_inb numel1_S1 (pf1 (F := F)) i a + 1) * S1024x128.size a ≤ S8192x512.size a := fun i a => inbI1_8 i a

/-- The side condition of call 1 at its tables. -/
theorem okA1 : ok1 (F := F) pf1 :=
  ⟨fun i => ⟨inb1_0 i, .inr (Affine.block_words_dvd (s := S8192x1024) (p := EltTy.packing .bf16) (by decide) (by decide))⟩,
   fun i => ⟨inb1_1 i, .inr (Affine.block_words_dvd (s := S8192x1024) (p := EltTy.packing .bf16) (by decide) (by decide))⟩,
   fun i => ⟨inb1_2 i, .inr (Affine.block_words_dvd (s := S8192x512) (p := EltTy.packing .bf16) (by decide) (by decide))⟩,
   fun i => ⟨inb1_3 i, .inr (Affine.block_words_dvd (s := S8192x512) (p := EltTy.packing .bf16) (by decide) (by decide))⟩,
   fun i => ⟨inb1_4 i, .inl rfl⟩,
   fun i => ⟨inb1_5 i, .inl rfl⟩,
   fun i => ⟨inb1_7 i, .inl rfl⟩,
   fun i => ⟨inb1_8 i, .inr (Affine.block_words_dvd (s := S8192x512) (p := EltTy.packing .bf16) (by decide) (by decide))⟩⟩

/-! ## The pipelines at the tables -/

/-- The two calls' admissible tables. -/
def admA0 : (pcfg0 (F := F)).Adm := ⟨pf0, okA0⟩
def admA1 : (pcfg1 (F := F)).Adm := ⟨pf1, okA1⟩
abbrev cfgA0 (F : FTy → Type) [FloatOps F] [Named F] : Pipeline.Cfg sig Λ₀ := cfg0 (F := F) admA0
abbrev cfgA1 (F : FTy → Type) [FloatOps F] [Named F] : Pipeline.Cfg sig Λ₀ := cfg1 (F := F) admA1

/-- Condition 1 of call 0's body at point `t`. -/
abbrev C0_1 (F : FTy → Type) [FloatOps F] [Named F] (t : Fin (cfgA0 F).N) : Prop := Scalar.cmpi .ne (Scalar.extui (Scalar.cmpi .eq (View.readAt (Elt F) (tbM0_1).view (Rect.unit (s := S36) (k0_off1 (grid0.coords t)) S1.size (k0_off1_inb (grid0.coords t))).toLoadRect tab1 (Shape.Idx.first (numel1_S1.symm ▸ Nat.one_pos))) 0#32)) 0#32 = 1#1
/-- Condition 2 of call 0's body at point `t`. -/
abbrev C0_2 (F : FTy → Type) [FloatOps F] [Named F] (t : Fin (cfgA0 F).N) : Prop := Scalar.cmpi .ne (Scalar.extui (Scalar.cmpi .slt (View.readAt (Elt F) (tbM0_1).view (Rect.unit (s := S36) (k0_off1 (grid0.coords t)) S1.size (k0_off1_inb (grid0.coords t))).toLoadRect tab1 (Shape.Idx.first (numel1_S1.symm ▸ Nat.one_pos))) (View.readAt (Elt F) (tbM0_0).view (Rect.unit (s := S36) (k0_off1 (grid0.coords t)) S1.size (k0_off1_inb (grid0.coords t))).toLoadRect tab0 (Shape.Idx.first (numel1_S1.symm ▸ Nat.one_pos))))) 0#32 = 1#1
/-- Condition 3 of call 0's body at point `t`. -/
abbrev C0_3 (F : FTy → Type) [FloatOps F] [Named F] (t : Fin (cfgA0 F).N) : Prop := Scalar.cmpi .ne (Scalar.extui (Scalar.cmpi .eq (View.readAt (Elt F) (tbM0_1).view (Rect.unit (s := S36) (k0_off1 (grid0.coords t)) S1.size (k0_off1_inb (grid0.coords t))).toLoadRect tab1 (Shape.Idx.first (numel1_S1.symm ▸ Nat.one_pos))) (View.readAt (Elt F) (tbM0_0).view (Rect.unit (s := S36) (k0_off1 (grid0.coords t)) S1.size (k0_off1_inb (grid0.coords t))).toLoadRect tab0 (Shape.Idx.first (numel1_S1.symm ▸ Nat.one_pos))))) 0#32 = 1#1
/-- Condition 4 of call 0's body at point `t`. -/
abbrev C0_4 (F : FTy → Type) [FloatOps F] [Named F] (t : Fin (cfgA0 F).N) : Prop := k0_cond4 (View.readAt (Elt F) (tbM0_0).view (Rect.unit (s := S36) (k0_off1 (grid0.coords t)) S1.size (k0_off1_inb (grid0.coords t))).toLoadRect tab0 (Shape.Idx.first (numel1_S1.symm ▸ Nat.one_pos))) (View.readAt (Elt F) (tbM0_1).view (Rect.unit (s := S36) (k0_off1 (grid0.coords t)) S1.size (k0_off1_inb (grid0.coords t))).toLoadRect tab1 (Shape.Idx.first (numel1_S1.symm ▸ Nat.one_pos))) = 1#1
/-- Condition 1 of call 1's body at point `t`. -/
abbrev C1_1 (F : FTy → Type) [FloatOps F] [Named F] (t : Fin (cfgA1 F).N) : Prop := k1_cond1 (grid1.coords t) = 1#1
/-- Condition 2 of call 1's body at point `t`. -/
abbrev C1_2 (F : FTy → Type) [FloatOps F] [Named F] (t : Fin (cfgA1 F).N) : Prop := Scalar.cmpi .ne (Scalar.extui (Scalar.cmpi .eq (View.readAt (Elt F) (tbM1_0).view (Rect.unit (s := S36) (k1_off1 (grid1.coords t)) S1.size (k1_off1_inb (grid1.coords t))).toLoadRect tab2 (Shape.Idx.first (numel1_S1.symm ▸ Nat.one_pos))) (View.readAt (Elt F) (tbM1_1).view (Rect.unit (s := S36) (k1_off1 (grid1.coords t)) S1.size (k1_off1_inb (grid1.coords t))).toLoadRect tab3 (Shape.Idx.first (numel1_S1.symm ▸ Nat.one_pos))))) 0#32 = 1#1
/-- Condition 3 of call 1's body at point `t`. -/
abbrev C1_3 (F : FTy → Type) [FloatOps F] [Named F] (t : Fin (cfgA1 F).N) : Prop := k1_cond3 (View.readAt (Elt F) (tbM1_0).view (Rect.unit (s := S36) (k1_off1 (grid1.coords t)) S1.size (k1_off1_inb (grid1.coords t))).toLoadRect tab2 (Shape.Idx.first (numel1_S1.symm ▸ Nat.one_pos))) (View.readAt (Elt F) (tbM1_1).view (Rect.unit (s := S36) (k1_off1 (grid1.coords t)) S1.size (k1_off1_inb (grid1.coords t))).toLoadRect tab3 (Shape.Idx.first (numel1_S1.symm ▸ Nat.one_pos))) = 1#1
/-- Condition 4 of call 1's body at point `t`. -/
abbrev C1_4 (F : FTy → Type) [FloatOps F] [Named F] (t : Fin (cfgA1 F).N) : Prop := k1_cond4 (View.readAt (Elt F) (tbM1_0).view (Rect.unit (s := S36) (k1_off1 (grid1.coords t)) S1.size (k1_off1_inb (grid1.coords t))).toLoadRect tab2 (Shape.Idx.first (numel1_S1.symm ▸ Nat.one_pos))) (View.readAt (Elt F) (tbM1_1).view (Rect.unit (s := S36) (k1_off1 (grid1.coords t)) S1.size (k1_off1_inb (grid1.coords t))).toLoadRect tab3 (Shape.Idx.first (numel1_S1.symm ▸ Nat.one_pos))) = 1#1
/-- Condition 5 of call 1's body at point `t`. -/
abbrev C1_5 (F : FTy → Type) [FloatOps F] [Named F] (t : Fin (cfgA1 F).N) : Prop := k1_cond5 (View.readAt (Elt F) (tbM1_0).view (Rect.unit (s := S36) (k1_off1 (grid1.coords t)) S1.size (k1_off1_inb (grid1.coords t))).toLoadRect tab2 (Shape.Idx.first (numel1_S1.symm ▸ Nat.one_pos))) = 1#1
/-- The body's assumption about its words at point `t` of the backward call. -/
abbrev K1 (F : FTy → Type) [FloatOps F] [Named F] (t : Fin (cfgA1 F).N) : Prop := k1_chk1 (View.readAt (Elt F) (tbM1_0).view (Rect.unit (s := S36) (k1_off1 (grid1.coords t)) S1.size (k1_off1_inb (grid1.coords t))).toLoadRect tab2 (Shape.Idx.first (numel1_S1.symm ▸ Nat.one_pos))) (View.readAt (Elt F) (tbM1_1).view (Rect.unit (s := S36) (k1_off1 (grid1.coords t)) S1.size (k1_off1_inb (grid1.coords t))).toLoadRect tab3 (Shape.Idx.first (numel1_S1.symm ▸ Nat.one_pos)))
abbrev O1_2 (F : FTy → Type) [FloatOps F] [Named F] (t : Fin (cfgA1 F).N) : Fin 2 → Nat := k1_off2 (View.readAt (Elt F) (tbM1_0).view (Rect.unit (s := S36) (k1_off1 (grid1.coords t)) S1.size (k1_off1_inb (grid1.coords t))).toLoadRect tab2 (Shape.Idx.first (numel1_S1.symm ▸ Nat.one_pos)))
abbrev O1_3 (F : FTy → Type) [FloatOps F] [Named F] (t : Fin (cfgA1 F).N) : Fin 2 → Nat := k1_off3 (View.readAt (Elt F) (tbM1_0).view (Rect.unit (s := S36) (k1_off1 (grid1.coords t)) S1.size (k1_off1_inb (grid1.coords t))).toLoadRect tab2 (Shape.Idx.first (numel1_S1.symm ▸ Nat.one_pos)))
abbrev O1_4 (F : FTy → Type) [FloatOps F] [Named F] (t : Fin (cfgA1 F).N) : Fin 2 → Nat := k1_off4 (View.readAt (Elt F) (tbM1_0).view (Rect.unit (s := S36) (k1_off1 (grid1.coords t)) S1.size (k1_off1_inb (grid1.coords t))).toLoadRect tab2 (Shape.Idx.first (numel1_S1.symm ▸ Nat.one_pos)))
abbrev O1_5 (F : FTy → Type) [FloatOps F] [Named F] (t : Fin (cfgA1 F).N) : Fin 2 → Nat := k1_off5 (View.readAt (Elt F) (tbM1_0).view (Rect.unit (s := S36) (k1_off1 (grid1.coords t)) S1.size (k1_off1_inb (grid1.coords t))).toLoadRect tab2 (Shape.Idx.first (numel1_S1.symm ▸ Nat.one_pos)))

/-- The forward schedule: whether point `n` is on the diagonal, whether it is the first of its query block. -/
def dg0 (n : ℕ) : Bool := decide (lit0 ⟨n % 36, Nat.mod_lt _ (by decide)⟩ = lit1 ⟨n % 36, Nat.mod_lt _ (by decide)⟩)
def in0 (n : ℕ) : Bool := decide (lit1 ⟨n % 36, Nat.mod_lt _ (by decide)⟩ = 0#32)
/-- The backward schedule: whether point `n` is on the diagonal, and its query block. -/
def dg1 (n : ℕ) : Bool := decide (lit2 ⟨n % 36, Nat.mod_lt _ (by decide)⟩ = lit3 ⟨n % 36, Nat.mod_lt _ (by decide)⟩)
def qb1 (n : ℕ) : Fin 8 := ⟨(lit2 ⟨n % 36, Nat.mod_lt _ (by decide)⟩).toNat % 8, Nat.mod_lt _ (by decide)⟩

instance (v w : BitVec 32) : Decidable (k1_chk1 v w) := by unfold k1_chk1; infer_instance

/-- What path A of the forward call's body asks, and the windows it leaves idle. -/
abbrev Pa0_A (F : FTy → Type) [FloatOps F] [Named F] (t : Fin (cfgA0 F).N) : Prop :=
  (C0_1 F t ∧ ¬C0_2 F t ∧ C0_3 F t ∧ C0_4 F t) ∧ (dg0 t.val = true ∧ in0 t.val = true) ∧ (cfgA0 F).idle (3 : Fin 5) ((cfgA0 F).grid.coords t) = false ∧ (cfgA0 F).idle (4 : Fin 5) ((cfgA0 F).grid.coords t) = false
/-- What path B of the forward call's body asks, and the windows it leaves idle. -/
abbrev Pa0_B (F : FTy → Type) [FloatOps F] [Named F] (t : Fin (cfgA0 F).N) : Prop :=
  (C0_1 F t ∧ C0_2 F t ∧ ¬C0_3 F t ∧ ¬C0_4 F t) ∧ (dg0 t.val = false ∧ in0 t.val = true) ∧ (cfgA0 F).idle (3 : Fin 5) ((cfgA0 F).grid.coords t) = true ∧ ((cfgA0 F).win (3 : Fin 5)).flush t = false ∧ (cfgA0 F).idle (4 : Fin 5) ((cfgA0 F).grid.coords t) = true ∧ ((cfgA0 F).win (4 : Fin 5)).flush t = false
/-- What path C of the forward call's body asks, and the windows it leaves idle. -/
abbrev Pa0_C (F : FTy → Type) [FloatOps F] [Named F] (t : Fin (cfgA0 F).N) : Prop :=
  (¬C0_1 F t ∧ C0_2 F t ∧ ¬C0_3 F t ∧ ¬C0_4 F t) ∧ (dg0 t.val = false ∧ in0 t.val = false) ∧ (cfgA0 F).idle (3 : Fin 5) ((cfgA0 F).grid.coords t) = true ∧ ((cfgA0 F).win (3 : Fin 5)).flush t = false ∧ (cfgA0 F).idle (4 : Fin 5) ((cfgA0 F).grid.coords t) = true ∧ ((cfgA0 F).win (4 : Fin 5)).flush t = false
/-- What path D of the forward call's body asks, and the windows it leaves idle. -/
abbrev Pa0_D (F : FTy → Type) [FloatOps F] [Named F] (t : Fin (cfgA0 F).N) : Prop :=
  (¬C0_1 F t ∧ ¬C0_2 F t ∧ C0_3 F t ∧ C0_4 F t) ∧ (dg0 t.val = true ∧ in0 t.val = false) ∧ (cfgA0 F).idle (3 : Fin 5) ((cfgA0 F).grid.coords t) = false ∧ (cfgA0 F).idle (4 : Fin 5) ((cfgA0 F).grid.coords t) = false
/-- What path A of the backward call's body asks, the rows of dq it updates, and the windows it leaves idle. -/
abbrev Pa1_A (F : FTy → Type) [FloatOps F] [Named F] (t : Fin (cfgA1 F).N) : Prop :=
  (K1 F t ∧ C1_1 F t ∧ C1_2 F t ∧ ¬C1_3 F t ∧ C1_4 F t ∧ ¬C1_5 F t) ∧ (dg1 t.val = true ∧ t.val % 36 = 0 ∧ O1_4 F t = ![1024 * (qb1 t.val).val, 0] ∧ O1_5 F t = ![1024 * (qb1 t.val).val, 128]) ∧ (cfgA1 F).idle (6 : Fin 9) ((cfgA1 F).grid.coords t) = false ∧ (cfgA1 F).idle (7 : Fin 9) ((cfgA1 F).grid.coords t) = true ∧ ((cfgA1 F).win (7 : Fin 9)).flush t = false ∧ (cfgA1 F).idle (8 : Fin 9) ((cfgA1 F).grid.coords t) = true ∧ ((cfgA1 F).win (8 : Fin 9)).flush t = false
/-- What path B of the backward call's body asks, the rows of dq it updates, and the windows it leaves idle. -/
abbrev Pa1_B (F : FTy → Type) [FloatOps F] [Named F] (t : Fin (cfgA1 F).N) : Prop :=
  (K1 F t ∧ ¬C1_1 F t ∧ C1_2 F t ∧ ¬C1_3 F t ∧ C1_4 F t ∧ ¬C1_5 F t) ∧ (dg1 t.val = true ∧ ¬t.val % 36 = 0 ∧ O1_4 F t = ![1024 * (qb1 t.val).val, 0] ∧ O1_5 F t = ![1024 * (qb1 t.val).val, 128]) ∧ (cfgA1 F).idle (6 : Fin 9) ((cfgA1 F).grid.coords t) = false ∧ (cfgA1 F).idle (7 : Fin 9) ((cfgA1 F).grid.coords t) = true ∧ ((cfgA1 F).win (7 : Fin 9)).flush t = false ∧ (cfgA1 F).idle (8 : Fin 9) ((cfgA1 F).grid.coords t) = true ∧ ((cfgA1 F).win (8 : Fin 9)).flush t = false
/-- What path C of the backward call's body asks, the rows of dq it updates, and the windows it leaves idle. -/
abbrev Pa1_C (F : FTy → Type) [FloatOps F] [Named F] (t : Fin (cfgA1 F).N) : Prop :=
  (K1 F t ∧ ¬C1_1 F t ∧ ¬C1_2 F t ∧ C1_3 F t ∧ ¬C1_4 F t ∧ ¬C1_5 F t) ∧ (dg1 t.val = false ∧ ¬t.val % 36 = 0 ∧ O1_2 F t = ![1024 * (qb1 t.val).val, 0] ∧ O1_3 F t = ![1024 * (qb1 t.val).val, 128]) ∧ (cfgA1 F).idle (6 : Fin 9) ((cfgA1 F).grid.coords t) = false ∧ (cfgA1 F).idle (7 : Fin 9) ((cfgA1 F).grid.coords t) = true ∧ ((cfgA1 F).win (7 : Fin 9)).flush t = false ∧ (cfgA1 F).idle (8 : Fin 9) ((cfgA1 F).grid.coords t) = true ∧ ((cfgA1 F).win (8 : Fin 9)).flush t = false
/-- What path D of the backward call's body asks, the rows of dq it updates, and the windows it leaves idle. -/
abbrev Pa1_D (F : FTy → Type) [FloatOps F] [Named F] (t : Fin (cfgA1 F).N) : Prop :=
  (K1 F t ∧ ¬C1_1 F t ∧ ¬C1_2 F t ∧ C1_3 F t ∧ ¬C1_4 F t ∧ C1_5 F t) ∧ (dg1 t.val = false ∧ ¬t.val % 36 = 0 ∧ O1_2 F t = ![1024 * (qb1 t.val).val, 0] ∧ O1_3 F t = ![1024 * (qb1 t.val).val, 128]) ∧ (cfgA1 F).idle (6 : Fin 9) ((cfgA1 F).grid.coords t) = false ∧ (cfgA1 F).idle (7 : Fin 9) ((cfgA1 F).grid.coords t) = false ∧ (cfgA1 F).idle (8 : Fin 9) ((cfgA1 F).grid.coords t) = false
/-- What path E of the backward call's body asks, the rows of dq it updates, and the windows it leaves idle. -/
abbrev Pa1_E (F : FTy → Type) [FloatOps F] [Named F] (t : Fin (cfgA1 F).N) : Prop :=
  (K1 F t ∧ ¬C1_1 F t ∧ C1_2 F t ∧ ¬C1_3 F t ∧ C1_4 F t ∧ C1_5 F t) ∧ (dg1 t.val = true ∧ ¬t.val % 36 = 0 ∧ O1_4 F t = ![1024 * (qb1 t.val).val, 0] ∧ O1_5 F t = ![1024 * (qb1 t.val).val, 128]) ∧ (cfgA1 F).idle (6 : Fin 9) ((cfgA1 F).grid.coords t) = false ∧ (cfgA1 F).idle (7 : Fin 9) ((cfgA1 F).grid.coords t) = false ∧ (cfgA1 F).idle (8 : Fin 9) ((cfgA1 F).grid.coords t) = false

/-- Each point of the forward call takes one of its paths; the output windows carry nothing between points. -/
abbrev Facts0 (F : FTy → Type) [FloatOps F] [Named F] (t : Fin (cfgA0 F).N) : Prop :=
  (Pa0_A F t ∨ Pa0_B F t ∨ Pa0_C F t ∨ Pa0_D F t) ∧ (((cfgA0 F).win (3 : Fin 5)).flush t || (cfgA0 F).idle (3 : Fin 5) ((cfgA0 F).grid.coords t)) = true ∧ (((cfgA0 F).win (4 : Fin 5)).flush t || (cfgA0 F).idle (4 : Fin 5) ((cfgA0 F).grid.coords t)) = true
/-- Each point of the backward call takes one of its paths; dq's window is written back after every 36th point, the other two
    output windows carry nothing between points. -/
abbrev Facts1 (F : FTy → Type) [FloatOps F] [Named F] (t : Fin (cfgA1 F).N) : Prop :=
  (Pa1_A F t ∨ Pa1_B F t ∨ Pa1_C F t ∨ Pa1_D F t ∨ Pa1_E F t)
    ∧ decide ((t.val + 1) % 36 = 0) = (((cfgA1 F).win (6 : Fin 9)).flush t || ((cfgA1 F).idle (6 : Fin 9) ((cfgA1 F).grid.coords t) && decide (t.val % 36 = 0)))
    ∧ (((cfgA1 F).win (7 : Fin 9)).flush t || (cfgA1 F).idle (7 : Fin 9) ((cfgA1 F).grid.coords t)) = true ∧ (((cfgA1 F).win (8 : Fin 9)).flush t || (cfgA1 F).idle (8 : Fin 9) ((cfgA1 F).grid.coords t)) = true

instance (t : Fin (cfgA1 Ideal).N) : Decidable (Pa1_A Ideal t) := by unfold Pa1_A; exact @instDecidableAnd _ _ inferInstance (@instDecidableAnd _ _ inferInstance inferInstance)
instance (t : Fin (cfgA1 Ideal).N) : Decidable (Pa1_B Ideal t) := by unfold Pa1_B; exact @instDecidableAnd _ _ inferInstance (@instDecidableAnd _ _ inferInstance inferInstance)
instance (t : Fin (cfgA1 Ideal).N) : Decidable (Pa1_C Ideal t) := by unfold Pa1_C; exact @instDecidableAnd _ _ inferInstance (@instDecidableAnd _ _ inferInstance inferInstance)
instance (t : Fin (cfgA1 Ideal).N) : Decidable (Pa1_D Ideal t) := by unfold Pa1_D; exact @instDecidableAnd _ _ inferInstance (@instDecidableAnd _ _ inferInstance inferInstance)
instance (t : Fin (cfgA1 Ideal).N) : Decidable (Pa1_E Ideal t) := by unfold Pa1_E; exact @instDecidableAnd _ _ inferInstance (@instDecidableAnd _ _ inferInstance inferInstance)
instance (t : Fin (cfgA1 Ideal).N) : Decidable (Facts1 Ideal t) := by unfold Facts1; exact @instDecidableAnd _ _ (@instDecidableOr _ _ inferInstance (@instDecidableOr _ _ inferInstance (@instDecidableOr _ _ inferInstance (@instDecidableOr _ _ inferInstance inferInstance)))) (@instDecidableAnd _ _ inferInstance (@instDecidableAnd _ _ inferInstance inferInstance))

theorem factsI0_0 : ∀ t : Fin (cfgA0 Ideal).N, 0 ≤ t.val → t.val < 18 → Facts0 Ideal t := by decide +kernel
theorem factsI0_1 : ∀ t : Fin (cfgA0 Ideal).N, 18 ≤ t.val → t.val < 36 → Facts0 Ideal t := by decide +kernel
theorem factsI0_2 : ∀ t : Fin (cfgA0 Ideal).N, 36 ≤ t.val → t.val < 54 → Facts0 Ideal t := by decide +kernel
theorem factsI0_3 : ∀ t : Fin (cfgA0 Ideal).N, 54 ≤ t.val → t.val < 72 → Facts0 Ideal t := by decide +kernel
theorem factsI0 (t : Fin (cfgA0 Ideal).N) : Facts0 Ideal t := by
  have h0 : 0 ≤ t.val := Nat.zero_le _
  rcases Nat.lt_or_ge t.val 18 with h1 | h1; · exact factsI0_0 t h0 h1
  rcases Nat.lt_or_ge t.val 36 with h2 | h2; · exact factsI0_1 t h1 h2
  rcases Nat.lt_or_ge t.val 54 with h3 | h3; · exact factsI0_2 t h2 h3
  exact factsI0_3 t h3 t.isLt
/-- The facts at every point, whatever the floats. -/
theorem facts0 (t : Fin (cfgA0 F).N) : Facts0 F t := factsI0 t

theorem factsI1_0 : ∀ t : Fin (cfgA1 Ideal).N, 0 ≤ t.val → t.val < 18 → Facts1 Ideal t := by decide +kernel
theorem factsI1_1 : ∀ t : Fin (cfgA1 Ideal).N, 18 ≤ t.val → t.val < 36 → Facts1 Ideal t := by decide +kernel
theorem factsI1_2 : ∀ t : Fin (cfgA1 Ideal).N, 36 ≤ t.val → t.val < 54 → Facts1 Ideal t := by decide +kernel
theorem factsI1_3 : ∀ t : Fin (cfgA1 Ideal).N, 54 ≤ t.val → t.val < 72 → Facts1 Ideal t := by decide +kernel
theorem factsI1_4 : ∀ t : Fin (cfgA1 Ideal).N, 72 ≤ t.val → t.val < 90 → Facts1 Ideal t := by decide +kernel
theorem factsI1_5 : ∀ t : Fin (cfgA1 Ideal).N, 90 ≤ t.val → t.val < 108 → Facts1 Ideal t := by decide +kernel
theorem factsI1_6 : ∀ t : Fin (cfgA1 Ideal).N, 108 ≤ t.val → t.val < 126 → Facts1 Ideal t := by decide +kernel
theorem factsI1_7 : ∀ t : Fin (cfgA1 Ideal).N, 126 ≤ t.val → t.val < 144 → Facts1 Ideal t := by decide +kernel
theorem factsI1 (t : Fin (cfgA1 Ideal).N) : Facts1 Ideal t := by
  have h0 : 0 ≤ t.val := Nat.zero_le _
  rcases Nat.lt_or_ge t.val 18 with h1 | h1; · exact factsI1_0 t h0 h1
  rcases Nat.lt_or_ge t.val 36 with h2 | h2; · exact factsI1_1 t h1 h2
  rcases Nat.lt_or_ge t.val 54 with h3 | h3; · exact factsI1_2 t h2 h3
  rcases Nat.lt_or_ge t.val 72 with h4 | h4; · exact factsI1_3 t h3 h4
  rcases Nat.lt_or_ge t.val 90 with h5 | h5; · exact factsI1_4 t h4 h5
  rcases Nat.lt_or_ge t.val 108 with h6 | h6; · exact factsI1_5 t h5 h6
  rcases Nat.lt_or_ge t.val 126 with h7 | h7; · exact factsI1_6 t h6 h7
  exact factsI1_7 t h7 t.isLt
/-- The facts at every point, whatever the floats. -/
theorem facts1 (t : Fin (cfgA1 F).N) : Facts1 F t := factsI1 t

end Cert.Attn
-- ==== Proof.Blocks.lean ====
/- What one point of the attention's two calls computes, as functions of its blocks. -/
module

public import proofs.«01_k».proof.Proof.Gen.KernelIdeal.Skeleton
public import Idealize.ShloMosaic.Lib.Pointwise.Index
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! # What one point of the two calls computes, as functions of the blocks it is handed -/

section Layout

variable {α : Type}

/-- Head `h` of a stack of `1024 × 128` tiles. -/
def headOf {n : Nat} (m : (⟨3, ![n, 1024, 128]⟩ : Shape).Idx → α) (h : Fin n) : S1x1024x128.Idx → α :=
  fun j => m (ix3 h (j 1) (j 2))

/-- The stack whose head `h` is `g h`. -/
def stackOf {n : Nat} (g : Fin n → S1x1024x128.Idx → α) : (⟨3, ![n, 1024, 128]⟩ : Shape).Idx → α :=
  fun j => g (j 0) (ix3 (0 : Fin 1) (j 1) (j 2))

/-- Lanes `128 h` to `128 h + 127` of a block of four heads. -/
def lane4 (x : S1024x512.Idx → α) (h : Fin 4) : S1024x128.Idx → α :=
  fun j => x (ix2 (j 0) ⟨128 * h.val + (j 1).val, by have := (j 1).isLt; have := h.isLt; simp only [Matrix.cons_val_one, Matrix.cons_val_fin_one] at *; omega⟩)

/-- Lanes `128 h` to `128 h + 127` of a block of two heads. -/
def lane2 (x : S1024x256.Idx → α) (h : Fin 2) : S1024x128.Idx → α :=
  fun j => x (ix2 (j 0) ⟨128 * h.val + (j 1).val, by have := (j 1).isLt; have := h.isLt; simp only [Matrix.cons_val_one, Matrix.cons_val_fin_one] at *; omega⟩)

/-- The block of two halves. -/
def pairOf (g : Fin 2 → S1024x128.Idx → α) : S1024x256.Idx → α :=
  fun j => g ⟨(j 1).val / 128, by have := (j 1).isLt; simp only [Matrix.cons_val_one, Matrix.cons_val_fin_one] at *; omega⟩
    (ix2 (j 0) ⟨(j 1).val % 128, by omega⟩)

/-- Lane `64 h` of a tile, as a column. -/
def colOf (x : S1024x128.Idx → α) (h : Fin 2) : S1024x1.Idx → α :=
  fun j => x (ix2 (j 0) ⟨64 * h.val, by have := h.isLt; omega⟩)

/-- Rows `1024 b` to `1024 b + 1023` and the lanes of half `h` of a whole column of blocks. -/
def rowsOf (x : S8192x256.Idx → α) (b : Fin 8) (h : Fin 2) : S1024x128.Idx → α :=
  fun j => x (ix2 ⟨1024 * b.val + (j 0).val, by have := (j 0).isLt; have := b.isLt; simp only [Matrix.cons_val_zero] at *; omega⟩
    ⟨128 * h.val + (j 1).val, by have := (j 1).isLt; have := h.isLt; simp only [Matrix.cons_val_one, Matrix.cons_val_fin_one] at *; omega⟩)

/-- `x` with block `b` of its rows replaced by the two halves `g`. -/
def putRows (x : S8192x256.Idx → α) (b : Fin 8) (g : Fin 2 → S1024x128.Idx → α) : S8192x256.Idx → α :=
  fun j => if (j 0).val / 1024 = b.val then
    g ⟨(j 1).val / 128, by have := (j 1).isLt; simp only [Matrix.cons_val_one, Matrix.cons_val_fin_one] at *; omega⟩
      (ix2 ⟨(j 0).val % 1024, by omega⟩ ⟨(j 1).val % 128, by omega⟩)
    else x j

end Layout

/-! ## The forward call -/

/-- The scores of one head: masked on the diagonal block, plain below it. -/
def fScore (dg : Bool) (q k : S1024x128.Idx → F .bf16) : FVec F S1024x1024 .f32 :=
  match dg with
  | true => k0_pay44 q k
  | false => k0_pay11 q k

/-- The running maximum, sum and product. -/
structure FSt (F : FTy → Type) where
  m : S4x1024x128.Idx → F .f32
  l : S4x1024x128.Idx → F .f32
  a : S4x1024x128.Idx → F .f32

/-- What a query block starts from. -/
def fInit : FSt F := ⟨k0_pay1, k0_pay2, k0_pay3⟩

/-- Which half of the value block head `h` reads. -/
def halfOf (h : Fin 4) : Fin 2 := ⟨h.val / 2, by omega⟩

/-- One key block folded in. -/
def fStep (dg : Bool) (q k : S1024x512.Idx → F .bf16) (v : S1024x256.Idx → F .bf16) (st : FSt F) : FSt F :=
  ⟨stackOf fun h => k0_pay62 (fScore dg (lane4 q h) (lane4 k h)) (headOf st.m h),
   stackOf fun h => k0_pay60 (fScore dg (lane4 q h) (lane4 k h)) (headOf st.m h) (headOf st.l h),
   stackOf fun h => k0_pay61 (fScore dg (lane4 q h) (lane4 k h)) (lane2 v (halfOf h)) (headOf st.m h) (headOf st.a h)⟩

/-- The two heads whose lanes share half `d` of an output block. -/
def evenHead (d : Fin 2) : Fin 4 := ⟨2 * d.val, by omega⟩
@[inherit_doc evenHead] def oddHead (d : Fin 2) : Fin 4 := ⟨2 * d.val + 1, by omega⟩

/-- The output block. -/
def fOut (st : FSt F) : S1024x256.Idx → F .f32 :=
  pairOf fun d => k0_pay77 (headOf st.a (evenHead d)) (headOf st.l (evenHead d)) (headOf st.a (oddHead d)) (headOf st.l (oddHead d))

/-- The block of log-sum-exponentials (to base two). -/
def fLse (st : FSt F) : S1024x256.Idx → F .f32 :=
  pairOf fun d => k0_pay81 k0_pay76 (k0_pay78 (headOf st.m (evenHead d)) (headOf st.l (evenHead d)))
    (k0_pay79 (headOf st.m (oddHead d))) (k0_pay80 (headOf st.l (oddHead d)))

/-! ## The backward call -/

/-- The blocks a backward point is handed. -/
structure BIn (F : FTy → Type) where
  q : S1024x256.Idx → F .bf16
  k : S1024x256.Idx → F .bf16
  v : S1024x128.Idx → F .bf16
  o : S1024x128.Idx → F .bf16
  lse : S1024x128.Idx → F .f32
  dl : S1024x128.Idx → F .f32

/-- The running gradients of one key block: of the keys and of the values. -/
structure BSt (F : FTy → Type) where
  dk : S2x1024x128.Idx → F .f32
  dv : S2x1024x128.Idx → F .f32

/-- What a key block starts from. -/
def bInit : BSt F := ⟨k1_pay2, k1_pay3⟩

/-- The scores of head `h`. -/
def bS (x : BIn F) (h : Fin 2) : FVec F S1024x1024 .f32 := k1_pay10 (lane2 x.q h) (lane2 x.k h)

/-- The products of the output's gradient and the values of head `h`. -/
def bDp (x : BIn F) (h : Fin 2) : FVec F S1024x1024 .f32 := if h = 0 then k1_pay12 x.o x.v else k1_pay13 x.o x.v

/-- The gradient of the scores of head `h`. -/
def bDs (dg : Bool) (x : BIn F) (h : Fin 2) : FVec F S1024x1024 .bf16 :=
  match dg with
  | true => k1_pay38 (bS x h) (bDp x h) k1_pay30 (colOf x.lse h) (colOf x.dl h)
  | false => k1_pay23 (bS x h) (bDp x h) (colOf x.lse h) (colOf x.dl h)

/-- One query block's share added to the gradient of the values of head `h`. -/
def bDv (dg : Bool) (x : BIn F) (h : Fin 2) (old : S1x1024x128.Idx → F .f32) : FVec F S1x1024x128 .f32 :=
  match dg with
  | true => k1_pay39 (bS x h) k1_pay30 (colOf x.lse h) old x.o
  | false => k1_pay24 (bS x h) (colOf x.lse h) old x.o

/-- One query block's share added to the gradient of the keys of head `h`. -/
def bDk (dg : Bool) (x : BIn F) (h : Fin 2) (old : S1x1024x128.Idx → F .f32) : FVec F S1x1024x128 .f32 :=
  match dg with
  | true => k1_pay34 (bS x h) (bDp x h) k1_pay30 (colOf x.lse h) (colOf x.dl h) old (lane2 x.q h)
  | false => k1_pay25 (bS x h) (bDp x h) (colOf x.lse h) (colOf x.dl h) old (lane2 x.q h)

/-- One query block folded into the gradients of the keys and values. -/
def bStep (dg : Bool) (x : BIn F) (st : BSt F) : BSt F :=
  ⟨stackOf fun h => bDk dg x h (headOf st.dk h), stackOf fun h => bDv dg x h (headOf st.dv h)⟩

/-- One key block's share added to block `b` of the gradient of the queries. -/
def bDq (dg : Bool) (x : BIn F) (b : Fin 8) (old : S8192x256.Idx → F .f32) : S8192x256.Idx → F .f32 :=
  putRows old b fun h => k1_pay4 (bDs dg x h) (rowsOf old b h) (lane2 x.k h)

/-- The block of the keys' gradient that is written out. -/
def bOutK (st : BSt F) : S1024x256.Idx → F .f32 := pairOf fun h => k1_pay7 (headOf st.dk h)

/-- The block of the values' gradient that is written out. -/
def bOutV (st : BSt F) : S1024x128.Idx → F .bf16 := k1_pay9 (headOf st.dv 0) (headOf st.dv 1)

/-! ## Loads of a part of a block -/

section Loads

variable {e : EltTy}

theorem ld_head {n : Nat} (m : (⟨3, ![n, 1024, 128]⟩ : Shape).Idx → Elt F e) (h : Fin n) (off : Fin 3 → Nat) (ho : off = ![h.val, 0, 0])
    (inb : ∀ a, off a + S1x1024x128.size a ≤ (⟨3, ![n, 1024, 128]⟩ : Shape).size a) :
    (fun y => m ((Rect.unit (s := ⟨3, ![n, 1024, 128]⟩) off S1x1024x128.size inb).toLoadRect.idx y)) = headOf m h := by
  subst ho
  funext y
  refine congrArg m (funext fun a => Fin.ext ?_)
  have h0 : (y 0).val = 0 := Nat.lt_one_iff.mp (show (y 0).val < 1 from (y 0).isLt)
  fin_cases a
  · show h.val + 1 * (y 0).val = h.val; omega
  · show 0 + 1 * (y 1).val = (y 1).val; omega
  · show 0 + 1 * (y 2).val = (y 2).val; omega

theorem ld_lane4 (x : S1024x512.Idx → Elt F e) (h : Fin 4) (off : Fin 2 → Nat) (ho : off = ![0, 128 * h.val])
    (inb : ∀ a, off a + S1024x128.size a ≤ S1024x512.size a) :
    (fun y => x ((Rect.unit (s := S1024x512) off S1024x128.size inb).toLoadRect.idx y)) = lane4 x h := by
  subst ho
  funext y
  refine congrArg x (funext fun a => Fin.ext ?_)
  fin_cases a
  · show 0 + 1 * (y 0).val = (y 0).val; omega
  · show 128 * h.val + 1 * (y 1).val = 128 * h.val + (y 1).val; omega

theorem ld_lane2 (x : S1024x256.Idx → Elt F e) (h : Fin 2) (off : Fin 2 → Nat) (ho : off = ![0, 128 * h.val])
    (inb : ∀ a, off a + S1024x128.size a ≤ S1024x256.size a) :
    (fun y => x ((Rect.unit (s := S1024x256) off S1024x128.size inb).toLoadRect.idx y)) = lane2 x h := by
  subst ho
  funext y
  refine congrArg x (funext fun a => Fin.ext ?_)
  fin_cases a
  · show 0 + 1 * (y 0).val = (y 0).val; omega
  · show 128 * h.val + 1 * (y 1).val = 128 * h.val + (y 1).val; omega

theorem ld_col (x : S1024x128.Idx → Elt F e) (h : Fin 2) (off : Fin 2 → Nat) (ho : off = ![0, 64 * h.val])
    (inb : ∀ a, off a + S1024x1.size a ≤ S1024x128.size a) :
    (fun y => x ((Rect.unit (s := S1024x128) off S1024x1.size inb).toLoadRect.idx y)) = colOf x h := by
  subst ho
  funext y
  refine congrArg x (funext fun a => Fin.ext ?_)
  have h1 : (y 1).val = 0 := Nat.lt_one_iff.mp (show (y 1).val < 1 from (y 1).isLt)
  fin_cases a
  · show 0 + 1 * (y 0).val = (y 0).val; omega
  · show 64 * h.val + 1 * (y 1).val = 64 * h.val; omega

theorem ld_whole (x : S1024x128.Idx → Elt F e) (off : Fin 2 → Nat) (ho : off = ![0, 0])
    (inb : ∀ a, off a + S1024x128.size a ≤ S1024x128.size a) :
    (fun y => x ((Rect.unit (s := S1024x128) off S1024x128.size inb).toLoadRect.idx y)) = x := by
  subst ho
  funext y
  refine congrArg x (funext fun a => Fin.ext ?_)
  fin_cases a
  · show 0 + 1 * (y 0).val = (y 0).val; omega
  · show 0 + 1 * (y 1).val = (y 1).val; omega

theorem ld_rows (x : S8192x256.Idx → Elt F e) (b : Fin 8) (h : Fin 2) (off : Fin 2 → Nat) (ho : off = ![1024 * b.val, 128 * h.val])
    (inb : ∀ a, off a + S1024x128.size a ≤ S8192x256.size a) :
    (fun y => x ((Rect.unit (s := S8192x256) off S1024x128.size inb).toLoadRect.idx y)) = rowsOf x b h := by
  subst ho
  funext y
  refine congrArg x (funext fun a => Fin.ext ?_)
  fin_cases a
  · show 1024 * b.val + 1 * (y 0).val = 1024 * b.val + (y 0).val; omega
  · show 128 * h.val + 1 * (y 1).val = 128 * h.val + (y 1).val; omega

end Loads

/-! ## Stores of a part of a block -/

section Stores

variable {e : EltTy}

theorem mem_head {n : Nat} (h : Fin n) (off : Fin 3 → Nat) (ho : off = ![h.val, 0, 0])
    (inb : ∀ a, off a + S1x1024x128.size a ≤ (⟨3, ![n, 1024, 128]⟩ : Shape).size a) (r : Fin 1024) (l : Fin 128) :
    (Rect.unit (s := ⟨3, ![n, 1024, 128]⟩) off S1x1024x128.size inb).emb (ix3 (0 : Fin 1) r l) = ix3 h r l := by
  subst ho
  refine funext fun a => Fin.ext ?_
  fin_cases a
  · show h.val + 1 * 0 = h.val; omega
  · show 0 + 1 * r.val = r.val; omega
  · show 0 + 1 * l.val = l.val; omega

theorem miss_head {n : Nat} (h h' : Fin n) (hne : h ≠ h') (off : Fin 3 → Nat) (ho : off = ![h'.val, 0, 0])
    (inb : ∀ a, off a + S1x1024x128.size a ≤ (⟨3, ![n, 1024, 128]⟩ : Shape).size a) (r : Fin 1024) (l : Fin 128) :
    (ix3 h r l : (⟨3, ![n, 1024, 128]⟩ : Shape).Idx) ∉ (Rect.unit (s := ⟨3, ![n, 1024, 128]⟩) off S1x1024x128.size inb).set := by
  subst ho
  refine Rect.not_mem_set_of_axis _ _ 0 h'.val 1 rfl rfl rfl ?_
  have : h.val ≠ h'.val := fun e => hne (Fin.ext e)
  show h.val < h'.val ∨ h'.val + 1 * 1 ≤ h.val
  omega

/-- Four heads stored, last first, over anything. -/
theorem canon_stack4 (g : Fin 4 → S1x1024x128.Idx → Elt F e) (L : List (View.Piece (Elt F) S4x1024x128 e))
    (i0 : ∀ a, (![0, 0, 0] : Fin 3 → Nat) a + S1x1024x128.size a ≤ S4x1024x128.size a)
    (i1 : ∀ a, (![1, 0, 0] : Fin 3 → Nat) a + S1x1024x128.size a ≤ S4x1024x128.size a)
    (i2 : ∀ a, (![2, 0, 0] : Fin 3 → Nat) a + S1x1024x128.size a ≤ S4x1024x128.size a)
    (i3 : ∀ a, (![3, 0, 0] : Fin 3 → Nat) a + S1x1024x128.size a ≤ S4x1024x128.size a) :
    View.canon (Val := Elt F) (⟨Rect.unit (s := S4x1024x128) ![3, 0, 0] S1x1024x128.size i3, g 3⟩ :: ⟨Rect.unit (s := S4x1024x128) ![2, 0, 0] S1x1024x128.size i2, g 2⟩
      :: ⟨Rect.unit (s := S4x1024x128) ![1, 0, 0] S1x1024x128.size i1, g 1⟩ :: ⟨Rect.unit (s := S4x1024x128) ![0, 0, 0] S1x1024x128.size i0, g 0⟩ :: L) = stackOf g := by
  funext y
  obtain ⟨h, r, l, rfl⟩ : ∃ (h : Fin 4) (r : Fin 1024) (l : Fin 128), y = ix3 h r l := ⟨y 0, y 1, y 2, eq_ix3 y⟩
  show _ = g h (ix3 (0 : Fin 1) r l)
  have hit : ∀ (h : Fin 4) (off : Fin 3 → Nat) (ho : off = ![h.val, 0, 0])
      (inb : ∀ a, off a + S1x1024x128.size a ≤ S4x1024x128.size a) (M : List (View.Piece (Elt F) S4x1024x128 e)),
      View.canon (Val := Elt F) (⟨Rect.unit (s := S4x1024x128) off S1x1024x128.size inb, g h⟩ :: M) (ix3 h r l) = g h (ix3 (0 : Fin 1) r l) := by
    intro h off ho inb M
    rw [← mem_head h off ho inb r l]
    exact View.canon_cons_emb _ _ _ _
  have miss : ∀ (h h' : Fin 4) (hne : h ≠ h') (off : Fin 3 → Nat) (ho : off = ![h'.val, 0, 0])
      (inb : ∀ a, off a + S1x1024x128.size a ≤ S4x1024x128.size a) (M : List (View.Piece (Elt F) S4x1024x128 e)),
      View.canon (Val := Elt F) (⟨Rect.unit (s := S4x1024x128) off S1x1024x128.size inb, g h'⟩ :: M) (ix3 h r l) = View.canon M (ix3 h r l) := by
    intro h h' hne off ho inb M
    exact View.canon_cons_of_not_mem _ _ (miss_head h h' hne off ho inb r l)
  fin_cases h
  · exact (miss 0 3 (by decide) _ rfl _ _).trans ((miss 0 2 (by decide) _ rfl _ _).trans ((miss 0 1 (by decide) _ rfl _ _).trans (hit 0 _ rfl _ _)))
  · exact (miss 1 3 (by decide) _ rfl _ _).trans ((miss 1 2 (by decide) _ rfl _ _).trans (hit 1 _ rfl _ _))
  · exact (miss 2 3 (by decide) _ rfl _ _).trans (hit 2 _ rfl _ _)
  · exact hit 3 _ rfl _ _

/-- Two heads stored, last first, over anything. -/
theorem canon_stack2 (g : Fin 2 → S1x1024x128.Idx → Elt F e) (L : List (View.Piece (Elt F) S2x1024x128 e))
    (i0 : ∀ a, (![0, 0, 0] : Fin 3 → Nat) a + S1x1024x128.size a ≤ S2x1024x128.size a)
    (i1 : ∀ a, (![1, 0, 0] : Fin 3 → Nat) a + S1x1024x128.size a ≤ S2x1024x128.size a) :
    View.canon (Val := Elt F) (⟨Rect.unit (s := S2x1024x128) ![1, 0, 0] S1x1024x128.size i1, g 1⟩ :: ⟨Rect.unit (s := S2x1024x128) ![0, 0, 0] S1x1024x128.size i0, g 0⟩ :: L)
      = stackOf g := by
  funext y
  obtain ⟨h, r, l, rfl⟩ : ∃ (h : Fin 2) (r : Fin 1024) (l : Fin 128), y = ix3 h r l := ⟨y 0, y 1, y 2, eq_ix3 y⟩
  show _ = g h (ix3 (0 : Fin 1) r l)
  have hit : ∀ (h : Fin 2) (off : Fin 3 → Nat) (ho : off = ![h.val, 0, 0])
      (inb : ∀ a, off a + S1x1024x128.size a ≤ S2x1024x128.size a) (M : List (View.Piece (Elt F) S2x1024x128 e)),
      View.canon (Val := Elt F) (⟨Rect.unit (s := S2x1024x128) off S1x1024x128.size inb, g h⟩ :: M) (ix3 h r l) = g h (ix3 (0 : Fin 1) r l) := by
    intro h off ho inb M
    rw [← mem_head h off ho inb r l]
    exact View.canon_cons_emb _ _ _ _
  fin_cases h
  · exact (View.canon_cons_of_not_mem _ _ (miss_head 0 1 (by decide) _ rfl i1 r l)).trans (hit 0 _ rfl i0 _)
  · exact hit 1 _ rfl _ _

/-- The two halves of a block stored, last first. -/
theorem canon_pair (g : Fin 2 → S1024x128.Idx → Elt F e) (L : List (View.Piece (Elt F) S1024x256 e))
    (i0 : ∀ a, (![0, 0] : Fin 2 → Nat) a + S1024x128.size a ≤ S1024x256.size a)
    (i1 : ∀ a, (![0, 128] : Fin 2 → Nat) a + S1024x128.size a ≤ S1024x256.size a) :
    View.canon (Val := Elt F) (⟨Rect.unit (s := S1024x256) ![0, 128] S1024x128.size i1, g 1⟩ :: ⟨Rect.unit (s := S1024x256) ![0, 0] S1024x128.size i0, g 0⟩ :: L)
      = pairOf g := by
  funext y
  obtain ⟨r, l, rfl⟩ : ∃ (r : Fin 1024) (l : Fin 256), y = ix2 r l := ⟨y 0, y 1, eq_ix2 y⟩
  show _ = g ⟨l.val / 128, by omega⟩ (ix2 r ⟨l.val % 128, by omega⟩)
  by_cases hl : l.val < 128
  · have e0 : (⟨l.val / 128, by omega⟩ : Fin 2) = 0 := Fin.ext (by show l.val / 128 = 0; omega)
    rw [e0, View.canon_cons_of_not_mem _ _ (Rect.not_mem_set_of_axis _ _ 1 128 128 rfl rfl rfl (by show l.val < 128 ∨ _; exact .inl hl))]
    have : (ix2 r l : S1024x256.Idx) = (Rect.unit (s := S1024x256) ![0, 0] S1024x128.size i0).emb (ix2 r ⟨l.val % 128, by omega⟩) := by
      refine funext fun a => Fin.ext ?_
      fin_cases a
      · show r.val = 0 + 1 * r.val; omega
      · show l.val = 0 + 1 * (l.val % 128); omega
    rw [this]; exact View.canon_cons_emb _ _ _ _
  · have e1 : (⟨l.val / 128, by omega⟩ : Fin 2) = 1 := Fin.ext (by show l.val / 128 = 1; omega)
    rw [e1]
    have : (ix2 r l : S1024x256.Idx) = (Rect.unit (s := S1024x256) ![0, 128] S1024x128.size i1).emb (ix2 r ⟨l.val % 128, by omega⟩) := by
      refine funext fun a => Fin.ext ?_
      fin_cases a
      · show r.val = 0 + 1 * r.val; omega
      · show l.val = 128 + 1 * (l.val % 128); omega
    rw [this]; exact View.canon_cons_emb _ _ _ _

/-- What is read after the two halves of a block of rows are stored over contents that read `y`. -/
theorem read_putRows {sp : Space} (M : View sig .tc sp S8192x256 e) (f : M.ty.Contents (Elt F)) (y : S8192x256.Idx → Elt F e)
    (hy : M.read (Elt F) f = y) (b : Fin 8) (g : Fin 2 → S1024x128.Idx → Elt F e)
    (o0 o1 : Fin 2 → Nat) (h0 : o0 = ![1024 * b.val, 0]) (h1 : o1 = ![1024 * b.val, 128])
    (i0 : ∀ a, o0 a + S1024x128.size a ≤ S8192x256.size a) (i1 : ∀ a, o1 a + S1024x128.size a ≤ S8192x256.size a) :
    M.read (Elt F) (M.writes (Elt F) f [⟨Rect.unit o1 S1024x128.size i1, g 1⟩, ⟨Rect.unit o0 S1024x128.size i0, g 0⟩]) = putRows y b g := by
  subst h0 h1 hy
  funext j
  obtain ⟨r, l, rfl⟩ : ∃ (r : Fin 8192) (l : Fin 256), j = ix2 r l := ⟨j 0, j 1, eq_ix2 j⟩
  show _ = if r.val / 1024 = b.val then g ⟨l.val / 128, by omega⟩ (ix2 ⟨r.val % 1024, by omega⟩ ⟨l.val % 128, by omega⟩) else M.read (Elt F) f (ix2 r l)
  by_cases hr : r.val / 1024 = b.val
  · rw [if_pos hr]
    by_cases hl : l.val < 128
    · have e0 : (⟨l.val / 128, by omega⟩ : Fin 2) = 0 := Fin.ext (by show l.val / 128 = 0; omega)
      rw [e0]
      refine (View.read_writes_cons_miss (Val := Elt F) M f ⟨Rect.unit (s := S8192x256) ![1024 * b.val, 128] S1024x128.size i1, g 1⟩ _ _ (Rect.not_mem_set_of_axis _ _ 1 128 128 rfl rfl rfl (by show l.val < 128 ∨ _; exact .inl hl))).trans ?_
      have : (ix2 r l : S8192x256.Idx) = (Rect.unit (s := S8192x256) ![1024 * b.val, 0] S1024x128.size i0).emb
          (ix2 ⟨r.val % 1024, by omega⟩ ⟨l.val % 128, by omega⟩) := by
        refine funext fun a => Fin.ext ?_
        fin_cases a
        · show r.val = 1024 * b.val + 1 * (r.val % 1024); omega
        · show l.val = 0 + 1 * (l.val % 128); omega
      rw [this]; exact View.read_writes_cons_emb _ _ _ _ _ _
    · have e1 : (⟨l.val / 128, by omega⟩ : Fin 2) = 1 := Fin.ext (by show l.val / 128 = 1; omega)
      rw [e1]
      have : (ix2 r l : S8192x256.Idx) = (Rect.unit (s := S8192x256) ![1024 * b.val, 128] S1024x128.size i1).emb
          (ix2 ⟨r.val % 1024, by omega⟩ ⟨l.val % 128, by omega⟩) := by
        refine funext fun a => Fin.ext ?_
        fin_cases a
        · show r.val = 1024 * b.val + 1 * (r.val % 1024); omega
        · show l.val = 128 + 1 * (l.val % 128); omega
      rw [this]; exact View.read_writes_cons_emb _ _ _ _ _ _
  · rw [if_neg hr]
    have hm : ∀ o (i : ∀ a, (![1024 * b.val, o] : Fin 2 → Nat) a + S1024x128.size a ≤ S8192x256.size a),
        (ix2 r l : S8192x256.Idx) ∉ (Rect.unit (s := S8192x256) ![1024 * b.val, o] S1024x128.size i).set := fun o i =>
      Rect.not_mem_set_of_axis _ _ 0 (1024 * b.val) 1024 rfl rfl rfl (by show r.val < 1024 * b.val ∨ 1024 * b.val + 1024 ≤ r.val; omega)
    refine (View.read_writes_cons_miss (Val := Elt F) M f ⟨Rect.unit (s := S8192x256) ![1024 * b.val, 128] S1024x128.size i1, g 1⟩ _ _ (hm _ i1)).trans ?_
    refine (View.read_writes_cons_miss (Val := Elt F) M f ⟨Rect.unit (s := S8192x256) ![1024 * b.val, 0] S1024x128.size i0, g 0⟩ _ _ (hm _ i0)).trans ?_
    rw [View.writes_nil]

end Stores

end Cert.Attn
-- ==== Proof.DatFwd.lean ====
/- The forward call's state between points and its proof data. -/
module

public import proofs.«01_k».proof.Proof.Sched
public import proofs.«01_k».proof.Proof.Blocks
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ
abbrev ms0_0 (t : Fin (cfgA0 F).N) : Memref sig .tc .vmem S1024x512 .bf16 := spec0_0.stage ((cfgA0 F).slots t (0 : Fin 5))
abbrev hs0_0 (t : Fin (cfgA0 F).N) : (ms0_0 (F := F) t).IsWhole := hstage0_0 (((cfgA0 F).slots t (0 : Fin 5)).cast nbuf0_0)
abbrev ms0_1 (t : Fin (cfgA0 F).N) : Memref sig .tc .vmem S1024x512 .bf16 := spec0_1.stage ((cfgA0 F).slots t (1 : Fin 5))
abbrev hs0_1 (t : Fin (cfgA0 F).N) : (ms0_1 (F := F) t).IsWhole := hstage0_1 (((cfgA0 F).slots t (1 : Fin 5)).cast nbuf0_1)
abbrev ms0_2 (t : Fin (cfgA0 F).N) : Memref sig .tc .vmem S1024x256 .bf16 := spec0_2.stage ((cfgA0 F).slots t (2 : Fin 5))
abbrev hs0_2 (t : Fin (cfgA0 F).N) : (ms0_2 (F := F) t).IsWhole := hstage0_2 (((cfgA0 F).slots t (2 : Fin 5)).cast nbuf0_2)
abbrev ms0_3 (t : Fin (cfgA0 F).N) : Memref sig .tc .vmem S1024x256 .f32 := spec0_3.stage ((cfgA0 F).slots t (3 : Fin 5))
abbrev hs0_3 (t : Fin (cfgA0 F).N) : (ms0_3 (F := F) t).IsWhole := hstage0_3 (((cfgA0 F).slots t (3 : Fin 5)).cast nbuf0_3)
abbrev ms0_4 (t : Fin (cfgA0 F).N) : Memref sig .tc .vmem S1024x256 .f32 := spec0_4.stage ((cfgA0 F).slots t (4 : Fin 5))
abbrev hs0_4 (t : Fin (cfgA0 F).N) : (ms0_4 (F := F) t).IsWhole := hstage0_4 (((cfgA0 F).slots t (4 : Fin 5)).cast nbuf0_4)

/-- Window `w`'s block of its array at point `t`, the arrays holding `M`. -/
def iblk0 (M : (ℓ : Loc nD τ sig) → Buf (Elt F) ℓ) (c : Dev nD) (w : Fin (cfgA0 F).W) (t : Fin (cfgA0 F).N) : (((cfgA0 F).win w).xblock ((cfgA0 F).grid.coords t)).Idx → Elt F ((cfgA0 F).win w).elt :=
  (((cfgA0 F).win w).blk t).view.read (Elt F) (M (((cfgA0 F).win w).arr.view.loc (c : Thread nD τ)))

/-- The running maximum, sum and product before point `n` of the forward call. -/
def St0 (M : (ℓ : Loc nD τ sig) → Buf (Elt F) ℓ) (c : Dev nD) : ℕ → FSt F
  | 0 => fInit
  | n + 1 => if h : n < (cfgA0 F).N then fStep (dg0 n) (iblk0 M c (0 : Fin 5) ⟨n, h⟩) (iblk0 M c (1 : Fin 5) ⟨n, h⟩) (iblk0 M c (2 : Fin 5) ⟨n, h⟩) (if in0 n then fInit else St0 M c n) else fInit

theorem St0_succ (M : (ℓ : Loc nD τ sig) → Buf (Elt F) ℓ) (c : Dev nD) (t : Fin (cfgA0 F).N) :
    St0 M c (t.val + 1) = fStep (dg0 t.val) (iblk0 M c (0 : Fin 5) t) (iblk0 M c (1 : Fin 5) t) (iblk0 M c (2 : Fin 5) t) (if in0 t.val then fInit else St0 M c t.val) := by
  rw [St0, dif_pos t.isLt]

/-- The scoped buffers the call does not use. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem scoped0_eq (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ others0 (F := F) c) :=
  Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_stg8_0, cc1_stg8_1, cc1_scratch0, cc1_scratch1] (by decide) (by decide)

/-- What the call holds between points: its scratch buffers at the running state (anything before the first point), the
    tables, the other scoped buffers. -/
def Phi0 (M : (ℓ : Loc nD τ sig) → Buf (Elt F) ℓ) (c : Dev nD) (n : ℕ) : sProp 𝕄 :=
  iprop((∃ (a0 : Buf (Elt F) ((c : Thread nD τ).loc cc0_scratch0)) (a1 : Buf (Elt F) ((c : Thread nD τ).loc cc0_scratch1)) (a2 : Buf (Elt F) ((c : Thread nD τ).loc cc0_scratch2)), ⌜n ≠ 0 → a0 = (St0 M c n).m ∧ a1 = (St0 M c n).l ∧ a2 = (St0 M c n).a⌝
      ∗ (scM0_0.view.loc (c : Thread nD τ) ↦{fullShare} a0) ∗ (scM0_1.view.loc (c : Thread nD τ) ↦{fullShare} a1) ∗ (scM0_2.view.loc (c : Thread nD τ) ↦{fullShare} a2))
    ∗ (tbM0_0.view.loc (c : Thread nD τ) ↦{fullShare} (tab0 : S36.Idx → Elt F .i32)) ∗ (tbM0_1.view.loc (c : Thread nD τ) ↦{fullShare} (tab1 : S36.Idx → Elt F .i32)) ∗ others0 (F := F) c)

/-- The call's proof data on core `c`, its arrays holding `M` at entry. -/
def dat0 (M : (ℓ : Loc nD τ sig) → Buf (Elt F) ℓ) (c : Dev nD) : Dat τ (Elt F) Unit ℕ (UR sig nD τ) ℕ (cfgA0 F) c where
  A w := M (((cfgA0 F).win w).arr.view.loc (c : Thread nD τ))
  after w t := match w with
    | ⟨0, _⟩ => iblk0 M c (0 : Fin 5) t
    | ⟨1, _⟩ => iblk0 M c (1 : Fin 5) t
    | ⟨2, _⟩ => iblk0 M c (2 : Fin 5) t
    | ⟨3, _⟩ => fOut (St0 M c (t.val + 1))
    | ⟨4, _⟩ => fLse (St0 M c (t.val + 1))
  Φ t := Phi0 M c t.val
  q _ := fullShare
  owed _ := 0

theorem after0_0 (M : (ℓ : Loc nD τ sig) → Buf (Elt F) ℓ) (c : Dev nD) (t : Fin (cfgA0 F).N) : (dat0 M c).after (0 : Fin 5) t = iblk0 M c (0 : Fin 5) t := rfl
theorem after0_1 (M : (ℓ : Loc nD τ sig) → Buf (Elt F) ℓ) (c : Dev nD) (t : Fin (cfgA0 F).N) : (dat0 M c).after (1 : Fin 5) t = iblk0 M c (1 : Fin 5) t := rfl
theorem after0_2 (M : (ℓ : Loc nD τ sig) → Buf (Elt F) ℓ) (c : Dev nD) (t : Fin (cfgA0 F).N) : (dat0 M c).after (2 : Fin 5) t = iblk0 M c (2 : Fin 5) t := rfl
theorem after0_3 (M : (ℓ : Loc nD τ sig) → Buf (Elt F) ℓ) (c : Dev nD) (t : Fin (cfgA0 F).N) : (dat0 M c).after (3 : Fin 5) t = fOut (St0 M c (t.val + 1)) := rfl
theorem after0_4 (M : (ℓ : Loc nD τ sig) → Buf (Elt F) ℓ) (c : Dev nD) (t : Fin (cfgA0 F).N) : (dat0 M c).after (4 : Fin 5) t = fLse (St0 M c (t.val + 1)) := rfl
theorem before0_0 (M : (ℓ : Loc nD τ sig) → Buf (Elt F) ℓ) (c : Dev nD) (t : Fin (cfgA0 F).N) (d) : (dat0 M c).before (0 : Fin 5) t d = iblk0 M c (0 : Fin 5) t :=
  ((dat0 M c).before_in_eq_fetched (0 : Fin 5) rfl (fun _ => rfl) (fun _ _ _ => rfl) (fun t => by rw [after0_0]; unfold Dat.blockOf iblk0; rfl) t d).trans
    (by unfold Dat.fetched Dat.blockOf iblk0; rfl)
theorem before0_1 (M : (ℓ : Loc nD τ sig) → Buf (Elt F) ℓ) (c : Dev nD) (t : Fin (cfgA0 F).N) (d) : (dat0 M c).before (1 : Fin 5) t d = iblk0 M c (1 : Fin 5) t :=
  ((dat0 M c).before_in_eq_fetched (1 : Fin 5) rfl (fun _ => rfl) (fun _ _ _ => rfl) (fun t => by rw [after0_1]; unfold Dat.blockOf iblk0; rfl) t d).trans
    (by unfold Dat.fetched Dat.blockOf iblk0; rfl)
theorem before0_2 (M : (ℓ : Loc nD τ sig) → Buf (Elt F) ℓ) (c : Dev nD) (t : Fin (cfgA0 F).N) (d) : (dat0 M c).before (2 : Fin 5) t d = iblk0 M c (2 : Fin 5) t :=
  ((dat0 M c).before_in_eq_fetched (2 : Fin 5) rfl (fun _ => rfl) (fun _ _ _ => rfl) (fun t => by rw [after0_2]; unfold Dat.blockOf iblk0; rfl) t d).trans
    (by unfold Dat.fetched Dat.blockOf iblk0; rfl)

theorem phi0_succ (M : (ℓ : Loc nD τ sig) → Buf (Elt F) ℓ) (c : Dev nD) (t : Fin (cfgA0 F).N) : (dat0 M c).Φ t.succ = Phi0 M c (t.val + 1) := by
  show Phi0 M c t.succ.val = _
  rw [Fin.val_succ]
theorem phi0_cast (M : (ℓ : Loc nD τ sig) → Buf (Elt F) ℓ) (c : Dev nD) (t : Fin (cfgA0 F).N) : (dat0 M c).Φ t.castSucc = Phi0 M c t.val := by
  show Phi0 M c t.castSucc.val = _
  rw [Fin.val_castSucc]
theorem owes0_succ (M : (ℓ : Loc nD τ sig) → Buf (Elt F) ℓ) (c : Dev nD) (t : Fin (cfgA0 F).N) : (dat0 M c).owesAt () t.succ = (dat0 M c).owesAt () t.castSucc := rfl

end Cert.Attn
-- ==== Proof.Loads.lean ====
/- The loads of the attention's two bodies. -/
module

public import proofs.«01_k».proof.Proof.Blocks
public import proofs.«01_k».proof.Proof.Gen.KernelIdeal.Launch
public import Idealize.ShloMosaic.Lib.Pipeline.Value
public import Idealize.ShloMosaic.Lib.Pipeline.ReadBack
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! # The loads of the two bodies -/

theorem rdQ_0 {sp : Space} {e : EltTy} (v : View sig .tc sp S1024x512 e) (x : S1024x512.Idx → Elt F e)
    (inb : ∀ a, (![0, 0] : Fin 2 → Nat) a + (![1024, 128] : Fin 2 → Nat) a ≤ S1024x512.size a) :
    View.readAt (Elt F) v (Rect.unit (s := S1024x512) ![0, 0] ![1024, 128] inb).toLoadRect (v.rep x) = lane4 x 0 := by
  rw [View.readAt_rep]; exact ld_lane4 x 0 _ rfl inb

theorem rdQ_1 {sp : Space} {e : EltTy} (v : View sig .tc sp S1024x512 e) (x : S1024x512.Idx → Elt F e)
    (inb : ∀ a, (![0, 128] : Fin 2 → Nat) a + (![1024, 128] : Fin 2 → Nat) a ≤ S1024x512.size a) :
    View.readAt (Elt F) v (Rect.unit (s := S1024x512) ![0, 128] ![1024, 128] inb).toLoadRect (v.rep x) = lane4 x 1 := by
  rw [View.readAt_rep]; exact ld_lane4 x 1 _ rfl inb

theorem rdQ_2 {sp : Space} {e : EltTy} (v : View sig .tc sp S1024x512 e) (x : S1024x512.Idx → Elt F e)
    (inb : ∀ a, (![0, 256] : Fin 2 → Nat) a + (![1024, 128] : Fin 2 → Nat) a ≤ S1024x512.size a) :
    View.readAt (Elt F) v (Rect.unit (s := S1024x512) ![0, 256] ![1024, 128] inb).toLoadRect (v.rep x) = lane4 x 2 := by
  rw [View.readAt_rep]; exact ld_lane4 x 2 _ rfl inb

theorem rdQ_3 {sp : Space} {e : EltTy} (v : View sig .tc sp S1024x512 e) (x : S1024x512.Idx → Elt F e)
    (inb : ∀ a, (![0, 384] : Fin 2 → Nat) a + (![1024, 128] : Fin 2 → Nat) a ≤ S1024x512.size a) :
    View.readAt (Elt F) v (Rect.unit (s := S1024x512) ![0, 384] ![1024, 128] inb).toLoadRect (v.rep x) = lane4 x 3 := by
  rw [View.readAt_rep]; exact ld_lane4 x 3 _ rfl inb

theorem rdP_0 {sp : Space} {e : EltTy} (v : View sig .tc sp S1024x256 e) (x : S1024x256.Idx → Elt F e)
    (inb : ∀ a, (![0, 0] : Fin 2 → Nat) a + (![1024, 128] : Fin 2 → Nat) a ≤ S1024x256.size a) :
    View.readAt (Elt F) v (Rect.unit (s := S1024x256) ![0, 0] ![1024, 128] inb).toLoadRect (v.rep x) = lane2 x 0 := by
  rw [View.readAt_rep]; exact ld_lane2 x 0 _ rfl inb

theorem rdP_1 {sp : Space} {e : EltTy} (v : View sig .tc sp S1024x256 e) (x : S1024x256.Idx → Elt F e)
    (inb : ∀ a, (![0, 128] : Fin 2 → Nat) a + (![1024, 128] : Fin 2 → Nat) a ≤ S1024x256.size a) :
    View.readAt (Elt F) v (Rect.unit (s := S1024x256) ![0, 128] ![1024, 128] inb).toLoadRect (v.rep x) = lane2 x 1 := by
  rw [View.readAt_rep]; exact ld_lane2 x 1 _ rfl inb

theorem rdC_0 {sp : Space} {e : EltTy} (v : View sig .tc sp S1024x128 e) (x : S1024x128.Idx → Elt F e)
    (inb : ∀ a, (![0, 0] : Fin 2 → Nat) a + (![1024, 1] : Fin 2 → Nat) a ≤ S1024x128.size a) :
    View.readAt (Elt F) v (Rect.unit (s := S1024x128) ![0, 0] ![1024, 1] inb).toLoadRect (v.rep x) = colOf x 0 := by
  rw [View.readAt_rep]; exact ld_col x 0 _ rfl inb

theorem rdC_1 {sp : Space} {e : EltTy} (v : View sig .tc sp S1024x128 e) (x : S1024x128.Idx → Elt F e)
    (inb : ∀ a, (![0, 64] : Fin 2 → Nat) a + (![1024, 1] : Fin 2 → Nat) a ≤ S1024x128.size a) :
    View.readAt (Elt F) v (Rect.unit (s := S1024x128) ![0, 64] ![1024, 1] inb).toLoadRect (v.rep x) = colOf x 1 := by
  rw [View.readAt_rep]; exact ld_col x 1 _ rfl inb

theorem rdW {sp : Space} {e : EltTy} (v : View sig .tc sp S1024x128 e) (x : S1024x128.Idx → Elt F e)
    (inb : ∀ a, (![0, 0] : Fin 2 → Nat) a + (![1024, 128] : Fin 2 → Nat) a ≤ S1024x128.size a) :
    View.readAt (Elt F) v (Rect.unit (s := S1024x128) ![0, 0] ![1024, 128] inb).toLoadRect (v.rep x) = x := by
  rw [View.readAt_rep]; exact ld_whole x _ rfl inb

theorem rdS0_0_0 (c : Dev nD) (x : Buf (Elt F) ((c : Thread nD τ).loc cc0_scratch0))
    (inb : ∀ a, (![0, 0, 0] : Fin 3 → Nat) a + (![1, 1024, 128] : Fin 3 → Nat) a ≤ S4x1024x128.size a) :
    View.readAt (Elt F) (View.whole cc0_scratch0) (Rect.unit (s := S4x1024x128) ![0, 0, 0] ![1, 1024, 128] inb).toLoadRect x
      = headOf (n := 4) x 0 := ld_head (F := F) (e := .f32) (n := 4) x 0 _ rfl inb

theorem rdS0_0_1 (c : Dev nD) (x : Buf (Elt F) ((c : Thread nD τ).loc cc0_scratch0))
    (inb : ∀ a, (![1, 0, 0] : Fin 3 → Nat) a + (![1, 1024, 128] : Fin 3 → Nat) a ≤ S4x1024x128.size a) :
    View.readAt (Elt F) (View.whole cc0_scratch0) (Rect.unit (s := S4x1024x128) ![1, 0, 0] ![1, 1024, 128] inb).toLoadRect x
      = headOf (n := 4) x 1 := ld_head (F := F) (e := .f32) (n := 4) x 1 _ rfl inb

theorem rdS0_0_2 (c : Dev nD) (x : Buf (Elt F) ((c : Thread nD τ).loc cc0_scratch0))
    (inb : ∀ a, (![2, 0, 0] : Fin 3 → Nat) a + (![1, 1024, 128] : Fin 3 → Nat) a ≤ S4x1024x128.size a) :
    View.readAt (Elt F) (View.whole cc0_scratch0) (Rect.unit (s := S4x1024x128) ![2, 0, 0] ![1, 1024, 128] inb).toLoadRect x
      = headOf (n := 4) x 2 := ld_head (F := F) (e := .f32) (n := 4) x 2 _ rfl inb

theorem rdS0_0_3 (c : Dev nD) (x : Buf (Elt F) ((c : Thread nD τ).loc cc0_scratch0))
    (inb : ∀ a, (![3, 0, 0] : Fin 3 → Nat) a + (![1, 1024, 128] : Fin 3 → Nat) a ≤ S4x1024x128.size a) :
    View.readAt (Elt F) (View.whole cc0_scratch0) (Rect.unit (s := S4x1024x128) ![3, 0, 0] ![1, 1024, 128] inb).toLoadRect x
      = headOf (n := 4) x 3 := ld_head (F := F) (e := .f32) (n := 4) x 3 _ rfl inb

theorem rdS0_1_0 (c : Dev nD) (x : Buf (Elt F) ((c : Thread nD τ).loc cc0_scratch1))
    (inb : ∀ a, (![0, 0, 0] : Fin 3 → Nat) a + (![1, 1024, 128] : Fin 3 → Nat) a ≤ S4x1024x128.size a) :
    View.readAt (Elt F) (View.whole cc0_scratch1) (Rect.unit (s := S4x1024x128) ![0, 0, 0] ![1, 1024, 128] inb).toLoadRect x
      = headOf (n := 4) x 0 := ld_head (F := F) (e := .f32) (n := 4) x 0 _ rfl inb

theorem rdS0_1_1 (c : Dev nD) (x : Buf (Elt F) ((c : Thread nD τ).loc cc0_scratch1))
    (inb : ∀ a, (![1, 0, 0] : Fin 3 → Nat) a + (![1, 1024, 128] : Fin 3 → Nat) a ≤ S4x1024x128.size a) :
    View.readAt (Elt F) (View.whole cc0_scratch1) (Rect.unit (s := S4x1024x128) ![1, 0, 0] ![1, 1024, 128] inb).toLoadRect x
      = headOf (n := 4) x 1 := ld_head (F := F) (e := .f32) (n := 4) x 1 _ rfl inb

theorem rdS0_1_2 (c : Dev nD) (x : Buf (Elt F) ((c : Thread nD τ).loc cc0_scratch1))
    (inb : ∀ a, (![2, 0, 0] : Fin 3 → Nat) a + (![1, 1024, 128] : Fin 3 → Nat) a ≤ S4x1024x128.size a) :
    View.readAt (Elt F) (View.whole cc0_scratch1) (Rect.unit (s := S4x1024x128) ![2, 0, 0] ![1, 1024, 128] inb).toLoadRect x
      = headOf (n := 4) x 2 := ld_head (F := F) (e := .f32) (n := 4) x 2 _ rfl inb

theorem rdS0_1_3 (c : Dev nD) (x : Buf (Elt F) ((c : Thread nD τ).loc cc0_scratch1))
    (inb : ∀ a, (![3, 0, 0] : Fin 3 → Nat) a + (![1, 1024, 128] : Fin 3 → Nat) a ≤ S4x1024x128.size a) :
    View.readAt (Elt F) (View.whole cc0_scratch1) (Rect.unit (s := S4x1024x128) ![3, 0, 0] ![1, 1024, 128] inb).toLoadRect x
      = headOf (n := 4) x 3 := ld_head (F := F) (e := .f32) (n := 4) x 3 _ rfl inb

theorem rdS0_2_0 (c : Dev nD) (x : Buf (Elt F) ((c : Thread nD τ).loc cc0_scratch2))
    (inb : ∀ a, (![0, 0, 0] : Fin 3 → Nat) a + (![1, 1024, 128] : Fin 3 → Nat) a ≤ S4x1024x128.size a) :
    View.readAt (Elt F) (View.whole cc0_scratch2) (Rect.unit (s := S4x1024x128) ![0, 0, 0] ![1, 1024, 128] inb).toLoadRect x
      = headOf (n := 4) x 0 := ld_head (F := F) (e := .f32) (n := 4) x 0 _ rfl inb

theorem rdS0_2_1 (c : Dev nD) (x : Buf (Elt F) ((c : Thread nD τ).loc cc0_scratch2))
    (inb : ∀ a, (![1, 0, 0] : Fin 3 → Nat) a + (![1, 1024, 128] : Fin 3 → Nat) a ≤ S4x1024x128.size a) :
    View.readAt (Elt F) (View.whole cc0_scratch2) (Rect.unit (s := S4x1024x128) ![1, 0, 0] ![1, 1024, 128] inb).toLoadRect x
      = headOf (n := 4) x 1 := ld_head (F := F) (e := .f32) (n := 4) x 1 _ rfl inb

theorem rdS0_2_2 (c : Dev nD) (x : Buf (Elt F) ((c : Thread nD τ).loc cc0_scratch2))
    (inb : ∀ a, (![2, 0, 0] : Fin 3 → Nat) a + (![1, 1024, 128] : Fin 3 → Nat) a ≤ S4x1024x128.size a) :
    View.readAt (Elt F) (View.whole cc0_scratch2) (Rect.unit (s := S4x1024x128) ![2, 0, 0] ![1, 1024, 128] inb).toLoadRect x
      = headOf (n := 4) x 2 := ld_head (F := F) (e := .f32) (n := 4) x 2 _ rfl inb

theorem rdS0_2_3 (c : Dev nD) (x : Buf (Elt F) ((c : Thread nD τ).loc cc0_scratch2))
    (inb : ∀ a, (![3, 0, 0] : Fin 3 → Nat) a + (![1, 1024, 128] : Fin 3 → Nat) a ≤ S4x1024x128.size a) :
    View.readAt (Elt F) (View.whole cc0_scratch2) (Rect.unit (s := S4x1024x128) ![3, 0, 0] ![1, 1024, 128] inb).toLoadRect x
      = headOf (n := 4) x 3 := ld_head (F := F) (e := .f32) (n := 4) x 3 _ rfl inb

theorem rdS1_0_0 (c : Dev nD) (x : Buf (Elt F) ((c : Thread nD τ).loc cc1_scratch0))
    (inb : ∀ a, (![0, 0, 0] : Fin 3 → Nat) a + (![1, 1024, 128] : Fin 3 → Nat) a ≤ S2x1024x128.size a) :
    View.readAt (Elt F) (View.whole cc1_scratch0) (Rect.unit (s := S2x1024x128) ![0, 0, 0] ![1, 1024, 128] inb).toLoadRect x
      = headOf (n := 2) x 0 := ld_head (F := F) (e := .f32) (n := 2) x 0 _ rfl inb

theorem rdS1_0_1 (c : Dev nD) (x : Buf (Elt F) ((c : Thread nD τ).loc cc1_scratch0))
    (inb : ∀ a, (![1, 0, 0] : Fin 3 → Nat) a + (![1, 1024, 128] : Fin 3 → Nat) a ≤ S2x1024x128.size a) :
    View.readAt (Elt F) (View.whole cc1_scratch0) (Rect.unit (s := S2x1024x128) ![1, 0, 0] ![1, 1024, 128] inb).toLoadRect x
      = headOf (n := 2) x 1 := ld_head (F := F) (e := .f32) (n := 2) x 1 _ rfl inb

theorem rdS1_1_0 (c : Dev nD) (x : Buf (Elt F) ((c : Thread nD τ).loc cc1_scratch1))
    (inb : ∀ a, (![0, 0, 0] : Fin 3 → Nat) a + (![1, 1024, 128] : Fin 3 → Nat) a ≤ S2x1024x128.size a) :
    View.readAt (Elt F) (View.whole cc1_scratch1) (Rect.unit (s := S2x1024x128) ![0, 0, 0] ![1, 1024, 128] inb).toLoadRect x
      = headOf (n := 2) x 0 := ld_head (F := F) (e := .f32) (n := 2) x 0 _ rfl inb

theorem rdS1_1_1 (c : Dev nD) (x : Buf (Elt F) ((c : Thread nD τ).loc cc1_scratch1))
    (inb : ∀ a, (![1, 0, 0] : Fin 3 → Nat) a + (![1, 1024, 128] : Fin 3 → Nat) a ≤ S2x1024x128.size a) :
    View.readAt (Elt F) (View.whole cc1_scratch1) (Rect.unit (s := S2x1024x128) ![1, 0, 0] ![1, 1024, 128] inb).toLoadRect x
      = headOf (n := 2) x 1 := ld_head (F := F) (e := .f32) (n := 2) x 1 _ rfl inb

theorem rdF4_0 {sp : Space} (v : View sig .tc sp S4x1024x128 .f32) (Z : S4x1024x128.Idx → Elt F .f32)
    (inb : ∀ a, (![0, 0, 0] : Fin 3 → Nat) a + (![4, 1024, 128] : Fin 3 → Nat) a ≤ S4x1024x128.size a)
    (inb' : ∀ a, (![0, 0, 0] : Fin 3 → Nat) a + (![1, 1024, 128] : Fin 3 → Nat) a ≤ S4x1024x128.size a) :
    v.readCov [(⟨Rect.unit (s := S4x1024x128) ![0, 0, 0] ![4, 1024, 128] inb, Z⟩ : View.Piece (Elt F) S4x1024x128 .f32)]
      (Rect.unit (s := S4x1024x128) ![0, 0, 0] ![1, 1024, 128] inb').toLoadRect = headOf (n := 4) Z 0 := by
  rw [View.readCov_eq_canon', View.canon_unit_zero (S := S4x1024x128) (by funext a; fin_cases a <;> rfl) inb Z]
  exact ld_head (F := F) (e := .f32) (n := 4) Z 0 _ rfl inb'

theorem rdF4_1 {sp : Space} (v : View sig .tc sp S4x1024x128 .f32) (Z : S4x1024x128.Idx → Elt F .f32)
    (inb : ∀ a, (![0, 0, 0] : Fin 3 → Nat) a + (![4, 1024, 128] : Fin 3 → Nat) a ≤ S4x1024x128.size a)
    (inb' : ∀ a, (![1, 0, 0] : Fin 3 → Nat) a + (![1, 1024, 128] : Fin 3 → Nat) a ≤ S4x1024x128.size a) :
    v.readCov [(⟨Rect.unit (s := S4x1024x128) ![0, 0, 0] ![4, 1024, 128] inb, Z⟩ : View.Piece (Elt F) S4x1024x128 .f32)]
      (Rect.unit (s := S4x1024x128) ![1, 0, 0] ![1, 1024, 128] inb').toLoadRect = headOf (n := 4) Z 1 := by
  rw [View.readCov_eq_canon', View.canon_unit_zero (S := S4x1024x128) (by funext a; fin_cases a <;> rfl) inb Z]
  exact ld_head (F := F) (e := .f32) (n := 4) Z 1 _ rfl inb'

theorem rdF4_2 {sp : Space} (v : View sig .tc sp S4x1024x128 .f32) (Z : S4x1024x128.Idx → Elt F .f32)
    (inb : ∀ a, (![0, 0, 0] : Fin 3 → Nat) a + (![4, 1024, 128] : Fin 3 → Nat) a ≤ S4x1024x128.size a)
    (inb' : ∀ a, (![2, 0, 0] : Fin 3 → Nat) a + (![1, 1024, 128] : Fin 3 → Nat) a ≤ S4x1024x128.size a) :
    v.readCov [(⟨Rect.unit (s := S4x1024x128) ![0, 0, 0] ![4, 1024, 128] inb, Z⟩ : View.Piece (Elt F) S4x1024x128 .f32)]
      (Rect.unit (s := S4x1024x128) ![2, 0, 0] ![1, 1024, 128] inb').toLoadRect = headOf (n := 4) Z 2 := by
  rw [View.readCov_eq_canon', View.canon_unit_zero (S := S4x1024x128) (by funext a; fin_cases a <;> rfl) inb Z]
  exact ld_head (F := F) (e := .f32) (n := 4) Z 2 _ rfl inb'

theorem rdF4_3 {sp : Space} (v : View sig .tc sp S4x1024x128 .f32) (Z : S4x1024x128.Idx → Elt F .f32)
    (inb : ∀ a, (![0, 0, 0] : Fin 3 → Nat) a + (![4, 1024, 128] : Fin 3 → Nat) a ≤ S4x1024x128.size a)
    (inb' : ∀ a, (![3, 0, 0] : Fin 3 → Nat) a + (![1, 1024, 128] : Fin 3 → Nat) a ≤ S4x1024x128.size a) :
    v.readCov [(⟨Rect.unit (s := S4x1024x128) ![0, 0, 0] ![4, 1024, 128] inb, Z⟩ : View.Piece (Elt F) S4x1024x128 .f32)]
      (Rect.unit (s := S4x1024x128) ![3, 0, 0] ![1, 1024, 128] inb').toLoadRect = headOf (n := 4) Z 3 := by
  rw [View.readCov_eq_canon', View.canon_unit_zero (S := S4x1024x128) (by funext a; fin_cases a <;> rfl) inb Z]
  exact ld_head (F := F) (e := .f32) (n := 4) Z 3 _ rfl inb'

theorem rdF2_0 {sp : Space} (v : View sig .tc sp S2x1024x128 .f32) (Z : S2x1024x128.Idx → Elt F .f32)
    (inb : ∀ a, (![0, 0, 0] : Fin 3 → Nat) a + (![2, 1024, 128] : Fin 3 → Nat) a ≤ S2x1024x128.size a)
    (inb' : ∀ a, (![0, 0, 0] : Fin 3 → Nat) a + (![1, 1024, 128] : Fin 3 → Nat) a ≤ S2x1024x128.size a) :
    v.readCov [(⟨Rect.unit (s := S2x1024x128) ![0, 0, 0] ![2, 1024, 128] inb, Z⟩ : View.Piece (Elt F) S2x1024x128 .f32)]
      (Rect.unit (s := S2x1024x128) ![0, 0, 0] ![1, 1024, 128] inb').toLoadRect = headOf (n := 2) Z 0 := by
  rw [View.readCov_eq_canon', View.canon_unit_zero (S := S2x1024x128) (by funext a; fin_cases a <;> rfl) inb Z]
  exact ld_head (F := F) (e := .f32) (n := 2) Z 0 _ rfl inb'

theorem rdF2_1 {sp : Space} (v : View sig .tc sp S2x1024x128 .f32) (Z : S2x1024x128.Idx → Elt F .f32)
    (inb : ∀ a, (![0, 0, 0] : Fin 3 → Nat) a + (![2, 1024, 128] : Fin 3 → Nat) a ≤ S2x1024x128.size a)
    (inb' : ∀ a, (![1, 0, 0] : Fin 3 → Nat) a + (![1, 1024, 128] : Fin 3 → Nat) a ≤ S2x1024x128.size a) :
    v.readCov [(⟨Rect.unit (s := S2x1024x128) ![0, 0, 0] ![2, 1024, 128] inb, Z⟩ : View.Piece (Elt F) S2x1024x128 .f32)]
      (Rect.unit (s := S2x1024x128) ![1, 0, 0] ![1, 1024, 128] inb').toLoadRect = headOf (n := 2) Z 1 := by
  rw [View.readCov_eq_canon', View.canon_unit_zero (S := S2x1024x128) (by funext a; fin_cases a <;> rfl) inb Z]
  exact ld_head (F := F) (e := .f32) (n := 2) Z 1 _ rfl inb'

theorem wrS0_0 (L : List (View.Piece (Elt F) S4x1024x128 .f32)) :
    (View.whole (κ := .tc) cc0_scratch0).writes (Elt F) (View.whole (κ := .tc) cc0_scratch0).junk L = View.canon L :=
  (View.read_whole _ _).symm.trans (View.read_writes_junk_eq_canon (Val := Elt F) (View.whole (κ := .tc) cc0_scratch0) L)

theorem wrS0_1 (L : List (View.Piece (Elt F) S4x1024x128 .f32)) :
    (View.whole (κ := .tc) cc0_scratch1).writes (Elt F) (View.whole (κ := .tc) cc0_scratch1).junk L = View.canon L :=
  (View.read_whole _ _).symm.trans (View.read_writes_junk_eq_canon (Val := Elt F) (View.whole (κ := .tc) cc0_scratch1) L)

theorem wrS0_2 (L : List (View.Piece (Elt F) S4x1024x128 .f32)) :
    (View.whole (κ := .tc) cc0_scratch2).writes (Elt F) (View.whole (κ := .tc) cc0_scratch2).junk L = View.canon L :=
  (View.read_whole _ _).symm.trans (View.read_writes_junk_eq_canon (Val := Elt F) (View.whole (κ := .tc) cc0_scratch2) L)

theorem wrS1_0 (L : List (View.Piece (Elt F) S2x1024x128 .f32)) :
    (View.whole (κ := .tc) cc1_scratch0).writes (Elt F) (View.whole (κ := .tc) cc1_scratch0).junk L = View.canon L :=
  (View.read_whole _ _).symm.trans (View.read_writes_junk_eq_canon (Val := Elt F) (View.whole (κ := .tc) cc1_scratch0) L)

theorem wrS1_1 (L : List (View.Piece (Elt F) S2x1024x128 .f32)) :
    (View.whole (κ := .tc) cc1_scratch1).writes (Elt F) (View.whole (κ := .tc) cc1_scratch1).junk L = View.canon L :=
  (View.read_whole _ _).symm.trans (View.read_writes_junk_eq_canon (Val := Elt F) (View.whole (κ := .tc) cc1_scratch1) L)

theorem rdI4_0 {sp : Space} (v : View sig .tc sp S4x1024x128 .f32) (w : S1x1024x128.Idx → Elt F .f32)
    (L : List (View.Piece (Elt F) S4x1024x128 .f32))
    (inb : ∀ a, (![0, 0, 0] : Fin 3 → Nat) a + (![1, 1024, 128] : Fin 3 → Nat) a ≤ S4x1024x128.size a) :
    v.readCov (⟨Rect.unit (s := S4x1024x128) ![0, 0, 0] ![1, 1024, 128] inb, w⟩ :: L)
      (Rect.unit (s := S4x1024x128) ![0, 0, 0] ![1, 1024, 128] inb).toLoadRect = w :=
  View.readCov_cons_toLoadRect v (Rect.unit (s := S4x1024x128) ![0, 0, 0] ![1, 1024, 128] inb) w L

theorem rdK4_0_1 {sp : Space} (v : View sig .tc sp S4x1024x128 .f32) (w : S1x1024x128.Idx → Elt F .f32)
    (L : List (View.Piece (Elt F) S4x1024x128 .f32))
    (inb : ∀ a, (![1, 0, 0] : Fin 3 → Nat) a + (![1, 1024, 128] : Fin 3 → Nat) a ≤ S4x1024x128.size a)
    (inb' : ∀ a, (![0, 0, 0] : Fin 3 → Nat) a + (![1, 1024, 128] : Fin 3 → Nat) a ≤ S4x1024x128.size a) :
    v.readCov (⟨Rect.unit (s := S4x1024x128) ![1, 0, 0] ![1, 1024, 128] inb, w⟩ :: L)
      (Rect.unit (s := S4x1024x128) ![0, 0, 0] ![1, 1024, 128] inb').toLoadRect
      = v.readCov L (Rect.unit (s := S4x1024x128) ![0, 0, 0] ![1, 1024, 128] inb').toLoadRect :=
  View.readCov_skip v (Rect.unit (s := S4x1024x128) ![1, 0, 0] ![1, 1024, 128] inb) w L _ rfl

theorem rdK4_0_2 {sp : Space} (v : View sig .tc sp S4x1024x128 .f32) (w : S1x1024x128.Idx → Elt F .f32)
    (L : List (View.Piece (Elt F) S4x1024x128 .f32))
    (inb : ∀ a, (![2, 0, 0] : Fin 3 → Nat) a + (![1, 1024, 128] : Fin 3 → Nat) a ≤ S4x1024x128.size a)
    (inb' : ∀ a, (![0, 0, 0] : Fin 3 → Nat) a + (![1, 1024, 128] : Fin 3 → Nat) a ≤ S4x1024x128.size a) :
    v.readCov (⟨Rect.unit (s := S4x1024x128) ![2, 0, 0] ![1, 1024, 128] inb, w⟩ :: L)
      (Rect.unit (s := S4x1024x128) ![0, 0, 0] ![1, 1024, 128] inb').toLoadRect
      = v.readCov L (Rect.unit (s := S4x1024x128) ![0, 0, 0] ![1, 1024, 128] inb').toLoadRect :=
  View.readCov_skip v (Rect.unit (s := S4x1024x128) ![2, 0, 0] ![1, 1024, 128] inb) w L _ rfl

theorem rdK4_0_3 {sp : Space} (v : View sig .tc sp S4x1024x128 .f32) (w : S1x1024x128.Idx → Elt F .f32)
    (L : List (View.Piece (Elt F) S4x1024x128 .f32))
    (inb : ∀ a, (![3, 0, 0] : Fin 3 → Nat) a + (![1, 1024, 128] : Fin 3 → Nat) a ≤ S4x1024x128.size a)
    (inb' : ∀ a, (![0, 0, 0] : Fin 3 → Nat) a + (![1, 1024, 128] : Fin 3 → Nat) a ≤ S4x1024x128.size a) :
    v.readCov (⟨Rect.unit (s := S4x1024x128) ![3, 0, 0] ![1, 1024, 128] inb, w⟩ :: L)
      (Rect.unit (s := S4x1024x128) ![0, 0, 0] ![1, 1024, 128] inb').toLoadRect
      = v.readCov L (Rect.unit (s := S4x1024x128) ![0, 0, 0] ![1, 1024, 128] inb').toLoadRect :=
  View.readCov_skip v (Rect.unit (s := S4x1024x128) ![3, 0, 0] ![1, 1024, 128] inb) w L _ rfl

theorem rdI4_1 {sp : Space} (v : View sig .tc sp S4x1024x128 .f32) (w : S1x1024x128.Idx → Elt F .f32)
    (L : List (View.Piece (Elt F) S4x1024x128 .f32))
    (inb : ∀ a, (![1, 0, 0] : Fin 3 → Nat) a + (![1, 1024, 128] : Fin 3 → Nat) a ≤ S4x1024x128.size a) :
    v.readCov (⟨Rect.unit (s := S4x1024x128) ![1, 0, 0] ![1, 1024, 128] inb, w⟩ :: L)
      (Rect.unit (s := S4x1024x128) ![1, 0, 0] ![1, 1024, 128] inb).toLoadRect = w :=
  View.readCov_cons_toLoadRect v (Rect.unit (s := S4x1024x128) ![1, 0, 0] ![1, 1024, 128] inb) w L

theorem rdK4_1_0 {sp : Space} (v : View sig .tc sp S4x1024x128 .f32) (w : S1x1024x128.Idx → Elt F .f32)
    (L : List (View.Piece (Elt F) S4x1024x128 .f32))
    (inb : ∀ a, (![0, 0, 0] : Fin 3 → Nat) a + (![1, 1024, 128] : Fin 3 → Nat) a ≤ S4x1024x128.size a)
    (inb' : ∀ a, (![1, 0, 0] : Fin 3 → Nat) a + (![1, 1024, 128] : Fin 3 → Nat) a ≤ S4x1024x128.size a) :
    v.readCov (⟨Rect.unit (s := S4x1024x128) ![0, 0, 0] ![1, 1024, 128] inb, w⟩ :: L)
      (Rect.unit (s := S4x1024x128) ![1, 0, 0] ![1, 1024, 128] inb').toLoadRect
      = v.readCov L (Rect.unit (s := S4x1024x128) ![1, 0, 0] ![1, 1024, 128] inb').toLoadRect :=
  View.readCov_skip v (Rect.unit (s := S4x1024x128) ![0, 0, 0] ![1, 1024, 128] inb) w L _ rfl

theorem rdK4_1_2 {sp : Space} (v : View sig .tc sp S4x1024x128 .f32) (w : S1x1024x128.Idx → Elt F .f32)
    (L : List (View.Piece (Elt F) S4x1024x128 .f32))
    (inb : ∀ a, (![2, 0, 0] : Fin 3 → Nat) a + (![1, 1024, 128] : Fin 3 → Nat) a ≤ S4x1024x128.size a)
    (inb' : ∀ a, (![1, 0, 0] : Fin 3 → Nat) a + (![1, 1024, 128] : Fin 3 → Nat) a ≤ S4x1024x128.size a) :
    v.readCov (⟨Rect.unit (s := S4x1024x128) ![2, 0, 0] ![1, 1024, 128] inb, w⟩ :: L)
      (Rect.unit (s := S4x1024x128) ![1, 0, 0] ![1, 1024, 128] inb').toLoadRect
      = v.readCov L (Rect.unit (s := S4x1024x128) ![1, 0, 0] ![1, 1024, 128] inb').toLoadRect :=
  View.readCov_skip v (Rect.unit (s := S4x1024x128) ![2, 0, 0] ![1, 1024, 128] inb) w L _ rfl

theorem rdK4_1_3 {sp : Space} (v : View sig .tc sp S4x1024x128 .f32) (w : S1x1024x128.Idx → Elt F .f32)
    (L : List (View.Piece (Elt F) S4x1024x128 .f32))
    (inb : ∀ a, (![3, 0, 0] : Fin 3 → Nat) a + (![1, 1024, 128] : Fin 3 → Nat) a ≤ S4x1024x128.size a)
    (inb' : ∀ a, (![1, 0, 0] : Fin 3 → Nat) a + (![1, 1024, 128] : Fin 3 → Nat) a ≤ S4x1024x128.size a) :
    v.readCov (⟨Rect.unit (s := S4x1024x128) ![3, 0, 0] ![1, 1024, 128] inb, w⟩ :: L)
      (Rect.unit (s := S4x1024x128) ![1, 0, 0] ![1, 1024, 128] inb').toLoadRect
      = v.readCov L (Rect.unit (s := S4x1024x128) ![1, 0, 0] ![1, 1024, 128] inb').toLoadRect :=
  View.readCov_skip v (Rect.unit (s := S4x1024x128) ![3, 0, 0] ![1, 1024, 128] inb) w L _ rfl

theorem rdI4_2 {sp : Space} (v : View sig .tc sp S4x1024x128 .f32) (w : S1x1024x128.Idx → Elt F .f32)
    (L : List (View.Piece (Elt F) S4x1024x128 .f32))
    (inb : ∀ a, (![2, 0, 0] : Fin 3 → Nat) a + (![1, 1024, 128] : Fin 3 → Nat) a ≤ S4x1024x128.size a) :
    v.readCov (⟨Rect.unit (s := S4x1024x128) ![2, 0, 0] ![1, 1024, 128] inb, w⟩ :: L)
      (Rect.unit (s := S4x1024x128) ![2, 0, 0] ![1, 1024, 128] inb).toLoadRect = w :=
  View.readCov_cons_toLoadRect v (Rect.unit (s := S4x1024x128) ![2, 0, 0] ![1, 1024, 128] inb) w L

theorem rdK4_2_0 {sp : Space} (v : View sig .tc sp S4x1024x128 .f32) (w : S1x1024x128.Idx → Elt F .f32)
    (L : List (View.Piece (Elt F) S4x1024x128 .f32))
    (inb : ∀ a, (![0, 0, 0] : Fin 3 → Nat) a + (![1, 1024, 128] : Fin 3 → Nat) a ≤ S4x1024x128.size a)
    (inb' : ∀ a, (![2, 0, 0] : Fin 3 → Nat) a + (![1, 1024, 128] : Fin 3 → Nat) a ≤ S4x1024x128.size a) :
    v.readCov (⟨Rect.unit (s := S4x1024x128) ![0, 0, 0] ![1, 1024, 128] inb, w⟩ :: L)
      (Rect.unit (s := S4x1024x128) ![2, 0, 0] ![1, 1024, 128] inb').toLoadRect
      = v.readCov L (Rect.unit (s := S4x1024x128) ![2, 0, 0] ![1, 1024, 128] inb').toLoadRect :=
  View.readCov_skip v (Rect.unit (s := S4x1024x128) ![0, 0, 0] ![1, 1024, 128] inb) w L _ rfl

theorem rdK4_2_1 {sp : Space} (v : View sig .tc sp S4x1024x128 .f32) (w : S1x1024x128.Idx → Elt F .f32)
    (L : List (View.Piece (Elt F) S4x1024x128 .f32))
    (inb : ∀ a, (![1, 0, 0] : Fin 3 → Nat) a + (![1, 1024, 128] : Fin 3 → Nat) a ≤ S4x1024x128.size a)
    (inb' : ∀ a, (![2, 0, 0] : Fin 3 → Nat) a + (![1, 1024, 128] : Fin 3 → Nat) a ≤ S4x1024x128.size a) :
    v.readCov (⟨Rect.unit (s := S4x1024x128) ![1, 0, 0] ![1, 1024, 128] inb, w⟩ :: L)
      (Rect.unit (s := S4x1024x128) ![2, 0, 0] ![1, 1024, 128] inb').toLoadRect
      = v.readCov L (Rect.unit (s := S4x1024x128) ![2, 0, 0] ![1, 1024, 128] inb').toLoadRect :=
  View.readCov_skip v (Rect.unit (s := S4x1024x128) ![1, 0, 0] ![1, 1024, 128] inb) w L _ rfl

theorem rdK4_2_3 {sp : Space} (v : View sig .tc sp S4x1024x128 .f32) (w : S1x1024x128.Idx → Elt F .f32)
    (L : List (View.Piece (Elt F) S4x1024x128 .f32))
    (inb : ∀ a, (![3, 0, 0] : Fin 3 → Nat) a + (![1, 1024, 128] : Fin 3 → Nat) a ≤ S4x1024x128.size a)
    (inb' : ∀ a, (![2, 0, 0] : Fin 3 → Nat) a + (![1, 1024, 128] : Fin 3 → Nat) a ≤ S4x1024x128.size a) :
    v.readCov (⟨Rect.unit (s := S4x1024x128) ![3, 0, 0] ![1, 1024, 128] inb, w⟩ :: L)
      (Rect.unit (s := S4x1024x128) ![2, 0, 0] ![1, 1024, 128] inb').toLoadRect
      = v.readCov L (Rect.unit (s := S4x1024x128) ![2, 0, 0] ![1, 1024, 128] inb').toLoadRect :=
  View.readCov_skip v (Rect.unit (s := S4x1024x128) ![3, 0, 0] ![1, 1024, 128] inb) w L _ rfl

theorem rdI4_3 {sp : Space} (v : View sig .tc sp S4x1024x128 .f32) (w : S1x1024x128.Idx → Elt F .f32)
    (L : List (View.Piece (Elt F) S4x1024x128 .f32))
    (inb : ∀ a, (![3, 0, 0] : Fin 3 → Nat) a + (![1, 1024, 128] : Fin 3 → Nat) a ≤ S4x1024x128.size a) :
    v.readCov (⟨Rect.unit (s := S4x1024x128) ![3, 0, 0] ![1, 1024, 128] inb, w⟩ :: L)
      (Rect.unit (s := S4x1024x128) ![3, 0, 0] ![1, 1024, 128] inb).toLoadRect = w :=
  View.readCov_cons_toLoadRect v (Rect.unit (s := S4x1024x128) ![3, 0, 0] ![1, 1024, 128] inb) w L

theorem rdK4_3_0 {sp : Space} (v : View sig .tc sp S4x1024x128 .f32) (w : S1x1024x128.Idx → Elt F .f32)
    (L : List (View.Piece (Elt F) S4x1024x128 .f32))
    (inb : ∀ a, (![0, 0, 0] : Fin 3 → Nat) a + (![1, 1024, 128] : Fin 3 → Nat) a ≤ S4x1024x128.size a)
    (inb' : ∀ a, (![3, 0, 0] : Fin 3 → Nat) a + (![1, 1024, 128] : Fin 3 → Nat) a ≤ S4x1024x128.size a) :
    v.readCov (⟨Rect.unit (s := S4x1024x128) ![0, 0, 0] ![1, 1024, 128] inb, w⟩ :: L)
      (Rect.unit (s := S4x1024x128) ![3, 0, 0] ![1, 1024, 128] inb').toLoadRect
      = v.readCov L (Rect.unit (s := S4x1024x128) ![3, 0, 0] ![1, 1024, 128] inb').toLoadRect :=
  View.readCov_skip v (Rect.unit (s := S4x1024x128) ![0, 0, 0] ![1, 1024, 128] inb) w L _ rfl

theorem rdK4_3_1 {sp : Space} (v : View sig .tc sp S4x1024x128 .f32) (w : S1x1024x128.Idx → Elt F .f32)
    (L : List (View.Piece (Elt F) S4x1024x128 .f32))
    (inb : ∀ a, (![1, 0, 0] : Fin 3 → Nat) a + (![1, 1024, 128] : Fin 3 → Nat) a ≤ S4x1024x128.size a)
    (inb' : ∀ a, (![3, 0, 0] : Fin 3 → Nat) a + (![1, 1024, 128] : Fin 3 → Nat) a ≤ S4x1024x128.size a) :
    v.readCov (⟨Rect.unit (s := S4x1024x128) ![1, 0, 0] ![1, 1024, 128] inb, w⟩ :: L)
      (Rect.unit (s := S4x1024x128) ![3, 0, 0] ![1, 1024, 128] inb').toLoadRect
      = v.readCov L (Rect.unit (s := S4x1024x128) ![3, 0, 0] ![1, 1024, 128] inb').toLoadRect :=
  View.readCov_skip v (Rect.unit (s := S4x1024x128) ![1, 0, 0] ![1, 1024, 128] inb) w L _ rfl

theorem rdK4_3_2 {sp : Space} (v : View sig .tc sp S4x1024x128 .f32) (w : S1x1024x128.Idx → Elt F .f32)
    (L : List (View.Piece (Elt F) S4x1024x128 .f32))
    (inb : ∀ a, (![2, 0, 0] : Fin 3 → Nat) a + (![1, 1024, 128] : Fin 3 → Nat) a ≤ S4x1024x128.size a)
    (inb' : ∀ a, (![3, 0, 0] : Fin 3 → Nat) a + (![1, 1024, 128] : Fin 3 → Nat) a ≤ S4x1024x128.size a) :
    v.readCov (⟨Rect.unit (s := S4x1024x128) ![2, 0, 0] ![1, 1024, 128] inb, w⟩ :: L)
      (Rect.unit (s := S4x1024x128) ![3, 0, 0] ![1, 1024, 128] inb').toLoadRect
      = v.readCov L (Rect.unit (s := S4x1024x128) ![3, 0, 0] ![1, 1024, 128] inb').toLoadRect :=
  View.readCov_skip v (Rect.unit (s := S4x1024x128) ![2, 0, 0] ![1, 1024, 128] inb) w L _ rfl

theorem rdI2_0 {sp : Space} (v : View sig .tc sp S2x1024x128 .f32) (w : S1x1024x128.Idx → Elt F .f32)
    (L : List (View.Piece (Elt F) S2x1024x128 .f32))
    (inb : ∀ a, (![0, 0, 0] : Fin 3 → Nat) a + (![1, 1024, 128] : Fin 3 → Nat) a ≤ S2x1024x128.size a) :
    v.readCov (⟨Rect.unit (s := S2x1024x128) ![0, 0, 0] ![1, 1024, 128] inb, w⟩ :: L)
      (Rect.unit (s := S2x1024x128) ![0, 0, 0] ![1, 1024, 128] inb).toLoadRect = w :=
  View.readCov_cons_toLoadRect v (Rect.unit (s := S2x1024x128) ![0, 0, 0] ![1, 1024, 128] inb) w L

theorem rdK2_0_1 {sp : Space} (v : View sig .tc sp S2x1024x128 .f32) (w : S1x1024x128.Idx → Elt F .f32)
    (L : List (View.Piece (Elt F) S2x1024x128 .f32))
    (inb : ∀ a, (![1, 0, 0] : Fin 3 → Nat) a + (![1, 1024, 128] : Fin 3 → Nat) a ≤ S2x1024x128.size a)
    (inb' : ∀ a, (![0, 0, 0] : Fin 3 → Nat) a + (![1, 1024, 128] : Fin 3 → Nat) a ≤ S2x1024x128.size a) :
    v.readCov (⟨Rect.unit (s := S2x1024x128) ![1, 0, 0] ![1, 1024, 128] inb, w⟩ :: L)
      (Rect.unit (s := S2x1024x128) ![0, 0, 0] ![1, 1024, 128] inb').toLoadRect
      = v.readCov L (Rect.unit (s := S2x1024x128) ![0, 0, 0] ![1, 1024, 128] inb').toLoadRect :=
  View.readCov_skip v (Rect.unit (s := S2x1024x128) ![1, 0, 0] ![1, 1024, 128] inb) w L _ rfl

theorem rdI2_1 {sp : Space} (v : View sig .tc sp S2x1024x128 .f32) (w : S1x1024x128.Idx → Elt F .f32)
    (L : List (View.Piece (Elt F) S2x1024x128 .f32))
    (inb : ∀ a, (![1, 0, 0] : Fin 3 → Nat) a + (![1, 1024, 128] : Fin 3 → Nat) a ≤ S2x1024x128.size a) :
    v.readCov (⟨Rect.unit (s := S2x1024x128) ![1, 0, 0] ![1, 1024, 128] inb, w⟩ :: L)
      (Rect.unit (s := S2x1024x128) ![1, 0, 0] ![1, 1024, 128] inb).toLoadRect = w :=
  View.readCov_cons_toLoadRect v (Rect.unit (s := S2x1024x128) ![1, 0, 0] ![1, 1024, 128] inb) w L

theorem rdK2_1_0 {sp : Space} (v : View sig .tc sp S2x1024x128 .f32) (w : S1x1024x128.Idx → Elt F .f32)
    (L : List (View.Piece (Elt F) S2x1024x128 .f32))
    (inb : ∀ a, (![0, 0, 0] : Fin 3 → Nat) a + (![1, 1024, 128] : Fin 3 → Nat) a ≤ S2x1024x128.size a)
    (inb' : ∀ a, (![1, 0, 0] : Fin 3 → Nat) a + (![1, 1024, 128] : Fin 3 → Nat) a ≤ S2x1024x128.size a) :
    v.readCov (⟨Rect.unit (s := S2x1024x128) ![0, 0, 0] ![1, 1024, 128] inb, w⟩ :: L)
      (Rect.unit (s := S2x1024x128) ![1, 0, 0] ![1, 1024, 128] inb').toLoadRect
      = v.readCov L (Rect.unit (s := S2x1024x128) ![1, 0, 0] ![1, 1024, 128] inb').toLoadRect :=
  View.readCov_skip v (Rect.unit (s := S2x1024x128) ![0, 0, 0] ![1, 1024, 128] inb) w L _ rfl

theorem rdR_0 {sp : Space} {e : EltTy} (v : View sig .tc sp S8192x256 e) (x : S8192x256.Idx → Elt F e) (b : Fin 8)
    (o0 : Fin 2 → Nat) (h0 : o0 = ![1024 * b.val, 0])
    (inb : ∀ a, o0 a + (![1024, 128] : Fin 2 → Nat) a ≤ S8192x256.size a) :
    View.readAt (Elt F) v (Rect.unit (s := S8192x256) o0 ![1024, 128] inb).toLoadRect (v.rep x) = rowsOf x b 0 := by
  rw [View.readAt_rep]; exact ld_rows x b 0 _ h0 inb

theorem rdR_1 {sp : Space} {e : EltTy} (v : View sig .tc sp S8192x256 e) (x : S8192x256.Idx → Elt F e) (b : Fin 8)
    (o0 o1 : Fin 2 → Nat) (h0 : o0 = ![1024 * b.val, 0]) (h1 : o1 = ![1024 * b.val, 128]) (w : S1024x128.Idx → Elt F e)
    (inb0 : ∀ a, o0 a + (![1024, 128] : Fin 2 → Nat) a ≤ S8192x256.size a)
    (inb : ∀ a, o1 a + (![1024, 128] : Fin 2 → Nat) a ≤ S8192x256.size a) :
    View.readAt (Elt F) v (Rect.unit (s := S8192x256) o1 ![1024, 128] inb).toLoadRect
      (v.writes (Elt F) (v.rep x) [⟨Rect.unit (s := S8192x256) o0 ![1024, 128] inb0, w⟩]) = rowsOf x b 1 := by
  refine Eq.trans ?_ (ld_rows x b 1 _ h1 inb)
  funext y
  rw [View.readAt_apply, View.read_writes_cons_miss _ _ _ _ _ ?_, View.writes_nil, View.read_rep]
  subst h0 h1
  refine Rect.not_mem_set_of_axis _ _ 1 0 128 rfl rfl rfl ?_
  right
  show 0 + 128 ≤ 128 + 1 * (y 1).val
  omega

theorem rdZ_0 {sp : Space} {e : EltTy} (v : View sig .tc sp S8192x256 e) (Z : S8192x256.Idx → Elt F e) (b : Fin 8)
    (o0 : Fin 2 → Nat) (h0 : o0 = ![1024 * b.val, 0])
    (inbZ : ∀ a, (![0, 0] : Fin 2 → Nat) a + (![8192, 256] : Fin 2 → Nat) a ≤ S8192x256.size a)
    (inb : ∀ a, o0 a + (![1024, 128] : Fin 2 → Nat) a ≤ S8192x256.size a) :
    View.readAt (Elt F) v (Rect.unit (s := S8192x256) o0 ![1024, 128] inb).toLoadRect
      (v.writes (Elt F) (v.junk (Val := Elt F)) [(⟨Rect.unit (s := S8192x256) ![0, 0] ![8192, 256] inbZ, Z⟩ : View.Piece (Elt F) S8192x256 e)]) = rowsOf Z b 0 := by
  change v.readCov _ _ = _
  rw [View.readCov_eq_canon', View.canon_unit_zero (S := S8192x256) (by funext a; fin_cases a <;> rfl) inbZ Z]
  exact ld_rows Z b 0 _ h0 inb

theorem rdZ_1 {sp : Space} {e : EltTy} (v : View sig .tc sp S8192x256 e) (Z : S8192x256.Idx → Elt F e) (b : Fin 8)
    (o0 o1 : Fin 2 → Nat) (h0 : o0 = ![1024 * b.val, 0]) (h1 : o1 = ![1024 * b.val, 128]) (w : S1024x128.Idx → Elt F e)
    (inbZ : ∀ a, (![0, 0] : Fin 2 → Nat) a + (![8192, 256] : Fin 2 → Nat) a ≤ S8192x256.size a)
    (inb0 : ∀ a, o0 a + (![1024, 128] : Fin 2 → Nat) a ≤ S8192x256.size a)
    (inb : ∀ a, o1 a + (![1024, 128] : Fin 2 → Nat) a ≤ S8192x256.size a) :
    View.readAt (Elt F) v (Rect.unit (s := S8192x256) o1 ![1024, 128] inb).toLoadRect
      (v.writes (Elt F) (v.junk (Val := Elt F)) [(⟨Rect.unit (s := S8192x256) o0 ![1024, 128] inb0, w⟩ : View.Piece (Elt F) S8192x256 e),
        ⟨Rect.unit (s := S8192x256) ![0, 0] ![8192, 256] inbZ, Z⟩]) = rowsOf Z b 1 := by
  refine Eq.trans ?_ (ld_rows Z b 1 _ h1 inb)
  change v.readCov _ _ = _
  rw [View.readCov_eq_canon']
  funext y
  rw [View.canon_cons_of_not_mem _ _ ?_, View.canon_unit_zero (S := S8192x256) (by funext a; fin_cases a <;> rfl) inbZ Z]
  subst h0 h1
  refine Rect.not_mem_set_of_axis _ _ 1 0 128 rfl rfl rfl ?_
  right
  show 0 + 128 ≤ 128 + 1 * (y 1).val
  omega

/-- One store over a whole block leaves what it stores. -/
theorem canon_whole {e : EltTy} (w : S1024x128.Idx → Elt F e)
    (inb : ∀ a, (![0, 0] : Fin 2 → Nat) a + (![1024, 128] : Fin 2 → Nat) a ≤ S1024x128.size a) :
    View.canon (Val := Elt F) [⟨Rect.unit (s := S1024x128) ![0, 0] ![1024, 128] inb, w⟩] = w :=
  View.canon_unit_zero (S := S1024x128) (by funext a; fin_cases a <;> rfl) inb w

/-- What is read after the two halves of a block of rows are stored over a whole store. -/
theorem canon_putRows {e : EltTy} (Z : S8192x256.Idx → Elt F e) (b : Fin 8) (g : Fin 2 → S1024x128.Idx → Elt F e)
    (o0 o1 : Fin 2 → Nat) (h0 : o0 = ![1024 * b.val, 0]) (h1 : o1 = ![1024 * b.val, 128])
    (inbZ : ∀ a, (![0, 0] : Fin 2 → Nat) a + (![8192, 256] : Fin 2 → Nat) a ≤ S8192x256.size a)
    (i0 : ∀ a, o0 a + (![1024, 128] : Fin 2 → Nat) a ≤ S8192x256.size a)
    (i1 : ∀ a, o1 a + (![1024, 128] : Fin 2 → Nat) a ≤ S8192x256.size a) {sp : Space} (M : View sig .tc sp S8192x256 e)
    (f : M.ty.Contents (Elt F)) :
    M.read (Elt F) (M.writes (Elt F) f [⟨Rect.unit (s := S8192x256) o1 ![1024, 128] i1, g 1⟩, ⟨Rect.unit (s := S8192x256) o0 ![1024, 128] i0, g 0⟩,
      ⟨Rect.unit (s := S8192x256) ![0, 0] ![8192, 256] inbZ, Z⟩]) = putRows Z b g := by
  have hw := View.writes_append (v := M) (Val := Elt F) (f := f)
    [⟨Rect.unit (s := S8192x256) o1 ![1024, 128] i1, g 1⟩, ⟨Rect.unit (s := S8192x256) o0 ![1024, 128] i0, g 0⟩]
    [⟨Rect.unit (s := S8192x256) ![0, 0] ![8192, 256] inbZ, Z⟩]
  refine (congrArg (M.read (Elt F)) hw).trans (read_putRows M _ Z ?_ b g o0 o1 h0 h1 i0 i1)
  rw [View.read_writes_eq_canon]
  · exact View.canon_unit_zero (S := S8192x256) (by funext a; fin_cases a <;> rfl) inbZ Z
  · intro y
    refine ⟨_, List.mem_singleton_self _, ?_⟩
    have e : (Rect.unit (s := S8192x256) ![0, 0] ![8192, 256] inbZ).emb y = y := by
      refine funext fun a => Fin.ext ?_
      fin_cases a
      · show 0 + 1 * (y 0).val = (y 0).val; omega
      · show 0 + 1 * (y 1).val = (y 1).val; omega
    rw [← e]
    exact LoadRect.idx_mem _ _

theorem head_stack {α : Type} {n : Nat} (g : Fin n → S1x1024x128.Idx → α) (h : Fin n) : headOf (stackOf g) h = g h := by
  funext j
  refine congrArg (g h) (funext fun a => Fin.ext ?_)
  have h0 : (j 0).val = 0 := Nat.lt_one_iff.mp (show (j 0).val < 1 from (j 0).isLt)
  fin_cases a
  · exact h0.symm
  · rfl
  · rfl

end Cert.Attn
-- ==== Proof.ValsFwd.lean ====
/- What the forward call's runs leave, as functions of the blocks. -/
module

public import proofs.«01_k».proof.Proof.Loads
public import proofs.«01_k».proof.Proof.RunsFwd
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))

set_option maxHeartbeats 2000000 in
theorem run0_A_o (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    View.canon (run0_A (F := F) c i arg4 harg4 arg5 harg5 arg6 harg6 arg7 harg7 arg8 harg8 T0 T1 x0 x1 x2 y0 y1 xa0 xa1 xa2 h1 h2 h3 h4).1 = fOut (fStep true x0 x1 x2 fInit) := by
  unfold run0_A
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  unfold fStep fOut
  simp only [head_stack]
  exact canon_pair (F := F) (e := .f32) (fun d => k0_pay77 ((fun h => k0_pay61 (fScore true (lane4 x0 h) (lane4 x1 h)) (lane2 x2 (halfOf h)) (headOf (n := 4) k0_pay1 h) (headOf (n := 4) k0_pay3 h)) (evenHead d)) ((fun h => k0_pay60 (fScore true (lane4 x0 h) (lane4 x1 h)) (headOf (n := 4) k0_pay1 h) (headOf (n := 4) k0_pay2 h)) (evenHead d)) ((fun h => k0_pay61 (fScore true (lane4 x0 h) (lane4 x1 h)) (lane2 x2 (halfOf h)) (headOf (n := 4) k0_pay1 h) (headOf (n := 4) k0_pay3 h)) (oddHead d)) ((fun h => k0_pay60 (fScore true (lane4 x0 h) (lane4 x1 h)) (headOf (n := 4) k0_pay1 h) (headOf (n := 4) k0_pay2 h)) (oddHead d))) [] _ _

set_option maxHeartbeats 2000000 in
theorem run0_A_e (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    View.canon (run0_A (F := F) c i arg4 harg4 arg5 harg5 arg6 harg6 arg7 harg7 arg8 harg8 T0 T1 x0 x1 x2 y0 y1 xa0 xa1 xa2 h1 h2 h3 h4).2.1 = fLse (fStep true x0 x1 x2 fInit) := by
  unfold run0_A
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  unfold fStep fLse
  simp only [head_stack]
  exact canon_pair (F := F) (e := .f32) (fun d => k0_pay81 k0_pay76 (k0_pay78 ((fun h => k0_pay62 (fScore true (lane4 x0 h) (lane4 x1 h)) (headOf (n := 4) k0_pay1 h)) (evenHead d)) ((fun h => k0_pay60 (fScore true (lane4 x0 h) (lane4 x1 h)) (headOf (n := 4) k0_pay1 h) (headOf (n := 4) k0_pay2 h)) (evenHead d))) (k0_pay79 ((fun h => k0_pay62 (fScore true (lane4 x0 h) (lane4 x1 h)) (headOf (n := 4) k0_pay1 h)) (oddHead d))) (k0_pay80 ((fun h => k0_pay60 (fScore true (lane4 x0 h) (lane4 x1 h)) (headOf (n := 4) k0_pay1 h) (headOf (n := 4) k0_pay2 h)) (oddHead d)))) [] _ _

set_option maxHeartbeats 2000000 in
theorem run0_A_m (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_A (F := F) c i arg4 harg4 arg5 harg5 arg6 harg6 arg7 harg7 arg8 harg8 T0 T1 x0 x1 x2 y0 y1 xa0 xa1 xa2 h1 h2 h3 h4).2.2.1 = (fStep true x0 x1 x2 fInit).m := by
  unfold run0_A
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_0]
  exact canon_stack4 (F := F) (e := .f32) (fun h => k0_pay62 (fScore true (lane4 x0 h) (lane4 x1 h)) (headOf (n := 4) k0_pay1 h)) _ _ _ _ _

set_option maxHeartbeats 2000000 in
theorem run0_A_l (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_A (F := F) c i arg4 harg4 arg5 harg5 arg6 harg6 arg7 harg7 arg8 harg8 T0 T1 x0 x1 x2 y0 y1 xa0 xa1 xa2 h1 h2 h3 h4).2.2.2.1 = (fStep true x0 x1 x2 fInit).l := by
  unfold run0_A
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_1]
  exact canon_stack4 (F := F) (e := .f32) (fun h => k0_pay60 (fScore true (lane4 x0 h) (lane4 x1 h)) (headOf (n := 4) k0_pay1 h) (headOf (n := 4) k0_pay2 h)) _ _ _ _ _

set_option maxHeartbeats 2000000 in
theorem run0_A_a (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_A (F := F) c i arg4 harg4 arg5 harg5 arg6 harg6 arg7 harg7 arg8 harg8 T0 T1 x0 x1 x2 y0 y1 xa0 xa1 xa2 h1 h2 h3 h4).2.2.2.2.1 = (fStep true x0 x1 x2 fInit).a := by
  unfold run0_A
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_2]
  exact canon_stack4 (F := F) (e := .f32) (fun h => k0_pay61 (fScore true (lane4 x0 h) (lane4 x1 h)) (lane2 x2 (halfOf h)) (headOf (n := 4) k0_pay1 h) (headOf (n := 4) k0_pay3 h)) _ _ _ _ _

set_option maxHeartbeats 2000000 in
theorem run0_B_m (h1 : Scalar.cmpi .ne (Scalar.extui (Scalar.cmpi .eq (tv0_1 i T1) 0#32)) 0#32 = 1#1) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_B (F := F) c i arg4 harg4 arg5 harg5 arg6 harg6 arg7 harg7 arg8 harg8 T0 T1 x0 x1 x2 y0 y1 xa0 xa1 xa2 h1 h2 h3 h4).1 = (fStep false x0 x1 x2 fInit).m := by
  unfold run0_B
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_0]
  exact canon_stack4 (F := F) (e := .f32) (fun h => k0_pay62 (fScore false (lane4 x0 h) (lane4 x1 h)) (headOf (n := 4) k0_pay1 h)) _ _ _ _ _

set_option maxHeartbeats 2000000 in
theorem run0_B_l (h1 : Scalar.cmpi .ne (Scalar.extui (Scalar.cmpi .eq (tv0_1 i T1) 0#32)) 0#32 = 1#1) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_B (F := F) c i arg4 harg4 arg5 harg5 arg6 harg6 arg7 harg7 arg8 harg8 T0 T1 x0 x1 x2 y0 y1 xa0 xa1 xa2 h1 h2 h3 h4).2.1 = (fStep false x0 x1 x2 fInit).l := by
  unfold run0_B
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_1]
  exact canon_stack4 (F := F) (e := .f32) (fun h => k0_pay60 (fScore false (lane4 x0 h) (lane4 x1 h)) (headOf (n := 4) k0_pay1 h) (headOf (n := 4) k0_pay2 h)) _ _ _ _ _

set_option maxHeartbeats 2000000 in
theorem run0_B_a (h1 : Scalar.cmpi .ne (Scalar.extui (Scalar.cmpi .eq (tv0_1 i T1) 0#32)) 0#32 = 1#1) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_B (F := F) c i arg4 harg4 arg5 harg5 arg6 harg6 arg7 harg7 arg8 harg8 T0 T1 x0 x1 x2 y0 y1 xa0 xa1 xa2 h1 h2 h3 h4).2.2.1 = (fStep false x0 x1 x2 fInit).a := by
  unfold run0_B
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_2]
  exact canon_stack4 (F := F) (e := .f32) (fun h => k0_pay61 (fScore false (lane4 x0 h) (lane4 x1 h)) (lane2 x2 (halfOf h)) (headOf (n := 4) k0_pay1 h) (headOf (n := 4) k0_pay3 h)) _ _ _ _ _

set_option maxHeartbeats 2000000 in
theorem run0_C_m (h1 : ¬(Scalar.cmpi .ne (Scalar.extui (Scalar.cmpi .eq (tv0_1 i T1) 0#32)) 0#32 = 1#1)) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_C (F := F) c i arg4 harg4 arg5 harg5 arg6 harg6 arg7 harg7 arg8 harg8 T0 T1 x0 x1 x2 y0 y1 xa0 xa1 xa2 h1 h2 h3 h4).1 = (fStep false x0 x1 x2 ⟨xa0, xa1, xa2⟩).m := by
  unfold run0_C
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_0]
  exact canon_stack4 (F := F) (e := .f32) (fun h => k0_pay62 (fScore false (lane4 x0 h) (lane4 x1 h)) (headOf (n := 4) xa0 h)) _ _ _ _ _

set_option maxHeartbeats 2000000 in
theorem run0_C_l (h1 : ¬(Scalar.cmpi .ne (Scalar.extui (Scalar.cmpi .eq (tv0_1 i T1) 0#32)) 0#32 = 1#1)) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_C (F := F) c i arg4 harg4 arg5 harg5 arg6 harg6 arg7 harg7 arg8 harg8 T0 T1 x0 x1 x2 y0 y1 xa0 xa1 xa2 h1 h2 h3 h4).2.1 = (fStep false x0 x1 x2 ⟨xa0, xa1, xa2⟩).l := by
  unfold run0_C
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_1]
  exact canon_stack4 (F := F) (e := .f32) (fun h => k0_pay60 (fScore false (lane4 x0 h) (lane4 x1 h)) (headOf (n := 4) xa0 h) (headOf (n := 4) xa1 h)) _ _ _ _ _

set_option maxHeartbeats 2000000 in
theorem run0_C_a (h1 : ¬(Scalar.cmpi .ne (Scalar.extui (Scalar.cmpi .eq (tv0_1 i T1) 0#32)) 0#32 = 1#1)) (h2 : Scalar.cmpi .ne (Scalar.extui (Scalar.cmpi .slt (tv0_1 i T1) (tv0_0 i T0))) 0#32 = 1#1) (h3 : ¬(Scalar.cmpi .ne (Scalar.extui (Scalar.cmpi .eq (tv0_1 i T1) (tv0_0 i T0))) 0#32 = 1#1)) (h4 : ¬(k0_cond4 (tv0_0 i T0) (tv0_1 i T1) = 1#1)) :
    (run0_C (F := F) c i arg4 harg4 arg5 harg5 arg6 harg6 arg7 harg7 arg8 harg8 T0 T1 x0 x1 x2 y0 y1 xa0 xa1 xa2 h1 h2 h3 h4).2.2.1 = (fStep false x0 x1 x2 ⟨xa0, xa1, xa2⟩).a := by
  unfold run0_C
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_2]
  exact canon_stack4 (F := F) (e := .f32) (fun h => k0_pay61 (fScore false (lane4 x0 h) (lane4 x1 h)) (lane2 x2 (halfOf h)) (headOf (n := 4) xa0 h) (headOf (n := 4) xa2 h)) _ _ _ _ _

set_option maxHeartbeats 2000000 in
theorem run0_D_o (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    View.canon (run0_D (F := F) c i arg4 harg4 arg5 harg5 arg6 harg6 arg7 harg7 arg8 harg8 T0 T1 x0 x1 x2 y0 y1 xa0 xa1 xa2 h1 h2 h3 h4).1 = fOut (fStep true x0 x1 x2 ⟨xa0, xa1, xa2⟩) := by
  unfold run0_D
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  unfold fStep fOut
  simp only [head_stack]
  exact canon_pair (F := F) (e := .f32) (fun d => k0_pay77 ((fun h => k0_pay61 (fScore true (lane4 x0 h) (lane4 x1 h)) (lane2 x2 (halfOf h)) (headOf (n := 4) xa0 h) (headOf (n := 4) xa2 h)) (evenHead d)) ((fun h => k0_pay60 (fScore true (lane4 x0 h) (lane4 x1 h)) (headOf (n := 4) xa0 h) (headOf (n := 4) xa1 h)) (evenHead d)) ((fun h => k0_pay61 (fScore true (lane4 x0 h) (lane4 x1 h)) (lane2 x2 (halfOf h)) (headOf (n := 4) xa0 h) (headOf (n := 4) xa2 h)) (oddHead d)) ((fun h => k0_pay60 (fScore true (lane4 x0 h) (lane4 x1 h)) (headOf (n := 4) xa0 h) (headOf (n := 4) xa1 h)) (oddHead d))) [] _ _

set_option maxHeartbeats 2000000 in
theorem run0_D_e (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    View.canon (run0_D (F := F) c i arg4 harg4 arg5 harg5 arg6 harg6 arg7 harg7 arg8 harg8 T0 T1 x0 x1 x2 y0 y1 xa0 xa1 xa2 h1 h2 h3 h4).2.1 = fLse (fStep true x0 x1 x2 ⟨xa0, xa1, xa2⟩) := by
  unfold run0_D
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  unfold fStep fLse
  simp only [head_stack]
  exact canon_pair (F := F) (e := .f32) (fun d => k0_pay81 k0_pay76 (k0_pay78 ((fun h => k0_pay62 (fScore true (lane4 x0 h) (lane4 x1 h)) (headOf (n := 4) xa0 h)) (evenHead d)) ((fun h => k0_pay60 (fScore true (lane4 x0 h) (lane4 x1 h)) (headOf (n := 4) xa0 h) (headOf (n := 4) xa1 h)) (evenHead d))) (k0_pay79 ((fun h => k0_pay62 (fScore true (lane4 x0 h) (lane4 x1 h)) (headOf (n := 4) xa0 h)) (oddHead d))) (k0_pay80 ((fun h => k0_pay60 (fScore true (lane4 x0 h) (lane4 x1 h)) (headOf (n := 4) xa0 h) (headOf (n := 4) xa1 h)) (oddHead d)))) [] _ _

set_option maxHeartbeats 2000000 in
theorem run0_D_m (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_D (F := F) c i arg4 harg4 arg5 harg5 arg6 harg6 arg7 harg7 arg8 harg8 T0 T1 x0 x1 x2 y0 y1 xa0 xa1 xa2 h1 h2 h3 h4).2.2.1 = (fStep true x0 x1 x2 ⟨xa0, xa1, xa2⟩).m := by
  unfold run0_D
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_0]
  exact canon_stack4 (F := F) (e := .f32) (fun h => k0_pay62 (fScore true (lane4 x0 h) (lane4 x1 h)) (headOf (n := 4) xa0 h)) _ _ _ _ _

set_option maxHeartbeats 2000000 in
theorem run0_D_l (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_D (F := F) c i arg4 harg4 arg5 harg5 arg6 harg6 arg7 harg7 arg8 harg8 T0 T1 x0 x1 x2 y0 y1 xa0 xa1 xa2 h1 h2 h3 h4).2.2.2.1 = (fStep true x0 x1 x2 ⟨xa0, xa1, xa2⟩).l := by
  unfold run0_D
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_1]
  exact canon_stack4 (F := F) (e := .f32) (fun h => k0_pay60 (fScore true (lane4 x0 h) (lane4 x1 h)) (headOf (n := 4) xa0 h) (headOf (n := 4) xa1 h)) _ _ _ _ _

set_option maxHeartbeats 2000000 in
theorem run0_D_a (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) :
    (run0_D (F := F) c i arg4 harg4 arg5 harg5 arg6 harg6 arg7 harg7 arg8 harg8 T0 T1 x0 x1 x2 y0 y1 xa0 xa1 xa2 h1 h2 h3 h4).2.2.2.2.1 = (fStep true x0 x1 x2 ⟨xa0, xa1, xa2⟩).a := by
  unfold run0_D
  sl_unfold_words
  simp only [rdQ_0, rdQ_1, rdQ_2, rdQ_3, rdP_0, rdP_1, rdC_0, rdC_1, rdW, rdS0_0_0, rdS0_0_1, rdS0_0_2, rdS0_0_3, rdS0_1_0, rdS0_1_1, rdS0_1_2, rdS0_1_3, rdS0_2_0, rdS0_2_1, rdS0_2_2, rdS0_2_3, rdF4_0, rdF4_1, rdF4_2, rdF4_3, rdI4_0, rdI4_1, rdI4_2, rdI4_3, rdK4_0_1, rdK4_0_2, rdK4_0_3, rdK4_1_0, rdK4_1_2, rdK4_1_3, rdK4_2_0, rdK4_2_1, rdK4_2_3, rdK4_3_0, rdK4_3_1, rdK4_3_2]
  rw [wrS0_2]
  exact canon_stack4 (F := F) (e := .f32) (fun h => k0_pay61 (fScore true (lane4 x0 h) (lane4 x1 h)) (lane2 x2 (halfOf h)) (headOf (n := 4) xa0 h) (headOf (n := 4) xa2 h)) _ _ _ _ _

end Cert.Attn
-- ==== Proof.BodyFwd.lean ====
/- The forward call's body meets its proof data at every point. -/
module

public import proofs.«01_k».proof.Proof.DatFwd
public import proofs.«01_k».proof.Proof.ValsFwd
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- What path A stores in the whole of an output window, whatever the window held. -/
theorem run0_A_oc (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) (f) :
    arg7.view.read (Elt F) (arg7.view.writes (Elt F) f (run0_A (F := F) c i arg4 harg4 arg5 harg5 arg6 harg6 arg7 harg7 arg8 harg8 T0 T1 x0 x1 x2 y0 y1 xa0 xa1 xa2 h1 h2 h3 h4).1) = fOut (fStep true x0 x1 x2 fInit) :=
  (funext fun y => View.read_writes_apply_eq_canon arg7.view f y _ (View.cover_of_tiledL (run0_A (F := F) c i arg4 harg4 arg5 harg5 arg6 harg6 arg7 harg7 arg8 harg8 T0 T1 x0 x1 x2 y0 y1 xa0 xa1 xa2 h1 h2 h3 h4).1 S1024x128.size (by sl_kernel_rfl) y)).trans (run0_A_o (F := F) c i arg4 harg4 arg5 harg5 arg6 harg6 arg7 harg7 arg8 harg8 T0 T1 x0 x1 x2 y0 y1 xa0 xa1 xa2 h1 h2 h3 h4)

set_option maxHeartbeats 2000000 in
/-- What path A stores in the whole of an output window, whatever the window held. -/
theorem run0_A_ec (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : Scalar.cmpi .ne (Scalar.extui (Scalar.cmpi .eq (tv0_1 i T1) 0#32)) 0#32 = 1#1) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) (f) :
    arg8.view.read (Elt F) (arg8.view.writes (Elt F) f (run0_A (F := F) c i arg4 harg4 arg5 harg5 arg6 harg6 arg7 harg7 arg8 harg8 T0 T1 x0 x1 x2 y0 y1 xa0 xa1 xa2 h1 h2 h3 h4).2.1) = fLse (fStep true x0 x1 x2 fInit) :=
  (funext fun y => View.read_writes_apply_eq_canon arg8.view f y _ (View.cover_of_tiledL (run0_A (F := F) c i arg4 harg4 arg5 harg5 arg6 harg6 arg7 harg7 arg8 harg8 T0 T1 x0 x1 x2 y0 y1 xa0 xa1 xa2 h1 h2 h3 h4).2.1 S1024x128.size (by sl_kernel_rfl) y)).trans (run0_A_e (F := F) c i arg4 harg4 arg5 harg5 arg6 harg6 arg7 harg7 arg8 harg8 T0 T1 x0 x1 x2 y0 y1 xa0 xa1 xa2 h1 h2 h3 h4)

set_option maxHeartbeats 2000000 in
/-- What path D stores in the whole of an output window, whatever the window held. -/
theorem run0_D_oc (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) (f) :
    arg7.view.read (Elt F) (arg7.view.writes (Elt F) f (run0_D (F := F) c i arg4 harg4 arg5 harg5 arg6 harg6 arg7 harg7 arg8 harg8 T0 T1 x0 x1 x2 y0 y1 xa0 xa1 xa2 h1 h2 h3 h4).1) = fOut (fStep true x0 x1 x2 ⟨xa0, xa1, xa2⟩) :=
  (funext fun y => View.read_writes_apply_eq_canon arg7.view f y _ (View.cover_of_tiledL (run0_D (F := F) c i arg4 harg4 arg5 harg5 arg6 harg6 arg7 harg7 arg8 harg8 T0 T1 x0 x1 x2 y0 y1 xa0 xa1 xa2 h1 h2 h3 h4).1 S1024x128.size (by sl_kernel_rfl) y)).trans (run0_D_o (F := F) c i arg4 harg4 arg5 harg5 arg6 harg6 arg7 harg7 arg8 harg8 T0 T1 x0 x1 x2 y0 y1 xa0 xa1 xa2 h1 h2 h3 h4)

set_option maxHeartbeats 2000000 in
/-- What path D stores in the whole of an output window, whatever the window held. -/
theorem run0_D_ec (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x256 .f32) (harg8 : arg8.IsWhole)
    (T0 T1 : S36.Idx → Elt F .i32) (x0 : S1024x512.Idx → Elt F .bf16) (x1 : S1024x512.Idx → Elt F .bf16) (x2 : S1024x256.Idx → Elt F .bf16) (y0 : S1024x256.Idx → Elt F .f32) (y1 : S1024x256.Idx → Elt F .f32) (xa0 : Buf (Elt F) ((c : Thread nD τ).loc cc0_scratch0)) (xa1 : Buf (Elt F) ((c : Thread nD τ).loc cc0_scratch1)) (xa2 : Buf (Elt F) ((c : Thread nD τ).loc cc0_scratch2))
    (h1 : ¬(Scalar.cmpi .ne (Scalar.extui (Scalar.cmpi .eq (tv0_1 i T1) 0#32)) 0#32 = 1#1)) (h2 : ¬(Scalar.cmpi .ne (Scalar.extui (Scalar.cmpi .slt (tv0_1 i T1) (tv0_0 i T0))) 0#32 = 1#1)) (h3 : Scalar.cmpi .ne (Scalar.extui (Scalar.cmpi .eq (tv0_1 i T1) (tv0_0 i T0))) 0#32 = 1#1) (h4 : k0_cond4 (tv0_0 i T0) (tv0_1 i T1) = 1#1) (f) :
    arg8.view.read (Elt F) (arg8.view.writes (Elt F) f (run0_D (F := F) c i arg4 harg4 arg5 harg5 arg6 harg6 arg7 harg7 arg8 harg8 T0 T1 x0 x1 x2 y0 y1 xa0 xa1 xa2 h1 h2 h3 h4).2.1) = fLse (fStep true x0 x1 x2 ⟨xa0, xa1, xa2⟩) :=
  (funext fun y => View.read_writes_apply_eq_canon arg8.view f y _ (View.cover_of_tiledL (run0_D (F := F) c i arg4 harg4 arg5 harg5 arg6 harg6 arg7 harg7 arg8 harg8 T0 T1 x0 x1 x2 y0 y1 xa0 xa1 xa2 h1 h2 h3 h4).2.1 S1024x128.size (by sl_kernel_rfl) y)).trans (run0_D_e (F := F) c i arg4 harg4 arg5 harg5 arg6 harg6 arg7 harg7 arg8 harg8 T0 T1 x0 x1 x2 y0 y1 xa0 xa1 xa2 h1 h2 h3 h4)

set_option maxHeartbeats 6400000 in
/-- The body's obligation at a point of path A. -/
theorem sound0_A (M : (ℓ : Loc nD τ sig) → Buf (Elt F) ℓ) (c : Dev nD) (t : Fin (cfgA0 F).N) (hp : Pa0_A F t) :
    iprop((dat0 M c).Φ t.castSucc ∗ (dat0 M c).owesAt () t.castSucc
        ∗ (∃ d, owns (c : Thread nD τ) (ms0_0 t) fullShare ((dat0 M c).before (0 : Fin 5) t d)) ∗ (∃ d, owns (c : Thread nD τ) (ms0_1 t) fullShare ((dat0 M c).before (1 : Fin 5) t d)) ∗ (∃ d, owns (c : Thread nD τ) (ms0_2 t) fullShare ((dat0 M c).before (2 : Fin 5) t d)) ∗ (∃ d, owns (c : Thread nD τ) (ms0_3 t) fullShare ((dat0 M c).before (3 : Fin 5) t d)) ∗ (∃ d, owns (c : Thread nD τ) (ms0_4 t) fullShare ((dat0 M c).before (4 : Fin 5) t d)))
      ⊢ wp frame (wpE (defs₀ (F := F)) Variants.none c none) Set.univ (cc0_attn_fwd (grid0.coords t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _) (Memref.whole cc0_scratch2) (Memref.isWhole_whole _) : Prog (TpuEff nD τ sig (Elt F) Λ₀ .tc) PUnit) fun _ =>
          iprop((dat0 M c).Φ t.succ ∗ (dat0 M c).owesAt () t.succ
            ∗ bigSep Finset.univ fun w : Fin (cfgA0 F).W =>
                match (cfgA0 F).idle w ((cfgA0 F).grid.coords t) with
                | true =>
                  match ((cfgA0 F).win w).flush t with
                  | false => iprop(∃ d, owns (c : Thread nD τ) (((cfgA0 F).win w).stage ((cfgA0 F).slots t w)) fullShare ((dat0 M c).before w t d))
                  | true => owns (c : Thread nD τ) (((cfgA0 F).win w).stage ((cfgA0 F).slots t w)) fullShare ((dat0 M c).after w t)
                | false => owns (c : Thread nD τ) (((cfgA0 F).win w).stage ((cfgA0 F).slots t w)) fullShare ((dat0 M c).after w t)) := by
  rw [bigSep_W0]
  obtain ⟨⟨h1, h2, h3, h4⟩, ⟨hdg, hin⟩, i3, i4⟩ := hp
  have hS : St0 M c (t.val + 1) = fStep true (iblk0 M c (0 : Fin 5) t) (iblk0 M c (1 : Fin 5) t) (iblk0 M c (2 : Fin 5) t) fInit := by rw [St0_succ, hdg, hin]; rfl
  rewrite [i3]
  try rewrite [i4]
  simp only [before0_0, before0_1, before0_2, after0_0, after0_1, after0_2, after0_3, after0_4]
  rewrite [phi0_succ, phi0_cast, owes0_succ]
  skip
  unfold Phi0
  iintro ⟨⟨⟨%a0, %a1, %a2, %ha, HS0, HS1, HS2⟩, HT0, HT1, HR⟩, Ho, ⟨%d0, H0⟩, ⟨%d1, H1⟩, ⟨%d2, H2⟩, ⟨%d3, H3⟩, ⟨%d4, H4⟩⟩
  iapply ((run0_A (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4).2.2.2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iapply rep_of_owns; iexact H3
  isplitl [H4]; · iapply rep_of_owns; iexact H4
  isplitl [HS0]; · iexact HS0
  isplitl [HS1]; · iexact HS1
  isplitl [HS2]; · iexact HS2
  iintro ⟨H0, H1, H2, HT0, HT1, ⟨%e3, H3⟩, ⟨%e4, H4⟩, HS0, HS1, HS2⟩
  isplitl [HS0 HS1 HS2 HT0 HT1 HR]
  · isplitl [HS0 HS1 HS2]
    · iexists _; iexists _; iexists _; isplitr; swap
      · isplitl [HS0]; · iexact HS0
        isplitl [HS1]; · iexact HS1
        iexact HS2
      · ipureintro; intro _; rw [hS]
        exact ⟨run0_A_m (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4, run0_A_l (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4, run0_A_a (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]
  · unfold owns; iexists _; isplitr; swap
    · iexact H3
    · ipureintro; rw [hS]; exact run0_A_oc (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4 e3
  unfold owns; iexists _; isplitr; swap
  · iexact H4
  · ipureintro; rw [hS]; exact run0_A_ec (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4 e4

set_option maxHeartbeats 6400000 in
/-- The body's obligation at a point of path B. -/
theorem sound0_B (M : (ℓ : Loc nD τ sig) → Buf (Elt F) ℓ) (c : Dev nD) (t : Fin (cfgA0 F).N) (hp : Pa0_B F t) :
    iprop((dat0 M c).Φ t.castSucc ∗ (dat0 M c).owesAt () t.castSucc
        ∗ (∃ d, owns (c : Thread nD τ) (ms0_0 t) fullShare ((dat0 M c).before (0 : Fin 5) t d)) ∗ (∃ d, owns (c : Thread nD τ) (ms0_1 t) fullShare ((dat0 M c).before (1 : Fin 5) t d)) ∗ (∃ d, owns (c : Thread nD τ) (ms0_2 t) fullShare ((dat0 M c).before (2 : Fin 5) t d)) ∗ (∃ d, owns (c : Thread nD τ) (ms0_3 t) fullShare ((dat0 M c).before (3 : Fin 5) t d)) ∗ (∃ d, owns (c : Thread nD τ) (ms0_4 t) fullShare ((dat0 M c).before (4 : Fin 5) t d)))
      ⊢ wp frame (wpE (defs₀ (F := F)) Variants.none c none) Set.univ (cc0_attn_fwd (grid0.coords t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _) (Memref.whole cc0_scratch2) (Memref.isWhole_whole _) : Prog (TpuEff nD τ sig (Elt F) Λ₀ .tc) PUnit) fun _ =>
          iprop((dat0 M c).Φ t.succ ∗ (dat0 M c).owesAt () t.succ
            ∗ bigSep Finset.univ fun w : Fin (cfgA0 F).W =>
                match (cfgA0 F).idle w ((cfgA0 F).grid.coords t) with
                | true =>
                  match ((cfgA0 F).win w).flush t with
                  | false => iprop(∃ d, owns (c : Thread nD τ) (((cfgA0 F).win w).stage ((cfgA0 F).slots t w)) fullShare ((dat0 M c).before w t d))
                  | true => owns (c : Thread nD τ) (((cfgA0 F).win w).stage ((cfgA0 F).slots t w)) fullShare ((dat0 M c).after w t)
                | false => owns (c : Thread nD τ) (((cfgA0 F).win w).stage ((cfgA0 F).slots t w)) fullShare ((dat0 M c).after w t)) := by
  rw [bigSep_W0]
  obtain ⟨⟨h1, h2, h3, h4⟩, ⟨hdg, hin⟩, i3, f3, i4, f4⟩ := hp
  have hS : St0 M c (t.val + 1) = fStep false (iblk0 M c (0 : Fin 5) t) (iblk0 M c (1 : Fin 5) t) (iblk0 M c (2 : Fin 5) t) fInit := by rw [St0_succ, hdg, hin]; rfl
  rewrite [i3]
  try rewrite [i4]
  simp only [before0_0, before0_1, before0_2, after0_0, after0_1, after0_2, after0_3, after0_4, f3, f4]
  rewrite [phi0_succ, phi0_cast, owes0_succ]
  skip
  unfold Phi0
  iintro ⟨⟨⟨%a0, %a1, %a2, %ha, HS0, HS1, HS2⟩, HT0, HT1, HR⟩, Ho, ⟨%d0, H0⟩, ⟨%d1, H1⟩, ⟨%d2, H2⟩, ⟨%d3, H3⟩, ⟨%d4, H4⟩⟩
  iapply ((run0_B (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4).2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iapply rep_of_owns; iexact H3
  isplitl [H4]; · iapply rep_of_owns; iexact H4
  isplitl [HS0]; · iexact HS0
  isplitl [HS1]; · iexact HS1
  isplitl [HS2]; · iexact HS2
  iintro ⟨H0, H1, H2, HT0, HT1, H3, H4, HS0, HS1, HS2⟩
  isplitl [HS0 HS1 HS2 HT0 HT1 HR]
  · isplitl [HS0 HS1 HS2]
    · iexists _; iexists _; iexists _; isplitr; swap
      · isplitl [HS0]; · iexact HS0
        isplitl [HS1]; · iexact HS1
        iexact HS2
      · ipureintro; intro _; rw [hS]
        exact ⟨run0_B_m (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4, run0_B_l (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4, run0_B_a (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) a0 a1 a2 h1 h2 h3 h4⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]
  · iexists d3; iapply owns_of_rep; iexact H3
  iexists d4; iapply owns_of_rep; iexact H4

set_option maxHeartbeats 6400000 in
/-- The body's obligation at a point of path C. -/
theorem sound0_C (M : (ℓ : Loc nD τ sig) → Buf (Elt F) ℓ) (c : Dev nD) (t : Fin (cfgA0 F).N) (hp : Pa0_C F t) :
    iprop((dat0 M c).Φ t.castSucc ∗ (dat0 M c).owesAt () t.castSucc
        ∗ (∃ d, owns (c : Thread nD τ) (ms0_0 t) fullShare ((dat0 M c).before (0 : Fin 5) t d)) ∗ (∃ d, owns (c : Thread nD τ) (ms0_1 t) fullShare ((dat0 M c).before (1 : Fin 5) t d)) ∗ (∃ d, owns (c : Thread nD τ) (ms0_2 t) fullShare ((dat0 M c).before (2 : Fin 5) t d)) ∗ (∃ d, owns (c : Thread nD τ) (ms0_3 t) fullShare ((dat0 M c).before (3 : Fin 5) t d)) ∗ (∃ d, owns (c : Thread nD τ) (ms0_4 t) fullShare ((dat0 M c).before (4 : Fin 5) t d)))
      ⊢ wp frame (wpE (defs₀ (F := F)) Variants.none c none) Set.univ (cc0_attn_fwd (grid0.coords t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _) (Memref.whole cc0_scratch2) (Memref.isWhole_whole _) : Prog (TpuEff nD τ sig (Elt F) Λ₀ .tc) PUnit) fun _ =>
          iprop((dat0 M c).Φ t.succ ∗ (dat0 M c).owesAt () t.succ
            ∗ bigSep Finset.univ fun w : Fin (cfgA0 F).W =>
                match (cfgA0 F).idle w ((cfgA0 F).grid.coords t) with
                | true =>
                  match ((cfgA0 F).win w).flush t with
                  | false => iprop(∃ d, owns (c : Thread nD τ) (((cfgA0 F).win w).stage ((cfgA0 F).slots t w)) fullShare ((dat0 M c).before w t d))
                  | true => owns (c : Thread nD τ) (((cfgA0 F).win w).stage ((cfgA0 F).slots t w)) fullShare ((dat0 M c).after w t)
                | false => owns (c : Thread nD τ) (((cfgA0 F).win w).stage ((cfgA0 F).slots t w)) fullShare ((dat0 M c).after w t)) := by
  rw [bigSep_W0]
  obtain ⟨⟨h1, h2, h3, h4⟩, ⟨hdg, hin⟩, i3, f3, i4, f4⟩ := hp
  have hS : St0 M c (t.val + 1) = fStep false (iblk0 M c (0 : Fin 5) t) (iblk0 M c (1 : Fin 5) t) (iblk0 M c (2 : Fin 5) t) (St0 M c t.val) := by rw [St0_succ, hdg, hin]; rfl
  have ht : t.val ≠ 0 := fun h => by rw [h] at hin; exact absurd hin (by decide)
  rewrite [i3]
  try rewrite [i4]
  simp only [before0_0, before0_1, before0_2, after0_0, after0_1, after0_2, after0_3, after0_4, f3, f4]
  rewrite [phi0_succ, phi0_cast, owes0_succ]
  skip
  unfold Phi0
  iintro ⟨⟨⟨%a0, %a1, %a2, %ha, HS0, HS1, HS2⟩, HT0, HT1, HR⟩, Ho, ⟨%d0, H0⟩, ⟨%d1, H1⟩, ⟨%d2, H2⟩, ⟨%d3, H3⟩, ⟨%d4, H4⟩⟩
  obtain ⟨rfl, rfl, rfl⟩ := ha ht
  iapply ((run0_C (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4).2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iapply rep_of_owns; iexact H3
  isplitl [H4]; · iapply rep_of_owns; iexact H4
  isplitl [HS0]; · iexact HS0
  isplitl [HS1]; · iexact HS1
  isplitl [HS2]; · iexact HS2
  iintro ⟨H0, H1, H2, HT0, HT1, H3, H4, HS0, HS1, HS2⟩
  isplitl [HS0 HS1 HS2 HT0 HT1 HR]
  · isplitl [HS0 HS1 HS2]
    · iexists _; iexists _; iexists _; isplitr; swap
      · isplitl [HS0]; · iexact HS0
        isplitl [HS1]; · iexact HS1
        iexact HS2
      · ipureintro; intro _; rw [hS]
        exact ⟨run0_C_m (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4, run0_C_l (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4, run0_C_a (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]
  · iexists d3; iapply owns_of_rep; iexact H3
  iexists d4; iapply owns_of_rep; iexact H4

set_option maxHeartbeats 6400000 in
/-- The body's obligation at a point of path D. -/
theorem sound0_D (M : (ℓ : Loc nD τ sig) → Buf (Elt F) ℓ) (c : Dev nD) (t : Fin (cfgA0 F).N) (hp : Pa0_D F t) :
    iprop((dat0 M c).Φ t.castSucc ∗ (dat0 M c).owesAt () t.castSucc
        ∗ (∃ d, owns (c : Thread nD τ) (ms0_0 t) fullShare ((dat0 M c).before (0 : Fin 5) t d)) ∗ (∃ d, owns (c : Thread nD τ) (ms0_1 t) fullShare ((dat0 M c).before (1 : Fin 5) t d)) ∗ (∃ d, owns (c : Thread nD τ) (ms0_2 t) fullShare ((dat0 M c).before (2 : Fin 5) t d)) ∗ (∃ d, owns (c : Thread nD τ) (ms0_3 t) fullShare ((dat0 M c).before (3 : Fin 5) t d)) ∗ (∃ d, owns (c : Thread nD τ) (ms0_4 t) fullShare ((dat0 M c).before (4 : Fin 5) t d)))
      ⊢ wp frame (wpE (defs₀ (F := F)) Variants.none c none) Set.univ (cc0_attn_fwd (grid0.coords t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _) (Memref.whole cc0_scratch2) (Memref.isWhole_whole _) : Prog (TpuEff nD τ sig (Elt F) Λ₀ .tc) PUnit) fun _ =>
          iprop((dat0 M c).Φ t.succ ∗ (dat0 M c).owesAt () t.succ
            ∗ bigSep Finset.univ fun w : Fin (cfgA0 F).W =>
                match (cfgA0 F).idle w ((cfgA0 F).grid.coords t) with
                | true =>
                  match ((cfgA0 F).win w).flush t with
                  | false => iprop(∃ d, owns (c : Thread nD τ) (((cfgA0 F).win w).stage ((cfgA0 F).slots t w)) fullShare ((dat0 M c).before w t d))
                  | true => owns (c : Thread nD τ) (((cfgA0 F).win w).stage ((cfgA0 F).slots t w)) fullShare ((dat0 M c).after w t)
                | false => owns (c : Thread nD τ) (((cfgA0 F).win w).stage ((cfgA0 F).slots t w)) fullShare ((dat0 M c).after w t)) := by
  rw [bigSep_W0]
  obtain ⟨⟨h1, h2, h3, h4⟩, ⟨hdg, hin⟩, i3, i4⟩ := hp
  have hS : St0 M c (t.val + 1) = fStep true (iblk0 M c (0 : Fin 5) t) (iblk0 M c (1 : Fin 5) t) (iblk0 M c (2 : Fin 5) t) (St0 M c t.val) := by rw [St0_succ, hdg, hin]; rfl
  have ht : t.val ≠ 0 := fun h => by rw [h] at hin; exact absurd hin (by decide)
  rewrite [i3]
  try rewrite [i4]
  simp only [before0_0, before0_1, before0_2, after0_0, after0_1, after0_2, after0_3, after0_4]
  rewrite [phi0_succ, phi0_cast, owes0_succ]
  skip
  unfold Phi0
  iintro ⟨⟨⟨%a0, %a1, %a2, %ha, HS0, HS1, HS2⟩, HT0, HT1, HR⟩, Ho, ⟨%d0, H0⟩, ⟨%d1, H1⟩, ⟨%d2, H2⟩, ⟨%d3, H3⟩, ⟨%d4, H4⟩⟩
  obtain ⟨rfl, rfl, rfl⟩ := ha ht
  iapply ((run0_D (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4).2.2.2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iapply rep_of_owns; iexact H3
  isplitl [H4]; · iapply rep_of_owns; iexact H4
  isplitl [HS0]; · iexact HS0
  isplitl [HS1]; · iexact HS1
  isplitl [HS2]; · iexact HS2
  iintro ⟨H0, H1, H2, HT0, HT1, ⟨%e3, H3⟩, ⟨%e4, H4⟩, HS0, HS1, HS2⟩
  isplitl [HS0 HS1 HS2 HT0 HT1 HR]
  · isplitl [HS0 HS1 HS2]
    · iexists _; iexists _; iexists _; isplitr; swap
      · isplitl [HS0]; · iexact HS0
        isplitl [HS1]; · iexact HS1
        iexact HS2
      · ipureintro; intro _; rw [hS]
        exact ⟨run0_D_m (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4, run0_D_l (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4, run0_D_a (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]
  · unfold owns; iexists _; isplitr; swap
    · iexact H3
    · ipureintro; rw [hS]; exact run0_D_oc (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4 e3
  unfold owns; iexists _; isplitr; swap
  · iexact H4
  · ipureintro; rw [hS]; exact run0_D_ec (F := F) c (grid0.coords t) (ms0_0 t) (hs0_0 t) (ms0_1 t) (hs0_1 t) (ms0_2 t) (hs0_2 t) (ms0_3 t) (hs0_3 t) (ms0_4 t) (hs0_4 t) tab0 tab1 (iblk0 M c (0 : Fin 5) t) (iblk0 M c (1 : Fin 5) t) (iblk0 M c (2 : Fin 5) t) ((dat0 M c).before (3 : Fin 5) t d3) ((dat0 M c).before (4 : Fin 5) t d4) (St0 M c t.val).m (St0 M c t.val).l (St0 M c t.val).a h1 h2 h3 h4 e4

/-- The body's obligation, at every point. -/
theorem body0 (M : (ℓ : Loc nD τ sig) → Buf (Elt F) ℓ) (c : Dev nD) : BodyObligation (dat0 M c) (defs₀ (F := F)) Variants.none () Set.univ := fun t => by
  rw [bigSep_W0]
  rcases (facts0 (F := F) t).1 with h | h | h | h
  · exact sound0_A M c t h
  · exact sound0_B M c t h
  · exact sound0_C M c t h
  · exact sound0_D M c t h

end Cert.Attn
-- ==== Proof.DatBwd.lean ====
/- The backward call's state between points and its proof data. -/
module

public import proofs.«01_k».proof.Proof.Sched
public import proofs.«01_k».proof.Proof.Blocks
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ
abbrev ms1_0 (t : Fin (cfgA1 F).N) : Memref sig .tc .vmem S1024x256 .bf16 := spec1_0.stage ((cfgA1 F).slots t (0 : Fin 9))
abbrev hs1_0 (t : Fin (cfgA1 F).N) : (ms1_0 (F := F) t).IsWhole := hstage1_0 (((cfgA1 F).slots t (0 : Fin 9)).cast nbuf1_0)
abbrev ms1_1 (t : Fin (cfgA1 F).N) : Memref sig .tc .vmem S1024x256 .bf16 := spec1_1.stage ((cfgA1 F).slots t (1 : Fin 9))
abbrev hs1_1 (t : Fin (cfgA1 F).N) : (ms1_1 (F := F) t).IsWhole := hstage1_1 (((cfgA1 F).slots t (1 : Fin 9)).cast nbuf1_1)
abbrev ms1_2 (t : Fin (cfgA1 F).N) : Memref sig .tc .vmem S1024x128 .bf16 := spec1_2.stage ((cfgA1 F).slots t (2 : Fin 9))
abbrev hs1_2 (t : Fin (cfgA1 F).N) : (ms1_2 (F := F) t).IsWhole := hstage1_2 (((cfgA1 F).slots t (2 : Fin 9)).cast nbuf1_2)
abbrev ms1_3 (t : Fin (cfgA1 F).N) : Memref sig .tc .vmem S1024x128 .bf16 := spec1_3.stage ((cfgA1 F).slots t (3 : Fin 9))
abbrev hs1_3 (t : Fin (cfgA1 F).N) : (ms1_3 (F := F) t).IsWhole := hstage1_3 (((cfgA1 F).slots t (3 : Fin 9)).cast nbuf1_3)
abbrev ms1_4 (t : Fin (cfgA1 F).N) : Memref sig .tc .vmem S1024x128 .f32 := spec1_4.stage ((cfgA1 F).slots t (4 : Fin 9))
abbrev hs1_4 (t : Fin (cfgA1 F).N) : (ms1_4 (F := F) t).IsWhole := hstage1_4 (((cfgA1 F).slots t (4 : Fin 9)).cast nbuf1_4)
abbrev ms1_5 (t : Fin (cfgA1 F).N) : Memref sig .tc .vmem S1024x128 .f32 := spec1_5.stage ((cfgA1 F).slots t (5 : Fin 9))
abbrev hs1_5 (t : Fin (cfgA1 F).N) : (ms1_5 (F := F) t).IsWhole := hstage1_5 (((cfgA1 F).slots t (5 : Fin 9)).cast nbuf1_5)
abbrev ms1_6 (t : Fin (cfgA1 F).N) : Memref sig .tc .vmem S8192x256 .f32 := spec1_6.stage ((cfgA1 F).slots t (6 : Fin 9))
abbrev hs1_6 (t : Fin (cfgA1 F).N) : (ms1_6 (F := F) t).IsWhole := hstage1_6 (((cfgA1 F).slots t (6 : Fin 9)).cast nbuf1_6)
abbrev ms1_7 (t : Fin (cfgA1 F).N) : Memref sig .tc .vmem S1024x256 .f32 := spec1_7.stage ((cfgA1 F).slots t (7 : Fin 9))
abbrev hs1_7 (t : Fin (cfgA1 F).N) : (ms1_7 (F := F) t).IsWhole := hstage1_7 (((cfgA1 F).slots t (7 : Fin 9)).cast nbuf1_7)
abbrev ms1_8 (t : Fin (cfgA1 F).N) : Memref sig .tc .vmem S1024x128 .bf16 := spec1_8.stage ((cfgA1 F).slots t (8 : Fin 9))
abbrev hs1_8 (t : Fin (cfgA1 F).N) : (ms1_8 (F := F) t).IsWhole := hstage1_8 (((cfgA1 F).slots t (8 : Fin 9)).cast nbuf1_8)

/-- Window `w`'s block of its array at point `t`, the arrays holding `M`. -/
def iblk1 (M : (ℓ : Loc nD τ sig) → Buf (Elt F) ℓ) (c : Dev nD) (w : Fin (cfgA1 F).W) (t : Fin (cfgA1 F).N) : (((cfgA1 F).win w).xblock ((cfgA1 F).grid.coords t)).Idx → Elt F ((cfgA1 F).win w).elt :=
  (((cfgA1 F).win w).blk t).view.read (Elt F) (M (((cfgA1 F).win w).arr.view.loc (c : Thread nD τ)))

/-- The input blocks of point `t` of the backward call. -/
abbrev X1 (M : (ℓ : Loc nD τ sig) → Buf (Elt F) ℓ) (c : Dev nD) (t : Fin (cfgA1 F).N) : BIn F := ⟨(iblk1 M c (0 : Fin 9) t), (iblk1 M c (1 : Fin 9) t), (iblk1 M c (2 : Fin 9) t), (iblk1 M c (3 : Fin 9) t), (iblk1 M c (4 : Fin 9) t), (iblk1 M c (5 : Fin 9) t)⟩

/-- The accumulated gradients of the key block and the value block before point `n` of the backward call. -/
def St1 (M : (ℓ : Loc nD τ sig) → Buf (Elt F) ℓ) (c : Dev nD) : ℕ → BSt F
  | 0 => bInit
  | n + 1 => if h : n < (cfgA1 F).N then bStep (dg1 n) (X1 M c ⟨n, h⟩) (if dg1 n then bInit else St1 M c n) else bInit

theorem St1_succ (M : (ℓ : Loc nD τ sig) → Buf (Elt F) ℓ) (c : Dev nD) (t : Fin (cfgA1 F).N) :
    St1 M c (t.val + 1) = bStep (dg1 t.val) (X1 M c t) (if dg1 t.val then bInit else St1 M c t.val) := by
  rw [St1, dif_pos t.isLt]

/-- The gradient of the queries before point `n` of the backward call. -/
def Q1 (M : (ℓ : Loc nD τ sig) → Buf (Elt F) ℓ) (c : Dev nD) : ℕ → (S8192x256.Idx → Elt F .f32)
  | 0 => k1_pay1
  | n + 1 => if h : n < (cfgA1 F).N then bDq (dg1 n) (X1 M c ⟨n, h⟩) (qb1 n) (if n % 36 = 0 then k1_pay1 else Q1 M c n) else k1_pay1

theorem Q1_succ (M : (ℓ : Loc nD τ sig) → Buf (Elt F) ℓ) (c : Dev nD) (t : Fin (cfgA1 F).N) :
    Q1 M c (t.val + 1) = bDq (dg1 t.val) (X1 M c t) (qb1 t.val) (if t.val % 36 = 0 then k1_pay1 else Q1 M c t.val) := by
  rw [Q1, dif_pos t.isLt]

/-- The scoped buffers the call does not use. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem scoped1_eq (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others1 (F := F) c) :=
  Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_stg4_0, cc0_stg4_1, cc0_scratch0, cc0_scratch1, cc0_scratch2] (by decide) (by decide)

/-- What the call holds between points: its scratch buffers at the running state (anything before the first point), the
    tables, the other scoped buffers. -/
def Phi1 (M : (ℓ : Loc nD τ sig) → Buf (Elt F) ℓ) (c : Dev nD) (n : ℕ) : sProp 𝕄 :=
  iprop((∃ (a0 : Buf (Elt F) ((c : Thread nD τ).loc cc1_scratch0)) (a1 : Buf (Elt F) ((c : Thread nD τ).loc cc1_scratch1)), ⌜n ≠ 0 → a0 = (St1 M c n).dk ∧ a1 = (St1 M c n).dv⌝
      ∗ (scM1_0.view.loc (c : Thread nD τ) ↦{fullShare} a0) ∗ (scM1_1.view.loc (c : Thread nD τ) ↦{fullShare} a1))
    ∗ (tbM1_0.view.loc (c : Thread nD τ) ↦{fullShare} (tab2 : S36.Idx → Elt F .i32)) ∗ (tbM1_1.view.loc (c : Thread nD τ) ↦{fullShare} (tab3 : S36.Idx → Elt F .i32)) ∗ others1 (F := F) c)

/-- The call's proof data on core `c`, its arrays holding `M` at entry. -/
def dat1 (M : (ℓ : Loc nD τ sig) → Buf (Elt F) ℓ) (c : Dev nD) : Dat τ (Elt F) Unit ℕ (UR sig nD τ) ℕ (cfgA1 F) c where
  A w := M (((cfgA1 F).win w).arr.view.loc (c : Thread nD τ))
  after w t := match w with
    | ⟨0, _⟩ => iblk1 M c (0 : Fin 9) t
    | ⟨1, _⟩ => iblk1 M c (1 : Fin 9) t
    | ⟨2, _⟩ => iblk1 M c (2 : Fin 9) t
    | ⟨3, _⟩ => iblk1 M c (3 : Fin 9) t
    | ⟨4, _⟩ => iblk1 M c (4 : Fin 9) t
    | ⟨5, _⟩ => iblk1 M c (5 : Fin 9) t
    | ⟨6, _⟩ => Q1 M c (t.val + 1)
    | ⟨7, _⟩ => bOutK (St1 M c (t.val + 1))
    | ⟨8, _⟩ => bOutV (St1 M c (t.val + 1))
  Φ t := Phi1 M c t.val
  q _ := fullShare
  owed _ := 0

theorem after1_0 (M : (ℓ : Loc nD τ sig) → Buf (Elt F) ℓ) (c : Dev nD) (t : Fin (cfgA1 F).N) : (dat1 M c).after (0 : Fin 9) t = iblk1 M c (0 : Fin 9) t := rfl
theorem after1_1 (M : (ℓ : Loc nD τ sig) → Buf (Elt F) ℓ) (c : Dev nD) (t : Fin (cfgA1 F).N) : (dat1 M c).after (1 : Fin 9) t = iblk1 M c (1 : Fin 9) t := rfl
theorem after1_2 (M : (ℓ : Loc nD τ sig) → Buf (Elt F) ℓ) (c : Dev nD) (t : Fin (cfgA1 F).N) : (dat1 M c).after (2 : Fin 9) t = iblk1 M c (2 : Fin 9) t := rfl
theorem after1_3 (M : (ℓ : Loc nD τ sig) → Buf (Elt F) ℓ) (c : Dev nD) (t : Fin (cfgA1 F).N) : (dat1 M c).after (3 : Fin 9) t = iblk1 M c (3 : Fin 9) t := rfl
theorem after1_4 (M : (ℓ : Loc nD τ sig) → Buf (Elt F) ℓ) (c : Dev nD) (t : Fin (cfgA1 F).N) : (dat1 M c).after (4 : Fin 9) t = iblk1 M c (4 : Fin 9) t := rfl
theorem after1_5 (M : (ℓ : Loc nD τ sig) → Buf (Elt F) ℓ) (c : Dev nD) (t : Fin (cfgA1 F).N) : (dat1 M c).after (5 : Fin 9) t = iblk1 M c (5 : Fin 9) t := rfl
theorem after1_6 (M : (ℓ : Loc nD τ sig) → Buf (Elt F) ℓ) (c : Dev nD) (t : Fin (cfgA1 F).N) : (dat1 M c).after (6 : Fin 9) t = Q1 M c (t.val + 1) := rfl
theorem after1_7 (M : (ℓ : Loc nD τ sig) → Buf (Elt F) ℓ) (c : Dev nD) (t : Fin (cfgA1 F).N) : (dat1 M c).after (7 : Fin 9) t = bOutK (St1 M c (t.val + 1)) := rfl
theorem after1_8 (M : (ℓ : Loc nD τ sig) → Buf (Elt F) ℓ) (c : Dev nD) (t : Fin (cfgA1 F).N) : (dat1 M c).after (8 : Fin 9) t = bOutV (St1 M c (t.val + 1)) := rfl
theorem before1_0 (M : (ℓ : Loc nD τ sig) → Buf (Elt F) ℓ) (c : Dev nD) (t : Fin (cfgA1 F).N) (d) : (dat1 M c).before (0 : Fin 9) t d = iblk1 M c (0 : Fin 9) t :=
  ((dat1 M c).before_in_eq_fetched (0 : Fin 9) rfl (fun _ => rfl) (fun _ _ _ => rfl) (fun t => by rw [after1_0]; unfold Dat.blockOf iblk1; rfl) t d).trans
    (by unfold Dat.fetched Dat.blockOf iblk1; rfl)
theorem before1_1 (M : (ℓ : Loc nD τ sig) → Buf (Elt F) ℓ) (c : Dev nD) (t : Fin (cfgA1 F).N) (d) : (dat1 M c).before (1 : Fin 9) t d = iblk1 M c (1 : Fin 9) t :=
  ((dat1 M c).before_in_eq_fetched (1 : Fin 9) rfl (fun _ => rfl) (fun _ _ _ => rfl) (fun t => by rw [after1_1]; unfold Dat.blockOf iblk1; rfl) t d).trans
    (by unfold Dat.fetched Dat.blockOf iblk1; rfl)
theorem before1_2 (M : (ℓ : Loc nD τ sig) → Buf (Elt F) ℓ) (c : Dev nD) (t : Fin (cfgA1 F).N) (d) : (dat1 M c).before (2 : Fin 9) t d = iblk1 M c (2 : Fin 9) t :=
  ((dat1 M c).before_in_eq_fetched (2 : Fin 9) rfl (fun _ => rfl) (fun _ _ _ => rfl) (fun t => by rw [after1_2]; unfold Dat.blockOf iblk1; rfl) t d).trans
    (by unfold Dat.fetched Dat.blockOf iblk1; rfl)
theorem before1_3 (M : (ℓ : Loc nD τ sig) → Buf (Elt F) ℓ) (c : Dev nD) (t : Fin (cfgA1 F).N) (d) : (dat1 M c).before (3 : Fin 9) t d = iblk1 M c (3 : Fin 9) t :=
  ((dat1 M c).before_in_eq_fetched (3 : Fin 9) rfl (fun _ => rfl) (fun _ _ _ => rfl) (fun t => by rw [after1_3]; unfold Dat.blockOf iblk1; rfl) t d).trans
    (by unfold Dat.fetched Dat.blockOf iblk1; rfl)
theorem before1_4 (M : (ℓ : Loc nD τ sig) → Buf (Elt F) ℓ) (c : Dev nD) (t : Fin (cfgA1 F).N) (d) : (dat1 M c).before (4 : Fin 9) t d = iblk1 M c (4 : Fin 9) t :=
  ((dat1 M c).before_in_eq_fetched (4 : Fin 9) rfl (fun _ => rfl) (fun _ _ _ => rfl) (fun t => by rw [after1_4]; unfold Dat.blockOf iblk1; rfl) t d).trans
    (by unfold Dat.fetched Dat.blockOf iblk1; rfl)
theorem before1_5 (M : (ℓ : Loc nD τ sig) → Buf (Elt F) ℓ) (c : Dev nD) (t : Fin (cfgA1 F).N) (d) : (dat1 M c).before (5 : Fin 9) t d = iblk1 M c (5 : Fin 9) t :=
  ((dat1 M c).before_in_eq_fetched (5 : Fin 9) rfl (fun _ => rfl) (fun _ _ _ => rfl) (fun t => by rw [after1_5]; unfold Dat.blockOf iblk1; rfl) t d).trans
    (by unfold Dat.fetched Dat.blockOf iblk1; rfl)

theorem phi1_succ (M : (ℓ : Loc nD τ sig) → Buf (Elt F) ℓ) (c : Dev nD) (t : Fin (cfgA1 F).N) : (dat1 M c).Φ t.succ = Phi1 M c (t.val + 1) := by
  show Phi1 M c t.succ.val = _
  rw [Fin.val_succ]
theorem phi1_cast (M : (ℓ : Loc nD τ sig) → Buf (Elt F) ℓ) (c : Dev nD) (t : Fin (cfgA1 F).N) : (dat1 M c).Φ t.castSucc = Phi1 M c t.val := by
  show Phi1 M c t.castSucc.val = _
  rw [Fin.val_castSucc]
theorem owes1_succ (M : (ℓ : Loc nD τ sig) → Buf (Elt F) ℓ) (c : Dev nD) (t : Fin (cfgA1 F).N) : (dat1 M c).owesAt () t.succ = (dat1 M c).owesAt () t.castSucc := rfl

theorem fresh1_6 (n : ℕ) (hn : n ≤ (cfgA1 F).N) : (cfgA1 F).fresh (6 : Fin 9) n = decide (n % 36 = 0) :=
  Pipeline.Cfg.fresh_tab (cfgA1 F) (6 : Fin 9) (fun n => decide (n % 36 = 0)) rfl (fun t => (facts1 (F := F) t).2.1) n hn

/-- The window of dq holds what the point before left, but at the first point of a pair of heads. -/
theorem before1_6 (M : (ℓ : Loc nD τ sig) → Buf (Elt F) ℓ) (c : Dev nD) (t : Fin (cfgA1 F).N) (d) (h0 : ¬t.val % 36 = 0) :
    (dat1 M c).before (6 : Fin 9) t d = Q1 M c t.val := by
  have hf := fresh1_6 (F := F) t.val (Nat.le_of_lt t.isLt)
  rw [(dat1 M c).before_out_traj (6 : Fin 9) rfl (fun _ _ => rfl) (fun t ht hi _ => absurd hi (by
    rcases (facts1 (F := F) t).1 with h | h | h | h | h <;> (rw [h.2.2.1]; decide))) t.val t rfl d, hf]
  simp only [h0, decide_false, Bool.false_eq_true, ↓reduceIte, after1_6]
  congr 1
  have : t.val ≠ 0 := fun h => h0 (by rw [h])
  show t.val - 1 + 1 = t.val
  omega

end Cert.Attn
-- ==== Proof.ValsBwd.lean ====
/- What the backward call's runs leave, as functions of the blocks. -/
module

public import proofs.«01_k».proof.Proof.Loads
public import proofs.«01_k».proof.Proof.RunsBwd
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))

set_option maxHeartbeats 2000000 in
theorem run1_A_q (chk : k1_chk1 (tv1_0 i T0) (tv1_1 i T1)) (h1 : k1_cond1 i = 1#1) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1))
    (b : Fin 8) (hb0 : k1_off4 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 0]) (hb1 : k1_off5 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 128]) :
    ∀ f, arg10.view.read (Elt F) (arg10.view.writes (Elt F) f (run1_A (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).1) = bDq true ⟨x0, x1, x2, x3, x4, x5⟩ b k1_pay1 := by
  unfold run1_A
  dsimp only [run1_A.sl.HO0_1, run1_A.sl.HO0_2, run1_A.sl.HS0_1, run1_A.sl.HS0_2, run1_A.sl.HS0_3, run1_A.sl.HS1_1, run1_A.sl.HS1_2, run1_A.sl.HS1_3, run1_A.sl.cst, run1_A.sl.cst_14, run1_A.sl.cst_27, run1_A.sl.cst_35, run1_A.sl.r, run1_A.sl.r_1, run1_A.sl.v100, run1_A.sl.v102, run1_A.sl.v103, run1_A.sl.v104, run1_A.sl.v105, run1_A.sl.v106, run1_A.sl.v107, run1_A.sl.v108, run1_A.sl.v109, run1_A.sl.v112, run1_A.sl.v113, run1_A.sl.v116, run1_A.sl.v117, run1_A.sl.v118, run1_A.sl.v121, run1_A.sl.v19, run1_A.sl.v20, run1_A.sl.v23, run1_A.sl.v25, run1_A.sl.v26, run1_A.sl.v28, run1_A.sl.v30, run1_A.sl.v31, run1_A.sl.v33, run1_A.sl.v34, run1_A.sl.v36, run1_A.sl.v37, run1_A.sl.v39, run1_A.sl.v40, run1_A.sl.v46, run1_A.sl.v49, run1_A.sl.v50, run1_A.sl.v51, run1_A.sl.v54, run1_A.sl.v55, run1_A.sl.v56, run1_A.sl.v57, run1_A.sl.v58, run1_A.sl.v59, run1_A.sl.v61, run1_A.sl.v62, run1_A.sl.v63, run1_A.sl.v64, run1_A.sl.v65, run1_A.sl.v66, run1_A.sl.v67, run1_A.sl.v68, run1_A.sl.v7, run1_A.sl.v71, run1_A.sl.v72, run1_A.sl.v75, run1_A.sl.v76, run1_A.sl.v77, run1_A.sl.v8, run1_A.sl.v80, run1_A.sl.v81, run1_A.sl.v84, run1_A.sl.v85, run1_A.sl.v87, run1_A.sl.v9, run1_A.sl.v90, run1_A.sl.v91, run1_A.sl.v95, run1_A.sl.v96, run1_A.sl.v97, run1_A.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0, rdZ_0 (F := F) _ _ b _ hb0 _ (fun a => k1_off4_inb _ _ chk h4 a), fun w => rdZ_1 (F := F) arg10.view k1_pay1 b _ _ hb0 hb1 w inb_S8192x256_S8192x256_0_0 (fun a => k1_off4_inb _ _ chk h4 a) (fun a => k1_off5_inb _ _ chk h4 a)]
  intro f
  generalize k1_pay1 (F := F) = Z
  unfold bDq
  refine Eq.trans ?_ (canon_putRows Z b (fun h => k1_pay4 (bDs true ⟨x0, x1, x2, x3, x4, x5⟩ h) (rowsOf Z b h) (lane2 x1 h)) _ _ hb0 hb1 inb_S8192x256_S8192x256_0_0 (fun a => k1_off4_inb _ _ chk h4 a) (fun a => k1_off5_inb _ _ chk h4 a) arg10.view f)
  congr 2

set_option maxHeartbeats 2000000 in
theorem run1_A_k (chk : k1_chk1 (tv1_0 i T0) (tv1_1 i T1)) (h1 : k1_cond1 i = 1#1) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    (run1_A (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 = (bStep true ⟨x0, x1, x2, x3, x4, x5⟩ bInit).dk := by
  unfold run1_A
  dsimp only [run1_A.sl.HO0_1, run1_A.sl.HO0_2, run1_A.sl.HS0_1, run1_A.sl.HS0_2, run1_A.sl.HS0_3, run1_A.sl.HS1_1, run1_A.sl.HS1_2, run1_A.sl.HS1_3, run1_A.sl.cst, run1_A.sl.cst_14, run1_A.sl.cst_27, run1_A.sl.cst_35, run1_A.sl.r, run1_A.sl.r_1, run1_A.sl.v100, run1_A.sl.v102, run1_A.sl.v103, run1_A.sl.v104, run1_A.sl.v105, run1_A.sl.v106, run1_A.sl.v107, run1_A.sl.v108, run1_A.sl.v109, run1_A.sl.v112, run1_A.sl.v113, run1_A.sl.v116, run1_A.sl.v117, run1_A.sl.v118, run1_A.sl.v121, run1_A.sl.v19, run1_A.sl.v20, run1_A.sl.v23, run1_A.sl.v25, run1_A.sl.v26, run1_A.sl.v28, run1_A.sl.v30, run1_A.sl.v31, run1_A.sl.v33, run1_A.sl.v34, run1_A.sl.v36, run1_A.sl.v37, run1_A.sl.v39, run1_A.sl.v40, run1_A.sl.v46, run1_A.sl.v49, run1_A.sl.v50, run1_A.sl.v51, run1_A.sl.v54, run1_A.sl.v55, run1_A.sl.v56, run1_A.sl.v57, run1_A.sl.v58, run1_A.sl.v59, run1_A.sl.v61, run1_A.sl.v62, run1_A.sl.v63, run1_A.sl.v64, run1_A.sl.v65, run1_A.sl.v66, run1_A.sl.v67, run1_A.sl.v68, run1_A.sl.v7, run1_A.sl.v71, run1_A.sl.v72, run1_A.sl.v75, run1_A.sl.v76, run1_A.sl.v77, run1_A.sl.v8, run1_A.sl.v80, run1_A.sl.v81, run1_A.sl.v84, run1_A.sl.v85, run1_A.sl.v87, run1_A.sl.v9, run1_A.sl.v90, run1_A.sl.v91, run1_A.sl.v95, run1_A.sl.v96, run1_A.sl.v97, run1_A.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_0]
  exact canon_stack2 (F := F) (e := .f32) (fun h => bDk true ⟨x0, x1, x2, x3, x4, x5⟩ h (headOf (n := 2) k1_pay2 h)) _ _ _

set_option maxHeartbeats 2000000 in
theorem run1_A_v (chk : k1_chk1 (tv1_0 i T0) (tv1_1 i T1)) (h1 : k1_cond1 i = 1#1) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    (run1_A (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 = (bStep true ⟨x0, x1, x2, x3, x4, x5⟩ bInit).dv := by
  unfold run1_A
  dsimp only [run1_A.sl.HO0_1, run1_A.sl.HO0_2, run1_A.sl.HS0_1, run1_A.sl.HS0_2, run1_A.sl.HS0_3, run1_A.sl.HS1_1, run1_A.sl.HS1_2, run1_A.sl.HS1_3, run1_A.sl.cst, run1_A.sl.cst_14, run1_A.sl.cst_27, run1_A.sl.cst_35, run1_A.sl.r, run1_A.sl.r_1, run1_A.sl.v100, run1_A.sl.v102, run1_A.sl.v103, run1_A.sl.v104, run1_A.sl.v105, run1_A.sl.v106, run1_A.sl.v107, run1_A.sl.v108, run1_A.sl.v109, run1_A.sl.v112, run1_A.sl.v113, run1_A.sl.v116, run1_A.sl.v117, run1_A.sl.v118, run1_A.sl.v121, run1_A.sl.v19, run1_A.sl.v20, run1_A.sl.v23, run1_A.sl.v25, run1_A.sl.v26, run1_A.sl.v28, run1_A.sl.v30, run1_A.sl.v31, run1_A.sl.v33, run1_A.sl.v34, run1_A.sl.v36, run1_A.sl.v37, run1_A.sl.v39, run1_A.sl.v40, run1_A.sl.v46, run1_A.sl.v49, run1_A.sl.v50, run1_A.sl.v51, run1_A.sl.v54, run1_A.sl.v55, run1_A.sl.v56, run1_A.sl.v57, run1_A.sl.v58, run1_A.sl.v59, run1_A.sl.v61, run1_A.sl.v62, run1_A.sl.v63, run1_A.sl.v64, run1_A.sl.v65, run1_A.sl.v66, run1_A.sl.v67, run1_A.sl.v68, run1_A.sl.v7, run1_A.sl.v71, run1_A.sl.v72, run1_A.sl.v75, run1_A.sl.v76, run1_A.sl.v77, run1_A.sl.v8, run1_A.sl.v80, run1_A.sl.v81, run1_A.sl.v84, run1_A.sl.v85, run1_A.sl.v87, run1_A.sl.v9, run1_A.sl.v90, run1_A.sl.v91, run1_A.sl.v95, run1_A.sl.v96, run1_A.sl.v97, run1_A.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_1]
  exact canon_stack2 (F := F) (e := .f32) (fun h => bDv true ⟨x0, x1, x2, x3, x4, x5⟩ h (headOf (n := 2) k1_pay3 h)) _ _ _

set_option maxHeartbeats 2000000 in
theorem run1_B_q (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1))
    (b : Fin 8) (hb0 : k1_off4 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 0]) (hb1 : k1_off5 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 128]) :
    arg10.view.read (Elt F) (arg10.view.writes (Elt F) (arg10.view.rep y0) (run1_B (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).1) = bDq true ⟨x0, x1, x2, x3, x4, x5⟩ b y0 := by
  unfold run1_B
  dsimp only [run1_B.sl.HO0_1, run1_B.sl.HS0_1, run1_B.sl.HS0_2, run1_B.sl.HS0_3, run1_B.sl.HS1_1, run1_B.sl.HS1_2, run1_B.sl.HS1_3, run1_B.sl.cst, run1_B.sl.cst_14, run1_B.sl.cst_27, run1_B.sl.cst_35, run1_B.sl.r, run1_B.sl.r_1, run1_B.sl.v100, run1_B.sl.v102, run1_B.sl.v103, run1_B.sl.v104, run1_B.sl.v105, run1_B.sl.v106, run1_B.sl.v107, run1_B.sl.v108, run1_B.sl.v109, run1_B.sl.v112, run1_B.sl.v113, run1_B.sl.v116, run1_B.sl.v117, run1_B.sl.v118, run1_B.sl.v121, run1_B.sl.v19, run1_B.sl.v20, run1_B.sl.v23, run1_B.sl.v25, run1_B.sl.v26, run1_B.sl.v28, run1_B.sl.v30, run1_B.sl.v31, run1_B.sl.v33, run1_B.sl.v34, run1_B.sl.v36, run1_B.sl.v37, run1_B.sl.v39, run1_B.sl.v40, run1_B.sl.v46, run1_B.sl.v49, run1_B.sl.v50, run1_B.sl.v51, run1_B.sl.v54, run1_B.sl.v55, run1_B.sl.v56, run1_B.sl.v57, run1_B.sl.v58, run1_B.sl.v59, run1_B.sl.v61, run1_B.sl.v62, run1_B.sl.v63, run1_B.sl.v64, run1_B.sl.v65, run1_B.sl.v66, run1_B.sl.v67, run1_B.sl.v68, run1_B.sl.v7, run1_B.sl.v71, run1_B.sl.v72, run1_B.sl.v75, run1_B.sl.v76, run1_B.sl.v77, run1_B.sl.v8, run1_B.sl.v80, run1_B.sl.v81, run1_B.sl.v84, run1_B.sl.v85, run1_B.sl.v87, run1_B.sl.v9, run1_B.sl.v90, run1_B.sl.v91, run1_B.sl.v95, run1_B.sl.v96, run1_B.sl.v97, run1_B.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0, rdR_0 (F := F) arg10.view y0 b _ hb0 (fun a => k1_off4_inb _ _ chk h4 a), fun w => rdR_1 (F := F) arg10.view y0 b _ _ hb0 hb1 w (fun a => k1_off4_inb _ _ chk h4 a) (fun a => k1_off5_inb _ _ chk h4 a)]
  exact read_putRows arg10.view _ y0 (View.read_rep _ _) b (fun h => k1_pay4 (bDs true ⟨x0, x1, x2, x3, x4, x5⟩ h) (rowsOf y0 b h) (lane2 x1 h)) _ _ hb0 hb1 _ _

set_option maxHeartbeats 2000000 in
theorem run1_B_k (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    (run1_B (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 = (bStep true ⟨x0, x1, x2, x3, x4, x5⟩ bInit).dk := by
  unfold run1_B
  dsimp only [run1_B.sl.HO0_1, run1_B.sl.HS0_1, run1_B.sl.HS0_2, run1_B.sl.HS0_3, run1_B.sl.HS1_1, run1_B.sl.HS1_2, run1_B.sl.HS1_3, run1_B.sl.cst, run1_B.sl.cst_14, run1_B.sl.cst_27, run1_B.sl.cst_35, run1_B.sl.r, run1_B.sl.r_1, run1_B.sl.v100, run1_B.sl.v102, run1_B.sl.v103, run1_B.sl.v104, run1_B.sl.v105, run1_B.sl.v106, run1_B.sl.v107, run1_B.sl.v108, run1_B.sl.v109, run1_B.sl.v112, run1_B.sl.v113, run1_B.sl.v116, run1_B.sl.v117, run1_B.sl.v118, run1_B.sl.v121, run1_B.sl.v19, run1_B.sl.v20, run1_B.sl.v23, run1_B.sl.v25, run1_B.sl.v26, run1_B.sl.v28, run1_B.sl.v30, run1_B.sl.v31, run1_B.sl.v33, run1_B.sl.v34, run1_B.sl.v36, run1_B.sl.v37, run1_B.sl.v39, run1_B.sl.v40, run1_B.sl.v46, run1_B.sl.v49, run1_B.sl.v50, run1_B.sl.v51, run1_B.sl.v54, run1_B.sl.v55, run1_B.sl.v56, run1_B.sl.v57, run1_B.sl.v58, run1_B.sl.v59, run1_B.sl.v61, run1_B.sl.v62, run1_B.sl.v63, run1_B.sl.v64, run1_B.sl.v65, run1_B.sl.v66, run1_B.sl.v67, run1_B.sl.v68, run1_B.sl.v7, run1_B.sl.v71, run1_B.sl.v72, run1_B.sl.v75, run1_B.sl.v76, run1_B.sl.v77, run1_B.sl.v8, run1_B.sl.v80, run1_B.sl.v81, run1_B.sl.v84, run1_B.sl.v85, run1_B.sl.v87, run1_B.sl.v9, run1_B.sl.v90, run1_B.sl.v91, run1_B.sl.v95, run1_B.sl.v96, run1_B.sl.v97, run1_B.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_0]
  exact canon_stack2 (F := F) (e := .f32) (fun h => bDk true ⟨x0, x1, x2, x3, x4, x5⟩ h (headOf (n := 2) k1_pay2 h)) _ _ _

set_option maxHeartbeats 2000000 in
theorem run1_B_v (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : ¬(k1_cond5 (tv1_0 i T0) = 1#1)) :
    (run1_B (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 = (bStep true ⟨x0, x1, x2, x3, x4, x5⟩ bInit).dv := by
  unfold run1_B
  dsimp only [run1_B.sl.HO0_1, run1_B.sl.HS0_1, run1_B.sl.HS0_2, run1_B.sl.HS0_3, run1_B.sl.HS1_1, run1_B.sl.HS1_2, run1_B.sl.HS1_3, run1_B.sl.cst, run1_B.sl.cst_14, run1_B.sl.cst_27, run1_B.sl.cst_35, run1_B.sl.r, run1_B.sl.r_1, run1_B.sl.v100, run1_B.sl.v102, run1_B.sl.v103, run1_B.sl.v104, run1_B.sl.v105, run1_B.sl.v106, run1_B.sl.v107, run1_B.sl.v108, run1_B.sl.v109, run1_B.sl.v112, run1_B.sl.v113, run1_B.sl.v116, run1_B.sl.v117, run1_B.sl.v118, run1_B.sl.v121, run1_B.sl.v19, run1_B.sl.v20, run1_B.sl.v23, run1_B.sl.v25, run1_B.sl.v26, run1_B.sl.v28, run1_B.sl.v30, run1_B.sl.v31, run1_B.sl.v33, run1_B.sl.v34, run1_B.sl.v36, run1_B.sl.v37, run1_B.sl.v39, run1_B.sl.v40, run1_B.sl.v46, run1_B.sl.v49, run1_B.sl.v50, run1_B.sl.v51, run1_B.sl.v54, run1_B.sl.v55, run1_B.sl.v56, run1_B.sl.v57, run1_B.sl.v58, run1_B.sl.v59, run1_B.sl.v61, run1_B.sl.v62, run1_B.sl.v63, run1_B.sl.v64, run1_B.sl.v65, run1_B.sl.v66, run1_B.sl.v67, run1_B.sl.v68, run1_B.sl.v7, run1_B.sl.v71, run1_B.sl.v72, run1_B.sl.v75, run1_B.sl.v76, run1_B.sl.v77, run1_B.sl.v8, run1_B.sl.v80, run1_B.sl.v81, run1_B.sl.v84, run1_B.sl.v85, run1_B.sl.v87, run1_B.sl.v9, run1_B.sl.v90, run1_B.sl.v91, run1_B.sl.v95, run1_B.sl.v96, run1_B.sl.v97, run1_B.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_1]
  exact canon_stack2 (F := F) (e := .f32) (fun h => bDv true ⟨x0, x1, x2, x3, x4, x5⟩ h (headOf (n := 2) k1_pay3 h)) _ _ _

set_option maxHeartbeats 2000000 in
theorem run1_C_q (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : ¬(k1_cond5 (tv1_0 i T0) = 1#1))
    (b : Fin 8) (hb0 : k1_off2 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 0]) (hb1 : k1_off3 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 128]) :
    arg10.view.read (Elt F) (arg10.view.writes (Elt F) (arg10.view.rep y0) (run1_C (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).1) = bDq false ⟨x0, x1, x2, x3, x4, x5⟩ b y0 := by
  unfold run1_C
  dsimp only [run1_C.sl.HO0_1, run1_C.sl.HS0_2, run1_C.sl.HS1_2, run1_C.sl.cst, run1_C.sl.cst_14, run1_C.sl.cst_34, run1_C.sl.r, run1_C.sl.r_1, run1_C.sl.v100, run1_C.sl.v101, run1_C.sl.v102, run1_C.sl.v105, run1_C.sl.v106, run1_C.sl.v109, run1_C.sl.v110, run1_C.sl.v111, run1_C.sl.v114, run1_C.sl.v115, run1_C.sl.v118, run1_C.sl.v19, run1_C.sl.v20, run1_C.sl.v23, run1_C.sl.v25, run1_C.sl.v26, run1_C.sl.v28, run1_C.sl.v30, run1_C.sl.v31, run1_C.sl.v33, run1_C.sl.v34, run1_C.sl.v36, run1_C.sl.v37, run1_C.sl.v39, run1_C.sl.v40, run1_C.sl.v46, run1_C.sl.v49, run1_C.sl.v51, run1_C.sl.v52, run1_C.sl.v53, run1_C.sl.v54, run1_C.sl.v56, run1_C.sl.v57, run1_C.sl.v58, run1_C.sl.v59, run1_C.sl.v60, run1_C.sl.v62, run1_C.sl.v63, run1_C.sl.v66, run1_C.sl.v67, run1_C.sl.v7, run1_C.sl.v70, run1_C.sl.v72, run1_C.sl.v75, run1_C.sl.v76, run1_C.sl.v79, run1_C.sl.v8, run1_C.sl.v80, run1_C.sl.v82, run1_C.sl.v85, run1_C.sl.v86, run1_C.sl.v9, run1_C.sl.v90, run1_C.sl.v91, run1_C.sl.v92, run1_C.sl.v93, run1_C.sl.v95, run1_C.sl.v96, run1_C.sl.v97, run1_C.sl.v98, run1_C.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0, rdR_0 (F := F) arg10.view y0 b _ hb0 (fun a => k1_off2_inb _ _ chk h3 a), fun w => rdR_1 (F := F) arg10.view y0 b _ _ hb0 hb1 w (fun a => k1_off2_inb _ _ chk h3 a) (fun a => k1_off3_inb _ _ chk h3 a)]
  exact read_putRows arg10.view _ y0 (View.read_rep _ _) b (fun h => k1_pay4 (bDs false ⟨x0, x1, x2, x3, x4, x5⟩ h) (rowsOf y0 b h) (lane2 x1 h)) _ _ hb0 hb1 _ _

set_option maxHeartbeats 2000000 in
theorem run1_C_k (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : ¬(k1_cond5 (tv1_0 i T0) = 1#1)) :
    (run1_C (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 = (bStep false ⟨x0, x1, x2, x3, x4, x5⟩ ⟨xa0, xa1⟩).dk := by
  unfold run1_C
  dsimp only [run1_C.sl.HO0_1, run1_C.sl.HS0_2, run1_C.sl.HS1_2, run1_C.sl.cst, run1_C.sl.cst_14, run1_C.sl.cst_34, run1_C.sl.r, run1_C.sl.r_1, run1_C.sl.v100, run1_C.sl.v101, run1_C.sl.v102, run1_C.sl.v105, run1_C.sl.v106, run1_C.sl.v109, run1_C.sl.v110, run1_C.sl.v111, run1_C.sl.v114, run1_C.sl.v115, run1_C.sl.v118, run1_C.sl.v19, run1_C.sl.v20, run1_C.sl.v23, run1_C.sl.v25, run1_C.sl.v26, run1_C.sl.v28, run1_C.sl.v30, run1_C.sl.v31, run1_C.sl.v33, run1_C.sl.v34, run1_C.sl.v36, run1_C.sl.v37, run1_C.sl.v39, run1_C.sl.v40, run1_C.sl.v46, run1_C.sl.v49, run1_C.sl.v51, run1_C.sl.v52, run1_C.sl.v53, run1_C.sl.v54, run1_C.sl.v56, run1_C.sl.v57, run1_C.sl.v58, run1_C.sl.v59, run1_C.sl.v60, run1_C.sl.v62, run1_C.sl.v63, run1_C.sl.v66, run1_C.sl.v67, run1_C.sl.v7, run1_C.sl.v70, run1_C.sl.v72, run1_C.sl.v75, run1_C.sl.v76, run1_C.sl.v79, run1_C.sl.v8, run1_C.sl.v80, run1_C.sl.v82, run1_C.sl.v85, run1_C.sl.v86, run1_C.sl.v9, run1_C.sl.v90, run1_C.sl.v91, run1_C.sl.v92, run1_C.sl.v93, run1_C.sl.v95, run1_C.sl.v96, run1_C.sl.v97, run1_C.sl.v98, run1_C.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_0]
  exact canon_stack2 (F := F) (e := .f32) (fun h => bDk false ⟨x0, x1, x2, x3, x4, x5⟩ h (headOf (n := 2) xa0 h)) _ _ _

set_option maxHeartbeats 2000000 in
theorem run1_C_v (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : ¬(k1_cond5 (tv1_0 i T0) = 1#1)) :
    (run1_C (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 = (bStep false ⟨x0, x1, x2, x3, x4, x5⟩ ⟨xa0, xa1⟩).dv := by
  unfold run1_C
  dsimp only [run1_C.sl.HO0_1, run1_C.sl.HS0_2, run1_C.sl.HS1_2, run1_C.sl.cst, run1_C.sl.cst_14, run1_C.sl.cst_34, run1_C.sl.r, run1_C.sl.r_1, run1_C.sl.v100, run1_C.sl.v101, run1_C.sl.v102, run1_C.sl.v105, run1_C.sl.v106, run1_C.sl.v109, run1_C.sl.v110, run1_C.sl.v111, run1_C.sl.v114, run1_C.sl.v115, run1_C.sl.v118, run1_C.sl.v19, run1_C.sl.v20, run1_C.sl.v23, run1_C.sl.v25, run1_C.sl.v26, run1_C.sl.v28, run1_C.sl.v30, run1_C.sl.v31, run1_C.sl.v33, run1_C.sl.v34, run1_C.sl.v36, run1_C.sl.v37, run1_C.sl.v39, run1_C.sl.v40, run1_C.sl.v46, run1_C.sl.v49, run1_C.sl.v51, run1_C.sl.v52, run1_C.sl.v53, run1_C.sl.v54, run1_C.sl.v56, run1_C.sl.v57, run1_C.sl.v58, run1_C.sl.v59, run1_C.sl.v60, run1_C.sl.v62, run1_C.sl.v63, run1_C.sl.v66, run1_C.sl.v67, run1_C.sl.v7, run1_C.sl.v70, run1_C.sl.v72, run1_C.sl.v75, run1_C.sl.v76, run1_C.sl.v79, run1_C.sl.v8, run1_C.sl.v80, run1_C.sl.v82, run1_C.sl.v85, run1_C.sl.v86, run1_C.sl.v9, run1_C.sl.v90, run1_C.sl.v91, run1_C.sl.v92, run1_C.sl.v93, run1_C.sl.v95, run1_C.sl.v96, run1_C.sl.v97, run1_C.sl.v98, run1_C.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_1]
  exact canon_stack2 (F := F) (e := .f32) (fun h => bDv false ⟨x0, x1, x2, x3, x4, x5⟩ h (headOf (n := 2) xa1 h)) _ _ _

set_option maxHeartbeats 2000000 in
theorem run1_D_q (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1)
    (b : Fin 8) (hb0 : k1_off2 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 0]) (hb1 : k1_off3 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 128]) :
    arg10.view.read (Elt F) (arg10.view.writes (Elt F) (arg10.view.rep y0) (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).1) = bDq false ⟨x0, x1, x2, x3, x4, x5⟩ b y0 := by
  unfold run1_D
  dsimp only [run1_D.sl.HO0_1, run1_D.sl.HO1_2, run1_D.sl.HO2_1, run1_D.sl.HS0_2, run1_D.sl.HS1_2, run1_D.sl.cst, run1_D.sl.cst_14, run1_D.sl.cst_34, run1_D.sl.r, run1_D.sl.r_1, run1_D.sl.v100, run1_D.sl.v101, run1_D.sl.v102, run1_D.sl.v105, run1_D.sl.v106, run1_D.sl.v109, run1_D.sl.v110, run1_D.sl.v111, run1_D.sl.v114, run1_D.sl.v115, run1_D.sl.v118, run1_D.sl.v19, run1_D.sl.v20, run1_D.sl.v22, run1_D.sl.v23, run1_D.sl.v25, run1_D.sl.v26, run1_D.sl.v27, run1_D.sl.v28, run1_D.sl.v30, run1_D.sl.v31, run1_D.sl.v32, run1_D.sl.v33, run1_D.sl.v34, run1_D.sl.v34_1, run1_D.sl.v36, run1_D.sl.v37, run1_D.sl.v39, run1_D.sl.v40, run1_D.sl.v46, run1_D.sl.v49, run1_D.sl.v51, run1_D.sl.v52, run1_D.sl.v53, run1_D.sl.v54, run1_D.sl.v56, run1_D.sl.v57, run1_D.sl.v58, run1_D.sl.v59, run1_D.sl.v60, run1_D.sl.v62, run1_D.sl.v63, run1_D.sl.v66, run1_D.sl.v67, run1_D.sl.v7, run1_D.sl.v70, run1_D.sl.v72, run1_D.sl.v75, run1_D.sl.v76, run1_D.sl.v79, run1_D.sl.v8, run1_D.sl.v80, run1_D.sl.v82, run1_D.sl.v85, run1_D.sl.v86, run1_D.sl.v9, run1_D.sl.v90, run1_D.sl.v91, run1_D.sl.v92, run1_D.sl.v93, run1_D.sl.v95, run1_D.sl.v96, run1_D.sl.v97, run1_D.sl.v98, run1_D.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0, rdR_0 (F := F) arg10.view y0 b _ hb0 (fun a => k1_off2_inb _ _ chk h3 a), fun w => rdR_1 (F := F) arg10.view y0 b _ _ hb0 hb1 w (fun a => k1_off2_inb _ _ chk h3 a) (fun a => k1_off3_inb _ _ chk h3 a)]
  exact read_putRows arg10.view _ y0 (View.read_rep _ _) b (fun h => k1_pay4 (bDs false ⟨x0, x1, x2, x3, x4, x5⟩ h) (rowsOf y0 b h) (lane2 x1 h)) _ _ hb0 hb1 _ _

set_option maxHeartbeats 2000000 in
theorem run1_D_ok (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) :
    View.canon (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 = bOutK (bStep false ⟨x0, x1, x2, x3, x4, x5⟩ ⟨xa0, xa1⟩) := by
  unfold run1_D
  dsimp only [run1_D.sl.HO0_1, run1_D.sl.HO1_2, run1_D.sl.HO2_1, run1_D.sl.HS0_2, run1_D.sl.HS1_2, run1_D.sl.cst, run1_D.sl.cst_14, run1_D.sl.cst_34, run1_D.sl.r, run1_D.sl.r_1, run1_D.sl.v100, run1_D.sl.v101, run1_D.sl.v102, run1_D.sl.v105, run1_D.sl.v106, run1_D.sl.v109, run1_D.sl.v110, run1_D.sl.v111, run1_D.sl.v114, run1_D.sl.v115, run1_D.sl.v118, run1_D.sl.v19, run1_D.sl.v20, run1_D.sl.v22, run1_D.sl.v23, run1_D.sl.v25, run1_D.sl.v26, run1_D.sl.v27, run1_D.sl.v28, run1_D.sl.v30, run1_D.sl.v31, run1_D.sl.v32, run1_D.sl.v33, run1_D.sl.v34, run1_D.sl.v34_1, run1_D.sl.v36, run1_D.sl.v37, run1_D.sl.v39, run1_D.sl.v40, run1_D.sl.v46, run1_D.sl.v49, run1_D.sl.v51, run1_D.sl.v52, run1_D.sl.v53, run1_D.sl.v54, run1_D.sl.v56, run1_D.sl.v57, run1_D.sl.v58, run1_D.sl.v59, run1_D.sl.v60, run1_D.sl.v62, run1_D.sl.v63, run1_D.sl.v66, run1_D.sl.v67, run1_D.sl.v7, run1_D.sl.v70, run1_D.sl.v72, run1_D.sl.v75, run1_D.sl.v76, run1_D.sl.v79, run1_D.sl.v8, run1_D.sl.v80, run1_D.sl.v82, run1_D.sl.v85, run1_D.sl.v86, run1_D.sl.v9, run1_D.sl.v90, run1_D.sl.v91, run1_D.sl.v92, run1_D.sl.v93, run1_D.sl.v95, run1_D.sl.v96, run1_D.sl.v97, run1_D.sl.v98, run1_D.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  unfold bStep bOutK
  simp only [head_stack]
  exact canon_pair (F := F) (e := .f32) (fun h => k1_pay7 ((fun h => bDk false ⟨x0, x1, x2, x3, x4, x5⟩ h (headOf (n := 2) xa0 h)) h)) [] _ _

set_option maxHeartbeats 2000000 in
theorem run1_D_ov (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) :
    View.canon (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 = bOutV (bStep false ⟨x0, x1, x2, x3, x4, x5⟩ ⟨xa0, xa1⟩) := by
  unfold run1_D
  dsimp only [run1_D.sl.HO0_1, run1_D.sl.HO1_2, run1_D.sl.HO2_1, run1_D.sl.HS0_2, run1_D.sl.HS1_2, run1_D.sl.cst, run1_D.sl.cst_14, run1_D.sl.cst_34, run1_D.sl.r, run1_D.sl.r_1, run1_D.sl.v100, run1_D.sl.v101, run1_D.sl.v102, run1_D.sl.v105, run1_D.sl.v106, run1_D.sl.v109, run1_D.sl.v110, run1_D.sl.v111, run1_D.sl.v114, run1_D.sl.v115, run1_D.sl.v118, run1_D.sl.v19, run1_D.sl.v20, run1_D.sl.v22, run1_D.sl.v23, run1_D.sl.v25, run1_D.sl.v26, run1_D.sl.v27, run1_D.sl.v28, run1_D.sl.v30, run1_D.sl.v31, run1_D.sl.v32, run1_D.sl.v33, run1_D.sl.v34, run1_D.sl.v34_1, run1_D.sl.v36, run1_D.sl.v37, run1_D.sl.v39, run1_D.sl.v40, run1_D.sl.v46, run1_D.sl.v49, run1_D.sl.v51, run1_D.sl.v52, run1_D.sl.v53, run1_D.sl.v54, run1_D.sl.v56, run1_D.sl.v57, run1_D.sl.v58, run1_D.sl.v59, run1_D.sl.v60, run1_D.sl.v62, run1_D.sl.v63, run1_D.sl.v66, run1_D.sl.v67, run1_D.sl.v7, run1_D.sl.v70, run1_D.sl.v72, run1_D.sl.v75, run1_D.sl.v76, run1_D.sl.v79, run1_D.sl.v8, run1_D.sl.v80, run1_D.sl.v82, run1_D.sl.v85, run1_D.sl.v86, run1_D.sl.v9, run1_D.sl.v90, run1_D.sl.v91, run1_D.sl.v92, run1_D.sl.v93, run1_D.sl.v95, run1_D.sl.v96, run1_D.sl.v97, run1_D.sl.v98, run1_D.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  unfold bStep bOutV
  simp only [head_stack]
  exact canon_whole (F := F) (e := .bf16) _ _

set_option maxHeartbeats 2000000 in
theorem run1_D_k (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) :
    (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.2.1 = (bStep false ⟨x0, x1, x2, x3, x4, x5⟩ ⟨xa0, xa1⟩).dk := by
  unfold run1_D
  dsimp only [run1_D.sl.HO0_1, run1_D.sl.HO1_2, run1_D.sl.HO2_1, run1_D.sl.HS0_2, run1_D.sl.HS1_2, run1_D.sl.cst, run1_D.sl.cst_14, run1_D.sl.cst_34, run1_D.sl.r, run1_D.sl.r_1, run1_D.sl.v100, run1_D.sl.v101, run1_D.sl.v102, run1_D.sl.v105, run1_D.sl.v106, run1_D.sl.v109, run1_D.sl.v110, run1_D.sl.v111, run1_D.sl.v114, run1_D.sl.v115, run1_D.sl.v118, run1_D.sl.v19, run1_D.sl.v20, run1_D.sl.v22, run1_D.sl.v23, run1_D.sl.v25, run1_D.sl.v26, run1_D.sl.v27, run1_D.sl.v28, run1_D.sl.v30, run1_D.sl.v31, run1_D.sl.v32, run1_D.sl.v33, run1_D.sl.v34, run1_D.sl.v34_1, run1_D.sl.v36, run1_D.sl.v37, run1_D.sl.v39, run1_D.sl.v40, run1_D.sl.v46, run1_D.sl.v49, run1_D.sl.v51, run1_D.sl.v52, run1_D.sl.v53, run1_D.sl.v54, run1_D.sl.v56, run1_D.sl.v57, run1_D.sl.v58, run1_D.sl.v59, run1_D.sl.v60, run1_D.sl.v62, run1_D.sl.v63, run1_D.sl.v66, run1_D.sl.v67, run1_D.sl.v7, run1_D.sl.v70, run1_D.sl.v72, run1_D.sl.v75, run1_D.sl.v76, run1_D.sl.v79, run1_D.sl.v8, run1_D.sl.v80, run1_D.sl.v82, run1_D.sl.v85, run1_D.sl.v86, run1_D.sl.v9, run1_D.sl.v90, run1_D.sl.v91, run1_D.sl.v92, run1_D.sl.v93, run1_D.sl.v95, run1_D.sl.v96, run1_D.sl.v97, run1_D.sl.v98, run1_D.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_0]
  exact canon_stack2 (F := F) (e := .f32) (fun h => bDk false ⟨x0, x1, x2, x3, x4, x5⟩ h (headOf (n := 2) xa0 h)) _ _ _

set_option maxHeartbeats 2000000 in
theorem run1_D_v (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) :
    (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.2.2.1 = (bStep false ⟨x0, x1, x2, x3, x4, x5⟩ ⟨xa0, xa1⟩).dv := by
  unfold run1_D
  dsimp only [run1_D.sl.HO0_1, run1_D.sl.HO1_2, run1_D.sl.HO2_1, run1_D.sl.HS0_2, run1_D.sl.HS1_2, run1_D.sl.cst, run1_D.sl.cst_14, run1_D.sl.cst_34, run1_D.sl.r, run1_D.sl.r_1, run1_D.sl.v100, run1_D.sl.v101, run1_D.sl.v102, run1_D.sl.v105, run1_D.sl.v106, run1_D.sl.v109, run1_D.sl.v110, run1_D.sl.v111, run1_D.sl.v114, run1_D.sl.v115, run1_D.sl.v118, run1_D.sl.v19, run1_D.sl.v20, run1_D.sl.v22, run1_D.sl.v23, run1_D.sl.v25, run1_D.sl.v26, run1_D.sl.v27, run1_D.sl.v28, run1_D.sl.v30, run1_D.sl.v31, run1_D.sl.v32, run1_D.sl.v33, run1_D.sl.v34, run1_D.sl.v34_1, run1_D.sl.v36, run1_D.sl.v37, run1_D.sl.v39, run1_D.sl.v40, run1_D.sl.v46, run1_D.sl.v49, run1_D.sl.v51, run1_D.sl.v52, run1_D.sl.v53, run1_D.sl.v54, run1_D.sl.v56, run1_D.sl.v57, run1_D.sl.v58, run1_D.sl.v59, run1_D.sl.v60, run1_D.sl.v62, run1_D.sl.v63, run1_D.sl.v66, run1_D.sl.v67, run1_D.sl.v7, run1_D.sl.v70, run1_D.sl.v72, run1_D.sl.v75, run1_D.sl.v76, run1_D.sl.v79, run1_D.sl.v8, run1_D.sl.v80, run1_D.sl.v82, run1_D.sl.v85, run1_D.sl.v86, run1_D.sl.v9, run1_D.sl.v90, run1_D.sl.v91, run1_D.sl.v92, run1_D.sl.v93, run1_D.sl.v95, run1_D.sl.v96, run1_D.sl.v97, run1_D.sl.v98, run1_D.sl.v99]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_1]
  exact canon_stack2 (F := F) (e := .f32) (fun h => bDv false ⟨x0, x1, x2, x3, x4, x5⟩ h (headOf (n := 2) xa1 h)) _ _ _

set_option maxHeartbeats 2000000 in
theorem run1_E_q (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1)
    (b : Fin 8) (hb0 : k1_off4 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 0]) (hb1 : k1_off5 (@View.readAt sig (Elt F) .tc .smem S36 .i32 (View.whole main_c_1) (Rect.unit (s := S36) (k1_off1 i) ![1] (k1_off1_inb i)).toLoadRect T0 (Shape.Idx.first (numel1_S1.symm ▸ Nat.one_pos))) = ![1024 * b.val, 128]) :
    arg10.view.read (Elt F) (arg10.view.writes (Elt F) (arg10.view.rep y0) (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).1) = bDq true ⟨x0, x1, x2, x3, x4, x5⟩ b y0 := by
  unfold run1_E
  dsimp only [run1_E.sl.HO0_1, run1_E.sl.HO1_2, run1_E.sl.HO2_1, run1_E.sl.HS0_1, run1_E.sl.HS0_2, run1_E.sl.HS0_3, run1_E.sl.HS1_1, run1_E.sl.HS1_2, run1_E.sl.HS1_3, run1_E.sl.cst, run1_E.sl.cst_14, run1_E.sl.cst_27, run1_E.sl.cst_35, run1_E.sl.r, run1_E.sl.r_1, run1_E.sl.v100, run1_E.sl.v102, run1_E.sl.v103, run1_E.sl.v104, run1_E.sl.v105, run1_E.sl.v106, run1_E.sl.v107, run1_E.sl.v108, run1_E.sl.v109, run1_E.sl.v112, run1_E.sl.v113, run1_E.sl.v116, run1_E.sl.v117, run1_E.sl.v118, run1_E.sl.v121, run1_E.sl.v19, run1_E.sl.v20, run1_E.sl.v22, run1_E.sl.v23, run1_E.sl.v25, run1_E.sl.v26, run1_E.sl.v27, run1_E.sl.v28, run1_E.sl.v30, run1_E.sl.v31, run1_E.sl.v32, run1_E.sl.v33, run1_E.sl.v34, run1_E.sl.v34_1, run1_E.sl.v36, run1_E.sl.v37, run1_E.sl.v39, run1_E.sl.v40, run1_E.sl.v46, run1_E.sl.v49, run1_E.sl.v50, run1_E.sl.v51, run1_E.sl.v54, run1_E.sl.v55, run1_E.sl.v56, run1_E.sl.v57, run1_E.sl.v58, run1_E.sl.v59, run1_E.sl.v61, run1_E.sl.v62, run1_E.sl.v63, run1_E.sl.v64, run1_E.sl.v65, run1_E.sl.v66, run1_E.sl.v67, run1_E.sl.v68, run1_E.sl.v7, run1_E.sl.v71, run1_E.sl.v72, run1_E.sl.v75, run1_E.sl.v76, run1_E.sl.v77, run1_E.sl.v8, run1_E.sl.v80, run1_E.sl.v81, run1_E.sl.v84, run1_E.sl.v85, run1_E.sl.v87, run1_E.sl.v9, run1_E.sl.v90, run1_E.sl.v91, run1_E.sl.v95, run1_E.sl.v96, run1_E.sl.v97, run1_E.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0, rdR_0 (F := F) arg10.view y0 b _ hb0 (fun a => k1_off4_inb _ _ chk h4 a), fun w => rdR_1 (F := F) arg10.view y0 b _ _ hb0 hb1 w (fun a => k1_off4_inb _ _ chk h4 a) (fun a => k1_off5_inb _ _ chk h4 a)]
  exact read_putRows arg10.view _ y0 (View.read_rep _ _) b (fun h => k1_pay4 (bDs true ⟨x0, x1, x2, x3, x4, x5⟩ h) (rowsOf y0 b h) (lane2 x1 h)) _ _ hb0 hb1 _ _

set_option maxHeartbeats 2000000 in
theorem run1_E_ok (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) :
    View.canon (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 = bOutK (bStep true ⟨x0, x1, x2, x3, x4, x5⟩ bInit) := by
  unfold run1_E
  dsimp only [run1_E.sl.HO0_1, run1_E.sl.HO1_2, run1_E.sl.HO2_1, run1_E.sl.HS0_1, run1_E.sl.HS0_2, run1_E.sl.HS0_3, run1_E.sl.HS1_1, run1_E.sl.HS1_2, run1_E.sl.HS1_3, run1_E.sl.cst, run1_E.sl.cst_14, run1_E.sl.cst_27, run1_E.sl.cst_35, run1_E.sl.r, run1_E.sl.r_1, run1_E.sl.v100, run1_E.sl.v102, run1_E.sl.v103, run1_E.sl.v104, run1_E.sl.v105, run1_E.sl.v106, run1_E.sl.v107, run1_E.sl.v108, run1_E.sl.v109, run1_E.sl.v112, run1_E.sl.v113, run1_E.sl.v116, run1_E.sl.v117, run1_E.sl.v118, run1_E.sl.v121, run1_E.sl.v19, run1_E.sl.v20, run1_E.sl.v22, run1_E.sl.v23, run1_E.sl.v25, run1_E.sl.v26, run1_E.sl.v27, run1_E.sl.v28, run1_E.sl.v30, run1_E.sl.v31, run1_E.sl.v32, run1_E.sl.v33, run1_E.sl.v34, run1_E.sl.v34_1, run1_E.sl.v36, run1_E.sl.v37, run1_E.sl.v39, run1_E.sl.v40, run1_E.sl.v46, run1_E.sl.v49, run1_E.sl.v50, run1_E.sl.v51, run1_E.sl.v54, run1_E.sl.v55, run1_E.sl.v56, run1_E.sl.v57, run1_E.sl.v58, run1_E.sl.v59, run1_E.sl.v61, run1_E.sl.v62, run1_E.sl.v63, run1_E.sl.v64, run1_E.sl.v65, run1_E.sl.v66, run1_E.sl.v67, run1_E.sl.v68, run1_E.sl.v7, run1_E.sl.v71, run1_E.sl.v72, run1_E.sl.v75, run1_E.sl.v76, run1_E.sl.v77, run1_E.sl.v8, run1_E.sl.v80, run1_E.sl.v81, run1_E.sl.v84, run1_E.sl.v85, run1_E.sl.v87, run1_E.sl.v9, run1_E.sl.v90, run1_E.sl.v91, run1_E.sl.v95, run1_E.sl.v96, run1_E.sl.v97, run1_E.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  unfold bStep bOutK
  simp only [head_stack]
  exact canon_pair (F := F) (e := .f32) (fun h => k1_pay7 ((fun h => bDk true ⟨x0, x1, x2, x3, x4, x5⟩ h (headOf (n := 2) k1_pay2 h)) h)) [] _ _

set_option maxHeartbeats 2000000 in
theorem run1_E_ov (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) :
    View.canon (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 = bOutV (bStep true ⟨x0, x1, x2, x3, x4, x5⟩ bInit) := by
  unfold run1_E
  dsimp only [run1_E.sl.HO0_1, run1_E.sl.HO1_2, run1_E.sl.HO2_1, run1_E.sl.HS0_1, run1_E.sl.HS0_2, run1_E.sl.HS0_3, run1_E.sl.HS1_1, run1_E.sl.HS1_2, run1_E.sl.HS1_3, run1_E.sl.cst, run1_E.sl.cst_14, run1_E.sl.cst_27, run1_E.sl.cst_35, run1_E.sl.r, run1_E.sl.r_1, run1_E.sl.v100, run1_E.sl.v102, run1_E.sl.v103, run1_E.sl.v104, run1_E.sl.v105, run1_E.sl.v106, run1_E.sl.v107, run1_E.sl.v108, run1_E.sl.v109, run1_E.sl.v112, run1_E.sl.v113, run1_E.sl.v116, run1_E.sl.v117, run1_E.sl.v118, run1_E.sl.v121, run1_E.sl.v19, run1_E.sl.v20, run1_E.sl.v22, run1_E.sl.v23, run1_E.sl.v25, run1_E.sl.v26, run1_E.sl.v27, run1_E.sl.v28, run1_E.sl.v30, run1_E.sl.v31, run1_E.sl.v32, run1_E.sl.v33, run1_E.sl.v34, run1_E.sl.v34_1, run1_E.sl.v36, run1_E.sl.v37, run1_E.sl.v39, run1_E.sl.v40, run1_E.sl.v46, run1_E.sl.v49, run1_E.sl.v50, run1_E.sl.v51, run1_E.sl.v54, run1_E.sl.v55, run1_E.sl.v56, run1_E.sl.v57, run1_E.sl.v58, run1_E.sl.v59, run1_E.sl.v61, run1_E.sl.v62, run1_E.sl.v63, run1_E.sl.v64, run1_E.sl.v65, run1_E.sl.v66, run1_E.sl.v67, run1_E.sl.v68, run1_E.sl.v7, run1_E.sl.v71, run1_E.sl.v72, run1_E.sl.v75, run1_E.sl.v76, run1_E.sl.v77, run1_E.sl.v8, run1_E.sl.v80, run1_E.sl.v81, run1_E.sl.v84, run1_E.sl.v85, run1_E.sl.v87, run1_E.sl.v9, run1_E.sl.v90, run1_E.sl.v91, run1_E.sl.v95, run1_E.sl.v96, run1_E.sl.v97, run1_E.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  unfold bStep bOutV
  simp only [head_stack]
  exact canon_whole (F := F) (e := .bf16) _ _

set_option maxHeartbeats 2000000 in
theorem run1_E_k (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) :
    (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.2.1 = (bStep true ⟨x0, x1, x2, x3, x4, x5⟩ bInit).dk := by
  unfold run1_E
  dsimp only [run1_E.sl.HO0_1, run1_E.sl.HO1_2, run1_E.sl.HO2_1, run1_E.sl.HS0_1, run1_E.sl.HS0_2, run1_E.sl.HS0_3, run1_E.sl.HS1_1, run1_E.sl.HS1_2, run1_E.sl.HS1_3, run1_E.sl.cst, run1_E.sl.cst_14, run1_E.sl.cst_27, run1_E.sl.cst_35, run1_E.sl.r, run1_E.sl.r_1, run1_E.sl.v100, run1_E.sl.v102, run1_E.sl.v103, run1_E.sl.v104, run1_E.sl.v105, run1_E.sl.v106, run1_E.sl.v107, run1_E.sl.v108, run1_E.sl.v109, run1_E.sl.v112, run1_E.sl.v113, run1_E.sl.v116, run1_E.sl.v117, run1_E.sl.v118, run1_E.sl.v121, run1_E.sl.v19, run1_E.sl.v20, run1_E.sl.v22, run1_E.sl.v23, run1_E.sl.v25, run1_E.sl.v26, run1_E.sl.v27, run1_E.sl.v28, run1_E.sl.v30, run1_E.sl.v31, run1_E.sl.v32, run1_E.sl.v33, run1_E.sl.v34, run1_E.sl.v34_1, run1_E.sl.v36, run1_E.sl.v37, run1_E.sl.v39, run1_E.sl.v40, run1_E.sl.v46, run1_E.sl.v49, run1_E.sl.v50, run1_E.sl.v51, run1_E.sl.v54, run1_E.sl.v55, run1_E.sl.v56, run1_E.sl.v57, run1_E.sl.v58, run1_E.sl.v59, run1_E.sl.v61, run1_E.sl.v62, run1_E.sl.v63, run1_E.sl.v64, run1_E.sl.v65, run1_E.sl.v66, run1_E.sl.v67, run1_E.sl.v68, run1_E.sl.v7, run1_E.sl.v71, run1_E.sl.v72, run1_E.sl.v75, run1_E.sl.v76, run1_E.sl.v77, run1_E.sl.v8, run1_E.sl.v80, run1_E.sl.v81, run1_E.sl.v84, run1_E.sl.v85, run1_E.sl.v87, run1_E.sl.v9, run1_E.sl.v90, run1_E.sl.v91, run1_E.sl.v95, run1_E.sl.v96, run1_E.sl.v97, run1_E.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_0]
  exact canon_stack2 (F := F) (e := .f32) (fun h => bDk true ⟨x0, x1, x2, x3, x4, x5⟩ h (headOf (n := 2) k1_pay2 h)) _ _ _

set_option maxHeartbeats 2000000 in
theorem run1_E_v (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) :
    (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.2.2.1 = (bStep true ⟨x0, x1, x2, x3, x4, x5⟩ bInit).dv := by
  unfold run1_E
  dsimp only [run1_E.sl.HO0_1, run1_E.sl.HO1_2, run1_E.sl.HO2_1, run1_E.sl.HS0_1, run1_E.sl.HS0_2, run1_E.sl.HS0_3, run1_E.sl.HS1_1, run1_E.sl.HS1_2, run1_E.sl.HS1_3, run1_E.sl.cst, run1_E.sl.cst_14, run1_E.sl.cst_27, run1_E.sl.cst_35, run1_E.sl.r, run1_E.sl.r_1, run1_E.sl.v100, run1_E.sl.v102, run1_E.sl.v103, run1_E.sl.v104, run1_E.sl.v105, run1_E.sl.v106, run1_E.sl.v107, run1_E.sl.v108, run1_E.sl.v109, run1_E.sl.v112, run1_E.sl.v113, run1_E.sl.v116, run1_E.sl.v117, run1_E.sl.v118, run1_E.sl.v121, run1_E.sl.v19, run1_E.sl.v20, run1_E.sl.v22, run1_E.sl.v23, run1_E.sl.v25, run1_E.sl.v26, run1_E.sl.v27, run1_E.sl.v28, run1_E.sl.v30, run1_E.sl.v31, run1_E.sl.v32, run1_E.sl.v33, run1_E.sl.v34, run1_E.sl.v34_1, run1_E.sl.v36, run1_E.sl.v37, run1_E.sl.v39, run1_E.sl.v40, run1_E.sl.v46, run1_E.sl.v49, run1_E.sl.v50, run1_E.sl.v51, run1_E.sl.v54, run1_E.sl.v55, run1_E.sl.v56, run1_E.sl.v57, run1_E.sl.v58, run1_E.sl.v59, run1_E.sl.v61, run1_E.sl.v62, run1_E.sl.v63, run1_E.sl.v64, run1_E.sl.v65, run1_E.sl.v66, run1_E.sl.v67, run1_E.sl.v68, run1_E.sl.v7, run1_E.sl.v71, run1_E.sl.v72, run1_E.sl.v75, run1_E.sl.v76, run1_E.sl.v77, run1_E.sl.v8, run1_E.sl.v80, run1_E.sl.v81, run1_E.sl.v84, run1_E.sl.v85, run1_E.sl.v87, run1_E.sl.v9, run1_E.sl.v90, run1_E.sl.v91, run1_E.sl.v95, run1_E.sl.v96, run1_E.sl.v97, run1_E.sl.v98]
  simp only [rdQ_0, rdQ_1, rdQ_2, rdQ_3, rdP_0, rdP_1, rdC_0, rdC_1, rdW, rdS1_0_0, rdS1_0_1, rdS1_1_0, rdS1_1_1, rdF2_0, rdF2_1, rdI2_0, rdI2_1, rdK2_0_1, rdK2_1_0]
  rw [wrS1_1]
  exact canon_stack2 (F := F) (e := .f32) (fun h => bDv true ⟨x0, x1, x2, x3, x4, x5⟩ h (headOf (n := 2) k1_pay3 h)) _ _ _

end Cert.Attn
-- ==== Proof.BodyBwd.lean ====
/- The backward call's body meets its proof data at every point. -/
module

public import proofs.«01_k».proof.Proof.DatBwd
public import proofs.«01_k».proof.Proof.ValsBwd
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 2000000 in
/-- What path D stores in the whole of an output window, whatever the window held. -/
theorem run1_D_okc (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) (f) :
    arg11.view.read (Elt F) (arg11.view.writes (Elt F) f (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1) = bOutK (bStep false ⟨x0, x1, x2, x3, x4, x5⟩ ⟨xa0, xa1⟩) :=
  (funext fun y => View.read_writes_apply_eq_canon arg11.view f y _ (View.cover_of_tiledL (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 S1024x128.size (by sl_kernel_rfl) y)).trans (run1_D_ok (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5)

set_option maxHeartbeats 2000000 in
/-- What path D stores in the whole of an output window, whatever the window held. -/
theorem run1_D_ovc (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : ¬(Scalar.cmpi .ne (Scalar.extui (Scalar.cmpi .eq (tv1_0 i T0) (tv1_1 i T1))) 0#32 = 1#1)) (h3 : k1_cond3 (tv1_0 i T0) (tv1_1 i T1) = 1#1) (h4 : ¬(k1_cond4 (tv1_0 i T0) (tv1_1 i T1) = 1#1)) (h5 : k1_cond5 (tv1_0 i T0) = 1#1) (f) :
    arg12.view.read (Elt F) (arg12.view.writes (Elt F) f (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1) = bOutV (bStep false ⟨x0, x1, x2, x3, x4, x5⟩ ⟨xa0, xa1⟩) :=
  (funext fun y => View.read_writes_apply_eq_canon arg12.view f y _ (View.cover_of_tiledL (run1_D (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 S1024x128.size (by sl_kernel_rfl) y)).trans (run1_D_ov (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5)

set_option maxHeartbeats 2000000 in
/-- What path E stores in the whole of an output window, whatever the window held. -/
theorem run1_E_okc (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) (f) :
    arg11.view.read (Elt F) (arg11.view.writes (Elt F) f (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1) = bOutK (bStep true ⟨x0, x1, x2, x3, x4, x5⟩ bInit) :=
  (funext fun y => View.read_writes_apply_eq_canon arg11.view f y _ (View.cover_of_tiledL (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.1 S1024x128.size (by sl_kernel_rfl) y)).trans (run1_E_ok (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5)

set_option maxHeartbeats 2000000 in
/-- What path E stores in the whole of an output window, whatever the window held. -/
theorem run1_E_ovc (c : Dev nD) (i : grid1.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S1024x256 .f32) (harg11 : arg11.IsWhole) (arg12 : Memref sig .tc .vmem S1024x128 .bf16) (harg12 : arg12.IsWhole)
    (T0 T1 : S36.Idx → Elt F .i32) (x0 : S1024x256.Idx → Elt F .bf16) (x1 : S1024x256.Idx → Elt F .bf16) (x2 : S1024x128.Idx → Elt F .bf16) (x3 : S1024x128.Idx → Elt F .bf16) (x4 : S1024x128.Idx → Elt F .f32) (x5 : S1024x128.Idx → Elt F .f32) (y0 : S8192x256.Idx → Elt F .f32) (y1 : S1024x256.Idx → Elt F .f32) (y2 : S1024x128.Idx → Elt F .bf16) (xa0 : Buf (Elt F) ((c : Thread nD τ).loc cc1_scratch0)) (xa1 : Buf (Elt F) ((c : Thread nD τ).loc cc1_scratch1))
    (chk : k1_chk1 (tv1_0 i T0) (tv1_1 i T1)) (h1 : ¬(k1_cond1 i = 1#1)) (h2 : Scalar.cmpi .ne (Scalar.extui (Scalar.cmpi .eq (tv1_0 i T0) (tv1_1 i T1))) 0#32 = 1#1) (h3 : ¬(k1_cond3 (tv1_0 i T0) (tv1_1 i T1) = 1#1)) (h4 : k1_cond4 (tv1_0 i T0) (tv1_1 i T1) = 1#1) (h5 : k1_cond5 (tv1_0 i T0) = 1#1) (f) :
    arg12.view.read (Elt F) (arg12.view.writes (Elt F) f (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1) = bOutV (bStep true ⟨x0, x1, x2, x3, x4, x5⟩ bInit) :=
  (funext fun y => View.read_writes_apply_eq_canon arg12.view f y _ (View.cover_of_tiledL (run1_E (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5).2.2.1 S1024x128.size (by sl_kernel_rfl) y)).trans (run1_E_ov (F := F) c i arg4 harg4 arg5 harg5 arg6 harg6 arg7 harg7 arg8 harg8 arg9 harg9 arg10 harg10 arg11 harg11 arg12 harg12 T0 T1 x0 x1 x2 x3 x4 x5 y0 y1 y2 xa0 xa1 chk h1 h2 h3 h4 h5)

set_option maxHeartbeats 6400000 in
/-- The body's obligation at a point of path A. -/
theorem sound1_A (M : (ℓ : Loc nD τ sig) → Buf (Elt F) ℓ) (c : Dev nD) (t : Fin (cfgA1 F).N) (hp : Pa1_A F t) :
    iprop((dat1 M c).Φ t.castSucc ∗ (dat1 M c).owesAt () t.castSucc
        ∗ (∃ d, owns (c : Thread nD τ) (ms1_0 t) fullShare ((dat1 M c).before (0 : Fin 9) t d)) ∗ (∃ d, owns (c : Thread nD τ) (ms1_1 t) fullShare ((dat1 M c).before (1 : Fin 9) t d)) ∗ (∃ d, owns (c : Thread nD τ) (ms1_2 t) fullShare ((dat1 M c).before (2 : Fin 9) t d)) ∗ (∃ d, owns (c : Thread nD τ) (ms1_3 t) fullShare ((dat1 M c).before (3 : Fin 9) t d)) ∗ (∃ d, owns (c : Thread nD τ) (ms1_4 t) fullShare ((dat1 M c).before (4 : Fin 9) t d)) ∗ (∃ d, owns (c : Thread nD τ) (ms1_5 t) fullShare ((dat1 M c).before (5 : Fin 9) t d)) ∗ (∃ d, owns (c : Thread nD τ) (ms1_6 t) fullShare ((dat1 M c).before (6 : Fin 9) t d)) ∗ (∃ d, owns (c : Thread nD τ) (ms1_7 t) fullShare ((dat1 M c).before (7 : Fin 9) t d)) ∗ (∃ d, owns (c : Thread nD τ) (ms1_8 t) fullShare ((dat1 M c).before (8 : Fin 9) t d)))
      ⊢ wp frame (wpE (defs₀ (F := F)) Variants.none c none) Set.univ (cc1_attn_bwd (grid1.coords t) (Memref.whole main_c_1) (Memref.isWhole_whole _) (Memref.whole main_c_2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _) (Memref.whole cc1_scratch1) (Memref.isWhole_whole _) : Prog (TpuEff nD τ sig (Elt F) Λ₀ .tc) PUnit) fun _ =>
          iprop((dat1 M c).Φ t.succ ∗ (dat1 M c).owesAt () t.succ
            ∗ bigSep Finset.univ fun w : Fin (cfgA1 F).W =>
                match (cfgA1 F).idle w ((cfgA1 F).grid.coords t) with
                | true =>
                  match ((cfgA1 F).win w).flush t with
                  | false => iprop(∃ d, owns (c : Thread nD τ) (((cfgA1 F).win w).stage ((cfgA1 F).slots t w)) fullShare ((dat1 M c).before w t d))
                  | true => owns (c : Thread nD τ) (((cfgA1 F).win w).stage ((cfgA1 F).slots t w)) fullShare ((dat1 M c).after w t)
                | false => owns (c : Thread nD τ) (((cfgA1 F).win w).stage ((cfgA1 F).slots t w)) fullShare ((dat1 M c).after w t)) := by
  rw [bigSep_W1]
  obtain ⟨⟨chk, h1, h2, h3, h4, h5⟩, ⟨hdg, hin, ho0, ho1⟩, i6, i7, f7, i8, f8⟩ := hp
  have hS : St1 M c (t.val + 1) = bStep true (X1 M c t) bInit := by rw [St1_succ, hdg]; rfl
  have hQ : Q1 M c (t.val + 1) = bDq true (X1 M c t) (qb1 t.val) k1_pay1 := by rw [Q1_succ, hdg, if_pos hin]
  rewrite [i6]
  try rewrite [i7]
  try rewrite [i8]
  simp only [before1_0, before1_1, before1_2, before1_3, before1_4, before1_5, after1_0, after1_1, after1_2, after1_3, after1_4, after1_5, after1_6, after1_7, after1_8, f7, f8]
  rewrite [phi1_succ, phi1_cast, owes1_succ]
  rewrite [hQ]
  unfold Phi1
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) ((dat1 M c).before (6 : Fin 9) t d6) ((dat1 M c).before (7 : Fin 9) t d7) ((dat1 M c).before (8 : Fin 9) t d8) a0 a1 chk h1 h2 h3 h4 h5).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iexact HS0
  isplitl [HS1]; · iexact HS1
  iintro ⟨H0, H1, H2, H3, H4, H5, HT0, HT1, ⟨%e6, H6⟩, H7, H8, HS0, HS1⟩
  isplitl [HS0 HS1 HT0 HT1 HR]
  · isplitl [HS0 HS1]
    · iexists _; iexists _; isplitr; swap
      · isplitl [HS0]; · iexact HS0
        iexact HS1
      · ipureintro; intro _; rw [hS]
        exact ⟨run1_A_k (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) ((dat1 M c).before (6 : Fin 9) t d6) ((dat1 M c).before (7 : Fin 9) t d7) ((dat1 M c).before (8 : Fin 9) t d8) a0 a1 chk h1 h2 h3 h4 h5, run1_A_v (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) ((dat1 M c).before (6 : Fin 9) t d6) ((dat1 M c).before (7 : Fin 9) t d7) ((dat1 M c).before (8 : Fin 9) t d8) a0 a1 chk h1 h2 h3 h4 h5⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact run1_A_q (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) ((dat1 M c).before (6 : Fin 9) t d6) ((dat1 M c).before (7 : Fin 9) t d7) ((dat1 M c).before (8 : Fin 9) t d8) a0 a1 chk h1 h2 h3 h4 h5 (qb1 t.val) ho0 ho1 e6
  isplitl [H7]
  · iexists d7; iapply owns_of_rep; iexact H7
  iexists d8; iapply owns_of_rep; iexact H8

set_option maxHeartbeats 6400000 in
/-- The body's obligation at a point of path B. -/
theorem sound1_B (M : (ℓ : Loc nD τ sig) → Buf (Elt F) ℓ) (c : Dev nD) (t : Fin (cfgA1 F).N) (hp : Pa1_B F t) :
    iprop((dat1 M c).Φ t.castSucc ∗ (dat1 M c).owesAt () t.castSucc
        ∗ (∃ d, owns (c : Thread nD τ) (ms1_0 t) fullShare ((dat1 M c).before (0 : Fin 9) t d)) ∗ (∃ d, owns (c : Thread nD τ) (ms1_1 t) fullShare ((dat1 M c).before (1 : Fin 9) t d)) ∗ (∃ d, owns (c : Thread nD τ) (ms1_2 t) fullShare ((dat1 M c).before (2 : Fin 9) t d)) ∗ (∃ d, owns (c : Thread nD τ) (ms1_3 t) fullShare ((dat1 M c).before (3 : Fin 9) t d)) ∗ (∃ d, owns (c : Thread nD τ) (ms1_4 t) fullShare ((dat1 M c).before (4 : Fin 9) t d)) ∗ (∃ d, owns (c : Thread nD τ) (ms1_5 t) fullShare ((dat1 M c).before (5 : Fin 9) t d)) ∗ (∃ d, owns (c : Thread nD τ) (ms1_6 t) fullShare ((dat1 M c).before (6 : Fin 9) t d)) ∗ (∃ d, owns (c : Thread nD τ) (ms1_7 t) fullShare ((dat1 M c).before (7 : Fin 9) t d)) ∗ (∃ d, owns (c : Thread nD τ) (ms1_8 t) fullShare ((dat1 M c).before (8 : Fin 9) t d)))
      ⊢ wp frame (wpE (defs₀ (F := F)) Variants.none c none) Set.univ (cc1_attn_bwd (grid1.coords t) (Memref.whole main_c_1) (Memref.isWhole_whole _) (Memref.whole main_c_2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _) (Memref.whole cc1_scratch1) (Memref.isWhole_whole _) : Prog (TpuEff nD τ sig (Elt F) Λ₀ .tc) PUnit) fun _ =>
          iprop((dat1 M c).Φ t.succ ∗ (dat1 M c).owesAt () t.succ
            ∗ bigSep Finset.univ fun w : Fin (cfgA1 F).W =>
                match (cfgA1 F).idle w ((cfgA1 F).grid.coords t) with
                | true =>
                  match ((cfgA1 F).win w).flush t with
                  | false => iprop(∃ d, owns (c : Thread nD τ) (((cfgA1 F).win w).stage ((cfgA1 F).slots t w)) fullShare ((dat1 M c).before w t d))
                  | true => owns (c : Thread nD τ) (((cfgA1 F).win w).stage ((cfgA1 F).slots t w)) fullShare ((dat1 M c).after w t)
                | false => owns (c : Thread nD τ) (((cfgA1 F).win w).stage ((cfgA1 F).slots t w)) fullShare ((dat1 M c).after w t)) := by
  rw [bigSep_W1]
  obtain ⟨⟨chk, h1, h2, h3, h4, h5⟩, ⟨hdg, hin, ho0, ho1⟩, i6, i7, f7, i8, f8⟩ := hp
  have hS : St1 M c (t.val + 1) = bStep true (X1 M c t) bInit := by rw [St1_succ, hdg]; rfl
  have hQ : Q1 M c (t.val + 1) = bDq true (X1 M c t) (qb1 t.val) (Q1 M c t.val) := by rw [Q1_succ, hdg, if_neg hin]
  rewrite [i6]
  try rewrite [i7]
  try rewrite [i8]
  simp only [before1_0, before1_1, before1_2, before1_3, before1_4, before1_5, before1_6 M c t _ hin, after1_0, after1_1, after1_2, after1_3, after1_4, after1_5, after1_6, after1_7, after1_8, f7, f8]
  rewrite [phi1_succ, phi1_cast, owes1_succ]
  rewrite [hQ]
  unfold Phi1
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iexact HS0
  isplitl [HS1]; · iexact HS1
  iintro ⟨H0, H1, H2, H3, H4, H5, HT0, HT1, H6, H7, H8, HS0, HS1⟩
  isplitl [HS0 HS1 HT0 HT1 HR]
  · isplitl [HS0 HS1]
    · iexists _; iexists _; isplitr; swap
      · isplitl [HS0]; · iexact HS0
        iexact HS1
      · ipureintro; intro _; rw [hS]
        exact ⟨run1_B_k (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5, run1_B_v (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact run1_B_q (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5 (qb1 t.val) ho0 ho1
  isplitl [H7]
  · iexists d7; iapply owns_of_rep; iexact H7
  iexists d8; iapply owns_of_rep; iexact H8

set_option maxHeartbeats 6400000 in
/-- The body's obligation at a point of path C. -/
theorem sound1_C (M : (ℓ : Loc nD τ sig) → Buf (Elt F) ℓ) (c : Dev nD) (t : Fin (cfgA1 F).N) (hp : Pa1_C F t) :
    iprop((dat1 M c).Φ t.castSucc ∗ (dat1 M c).owesAt () t.castSucc
        ∗ (∃ d, owns (c : Thread nD τ) (ms1_0 t) fullShare ((dat1 M c).before (0 : Fin 9) t d)) ∗ (∃ d, owns (c : Thread nD τ) (ms1_1 t) fullShare ((dat1 M c).before (1 : Fin 9) t d)) ∗ (∃ d, owns (c : Thread nD τ) (ms1_2 t) fullShare ((dat1 M c).before (2 : Fin 9) t d)) ∗ (∃ d, owns (c : Thread nD τ) (ms1_3 t) fullShare ((dat1 M c).before (3 : Fin 9) t d)) ∗ (∃ d, owns (c : Thread nD τ) (ms1_4 t) fullShare ((dat1 M c).before (4 : Fin 9) t d)) ∗ (∃ d, owns (c : Thread nD τ) (ms1_5 t) fullShare ((dat1 M c).before (5 : Fin 9) t d)) ∗ (∃ d, owns (c : Thread nD τ) (ms1_6 t) fullShare ((dat1 M c).before (6 : Fin 9) t d)) ∗ (∃ d, owns (c : Thread nD τ) (ms1_7 t) fullShare ((dat1 M c).before (7 : Fin 9) t d)) ∗ (∃ d, owns (c : Thread nD τ) (ms1_8 t) fullShare ((dat1 M c).before (8 : Fin 9) t d)))
      ⊢ wp frame (wpE (defs₀ (F := F)) Variants.none c none) Set.univ (cc1_attn_bwd (grid1.coords t) (Memref.whole main_c_1) (Memref.isWhole_whole _) (Memref.whole main_c_2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _) (Memref.whole cc1_scratch1) (Memref.isWhole_whole _) : Prog (TpuEff nD τ sig (Elt F) Λ₀ .tc) PUnit) fun _ =>
          iprop((dat1 M c).Φ t.succ ∗ (dat1 M c).owesAt () t.succ
            ∗ bigSep Finset.univ fun w : Fin (cfgA1 F).W =>
                match (cfgA1 F).idle w ((cfgA1 F).grid.coords t) with
                | true =>
                  match ((cfgA1 F).win w).flush t with
                  | false => iprop(∃ d, owns (c : Thread nD τ) (((cfgA1 F).win w).stage ((cfgA1 F).slots t w)) fullShare ((dat1 M c).before w t d))
                  | true => owns (c : Thread nD τ) (((cfgA1 F).win w).stage ((cfgA1 F).slots t w)) fullShare ((dat1 M c).after w t)
                | false => owns (c : Thread nD τ) (((cfgA1 F).win w).stage ((cfgA1 F).slots t w)) fullShare ((dat1 M c).after w t)) := by
  rw [bigSep_W1]
  obtain ⟨⟨chk, h1, h2, h3, h4, h5⟩, ⟨hdg, hin, ho0, ho1⟩, i6, i7, f7, i8, f8⟩ := hp
  have hS : St1 M c (t.val + 1) = bStep false (X1 M c t) (St1 M c t.val) := by rw [St1_succ, hdg]; rfl
  have ht : t.val ≠ 0 := fun h => by rw [h] at hdg; exact absurd hdg (by decide)
  have hQ : Q1 M c (t.val + 1) = bDq false (X1 M c t) (qb1 t.val) (Q1 M c t.val) := by rw [Q1_succ, hdg, if_neg hin]
  rewrite [i6]
  try rewrite [i7]
  try rewrite [i8]
  simp only [before1_0, before1_1, before1_2, before1_3, before1_4, before1_5, before1_6 M c t _ hin, after1_0, after1_1, after1_2, after1_3, after1_4, after1_5, after1_6, after1_7, after1_8, f7, f8]
  rewrite [phi1_succ, phi1_cast, owes1_succ]
  rewrite [hQ]
  unfold Phi1
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := ha ht
  iapply ((run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iexact HS0
  isplitl [HS1]; · iexact HS1
  iintro ⟨H0, H1, H2, H3, H4, H5, HT0, HT1, H6, H7, H8, HS0, HS1⟩
  isplitl [HS0 HS1 HT0 HT1 HR]
  · isplitl [HS0 HS1]
    · iexists _; iexists _; isplitr; swap
      · isplitl [HS0]; · iexact HS0
        iexact HS1
      · ipureintro; intro _; rw [hS]
        exact ⟨run1_C_k (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5, run1_C_v (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact run1_C_q (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5 (qb1 t.val) ho0 ho1
  isplitl [H7]
  · iexists d7; iapply owns_of_rep; iexact H7
  iexists d8; iapply owns_of_rep; iexact H8

set_option maxHeartbeats 6400000 in
/-- The body's obligation at a point of path D. -/
theorem sound1_D (M : (ℓ : Loc nD τ sig) → Buf (Elt F) ℓ) (c : Dev nD) (t : Fin (cfgA1 F).N) (hp : Pa1_D F t) :
    iprop((dat1 M c).Φ t.castSucc ∗ (dat1 M c).owesAt () t.castSucc
        ∗ (∃ d, owns (c : Thread nD τ) (ms1_0 t) fullShare ((dat1 M c).before (0 : Fin 9) t d)) ∗ (∃ d, owns (c : Thread nD τ) (ms1_1 t) fullShare ((dat1 M c).before (1 : Fin 9) t d)) ∗ (∃ d, owns (c : Thread nD τ) (ms1_2 t) fullShare ((dat1 M c).before (2 : Fin 9) t d)) ∗ (∃ d, owns (c : Thread nD τ) (ms1_3 t) fullShare ((dat1 M c).before (3 : Fin 9) t d)) ∗ (∃ d, owns (c : Thread nD τ) (ms1_4 t) fullShare ((dat1 M c).before (4 : Fin 9) t d)) ∗ (∃ d, owns (c : Thread nD τ) (ms1_5 t) fullShare ((dat1 M c).before (5 : Fin 9) t d)) ∗ (∃ d, owns (c : Thread nD τ) (ms1_6 t) fullShare ((dat1 M c).before (6 : Fin 9) t d)) ∗ (∃ d, owns (c : Thread nD τ) (ms1_7 t) fullShare ((dat1 M c).before (7 : Fin 9) t d)) ∗ (∃ d, owns (c : Thread nD τ) (ms1_8 t) fullShare ((dat1 M c).before (8 : Fin 9) t d)))
      ⊢ wp frame (wpE (defs₀ (F := F)) Variants.none c none) Set.univ (cc1_attn_bwd (grid1.coords t) (Memref.whole main_c_1) (Memref.isWhole_whole _) (Memref.whole main_c_2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _) (Memref.whole cc1_scratch1) (Memref.isWhole_whole _) : Prog (TpuEff nD τ sig (Elt F) Λ₀ .tc) PUnit) fun _ =>
          iprop((dat1 M c).Φ t.succ ∗ (dat1 M c).owesAt () t.succ
            ∗ bigSep Finset.univ fun w : Fin (cfgA1 F).W =>
                match (cfgA1 F).idle w ((cfgA1 F).grid.coords t) with
                | true =>
                  match ((cfgA1 F).win w).flush t with
                  | false => iprop(∃ d, owns (c : Thread nD τ) (((cfgA1 F).win w).stage ((cfgA1 F).slots t w)) fullShare ((dat1 M c).before w t d))
                  | true => owns (c : Thread nD τ) (((cfgA1 F).win w).stage ((cfgA1 F).slots t w)) fullShare ((dat1 M c).after w t)
                | false => owns (c : Thread nD τ) (((cfgA1 F).win w).stage ((cfgA1 F).slots t w)) fullShare ((dat1 M c).after w t)) := by
  rw [bigSep_W1]
  obtain ⟨⟨chk, h1, h2, h3, h4, h5⟩, ⟨hdg, hin, ho0, ho1⟩, i6, i7, i8⟩ := hp
  have hS : St1 M c (t.val + 1) = bStep false (X1 M c t) (St1 M c t.val) := by rw [St1_succ, hdg]; rfl
  have ht : t.val ≠ 0 := fun h => by rw [h] at hdg; exact absurd hdg (by decide)
  have hQ : Q1 M c (t.val + 1) = bDq false (X1 M c t) (qb1 t.val) (Q1 M c t.val) := by rw [Q1_succ, hdg, if_neg hin]
  rewrite [i6]
  try rewrite [i7]
  try rewrite [i8]
  simp only [before1_0, before1_1, before1_2, before1_3, before1_4, before1_5, before1_6 M c t _ hin, after1_0, after1_1, after1_2, after1_3, after1_4, after1_5, after1_6, after1_7, after1_8]
  rewrite [phi1_succ, phi1_cast, owes1_succ]
  rewrite [hQ]
  unfold Phi1
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := ha ht
  iapply ((run1_D (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5).2.2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iexact HS0
  isplitl [HS1]; · iexact HS1
  iintro ⟨H0, H1, H2, H3, H4, H5, HT0, HT1, H6, ⟨%e7, H7⟩, ⟨%e8, H8⟩, HS0, HS1⟩
  isplitl [HS0 HS1 HT0 HT1 HR]
  · isplitl [HS0 HS1]
    · iexists _; iexists _; isplitr; swap
      · isplitl [HS0]; · iexact HS0
        iexact HS1
      · ipureintro; intro _; rw [hS]
        exact ⟨run1_D_k (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5, run1_D_v (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact run1_D_q (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5 (qb1 t.val) ho0 ho1
  isplitl [H7]
  · unfold owns; iexists _; isplitr; swap
    · iexact H7
    · ipureintro; rw [hS]; exact run1_D_okc (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5 e7
  unfold owns; iexists _; isplitr; swap
  · iexact H8
  · ipureintro; rw [hS]; exact run1_D_ovc (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) (St1 M c t.val).dk (St1 M c t.val).dv chk h1 h2 h3 h4 h5 e8

set_option maxHeartbeats 6400000 in
/-- The body's obligation at a point of path E. -/
theorem sound1_E (M : (ℓ : Loc nD τ sig) → Buf (Elt F) ℓ) (c : Dev nD) (t : Fin (cfgA1 F).N) (hp : Pa1_E F t) :
    iprop((dat1 M c).Φ t.castSucc ∗ (dat1 M c).owesAt () t.castSucc
        ∗ (∃ d, owns (c : Thread nD τ) (ms1_0 t) fullShare ((dat1 M c).before (0 : Fin 9) t d)) ∗ (∃ d, owns (c : Thread nD τ) (ms1_1 t) fullShare ((dat1 M c).before (1 : Fin 9) t d)) ∗ (∃ d, owns (c : Thread nD τ) (ms1_2 t) fullShare ((dat1 M c).before (2 : Fin 9) t d)) ∗ (∃ d, owns (c : Thread nD τ) (ms1_3 t) fullShare ((dat1 M c).before (3 : Fin 9) t d)) ∗ (∃ d, owns (c : Thread nD τ) (ms1_4 t) fullShare ((dat1 M c).before (4 : Fin 9) t d)) ∗ (∃ d, owns (c : Thread nD τ) (ms1_5 t) fullShare ((dat1 M c).before (5 : Fin 9) t d)) ∗ (∃ d, owns (c : Thread nD τ) (ms1_6 t) fullShare ((dat1 M c).before (6 : Fin 9) t d)) ∗ (∃ d, owns (c : Thread nD τ) (ms1_7 t) fullShare ((dat1 M c).before (7 : Fin 9) t d)) ∗ (∃ d, owns (c : Thread nD τ) (ms1_8 t) fullShare ((dat1 M c).before (8 : Fin 9) t d)))
      ⊢ wp frame (wpE (defs₀ (F := F)) Variants.none c none) Set.univ (cc1_attn_bwd (grid1.coords t) (Memref.whole main_c_1) (Memref.isWhole_whole _) (Memref.whole main_c_2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (Memref.whole cc1_scratch0) (Memref.isWhole_whole _) (Memref.whole cc1_scratch1) (Memref.isWhole_whole _) : Prog (TpuEff nD τ sig (Elt F) Λ₀ .tc) PUnit) fun _ =>
          iprop((dat1 M c).Φ t.succ ∗ (dat1 M c).owesAt () t.succ
            ∗ bigSep Finset.univ fun w : Fin (cfgA1 F).W =>
                match (cfgA1 F).idle w ((cfgA1 F).grid.coords t) with
                | true =>
                  match ((cfgA1 F).win w).flush t with
                  | false => iprop(∃ d, owns (c : Thread nD τ) (((cfgA1 F).win w).stage ((cfgA1 F).slots t w)) fullShare ((dat1 M c).before w t d))
                  | true => owns (c : Thread nD τ) (((cfgA1 F).win w).stage ((cfgA1 F).slots t w)) fullShare ((dat1 M c).after w t)
                | false => owns (c : Thread nD τ) (((cfgA1 F).win w).stage ((cfgA1 F).slots t w)) fullShare ((dat1 M c).after w t)) := by
  rw [bigSep_W1]
  obtain ⟨⟨chk, h1, h2, h3, h4, h5⟩, ⟨hdg, hin, ho0, ho1⟩, i6, i7, i8⟩ := hp
  have hS : St1 M c (t.val + 1) = bStep true (X1 M c t) bInit := by rw [St1_succ, hdg]; rfl
  have hQ : Q1 M c (t.val + 1) = bDq true (X1 M c t) (qb1 t.val) (Q1 M c t.val) := by rw [Q1_succ, hdg, if_neg hin]
  rewrite [i6]
  try rewrite [i7]
  try rewrite [i8]
  simp only [before1_0, before1_1, before1_2, before1_3, before1_4, before1_5, before1_6 M c t _ hin, after1_0, after1_1, after1_2, after1_3, after1_4, after1_5, after1_6, after1_7, after1_8]
  rewrite [phi1_succ, phi1_cast, owes1_succ]
  rewrite [hQ]
  unfold Phi1
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1_E (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5).2.2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iexact HS0
  isplitl [HS1]; · iexact HS1
  iintro ⟨H0, H1, H2, H3, H4, H5, HT0, HT1, H6, ⟨%e7, H7⟩, ⟨%e8, H8⟩, HS0, HS1⟩
  isplitl [HS0 HS1 HT0 HT1 HR]
  · isplitl [HS0 HS1]
    · iexists _; iexists _; isplitr; swap
      · isplitl [HS0]; · iexact HS0
        iexact HS1
      · ipureintro; intro _; rw [hS]
        exact ⟨run1_E_k (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5, run1_E_v (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5⟩
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]
  · unfold owns; iexists _; isplitr; swap
    · iexact H6
    · ipureintro; exact run1_E_q (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5 (qb1 t.val) ho0 ho1
  isplitl [H7]
  · unfold owns; iexists _; isplitr; swap
    · iexact H7
    · ipureintro; rw [hS]; exact run1_E_okc (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5 e7
  unfold owns; iexists _; isplitr; swap
  · iexact H8
  · ipureintro; rw [hS]; exact run1_E_ovc (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) tab2 tab3 (iblk1 M c (0 : Fin 9) t) (iblk1 M c (1 : Fin 9) t) (iblk1 M c (2 : Fin 9) t) (iblk1 M c (3 : Fin 9) t) (iblk1 M c (4 : Fin 9) t) (iblk1 M c (5 : Fin 9) t) (Q1 M c t.val) ((dat1 M c).before (7 : Fin 9) t d7) ((dat1 M c).before (8 : Fin 9) t d8) a0 a1 chk h1 h2 h3 h4 h5 e8

/-- The body's obligation, at every point. -/
theorem body1 (M : (ℓ : Loc nD τ sig) → Buf (Elt F) ℓ) (c : Dev nD) : BodyObligation (dat1 M c) (defs₀ (F := F)) Variants.none () Set.univ := fun t => by
  rw [bigSep_W1]
  rcases (facts1 (F := F) t).1 with h | h | h | h | h
  · exact sound1_A M c t h
  · exact sound1_B M c t h
  · exact sound1_C M c t h
  · exact sound1_D M c t h
  · exact sound1_E M c t h

end Cert.Attn
-- ==== Proof.Whole.lean ====
/- The two calls and the host operations around them, run from any memory: what every buffer holds at the end. -/
module

public import proofs.«01_k».proof.Proof.BodyFwd
public import proofs.«01_k».proof.Proof.BodyBwd
public import proofs.«01_k».proof.Proof.Gen.KernelIdeal.Regions
public import Idealize.ShloMosaic.Lib.Pipeline.RegionArraysT
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-- The memory when the forward call is entered, and the buffers when it is left. -/
abbrev M0 : (ℓ : Loc nD τ sig) → Buf (Elt F) ℓ := fun ℓ => V1 m ℓ.1 ℓ.2
def W2 (c : Dev nD) : Valuation τ sig (Elt F) :=
  Function.update (Function.update (V1 m c) main_v8_0 ((dat0 (M0 m) c).arrAt (3 : Fin 5) (cfgA0 F).N)) main_v8_1 ((dat0 (M0 m) c).arrAt (4 : Fin 5) (cfgA0 F).N)

/-- The memory when the backward call is entered, and the buffers when it is left. -/
def W3 (c : Dev nD) : Valuation τ sig (Elt F) := StableHlo.after hostOps1 (W2 m c)
abbrev M1 : (ℓ : Loc nD τ sig) → Buf (Elt F) ℓ := fun ℓ => W3 m ℓ.1 ℓ.2
def W4 (c : Dev nD) : Valuation τ sig (Elt F) :=
  Function.update (Function.update (Function.update (W3 m c) main_v16_0 ((dat1 (M1 m) c).arrAt (6 : Fin 9) (cfgA1 F).N))
    main_v16_1 ((dat1 (M1 m) c).arrAt (7 : Fin 9) (cfgA1 F).N)) main_v16_2 ((dat1 (M1 m) c).arrAt (8 : Fin 9) (cfgA1 F).N)

/-- The buffers at the end. -/
def W5 (c : Dev nD) : Valuation τ sig (Elt F) := StableHlo.after hostOps2 (W4 m c)

/-- What the two calls leave, by call. -/
def outs : Outs (F := F) := fun n r c => if n = 2 then W2 m c r else W4 m c r

theorem W2_o (c : Dev nD) : W2 m c main_v8_0 = (dat0 (M0 m) c).arrAt (3 : Fin 5) (cfgA0 F).N := by
  unfold W2
  rw [Function.update_of_ne (StableHlo.devRef_ne_of_ne (by decide) : (Proc.devRef .tc main_v8_0 : DevRef τ sig) ≠ Proc.devRef .tc main_v8_1), Function.update_self]
theorem W2_e (c : Dev nD) : W2 m c main_v8_1 = (dat0 (M0 m) c).arrAt (4 : Fin 5) (cfgA0 F).N := by
  unfold W2; rw [Function.update_self]
theorem W4_q (c : Dev nD) : W4 m c main_v16_0 = (dat1 (M1 m) c).arrAt (6 : Fin 9) (cfgA1 F).N := by
  unfold W4
  rw [Function.update_of_ne (StableHlo.devRef_ne_of_ne (by decide) : (Proc.devRef .tc main_v16_0 : DevRef τ sig) ≠ Proc.devRef .tc main_v16_2),
    Function.update_of_ne (StableHlo.devRef_ne_of_ne (by decide) : (Proc.devRef .tc main_v16_0 : DevRef τ sig) ≠ Proc.devRef .tc main_v16_1), Function.update_self]
theorem W4_k (c : Dev nD) : W4 m c main_v16_1 = (dat1 (M1 m) c).arrAt (7 : Fin 9) (cfgA1 F).N := by
  unfold W4
  rw [Function.update_of_ne (StableHlo.devRef_ne_of_ne (by decide) : (Proc.devRef .tc main_v16_1 : DevRef τ sig) ≠ Proc.devRef .tc main_v16_2), Function.update_self]
theorem W4_v (c : Dev nD) : W4 m c main_v16_2 = (dat1 (M1 m) c).arrAt (8 : Fin 9) (cfgA1 F).N := by
  unfold W4; rw [Function.update_self]

theorem outs_2 (r : Ref sig .tc) (c : Dev nD) : outs m 2 r c = W2 m c r := if_pos rfl
theorem outs_4 (r : Ref sig .tc) (c : Dev nD) : outs m 4 r c = W4 m c r := if_neg (by decide)

theorem V2_eq (c : Dev nD) : V2 m (outs m) c = W2 m c := by
  unfold V2; rw [outs_2, outs_2, W2_o, W2_e, W2]
theorem V3_eq (c : Dev nD) : V3 m (outs m) c = W3 m c := by
  show StableHlo.after hostOps1 (V2 m (outs m) c) = _
  rw [V2_eq]; rfl
theorem V4_eq (c : Dev nD) : V4 m (outs m) c = W4 m c := by
  unfold V4; rw [outs_4, outs_4, outs_4, W4_q, W4_k, W4_v, V3_eq, W4]
theorem V5_eq (c : Dev nD) : V5 m (outs m) c = W5 m c := by
  show StableHlo.after hostOps2 (V4 m (outs m) c) = _
  rw [V4_eq]; rfl

/-! ## The regions -/

/-- The tables' contents, and the proof data, by call. -/
abbrev adm : (p : Fin 2) → (pcfgs (F := F) p).Adm := fun | ⟨0, _⟩ => admA0 | ⟨1, _⟩ => admA1
abbrev pdats : (p : Fin 2) → (c : Dev nD) → Dat τ (Elt F) Unit ℕ (UR sig nD τ) ℕ (Pipeline.pin (pcfgs (F := F)) adm p) c :=
  fun | ⟨0, _⟩ => fun c => dat0 (M0 m) c | ⟨1, _⟩ => fun c => dat1 (M1 m) c

abbrev L₀ : GSem nD τ sig → Finset Unit := fun g => if g.1.2 = .tc then {()} else ∅
abbrev lv₀ : GSem nD τ sig → Unit → ℕ := fun _ _ => 0

theorem cut (p : Fin 2) : Pipeline.LevelCut (pcfgs (F := F)) adm () L₀ lv₀ p (fun _ => 0) (fun _ => 0) where
  hι _ _ _ := by simp [L₀]
  hιb _ _ _ := le_refl _
  hD _ _ _ h := absurd h (lt_irrefl _)

theorem prefHeld0_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl
theorem prefHeld1_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_c_1) ↦{q 0} v 0) ∗ (((c : Thread nD τ).loc main_c_2) ↦{q 1} v 1)) := by
  unfold Pipeline.prefHeld
  rw [show (Finset.univ : Finset (Fin 2)) = insert (0 : Fin 2) {(1 : Fin 2)} from by decide,
    bigSep_insert (by decide), bigSep_singleton]
  rfl

theorem phi0_in (M : (ℓ : Loc nD τ sig) → Buf (Elt F) ℓ) (c : Dev nD) :
    (iprop(iprop(Pipeline.scopedRest spec0 c ∗ BI.emp) ∗ Pipeline.prefHeld pre0 c (fun _ => fullShare) pf0) : sProp 𝕄) ⊢ Phi0 M c 0 := by
  rw [scoped0_eq, prefHeld0_eq]; unfold Phi0
  iintro ⟨⟨⟨⟨%a0, HS0⟩, ⟨%a1, HS1⟩, ⟨%a2, HS2⟩, HR⟩, -⟩, HT0, HT1⟩
  isplitl [HS0 HS1 HS2]
  · iexists a0; iexists a1; iexists a2; isplitr
    · ipureintro; intro h; exact absurd rfl h
    isplitl [HS0]; · iexact HS0
    isplitl [HS1]; · iexact HS1
    iexact HS2
  isplitl [HT0]; · iexact HT0
  isplitl [HT1]; · iexact HT1
  iexact HR
theorem phi0_out (M : (ℓ : Loc nD τ sig) → Buf (Elt F) ℓ) (c : Dev nD) (n : ℕ) :
    Phi0 M c n ⊢ (iprop(iprop(Pipeline.scopedRest spec0 c ∗ BI.emp) ∗ Pipeline.prefHeld pre0 c (fun _ => fullShare) pf0) : sProp 𝕄) := by
  rw [scoped0_eq, prefHeld0_eq]; unfold Phi0
  iintro ⟨⟨%a0, %a1, %a2, -, HS0, HS1, HS2⟩, HT0, HT1, HR⟩
  isplitl [HS0 HS1 HS2 HR]
  · isplitl [HS0 HS1 HS2 HR]
    · isplitl [HS0]; · iexists a0; iexact HS0
      isplitl [HS1]; · iexists a1; iexact HS1
      isplitl [HS2]; · iexists a2; iexact HS2
      iexact HR
    iempintro
  isplitl [HT0]; · iexact HT0
  iexact HT1
theorem phi1_in (M : (ℓ : Loc nD τ sig) → Buf (Elt F) ℓ) (c : Dev nD) :
    (iprop(iprop(Pipeline.scopedRest spec1 c ∗ BI.emp) ∗ Pipeline.prefHeld pre1 c (fun _ => fullShare) pf1) : sProp 𝕄) ⊢ Phi1 M c 0 := by
  rw [scoped1_eq, prefHeld1_eq]; unfold Phi1
  iintro ⟨⟨⟨⟨%a0, HS0⟩, ⟨%a1, HS1⟩, HR⟩, -⟩, HT0, HT1⟩
  isplitl [HS0 HS1]
  · iexists a0; iexists a1; isplitr
    · ipureintro; intro h; exact absurd rfl h
    isplitl [HS0]; · iexact HS0
    iexact HS1
  isplitl [HT0]; · iexact HT0
  isplitl [HT1]; · iexact HT1
  iexact HR
theorem phi1_out (M : (ℓ : Loc nD τ sig) → Buf (Elt F) ℓ) (c : Dev nD) (n : ℕ) :
    Phi1 M c n ⊢ (iprop(iprop(Pipeline.scopedRest spec1 c ∗ BI.emp) ∗ Pipeline.prefHeld pre1 c (fun _ => fullShare) pf1) : sProp 𝕄) := by
  rw [scoped1_eq, prefHeld1_eq]; unfold Phi1
  iintro ⟨⟨%a0, %a1, -, HS0, HS1⟩, HT0, HT1, HR⟩
  isplitl [HS0 HS1 HR]
  · isplitl [HS0 HS1 HR]
    · isplitl [HS0]; · iexists a0; iexact HS0
      isplitl [HS1]; · iexists a1; iexact HS1
      iexact HR
    iempintro
  isplitl [HT0]; · iexact HT0
  iexact HT1

/-! ### What the host operations before the calls leave in the tables -/

theorem W3_of (c : Dev nD) (r : Ref sig .tc) (h : r ∉ hostOps1_W) (h2 : r ∉ ([main_v8_0, main_v8_1] : List (Ref sig .tc))) : W3 m c r = V1 m c r := by
  rw [← V3_eq]; exact (V3_of m (outs m) c r h).trans (V2_of m (outs m) c r h2)
theorem W2_of (c : Dev nD) (r : Ref sig .tc) (h2 : r ∉ ([main_v8_0, main_v8_1] : List (Ref sig .tc))) : W2 m c r = V1 m c r := by
  rw [← V2_eq]; exact V2_of m (outs m) c r h2
theorem W4_of (c : Dev nD) (r : Ref sig .tc) (h2 : r ∉ ([main_v16_0, main_v16_1, main_v16_2] : List (Ref sig .tc))) : W4 m c r = W3 m c r := by
  rw [← V4_eq, ← V3_eq]; exact V4_of m (outs m) c r h2

theorem V1_tab0 (c : Dev nD) : V1 m c main_c = (tab0 : S36.Idx → Elt F .i32) := by
  simp [V1, hostOps0, StableHlo.after, StableHlo.nullary_result]; rfl
theorem V1_tab1 (c : Dev nD) : V1 m c main_c_0 = (tab1 : S36.Idx → Elt F .i32) := by
  simp [V1, hostOps0, StableHlo.after, StableHlo.nullary_result]; rfl
theorem V1_tab2 (c : Dev nD) : V1 m c main_c_1 = (tab2 : S36.Idx → Elt F .i32) := by
  simp [V1, hostOps0, StableHlo.after, StableHlo.nullary_result]; rfl
theorem V1_tab3 (c : Dev nD) : V1 m c main_c_2 = (tab3 : S36.Idx → Elt F .i32) := by
  simp [V1, hostOps0, StableHlo.after, StableHlo.nullary_result]; rfl

theorem share0 (M : (ℓ : Loc nD τ sig) → Buf (Elt F) ℓ) (c : Dev nD) (w : Fin 5) : (dat0 M c).share w = fullShare := by unfold Dat.share; split <;> rfl
theorem share1 (M : (ℓ : Loc nD τ sig) → Buf (Elt F) ℓ) (c : Dev nD) (w : Fin 9) : (dat1 M c).share w = fullShare := by unfold Dat.share; split <;> rfl

end Cert.Attn
-- ==== Proof.Launch.lean ====
/- The two calls as regions of the run. -/
module

public import proofs.«01_k».proof.Proof.Whole
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

attribute [local irreducible] W2 W3 W4

theorem arr0_in (c : Dev nD) (w : Fin 5) : (dat0 (M0 m) c).arrAt w 0 = V1 m c (Proc.devRef .tc (Pipeline.arrRef spec0 w)) := by
  fin_cases w <;> rfl
theorem arr0_out (c : Dev nD) (w : Fin 5) : (dat0 (M0 m) c).arrAt w (cfgA0 F).N = W2 m c (Proc.devRef .tc (Pipeline.arrRef spec0 w)) := by
  fin_cases w
  · exact ((dat0 (M0 m) c).arrAt_in (0 : Fin 5) rfl _).trans (W2_of m c main_v5 (by decide)).symm
  · exact ((dat0 (M0 m) c).arrAt_in (1 : Fin 5) rfl _).trans (W2_of m c main_v6 (by decide)).symm
  · exact ((dat0 (M0 m) c).arrAt_in (2 : Fin 5) rfl _).trans (W2_of m c main_v7 (by decide)).symm
  · exact (W2_o m c).symm
  · exact (W2_e m c).symm
theorem arr1_in0 (c : Dev nD) : (dat1 (M1 m) c).arrAt (0 : Fin 9) 0 = W3 m c main_v5 := rfl
theorem arr1_in1 (c : Dev nD) : (dat1 (M1 m) c).arrAt (1 : Fin 9) 0 = W3 m c main_v6 := rfl
theorem arr1_in2 (c : Dev nD) : (dat1 (M1 m) c).arrAt (2 : Fin 9) 0 = W3 m c main_v7 := rfl
theorem arr1_in3 (c : Dev nD) : (dat1 (M1 m) c).arrAt (3 : Fin 9) 0 = W3 m c main_v15 := rfl
theorem arr1_in4 (c : Dev nD) : (dat1 (M1 m) c).arrAt (4 : Fin 9) 0 = W3 m c main_v8_1 := rfl
theorem arr1_in5 (c : Dev nD) : (dat1 (M1 m) c).arrAt (5 : Fin 9) 0 = W3 m c main_v14 := rfl
theorem arr1_in6 (c : Dev nD) : (dat1 (M1 m) c).arrAt (6 : Fin 9) 0 = W3 m c main_v16_0 := rfl
theorem arr1_in7 (c : Dev nD) : (dat1 (M1 m) c).arrAt (7 : Fin 9) 0 = W3 m c main_v16_1 := rfl
theorem arr1_in8 (c : Dev nD) : (dat1 (M1 m) c).arrAt (8 : Fin 9) 0 = W3 m c main_v16_2 := rfl
theorem arr1_out0 (c : Dev nD) : (dat1 (M1 m) c).arrAt (0 : Fin 9) (cfgA1 F).N = W4 m c main_v5 :=
  (((dat1 (M1 m) c).arrAt_in (0 : Fin 9) rfl _).trans (arr1_in0 m c)).trans (W4_of m c main_v5 (by decide)).symm
theorem arr1_out1 (c : Dev nD) : (dat1 (M1 m) c).arrAt (1 : Fin 9) (cfgA1 F).N = W4 m c main_v6 :=
  (((dat1 (M1 m) c).arrAt_in (1 : Fin 9) rfl _).trans (arr1_in1 m c)).trans (W4_of m c main_v6 (by decide)).symm
theorem arr1_out2 (c : Dev nD) : (dat1 (M1 m) c).arrAt (2 : Fin 9) (cfgA1 F).N = W4 m c main_v7 :=
  (((dat1 (M1 m) c).arrAt_in (2 : Fin 9) rfl _).trans (arr1_in2 m c)).trans (W4_of m c main_v7 (by decide)).symm
theorem arr1_out3 (c : Dev nD) : (dat1 (M1 m) c).arrAt (3 : Fin 9) (cfgA1 F).N = W4 m c main_v15 :=
  (((dat1 (M1 m) c).arrAt_in (3 : Fin 9) rfl _).trans (arr1_in3 m c)).trans (W4_of m c main_v15 (by decide)).symm
theorem arr1_out4 (c : Dev nD) : (dat1 (M1 m) c).arrAt (4 : Fin 9) (cfgA1 F).N = W4 m c main_v8_1 :=
  (((dat1 (M1 m) c).arrAt_in (4 : Fin 9) rfl _).trans (arr1_in4 m c)).trans (W4_of m c main_v8_1 (by decide)).symm
theorem arr1_out5 (c : Dev nD) : (dat1 (M1 m) c).arrAt (5 : Fin 9) (cfgA1 F).N = W4 m c main_v14 :=
  (((dat1 (M1 m) c).arrAt_in (5 : Fin 9) rfl _).trans (arr1_in5 m c)).trans (W4_of m c main_v14 (by decide)).symm
theorem arr1_in (c : Dev nD) : ∀ w, (pdats m 1 c).arrAt w 0 = (W3 m c) (Proc.devRef .tc (Pipeline.arrRef (Pipeline.pin (pcfgs (F := F)) adm 1).spec w)) := by
  intro (w : Fin 9)
  match w with
  | ⟨0, _⟩ => exact arr1_in0 m c
  | ⟨1, _⟩ => exact arr1_in1 m c
  | ⟨2, _⟩ => exact arr1_in2 m c
  | ⟨3, _⟩ => exact arr1_in3 m c
  | ⟨4, _⟩ => exact arr1_in4 m c
  | ⟨5, _⟩ => exact arr1_in5 m c
  | ⟨6, _⟩ => exact arr1_in6 m c
  | ⟨7, _⟩ => exact arr1_in7 m c
  | ⟨8, _⟩ => exact arr1_in8 m c
theorem arr1_out (c : Dev nD) : ∀ w, (pdats m 1 c).arrAt w (Pipeline.pin (pcfgs (F := F)) adm 1).N = (W4 m c) (Proc.devRef .tc (Pipeline.arrRef (Pipeline.pin (pcfgs (F := F)) adm 1).spec w)) := by
  intro (w : Fin 9)
  match w with
  | ⟨0, _⟩ => exact arr1_out0 m c
  | ⟨1, _⟩ => exact arr1_out1 m c
  | ⟨2, _⟩ => exact arr1_out2 m c
  | ⟨3, _⟩ => exact arr1_out3 m c
  | ⟨4, _⟩ => exact arr1_out4 m c
  | ⟨5, _⟩ => exact arr1_out5 m c
  | ⟨6, _⟩ => exact (W4_q m c).symm
  | ⟨7, _⟩ => exact (W4_k m c).symm
  | ⟨8, _⟩ => exact (W4_v m c).symm

/-! ### The calls as regions -/

/-- What rides along a call: the buffers that are neither its arrays nor its tables. -/
abbrev rest0 (c : Dev nD) : sProp 𝕄 := StableHlo.held (c : Thread nD τ) ((Pipeline.ucRefs τ sig \ Pipeline.arrRefs spec0) \ Pipeline.tblRefs pre0) (V1 m c)
abbrev rest1 (c : Dev nD) : sProp 𝕄 := StableHlo.held (c : Thread nD τ) ((Pipeline.ucRefs τ sig \ Pipeline.arrRefs spec1) \ Pipeline.tblRefs pre1) (W3 m c)

set_option backward.isDefEq.respectTransparency.types false in
def R0 : RegionSeg (pcfgs (F := F)) adm (pdats m) () defs₀ Variants.none L₀ lv₀ (0 : Fin 2) :=
  RegionSeg.ofHeldT (pcfgs (F := F)) adm (pdats m) () defs₀ Variants.none L₀ lv₀ (0 : Fin 2) (fun _ => 0) (fun _ => iprop(emp)) (fun _ => iprop(emp))
    launch0 (fun c => (body0 (M0 m) c).loose) (fun _ _ => rfl) (fun _ => rfl) (fun c w => share0 (M0 m) c w)
    (fun c => phi0_in (M0 m) c) (fun c => phi0_out (M0 m) c _) (fun _ => 0) (cut 0) (rest0 m) (V1 m) (W2 m)
    (fun c w => arr0_in m c w)
    (fun c k => by fin_cases k; exacts [(V1_tab0 m c).symm, (V1_tab1 m c).symm])
    (fun c w => arr0_out m c w)
    (fun c k => by fin_cases k; exacts [((W2_of m c main_c (by decide)).trans (V1_tab0 m c)).symm, ((W2_of m c main_c_0 (by decide)).trans (V1_tab1 m c)).symm])

set_option backward.isDefEq.respectTransparency.types false in
def R1 : RegionSeg (pcfgs (F := F)) adm (pdats m) () defs₀ Variants.none L₀ lv₀ (1 : Fin 2) :=
  RegionSeg.ofHeldT (pcfgs (F := F)) adm (pdats m) () defs₀ Variants.none L₀ lv₀ (1 : Fin 2) (fun _ => 0) (fun _ => iprop(emp)) (fun _ => iprop(emp))
    launch1 (fun c => (body1 (M1 m) c).loose) (fun _ _ => rfl) (fun _ => rfl) (fun c w => share1 (M1 m) c w)
    (fun c => phi1_in (M1 m) c) (fun c => phi1_out (M1 m) c _) (fun _ => 0) (cut 1) (rest1 m) (W3 m) (W4 m)
    (fun c w => arr1_in m c w)
    (fun c k => by fin_cases k; exacts [((W3_of m c main_c_1 (by decide) (by decide)).trans (V1_tab2 m c)).symm, ((W3_of m c main_c_2 (by decide) (by decide)).trans (V1_tab3 m c)).symm])
    (fun c w => arr1_out m c w)
    (fun c k => by fin_cases k; exacts [((W4_of m c main_c_1 (by decide)).trans ((W3_of m c main_c_1 (by decide) (by decide)).trans (V1_tab2 m c))).symm, ((W4_of m c main_c_2 (by decide)).trans ((W3_of m c main_c_2 (by decide) (by decide)).trans (V1_tab3 m c))).symm])

/-! ## The whole run -/

abbrev EP : Emb (UR sig nD τ) 𝕄 := emb₁

/-- The rounds library's launch element. -/
def u₀ : UR sig nD τ :=
  initOf (Pipeline.cells (Pipeline.pin (pcfgs (F := F)) adm) (cellOf_inj adm)) (Pipeline.launchToks (Pipeline.pin (pcfgs (F := F)) adm) (cellOf_inj adm))

theorem own_u₀ : (ownU (u₀ (F := F)) : sProp 𝕄) ⊢ BI.own (EP (F := F) (initOf (Pipeline.cells (Pipeline.pin (pcfgs (F := F)) adm) (cellOf_inj adm)) (Pipeline.launchToks (Pipeline.pin (pcfgs (F := F)) adm) (cellOf_inj adm)))) := .rfl

/-- What the core keeps beside its buffers: nothing owed. -/
abbrev keep : Fin 3 → Dev nD → sProp 𝕄 := fun _ c => iprop(∃ Wd, owes (c : Thread nD τ) 0 Wd)

theorem arrs0_sub : Pipeline.arrRefs spec0 ⊆ Pipeline.ucRefs τ sig := Pipeline.arrRefs_sub_ucRefs spec0 (by decide)
theorem tbls0_sub : Pipeline.tblRefs pre0 ⊆ Pipeline.ucRefs τ sig \ Pipeline.arrRefs spec0 := Pipeline.tblRefs_sub_ucRefs_sdiff spec0 pre0 (by decide) (by decide)
theorem arrs1_sub : Pipeline.arrRefs spec1 ⊆ Pipeline.ucRefs τ sig := Pipeline.arrRefs_sub_ucRefs spec1 (by decide)
theorem tbls1_sub : Pipeline.tblRefs pre1 ⊆ Pipeline.ucRefs τ sig \ Pipeline.arrRefs spec1 := Pipeline.tblRefs_sub_ucRefs_sdiff spec1 pre1 (by decide) (by decide)

theorem enter0 (c : Dev nD) : iprop(StableHlo.held (c : Thread nD τ) (Pipeline.ucRefs τ sig) (V1 m c) ∗ keep 0 c) ⊢ (R0 m).pre c := by
  show _ ⊢ (iprop(StableHlo.held (c : Thread nD τ) (Pipeline.arrRefs spec0) (V1 m c) ∗ StableHlo.held (c : Thread nD τ) (Pipeline.tblRefs pre0) (V1 m c)
      ∗ BI.emp ∗ rest0 m c ∗ ∃ Wd, owes (c : Thread nD τ) 0 Wd) : sProp 𝕄)
  rw [StableHlo.held_sub_split (c : Thread nD τ) arrs0_sub, StableHlo.held_sub_split (c : Thread nD τ) tbls0_sub]
  iintro ⟨⟨HA, HT, HR⟩, HO⟩
  isplitl [HA]; · iexact HA
  isplitl [HT]; · iexact HT
  isplitr; · iempintro
  isplitl [HR]; · iexact HR
  iexact HO
theorem rest0_eq (c : Dev nD) : (rest0 m c : sProp 𝕄)
    = StableHlo.held (c : Thread nD τ) ((Pipeline.ucRefs τ sig \ Pipeline.arrRefs spec0) \ Pipeline.tblRefs pre0) (W2 m c) := by
  refine StableHlo.held_congr _ fun b hb => ?_
  have h1 := (Finset.mem_sdiff.mp (Finset.mem_sdiff.mp hb).1)
  obtain ⟨r, -, rfl⟩ := Finset.mem_map.mp (Finset.mem_filter.mp h1.1).1
  refine (W2_of m c r fun h => h1.2 ?_).symm
  have hs : ∀ x ∈ ([main_v8_0, main_v8_1] : List (Ref sig .tc)), ∃ w, Pipeline.arrRef spec0 w = x := by decide
  obtain ⟨w, hw⟩ := hs r h
  exact Finset.mem_map.mpr ⟨r, Finset.mem_image.mpr ⟨w, Finset.mem_univ _, hw⟩, rfl⟩
theorem leave0 (c : Dev nD) : (R0 m).post c ⊢ iprop(StableHlo.held (c : Thread nD τ) (Pipeline.ucRefs τ sig) (W2 m c) ∗ keep 1 c) := by
  show (iprop(StableHlo.held (c : Thread nD τ) (Pipeline.arrRefs spec0) (W2 m c) ∗ StableHlo.held (c : Thread nD τ) (Pipeline.tblRefs pre0) (W2 m c)
      ∗ BI.emp ∗ rest0 m c ∗ ∃ Wd, owes (c : Thread nD τ) 0 Wd) : sProp 𝕄) ⊢ _
  rw [StableHlo.held_sub_split (c : Thread nD τ) arrs0_sub, StableHlo.held_sub_split (c : Thread nD τ) tbls0_sub, rest0_eq]
  iintro ⟨HA, HT, -, HR, HO⟩
  isplitl [HA HT HR]
  · isplitl [HA]; · iexact HA
    isplitl [HT]; · iexact HT
    iexact HR
  iexact HO
theorem enter1 (c : Dev nD) : iprop(StableHlo.held (c : Thread nD τ) (Pipeline.ucRefs τ sig) (W3 m c) ∗ keep 1 c) ⊢ (R1 m).pre c := by
  show _ ⊢ (iprop(StableHlo.held (c : Thread nD τ) (Pipeline.arrRefs spec1) (W3 m c) ∗ StableHlo.held (c : Thread nD τ) (Pipeline.tblRefs pre1) (W3 m c)
      ∗ BI.emp ∗ rest1 m c ∗ ∃ Wd, owes (c : Thread nD τ) 0 Wd) : sProp 𝕄)
  rw [StableHlo.held_sub_split (c : Thread nD τ) arrs1_sub, StableHlo.held_sub_split (c : Thread nD τ) tbls1_sub]
  iintro ⟨⟨HA, HT, HR⟩, HO⟩
  isplitl [HA]; · iexact HA
  isplitl [HT]; · iexact HT
  isplitr; · iempintro
  isplitl [HR]; · iexact HR
  iexact HO
theorem rest1_eq (c : Dev nD) : (rest1 m c : sProp 𝕄)
    = StableHlo.held (c : Thread nD τ) ((Pipeline.ucRefs τ sig \ Pipeline.arrRefs spec1) \ Pipeline.tblRefs pre1) (W4 m c) := by
  refine StableHlo.held_congr _ fun b hb => ?_
  have h1 := (Finset.mem_sdiff.mp (Finset.mem_sdiff.mp hb).1)
  obtain ⟨r, -, rfl⟩ := Finset.mem_map.mp (Finset.mem_filter.mp h1.1).1
  refine (W4_of m c r fun h => h1.2 ?_).symm
  have hs : ∀ x ∈ ([main_v16_0, main_v16_1, main_v16_2] : List (Ref sig .tc)), ∃ w, Pipeline.arrRef spec1 w = x := by decide
  obtain ⟨w, hw⟩ := hs r h
  exact Finset.mem_map.mpr ⟨r, Finset.mem_image.mpr ⟨w, Finset.mem_univ _, hw⟩, rfl⟩
theorem leave1 (c : Dev nD) : (R1 m).post c ⊢ iprop(StableHlo.held (c : Thread nD τ) (Pipeline.ucRefs τ sig) (W4 m c) ∗ keep 2 c) := by
  show (iprop(StableHlo.held (c : Thread nD τ) (Pipeline.arrRefs spec1) (W4 m c) ∗ StableHlo.held (c : Thread nD τ) (Pipeline.tblRefs pre1) (W4 m c)
      ∗ BI.emp ∗ rest1 m c ∗ ∃ Wd, owes (c : Thread nD τ) 0 Wd) : sProp 𝕄) ⊢ _
  rw [StableHlo.held_sub_split (c : Thread nD τ) arrs1_sub, StableHlo.held_sub_split (c : Thread nD τ) tbls1_sub, rest1_eq]
  iintro ⟨HA, HT, -, HR, HO⟩
  isplitl [HA HT HR]
  · isplitl [HA]; · iexact HA
    isplitl [HT]; · iexact HT
    iexact HR
  iexact HO

theorem leave0_V (c : Dev nD) : (R0 m).post c ⊢ iprop(StableHlo.held (c : Thread nD τ) (Pipeline.ucRefs τ sig) (V2 m (outs m) c) ∗ keep 1 c) := by
  rw [V2_eq]; exact leave0 m c
theorem enter1_V (c : Dev nD) : iprop(StableHlo.held (c : Thread nD τ) (Pipeline.ucRefs τ sig) (V3 m (outs m) c) ∗ keep 1 c) ⊢ (R1 m).pre c := by
  rw [V3_eq]; exact enter1 m c
theorem leave1_V (c : Dev nD) : (R1 m).post c ⊢ iprop(StableHlo.held (c : Thread nD τ) (Pipeline.ucRefs τ sig) (V4 m (outs m) c) ∗ keep 2 c) := by
  rw [V4_eq]; exact leave1 m c

set_option backward.isDefEq.respectTransparency.types false in
/-- From any memory with zero counters: every weakly fair execution ends, every buffer that outlives the calls ends at
    what `W5` says, and every counter ends at zero. -/
theorem run_main (ρ : Dev nD → PrngReg) :
    θ_run (defs (F := F)) (onTc (τ := τ) (main (F := F))) ⟨m, fun _ => 0, ρ⟩
      (fun r => (∀ (c : Dev nD) (b : Ref sig .tc), b.isScoped = false → r.2.mem ((c.tc : Thread nD τ).loc b) = W5 m c b)
        ∧ r.2.sem = fun _ => 0) := by
  refine Pipeline.θ_run_regions_kit_dev_sems (pcfgs (F := F)) adm (pdats m) () (cellOf_inj adm) EP defs₀ Variants.none L₀ lv₀ m ρ main
    (segs m (outs m) Variants.none L₀ lv₀ keep () adm (pdats m) (R0 m) (R1 m))
    (fun c Q => by
      rewrite [main_chain c, Seg.run_eq_chain,
        show (segs m (outs m) Variants.none L₀ lv₀ keep () adm (pdats m) (R0 m) (R1 m) c).map Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (fun _ => 0)
    (fun g h => by simp [L₀, h]) (fun _ => iprop(emp)) (u₀ (F := F)) ?_
    (T₀ := fun c => iprop(StableHlo.held (c : Thread nD τ) (Pipeline.ucRefs τ sig) (V0 m c) ∗ keep 0 c))
    (Tₙ := fun c => StableHlo.held (c : Thread nD τ) (Pipeline.ucRefs τ sig) (V5 m (outs m) c))
    (hch := fun c => ⟨.rfl, enter0 m c, leave0_V m c, enter1_V m c, leave1_V m c, sep_mono .rfl .rfl⟩)
    (hinit := ?_) (QY := fun c s => ∀ b : Ref sig .tc, b.isScoped = false → s.mem ((c.tc : Thread nD τ).loc b) = W5 m c b)
    (hfin := fun c s' => ?_) (hQ := fun _ h hz => ⟨h, funext fun g => hz g (.inr (regions_no_unscoped g.2))⟩)
  · rw [show (bigSep Finset.univ fun _ : Dev nD => iprop(emp) : sProp 𝕄) = iprop(emp) from by rw [Finset.univ_unique, bigSep_singleton]]
    iintro H; imodintro; isplitl [H]
    · ihave H' := own_u₀ $$ H
      iexact H'
    iempintro
  · have hsplit : (bigSep Finset.univ fun c : Dev nD => iprop(unscopedBufs c (fun b => m ((c.tc : Thread nD τ).loc b)) ∗ unscopedSems0 c ∗ owes (c.tc : Thread nD τ) 0 ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c)) ∗ bigSep Finset.univ fun c : Dev nD => keep 0 c) : sProp 𝕄) := by
      rw [← bigSep_sep']
      refine bigSep_mono fun c _ => ?_
      rw [← Pipeline.unscopedBufs_held (Ix := Unit) (Name := ℕ) (U := UR sig nD τ) (Lvl := ℕ) c (V0 m c)]
      show (iprop((unscopedBufs c fun b => m (c.tc.loc b)) ∗ unscopedSems0 c ∗ owes (c.tc : Thread nD τ) 0 ∅ ∗ Pipeline.launchCred (fun _ => 0) c ∗ prngReg c (ρ c) ∗ emp) : sProp 𝕄)
        ⊢ iprop((unscopedBufs c fun b => m (c.tc.loc b)) ∗ keep 0 c)
      iintro ⟨HU, -, HO, -⟩
      isplitl [HU]; · iexact HU
      iexists ∅; iexact HO
    iintro ⟨H, -⟩
    ihave H' := hsplit $$ H
    imodintro; rw [bigSep_sep']; iexact H'
  · unfold StableHlo.held; iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩; imodintro; isplitr
    · ipureintro
      intro b hb
      rw [← V5_eq]
      exact h (Proc.devRef .tc b) (Finset.mem_filter.mpr ⟨StableHlo.devRef_mem_tcRefs b, by
        intro h'; exact Bool.false_ne_true (hb.symm.trans h')⟩)
    · iexact HSI

end Cert.Attn
-- ==== Proof.Frame.lean ====
/- The arguments of the kernel's program end unchanged. -/
module

public import proofs.«01_k».proof.Proof.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

theorem W5_arg0 (c : Dev nD) : W5 m c main_arg0 = m ((c : Thread nD τ).loc main_arg0) := by rw [← V5_eq]; exact V5_main_arg0 m (outs m) c
theorem W5_arg1 (c : Dev nD) : W5 m c main_arg1 = m ((c : Thread nD τ).loc main_arg1) := by rw [← V5_eq]; exact V5_main_arg1 m (outs m) c
theorem W5_arg2 (c : Dev nD) : W5 m c main_arg2 = m ((c : Thread nD τ).loc main_arg2) := by rw [← V5_eq]; exact V5_main_arg2 m (outs m) c
theorem W5_arg3 (c : Dev nD) : W5 m c main_arg3 = m ((c : Thread nD τ).loc main_arg3) := by rw [← V5_eq]; exact V5_main_arg3 m (outs m) c

/-- The kernel's program runs, leaves its arguments alone and every counter at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c main_arg0 rfl).trans (W5_arg0 m c), (h.1 c main_arg1 rfl).trans (W5_arg1 m c),
    (h.1 c main_arg2 rfl).trans (W5_arg2 m c), (h.1 c main_arg3 rfl).trans (W5_arg3 m c)⟩, h.2⟩) (run_main m ρ)

end Cert.Attn
-- ==== Proof.Same.lean ====
/- The printed kernel at the machine's own floats is the idealized program's text read there: the two bodies, the calls, the
   host operations, and so the runs. -/
module

public import proofs.«01_k».proof.Defs
public import proofs.«01_k».proof.Proof.Gen.Kernel
public import proofs.«01_k».proof.Proof.Gen.Kernel.Regions
public import proofs.«01_k».proof.Proof.Frame

@[expose] public section

set_option maxHeartbeats 800000

noncomputable section

namespace Cert.Proof

open Idealize.ShloMosaic Idealize.SL.Sem

/-- At the machine's own floats a named constant is its word. -/
@[reducible] def wordNamed : Named Bits := ⟨fun _ _ _ b => FloatOps.ofBits _ b⟩
attribute [local instance] wordNamed Cert.Kernel.Gen.facts

theorem e_cc0_attn_fwd : @Eq (type_of% (Cert.KernelIdeal.cc0_attn_fwd (F := Bits))) (Cert.Kernel.cc0_attn_fwd (F := Bits)) (Cert.KernelIdeal.cc0_attn_fwd (F := Bits)) := rfl
theorem e_cc1_attn_bwd : @Eq (type_of% (Cert.KernelIdeal.cc1_attn_bwd (F := Bits))) (Cert.Kernel.cc1_attn_bwd (F := Bits)) (Cert.KernelIdeal.cc1_attn_bwd (F := Bits)) := rfl
theorem e_defs₀ : @Eq (Idealize.ShloMosaic.Defs Cert.KernelIdeal.nD Cert.KernelIdeal.τ Cert.KernelIdeal.sig (Elt Bits) Cert.KernelIdeal.Λ₀) (Cert.Kernel.defs₀ (F := Bits)) (Cert.KernelIdeal.defs₀ (F := Bits)) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) (funext fun l => funext fun x => ?_)
  match l, x with
  | ⟨0, _⟩, (t, s) =>
    exact congrFun (congrFun (congrFun (congrFun (congrFun (congrFun (congrFun (congrFun (congrFun (congrFun (congrFun (congrFun (congrFun (congrFun (congrFun (congrFun (congrFun (congrFun (congrFun (congrFun (congrFun (e_cc0_attn_fwd) _) _) _) _) _) _) _) _) _) _) _) _) _) _) _) _) _) _) _) _) _
  | ⟨1, _⟩, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (e_cc1_attn_bwd) _) _) _) _) _) _) _) _) _) _) _) _) _) _) _) _) _) _) _) _) _) _) _) _) _) _) _
section
variable {nD : Nat} {τ : Topo} {sig : RefSig} {Λ₀ : Labels} {Val : EltTy → Type} [∀ e, Nonempty (Val e)]

/-- A run of two pipelined calls with three host stretches around them, as a function of its parts. -/
def Runs (pcs : Fin 2 → Pipeline.PCfg sig Λ₀ Val) (d : Defs nD τ sig Val Λ₀) (o0 o1 o2 : List (HloOp τ sig Val))
    (s : MemSt nD τ sig Val) (Q : PUnit × MemSt nD τ sig Val → Prop) : Prop :=
  θ_run (Pipeline.defs pcs d) (onTc (τ := τ) fun _ : Dev nD => Pipeline.chain [StableHlo.seq o0, Prog.lift (.customCall (Pipeline.entry 0) ()), StableHlo.seq o1,
    Prog.lift (.customCall (Pipeline.entry 1) ()), StableHlo.seq o2]) s Q
end
theorem runs_K (s : MemSt Cert.Kernel.nD Cert.Kernel.τ Cert.Kernel.sig (Elt Bits)) (Q : PUnit × MemSt Cert.Kernel.nD Cert.Kernel.τ Cert.Kernel.sig (Elt Bits) → Prop)
  (h : Runs (Cert.Kernel.pcfgs (F := Bits)) Cert.Kernel.defs₀ Cert.Kernel.Gen.hostOps0 Cert.Kernel.Gen.hostOps1 Cert.Kernel.Gen.hostOps2 s Q) :
  θ_run (Cert.Kernel.defs (F := Bits)) (onTc (τ := Cert.Kernel.τ) (Cert.Kernel.main (F := Bits))) s Q := by
  rw [show Cert.Kernel.main (F := Bits) = _ from funext Cert.Kernel.Gen.main_chain]
  exact h

theorem runs_I (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
  (h : θ_run (Cert.KernelIdeal.defs (F := Bits)) (onTc (τ := Cert.KernelIdeal.τ) (Cert.KernelIdeal.main (F := Bits))) s Q) :
  Runs (Cert.KernelIdeal.pcfgs (F := Bits)) Cert.KernelIdeal.defs₀ Cert.KernelIdeal.Gen.hostOps0 Cert.KernelIdeal.Gen.hostOps1 Cert.KernelIdeal.Gen.hostOps2 s Q := by
  rw [show Cert.KernelIdeal.main (F := Bits) = _ from funext Cert.KernelIdeal.Gen.main_chain] at h
  exact h
theorem e_pcfgs : @Eq (Fin 2 → Pipeline.PCfg Cert.KernelIdeal.sig Cert.KernelIdeal.Λ₀ (Elt Bits)) (Cert.Kernel.pcfgs (F := Bits)) (Cert.KernelIdeal.pcfgs (F := Bits)) := rfl
theorem runs_eq (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
  (h : Runs (Cert.KernelIdeal.pcfgs (F := Bits)) Cert.KernelIdeal.defs₀ Cert.KernelIdeal.Gen.hostOps0 Cert.KernelIdeal.Gen.hostOps1 Cert.KernelIdeal.Gen.hostOps2 s Q) :
  Runs (sig := Cert.KernelIdeal.sig) (Λ₀ := Cert.KernelIdeal.Λ₀) (Cert.Kernel.pcfgs (F := Bits)) (Cert.Kernel.defs₀ (F := Bits)) (Cert.Kernel.Gen.hostOps0 (F := Bits)) (Cert.Kernel.Gen.hostOps1 (F := Bits)) (Cert.Kernel.Gen.hostOps2 (F := Bits)) s Q := by
  have e0 : @Eq (List (HloOp Cert.KernelIdeal.τ Cert.KernelIdeal.sig (Elt Bits))) (Cert.Kernel.Gen.hostOps0 (F := Bits)) (Cert.KernelIdeal.Gen.hostOps0 (F := Bits)) := rfl
  have e1 : @Eq (List (HloOp Cert.KernelIdeal.τ Cert.KernelIdeal.sig (Elt Bits))) (Cert.Kernel.Gen.hostOps1 (F := Bits)) (Cert.KernelIdeal.Gen.hostOps1 (F := Bits)) := rfl
  have e2 : @Eq (List (HloOp Cert.KernelIdeal.τ Cert.KernelIdeal.sig (Elt Bits))) (Cert.Kernel.Gen.hostOps2 (F := Bits)) (Cert.KernelIdeal.Gen.hostOps2 (F := Bits)) := rfl
  rw [e_pcfgs, e_defs₀, e0, e1, e2]
  exact h

theorem frame_kernel : Cert.quiescent_Kernel (hKernel := Cert.Kernel.Gen.facts) := fun m ρ _ =>
  runs_K _ _ (runs_eq _ _ (runs_I _ _ (Cert.Attn.frame (F := Bits) m ρ)))

end Cert.Proof
-- ==== Proof.Math.lean ====
/- Causal softmax attention and its gradients over the reals, and the arithmetic of a softmax taken block by block. -/
module

public import Idealize.ShloMosaic.PureOps.Ideal
public import Idealize.ShloMosaic.Lib.Pointwise
public import Idealize.ShloMosaic.Lib.WordCmp

@[expose] public section

set_option maxRecDepth 16384

noncomputable section

namespace Cert.Attn

open Idealize.ShloMosaic

/-- The factor of the scores, the number the single-precision word `0x3DD105EC` stands for. -/
def cc : ℝ := 13698540 / 134217728

/-- The queries, keys, values and the gradient of the output, as tables of reals. -/
structure Inp where
  Q : ℕ → ℕ → ℝ
  K : ℕ → ℕ → ℝ
  V : ℕ → ℕ → ℝ
  D : ℕ → ℕ → ℝ

namespace Inp

variable (x : Inp)

/-- The score of query `i` and key `j` in head `h`. -/
def s (h i j : ℕ) : ℝ := ∑ l : Fin 128, x.Q i (128 * h + l) * x.K j (128 * h + l)

/-- The weight of key `j` for query `i`: zero for a later key. -/
def e (h i j : ℕ) : ℝ := if j ≤ i then Real.exp (cc * x.s h i j) else 0

/-- The sum of a query's weights. -/
def z (h i : ℕ) : ℝ := ∑ j : Fin 8192, x.e h i j

/-- The softmax. -/
def p (h i j : ℕ) : ℝ := x.e h i j / x.z h i

/-- The attention's output. -/
def o (i d : ℕ) : ℝ := ∑ j : Fin 8192, x.p (d / 64) i j * x.V j d

/-- The gradient of the softmax. -/
def dp (h i j : ℕ) : ℝ := ∑ d : Fin 64, x.D i (64 * h + d) * x.V j (64 * h + d)

/-- The softmax's mean of its gradient. -/
def mean (h i : ℕ) : ℝ := ∑ j : Fin 8192, x.p h i j * x.dp h i j

/-- The gradient of the scaled scores. -/
def ds (h i j : ℕ) : ℝ := x.p h i j * (x.dp h i j - x.mean h i)

/-- The gradients of the values, the keys and the queries. -/
def dv (j d : ℕ) : ℝ := ∑ i : Fin 8192, x.p (d / 64) i j * x.D i d
@[inherit_doc dv] def dk (j l : ℕ) : ℝ := cc * ∑ i : Fin 8192, x.ds (l / 128) i j * x.Q i l
@[inherit_doc dv] def dq (i l : ℕ) : ℝ := cc * ∑ j : Fin 8192, x.ds (l / 128) i j * x.K j l

theorem e_nonneg (h i j : ℕ) : 0 ≤ x.e h i j := by
  unfold e; split
  · exact (Real.exp_pos _).le
  · exact le_rfl

theorem z_pos (h i : ℕ) : 0 < x.z h i := by
  refine Finset.sum_pos' (fun j _ => x.e_nonneg h i j) ⟨0, Finset.mem_univ _, ?_⟩
  show 0 < x.e h i 0
  rw [e, if_pos (Nat.zero_le _)]; exact Real.exp_pos _

theorem p_of_lt {h i j : ℕ} (hij : i < j) : x.p h i j = 0 := by
  rw [p, e, if_neg (by omega), zero_div]

/-- The mean is also the product of the output and its gradient, summed over the head's lanes. -/
theorem mean_eq (h i : ℕ) : x.mean h i = ∑ d : Fin 64, x.D i (64 * h + d) * x.o i (64 * h + d) := by
  unfold mean dp o
  simp only [Finset.mul_sum]
  rw [Finset.sum_comm]
  refine Finset.sum_congr rfl fun d _ => Finset.sum_congr rfl fun j _ => ?_
  have : (64 * h + d.val) / 64 = h := by omega
  rw [this]; ring

end Inp

/-! ## Sums over blocks -/

/-- A sum over all rows is the sum over the blocks' rows. -/
theorem sum_rows (f : ℕ → ℝ) : ∑ j : Fin 8192, f j = ∑ b ∈ Finset.range 8, ∑ r : Fin 1024, f (1024 * b + r) := by
  rw [Finset.sum_range (n := 8), ← Fintype.sum_prod_type' (f := fun (b : Fin 8) (r : Fin 1024) => f (1024 * b + r))]
  refine (Fintype.sum_equiv (finProdFinEquiv (m := 8) (n := 1024)) _ _ fun y => ?_).symm
  rw [finProdFinEquiv_apply_val, add_comm]

/-- … and only the blocks up to `n`, when the later rows are zero. -/
theorem sum_rows_le (f : ℕ → ℝ) (n : ℕ) (hn : n < 8) (hf : ∀ j, 1024 * (n + 1) ≤ j → f j = 0) :
    ∑ b ∈ Finset.range (n + 1), ∑ r : Fin 1024, f (1024 * b + r) = ∑ j : Fin 8192, f j := by
  rw [sum_rows]
  refine Finset.sum_subset (Finset.range_subset_range.mpr (by omega)) fun b _ hb => Finset.sum_eq_zero fun r _ => hf _ ?_
  have : n + 1 ≤ b := by simpa using hb
  nlinarith

/-- … and only the blocks from `n`, when the earlier rows are zero. -/
theorem sum_rows_ge (f : ℕ → ℝ) (n : ℕ) (hn : n < 8) (hf : ∀ j, j < 1024 * n → f j = 0) :
    ∑ b ∈ Finset.Ico n 8, ∑ r : Fin 1024, f (1024 * b + r) = ∑ j : Fin 8192, f j := by
  rw [sum_rows]
  refine Finset.sum_subset (fun b hb => ?_) fun b hb hb' => Finset.sum_eq_zero fun r _ => hf _ ?_
  · simp only [Finset.mem_Ico, Finset.mem_range] at *; omega
  · simp only [Finset.mem_Ico, Finset.mem_range, not_and, not_lt] at *
    have : b + 1 ≤ n := by omega
    have := r.isLt
    nlinarith

/-! ## Reals among the extended reals -/

theorem coe_sum' {n : ℕ} (f : Fin n → ℝ) : ((∑ i, f i : ℝ) : EReal) = ∑ i, (f i : EReal) := by
  induction (Finset.univ : Finset (Fin n)) using Finset.induction_on with
  | empty => simp
  | insert a s ha ih => rw [Finset.sum_insert ha, Finset.sum_insert ha, EReal.coe_add, ih]

/-- A sum of products of reals. -/
theorem sum_coe_mul {n : ℕ} (f g : Fin n → EReal) (f' g' : Fin n → ℝ) (hf : ∀ i, f i = (f' i : EReal)) (hg : ∀ i, g i = (g' i : EReal)) :
    ∑ i, f i * g i = ((∑ i, f' i * g' i : ℝ) : EReal) := by
  rw [coe_sum']
  exact Finset.sum_congr rfl fun i _ => by rw [hf, hg, EReal.coe_mul]

/-- Two to a real power. -/
def e2 (y : ℝ) : ℝ := Real.exp (Real.log 2 * y)

theorem e2_pos (y : ℝ) : 0 < e2 y := Real.exp_pos _
theorem e2_add (y z : ℝ) : e2 (y + z) = e2 y * e2 z := by rw [e2, mul_add, Real.exp_add]; rfl
theorem e2_zero : e2 0 = 1 := by simp [e2]
theorem exp2_real (y : ℝ) : Ideal.exp2 (y : EReal) = ((e2 y : ℝ) : EReal) := by
  rw [Ideal.exp2_coe]
  refine congrArg _ ?_
  show (2 : ℝ) ^ y = _
  rw [Real.rpow_def_of_pos (by norm_num)]; rfl
theorem exp2_sub (y z : ℝ) : Ideal.exp2 ((y : EReal) - (z : EReal)) = ((e2 y * e2 (-z) : ℝ) : EReal) := by
  rw [← EReal.coe_sub, exp2_real, sub_eq_add_neg, e2_add]
theorem bot_sub_real (z : ℝ) : (⊥ : EReal) - (z : EReal) = ⊥ := by
  rw [sub_eq_add_neg, ← EReal.coe_neg, EReal.bot_add]

/-! ## Comparisons of positions -/

theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y :=
  if_congr (WordCmp.cmpi_sle_ofNat_eq_one_iff (w := 32) ha hb) rfl rfl
theorem select_slt {α : Type} {a b : ℕ} (ha : a < 2 ^ 31) (hb : b < 2 ^ 31) (x y : α) :
    Scalar.select (IntOp.cmpi .slt (BitVec.ofNat 32 a) (BitVec.ofNat 32 b)) x y = if a < b then x else y :=
  if_congr (WordCmp.cmpi_slt_ofNat_eq_one_iff (w := 32) ha hb) rfl rfl
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y :=
  if_congr (WordCmp.cmpi_sge_ofNat_eq_one_iff (w := 32) ha hb) rfl rfl

/-! ## One block of a softmax -/

/-- The maximum of numbers none of which is `⊤` and one of which is real, is real. -/
theorem fold_max_real {n : ℕ} (f : Fin n → EReal) (ht : ∀ j, f j ≠ ⊤) (hb : ∃ j, f j ≠ ⊥) :
    ∃ μ : ℝ, Finset.univ.fold max ⊥ f = (μ : EReal) := by
  have h1 : Finset.univ.fold max ⊥ f < ⊤ :=
    (Finset.fold_max_lt _).mpr ⟨bot_lt_top, fun j _ => lt_top_iff_ne_top.mpr (ht j)⟩
  have h2 : ⊥ < Finset.univ.fold max ⊥ f := by
    obtain ⟨j, hj⟩ := hb
    exact (Finset.lt_fold_max _).mpr (.inr ⟨j, Finset.mem_univ _, bot_lt_iff_ne_bot.mpr hj⟩)
  exact ⟨_, (EReal.coe_toReal h1.ne h2.ne').symm⟩

section Soft

variable {n : ℕ} (S : Fin n → EReal) (on : Fin n → Prop) [DecidablePred on] (y : Fin n → ℝ)
  (hS : ∀ j, S j = if on j then (y j : EReal) else ⊥)
include hS

theorem soft_max (h1 : ∃ j, on j) (mp : EReal) (hm : mp = ⊥ ∨ ∃ μ : ℝ, mp = (μ : EReal)) :
    ∃ μ : ℝ, max mp (Finset.univ.fold max ⊥ S) = (μ : EReal) := by
  obtain ⟨μ, hμ⟩ := fold_max_real S (fun j => by rw [hS]; split <;> simp) (by obtain ⟨j, hj⟩ := h1; exact ⟨j, by rw [hS, if_pos hj]; simp⟩)
  rw [hμ]
  rcases hm with rfl | ⟨ν, rfl⟩
  · exact ⟨μ, by simp⟩
  · exact ⟨max ν μ, (EReal.coe_strictMono.monotone.map_max).symm⟩

theorem soft_term (μ : ℝ) (j : Fin n) : Ideal.exp2 (S j - (μ : EReal)) = (((if on j then e2 (y j) else 0) * e2 (-μ) : ℝ) : EReal) := by
  rw [hS]
  split
  · exact exp2_sub _ _
  · rw [bot_sub_real, Ideal.exp2_bot, zero_mul]; rfl

theorem soft_sum (μ : ℝ) : ∑ j, Ideal.exp2 (S j - (μ : EReal)) = (((∑ j, if on j then e2 (y j) else 0) * e2 (-μ) : ℝ) : EReal) := by
  rw [Finset.sum_mul, coe_sum']
  exact Finset.sum_congr rfl fun j _ => soft_term S on y hS μ j

theorem soft_dot (μ : ℝ) (v : Fin n → EReal) (v' : Fin n → ℝ) (hv : ∀ j, v j = (v' j : EReal)) :
    ∑ j, Ideal.exp2 (S j - (μ : EReal)) * v j = (((∑ j, (if on j then e2 (y j) else 0) * v' j) * e2 (-μ) : ℝ) : EReal) := by
  rw [Finset.sum_mul, coe_sum']
  refine Finset.sum_congr rfl fun j _ => ?_
  rw [soft_term S on y hS μ j, hv, ← EReal.coe_mul]
  exact congrArg _ (by ring)

end Soft

/-- What was carried, at the new maximum. -/
theorem soft_carry (mp : EReal) (A μ₀ μ : ℝ) (first : Prop) [Decidable first] (hm : mp = if first then ⊥ else (μ₀ : EReal)) (hA : first → A = 0) :
    Ideal.exp2 (mp - (μ : EReal)) * ((A * e2 (-μ₀) : ℝ) : EReal) = ((A * e2 (-μ) : ℝ) : EReal) := by
  rw [hm]
  split
  · rename_i h; rw [hA h]; simp
  · rw [exp2_sub, ← EReal.coe_mul]
    refine congrArg _ ?_
    have : e2 μ₀ * e2 (-μ₀) = 1 := by rw [← e2_add, add_neg_cancel, e2_zero]
    linear_combination (A * e2 (-μ)) * this

/-! ## Words -/

theorem cc_word : Ideal.ofBits FTy.f32 1037108716#32 = ((cc : ℝ) : EReal) := by
  simp [Ideal.ofBits, Ideal.ieee, cc, -EReal.coe_mul]
  norm_num
theorem neg_inf_word : Ideal.ofBits FTy.f32 0xFF800000#32 = (⊥ : EReal) := by
  simp [Ideal.ofBits, Ideal.ieee]

end Cert.Attn
-- ==== Proof.PayFwd.lean ====
/- The forward call's payloads read at an index, over the exact numbers. -/
module

public import proofs.«01_k».proof.Proof.Blocks
public import proofs.«01_k».proof.Proof.Math
public import Idealize.ShloMosaic.Lib.Pointwise

@[expose] public section

set_option maxRecDepth 16384

noncomputable section

namespace Cert.Attn

open Cert.KernelIdeal Cert.KernelIdeal.Gen
open Idealize.ShloMosaic

/-- The word of minus infinity. -/
theorem pay11_at (q k : S1024x128.Idx → EReal) (r j : Fin 1024) :
    k0_pay11 (F := Ideal) q k (ix2 r j) = ∑ l : Fin 128, q (ix2 r l) * k (ix2 j l) := by
  pointwise [k0_pay11]

theorem pay44_at (q k : S1024x128.Idx → EReal) (r j : Fin 1024) :
    k0_pay44 (F := Ideal) q k (ix2 r j) = if j ≤ r then ∑ l : Fin 128, q (ix2 r l) * k (ix2 j l) else ⊥ := by
  pointwise [k0_pay44, k0_pay43]
  rw [select_sle (by omega) (by omega), show Ideal.ofBits FTy.f32 4286578688#32 = ⊥ from neg_inf_word]
  rfl

theorem pay57_at (S : S1024x1024.Idx → EReal) (m : S1x1024x128.Idx → EReal) (r : Fin 1024) (l : Fin 128) :
    k0_pay57 (F := Ideal) S m (ix2 r l) = max (m (ix3 0 r l)) (Finset.univ.fold max ⊥ fun j : Fin 1024 => S (ix2 r j)) := by
  pointwise [k0_pay57, k0_pay56]
  rw [show Ideal.ofBits FTy.f32 4286578688#32 = ⊥ from neg_inf_word]

theorem pay60_at (S : S1024x1024.Idx → EReal) (m p : S1x1024x128.Idx → EReal) (r : Fin 1024) (l : Fin 128) :
    k0_pay60 (F := Ideal) S m p (ix3 0 r l) = Ideal.exp2 (m (ix3 0 r l) - k0_pay57 (F := Ideal) S m (ix2 r l)) * p (ix3 0 r l)
      + ∑ j : Fin 1024, Ideal.exp2 (S (ix2 r j) - k0_pay57 (F := Ideal) S m (ix2 r 0)) := by
  pointwise [k0_pay60, k0_pay59, k0_pay58, k0_pay56]
  rfl

theorem pay61_at (S : S1024x1024.Idx → EReal) (v : S1024x128.Idx → EReal) (m p : S1x1024x128.Idx → EReal) (r : Fin 1024) (l : Fin 128) :
    k0_pay61 (F := Ideal) S v m p (ix3 0 r l) = Ideal.exp2 (m (ix3 0 r l) - k0_pay57 (F := Ideal) S m (ix2 r l)) * p (ix3 0 r l)
      + ∑ j : Fin 1024, Ideal.exp2 (S (ix2 r j) - k0_pay57 (F := Ideal) S m (ix2 r 0)) * v (ix2 j l) := by
  pointwise [k0_pay61, k0_pay59, k0_pay58, k0_pay56]
  rfl

theorem pay62_at (S : S1024x1024.Idx → EReal) (m : S1x1024x128.Idx → EReal) (r : Fin 1024) (l : Fin 128) :
    k0_pay62 (F := Ideal) S m (ix3 0 r l) = k0_pay57 (F := Ideal) S m (ix2 r l) := by
  pointwise [k0_pay62]

theorem pay77_at (a0 l0 a1 l1 : S1x1024x128.Idx → EReal) (r : Fin 1024) (l : Fin 128) :
    k0_pay77 (F := Ideal) a0 l0 a1 l1 (ix2 r l)
      = if l.val < 64 then Ideal.div (a0 (ix3 0 r l)) (l0 (ix3 0 r l)) else Ideal.div (a1 (ix3 0 r l)) (l1 (ix3 0 r l)) := by
  pointwise [k0_pay77, k0_pay76]
  rw [show (64#32) = BitVec.ofNat 32 64 from rfl, select_slt (by omega) (by omega)]

theorem pay81_at (m0 l0 m1 l1 : S1x1024x128.Idx → EReal) (r : Fin 1024) (l : Fin 128) :
    k0_pay81 (F := Ideal) k0_pay76 (k0_pay78 m0 l0) (k0_pay79 m1) (k0_pay80 l1) (ix2 r l)
      = if l.val < 64 then m0 (ix3 0 r l) + Ideal.log (l0 (ix3 0 r l)) * (Named.named κ "log2e" (0x3FB8AA3B#32 : BitVec (FTy.bits .f32)) : Ideal .f32)
        else m1 (ix3 0 r l) + Ideal.log (l1 (ix3 0 r l)) * (Named.named κ "log2e" (0x3FB8AA3B#32 : BitVec (FTy.bits .f32)) : Ideal .f32) := by
  pointwise [k0_pay81, k0_pay80, k0_pay79, k0_pay78, k0_pay76]
  rw [show (64#32) = BitVec.ofNat 32 64 from rfl, select_slt (by omega) (by omega)]

theorem pay1_at (h : Fin 4) (r : Fin 1024) (l : Fin 128) : k0_pay1 (F := Ideal) (ix3 h r l) = (⊥ : EReal) := by
  pointwise [k0_pay1]
  exact neg_inf_word
theorem pay2_at (h : Fin 4) (r : Fin 1024) (l : Fin 128) : k0_pay2 (F := Ideal) (ix3 h r l) = (0 : EReal) := by
  pointwise [k0_pay2]
theorem pay3_at (h : Fin 4) (r : Fin 1024) (l : Fin 128) : k0_pay3 (F := Ideal) (ix3 h r l) = (0 : EReal) := by
  pointwise [k0_pay3]

end Cert.Attn
-- ==== Proof.InvFwd.lean ====
/- What the forward call's running maximum, sum and product hold after a number of key blocks. -/
module

public import proofs.«01_k».proof.Proof.PayFwd

@[expose] public section

set_option maxRecDepth 16384

noncomputable section

namespace Cert.Attn

open Cert.KernelIdeal Cert.KernelIdeal.Gen
open Idealize.ShloMosaic

/-- The factor of the queries: the scores' factor over the logarithm of two. -/
def kap : ℝ := cc / Real.log 2

theorem log2_pos : 0 < Real.log 2 := Real.log_pos (by norm_num)

theorem e2_kap (y : ℝ) : e2 (kap * y) = Real.exp (cc * y) := by
  have := log2_pos.ne'
  unfold e2 kap
  congr 1
  field_simp

/-- Sums over the first `n` blocks of keys: of the weights, and of the weights times the values. -/
def Inp.lsum (x : Inp) (h i n : ℕ) : ℝ := ∑ b ∈ Finset.range n, ∑ r : Fin 1024, x.e h i (1024 * b + r)
@[inherit_doc Inp.lsum] def Inp.asum (x : Inp) (h i d n : ℕ) : ℝ :=
  ∑ b ∈ Finset.range n, ∑ r : Fin 1024, x.e h i (1024 * b + r) * x.V (1024 * b + r) d

/-- A product of a row of the scaled queries and a row of the keys is the scaled score. -/
theorem dot_score (x : Inp) (H i j : ℕ) (q k : Fin 128 → EReal)
    (hq : ∀ l, q l = ((x.Q i (128 * H + l) * kap : ℝ) : EReal)) (hk : ∀ l, k l = ((x.K j (128 * H + l) : ℝ) : EReal)) :
    ∑ l, q l * k l = ((kap * x.s H i j : ℝ) : EReal) := by
  rw [sum_coe_mul q k _ _ hq hk, Inp.s, Finset.mul_sum]
  exact congrArg _ (Finset.sum_congr rfl fun l _ => by ring)

theorem headOf_at {α : Type} {n : ℕ} (m : (⟨3, ![n, 1024, 128]⟩ : Shape).Idx → α) (h : Fin n) (r : Fin 1024) (l : Fin 128) :
    headOf m h (ix3 0 r l) = m (ix3 h r l) := rfl

theorem stackOf_at {α : Type} {n : ℕ} (f : Fin n → S1x1024x128.Idx → α) (h : Fin n) (r : Fin 1024) (l : Fin 128) :
    stackOf f (ix3 h r l) = f h (ix3 0 r l) := rfl

section Step

variable (x : Inp) (g qi n : ℕ) (dg : Bool) (q k : S1024x512.Idx → EReal) (v : S1024x256.Idx → EReal)
  (hn : n ≤ qi) (hdg : dg = decide (n = qi))
  (hq : ∀ (r : Fin 1024) (l : Fin 512), q (ix2 r l) = ((x.Q (1024 * qi + r) (512 * g + l) * kap : ℝ) : EReal))
  (hk : ∀ (r : Fin 1024) (l : Fin 512), k (ix2 r l) = ((x.K (1024 * n + r) (512 * g + l) : ℝ) : EReal))
  (hv : ∀ (r : Fin 1024) (l : Fin 256), v (ix2 r l) = ((x.V (1024 * n + r) (256 * g + l) : ℝ) : EReal))

include hn hdg hq hk in
theorem fScore_at (h : Fin 4) (r j : Fin 1024) :
    fScore (F := Ideal) dg (lane4 q h) (lane4 k h) (ix2 r j)
      = if 1024 * n + j.val ≤ 1024 * qi + r.val then ((kap * x.s (4 * g + h) (1024 * qi + r) (1024 * n + j) : ℝ) : EReal) else ⊥ := by
  have key : ∑ l : Fin 128, lane4 q h (ix2 r l) * lane4 k h (ix2 j l)
      = ((kap * x.s (4 * g + h) (1024 * qi + r) (1024 * n + j) : ℝ) : EReal) := by
    refine dot_score x _ _ _ _ _ (fun l => ?_) fun l => ?_
    · refine (hq r ⟨128 * h.val + l.val, by omega⟩).trans ?_
      rw [show 512 * g + (128 * h.val + l.val) = 128 * (4 * g + h.val) + l.val by ring]
    · refine (hk j ⟨128 * h.val + l.val, by omega⟩).trans ?_
      rw [show 512 * g + (128 * h.val + l.val) = 128 * (4 * g + h.val) + l.val by ring]
  by_cases hd : n = qi
  · obtain rfl : dg = true := by rw [hdg]; exact decide_eq_true hd
    refine (pay44_at _ _ r j).trans ?_
    rw [key]
    exact if_congr (by subst hd; constructor <;> intro h' <;> [skip; skip] <;> first | (have : j.val ≤ r.val := h'; omega) | (show j.val ≤ r.val; omega)) rfl rfl
  · obtain rfl : dg = false := by rw [hdg]; exact decide_eq_false hd
    refine (pay11_at _ _ r j).trans ?_
    rw [key, if_pos (by omega)]

/-- After `n` key blocks of query block `qi`: the maximum is real (once there was a block), and the sum and the product are the
    blocks' sums at that maximum. -/
def FInv (x : Inp) (g qi n : ℕ) (st : FSt Ideal) : Prop :=
  ∃ μ : Fin 4 → Fin 1024 → ℝ, ∀ (h : Fin 4) (r : Fin 1024) (l : Fin 128),
    (st.m (ix3 h r l) : EReal) = (if n = 0 then ⊥ else ((μ h r : ℝ) : EReal))
    ∧ (st.l (ix3 h r l) : EReal) = ((x.lsum (4 * g + h) (1024 * qi + r) n * e2 (-(μ h r)) : ℝ) : EReal)
    ∧ (st.a (ix3 h r l) : EReal) = ((x.asum (4 * g + h) (1024 * qi + r) (256 * g + 128 * (h.val / 2) + l) n * e2 (-(μ h r)) : ℝ) : EReal)

theorem FInv_init : FInv x g qi 0 fInit :=
  ⟨fun _ _ => 0, fun h r l => ⟨pay1_at h r l, (pay2_at h r l).trans (by simp [Inp.lsum]), (pay3_at h r l).trans (by simp [Inp.asum])⟩⟩

include hn hdg hq hk hv in
theorem FInv_step (st : FSt Ideal) (hst : FInv x g qi n st) : FInv x g qi (n + 1) (fStep dg q k v st) := by
  obtain ⟨μ₀, H⟩ := hst
  have new : ∀ (h : Fin 4) (r : Fin 1024), ∃ μ : ℝ, ∀ l, k0_pay57 (F := Ideal) (fScore dg (lane4 q h) (lane4 k h)) (headOf st.m h) (ix2 r l) = (μ : EReal) := by
    intro h r
    obtain ⟨μ, hμ⟩ := soft_max (fun j : Fin 1024 => fScore (F := Ideal) dg (lane4 q h) (lane4 k h) (ix2 r j))
      (fun j => 1024 * n + j.val ≤ 1024 * qi + r.val) _ (fun j => fScore_at x g qi n dg q k hn hdg hq hk h r j)
      ⟨0, by show 1024 * n + 0 ≤ _; omega⟩ (if n = 0 then ⊥ else ((μ₀ h r : ℝ) : EReal))
      (by by_cases h0 : n = 0
          · exact .inl (if_pos h0)
          · exact .inr ⟨_, if_neg h0⟩)
    refine ⟨μ, fun l => ?_⟩
    refine (pay57_at _ _ r l).trans ?_
    rw [headOf_at, (H h r l).1]
    exact hμ
  choose μ hμ using new
  refine ⟨μ, fun h r l => ⟨?_, ?_, ?_⟩⟩
  · rw [if_neg (Nat.succ_ne_zero n)]
    refine (stackOf_at (fun h => k0_pay62 (F := Ideal) (fScore dg (lane4 q h) (lane4 k h)) (headOf st.m h)) h r l).trans ?_
    exact (pay62_at (fScore (F := Ideal) dg (lane4 q h) (lane4 k h)) (headOf st.m h) r l).trans (hμ h r l)
  · refine (stackOf_at (fun h => k0_pay60 (F := Ideal) (fScore dg (lane4 q h) (lane4 k h)) (headOf st.m h) (headOf st.l h)) h r l).trans ?_
    refine (pay60_at (fScore (F := Ideal) dg (lane4 q h) (lane4 k h)) (headOf st.m h) (headOf st.l h) r l).trans ?_
    have e1 := soft_carry _ (x.lsum (4 * g + h) (1024 * qi + r) n) (μ₀ h r) (μ h r) (n = 0) (H h r l).1
      fun h0 => by rw [h0, Inp.lsum, Finset.range_zero, Finset.sum_empty]
    have e2 := soft_sum (fun j : Fin 1024 => fScore (F := Ideal) dg (lane4 q h) (lane4 k h) (ix2 r j))
      (fun j => 1024 * n + j.val ≤ 1024 * qi + r.val) (fun j => kap * x.s (4 * g + h) (1024 * qi + r) (1024 * n + j))
      (fun j => fScore_at x g qi n dg q k hn hdg hq hk h r j) (μ h r)
    rw [hμ, hμ, headOf_at, headOf_at, (H h r l).2.1, e1, e2, ← EReal.coe_add, ← add_mul]
    refine congrArg (fun y : ℝ => ((y * _ : ℝ) : EReal)) ?_
    rw [Inp.lsum, Inp.lsum, Finset.sum_range_succ]
    refine congrArg _ (Finset.sum_congr rfl fun j _ => ?_)
    rw [e2_kap]; rfl
  · refine (stackOf_at (fun h => k0_pay61 (F := Ideal) (fScore dg (lane4 q h) (lane4 k h)) (lane2 v (halfOf h)) (headOf st.m h) (headOf st.a h)) h r l).trans ?_
    refine (pay61_at (fScore (F := Ideal) dg (lane4 q h) (lane4 k h)) (lane2 v (halfOf h)) (headOf st.m h) (headOf st.a h) r l).trans ?_
    have e1 := soft_carry _ (x.asum (4 * g + h) (1024 * qi + r) (256 * g + 128 * (h.val / 2) + l) n) (μ₀ h r) (μ h r) (n = 0) (H h r l).1
      fun h0 => by rw [h0, Inp.asum, Finset.range_zero, Finset.sum_empty]
    have e2 := soft_dot (fun j : Fin 1024 => fScore (F := Ideal) dg (lane4 q h) (lane4 k h) (ix2 r j))
      (fun j => 1024 * n + j.val ≤ 1024 * qi + r.val) (fun j => kap * x.s (4 * g + h) (1024 * qi + r) (1024 * n + j))
      (fun j => fScore_at x g qi n dg q k hn hdg hq hk h r j) (μ h r) (fun j => lane2 v (halfOf h) (ix2 j l))
      (fun j => x.V (1024 * n + j) (256 * g + 128 * (h.val / 2) + l)) (fun j => by
        refine (hv j ⟨128 * (h.val / 2) + l.val, by omega⟩).trans ?_
        rw [show 256 * g + (128 * (h.val / 2) + l.val) = 256 * g + 128 * (h.val / 2) + l.val by ring])
    rw [hμ, hμ, headOf_at, headOf_at, (H h r l).2.2, e1, e2, ← EReal.coe_add, ← add_mul]
    refine congrArg (fun y : ℝ => ((y * _ : ℝ) : EReal)) ?_
    rw [Inp.asum, Inp.asum, Finset.sum_range_succ]
    refine congrArg _ (Finset.sum_congr rfl fun j _ => ?_)
    rw [e2_kap]; rfl

end Step

/-- All key blocks that matter to query block `qi` make the whole row. -/
theorem Inp.lsum_full (x : Inp) (h qi : ℕ) (r : Fin 1024) (hq : qi < 8) : x.lsum h (1024 * qi + r) (qi + 1) = x.z h (1024 * qi + r) :=
  sum_rows_le (fun j => x.e h (1024 * qi + r) j) qi hq fun j hj => if_neg (by omega)

theorem Inp.asum_full (x : Inp) (h qi d : ℕ) (r : Fin 1024) (hq : qi < 8) :
    x.asum h (1024 * qi + r) d (qi + 1) = ∑ j : Fin 8192, x.e h (1024 * qi + r) j * x.V j d :=
  sum_rows_le (fun j => x.e h (1024 * qi + r) j * x.V j d) qi hq fun j hj => by
    show x.e _ _ _ * _ = 0
    rw [Inp.e, if_neg (by omega), zero_mul]

/-- The quotient of the product and the sum is the output. -/
theorem quot_eq (x : Inp) (h qi d : ℕ) (r : Fin 1024) (hq : qi < 8) (hd : d / 64 = h) (μ : ℝ) :
    Ideal.div ((x.asum h (1024 * qi + r) d (qi + 1) * e2 (-μ) : ℝ) : EReal) ((x.lsum h (1024 * qi + r) (qi + 1) * e2 (-μ) : ℝ) : EReal)
      = ((x.o (1024 * qi + r) d : ℝ) : EReal) := by
  have hz := (x.z_pos h (1024 * qi + r)).ne'
  have he := (e2_pos (-μ)).ne'
  rw [x.lsum_full h qi r hq, x.asum_full h qi d r hq, Ideal.div_coe (mul_ne_zero hz he), ← EReal.coe_mul]
  refine congrArg _ ?_
  rw [Inp.o, hd]
  simp only [Inp.p, div_mul_eq_mul_div, ← Finset.sum_div]
  field_simp

/-- The logarithm of the sum, to base two, does not depend on the maximum it was taken at. -/
theorem lse_eq (x : Inp) (h qi : ℕ) (r : Fin 1024) (hq : qi < 8) (μ : ℝ) :
    (μ : EReal) + Ideal.log ((x.lsum h (1024 * qi + r) (qi + 1) * e2 (-μ) : ℝ) : EReal) * (((Real.log 2)⁻¹ : ℝ) : EReal)
      = ((Real.log (x.z h (1024 * qi + r)) / Real.log 2 : ℝ) : EReal) := by
  have hz := x.z_pos h (1024 * qi + r)
  have he := e2_pos (-μ)
  have hl := log2_pos.ne'
  rw [x.lsum_full h qi r hq, Ideal.log_coe, if_neg (not_le.mpr (mul_pos hz he)), ← EReal.coe_mul, ← EReal.coe_add,
    Real.log_mul hz.ne' he.ne', e2, Real.log_exp]
  refine congrArg _ ?_
  field_simp
  ring

theorem log2e_eq : (Named.named κ "log2e" (0x3FB8AA3B#32 : BitVec (FTy.bits .f32)) : Ideal .f32) = (((Real.log 2)⁻¹ : ℝ) : EReal) := rfl

section Out

variable (x : Inp) (g qi : ℕ) (hq8 : qi < 8) (st : FSt Ideal) (hst : FInv x g qi (qi + 1) st)
include hq8 hst

/-- The block of the output that a query block's last point writes. -/
theorem fOut_at (r : Fin 1024) (l : Fin 256) : (fOut st (ix2 r l) : EReal) = ((x.o (1024 * qi + r) (256 * g + l) : ℝ) : EReal) := by
  obtain ⟨μ, H⟩ := hst
  refine (pay77_at (headOf st.a (evenHead ⟨l.val / 128, by omega⟩)) (headOf st.l (evenHead ⟨l.val / 128, by omega⟩)) (headOf st.a (oddHead ⟨l.val / 128, by omega⟩)) (headOf st.l (oddHead ⟨l.val / 128, by omega⟩)) r ⟨l.val % 128, by omega⟩).trans ?_
  have hl := l.isLt
  split
  · rename_i hlt
    have h1 := H (evenHead ⟨l.val / 128, by omega⟩) r ⟨l.val % 128, by omega⟩
    rw [headOf_at, headOf_at, h1.2.2, h1.2.1]
    have e : 256 * g + 128 * ((evenHead ⟨l.val / 128, by omega⟩ : Fin 4).val / 2) + l.val % 128 = 256 * g + l.val := by
      show 256 * g + 128 * (2 * (l.val / 128) / 2) + l.val % 128 = _; omega
    rw [show (↑(⟨l.val % 128, by omega⟩ : Fin 128) : ℕ) = l.val % 128 from rfl, e]
    refine quot_eq x (4 * g + (evenHead ⟨l.val / 128, by omega⟩ : Fin 4).val) qi (256 * g + l) r hq8 ?_ (μ _ r)
    · show _ = 4 * g + 2 * (l.val / 128)
      simp only at hlt
      omega
  · rename_i hlt
    have h1 := H (oddHead ⟨l.val / 128, by omega⟩) r ⟨l.val % 128, by omega⟩
    rw [headOf_at, headOf_at, h1.2.2, h1.2.1]
    have e : 256 * g + 128 * ((oddHead ⟨l.val / 128, by omega⟩ : Fin 4).val / 2) + l.val % 128 = 256 * g + l.val := by
      show 256 * g + 128 * ((2 * (l.val / 128) + 1) / 2) + l.val % 128 = _; omega
    rw [show (↑(⟨l.val % 128, by omega⟩ : Fin 128) : ℕ) = l.val % 128 from rfl, e]
    refine quot_eq x (4 * g + (oddHead ⟨l.val / 128, by omega⟩ : Fin 4).val) qi (256 * g + l) r hq8 ?_ (μ _ r)
    · show _ = 4 * g + (2 * (l.val / 128) + 1)
      simp only at hlt
      omega

/-- The block of logarithms that a query block's last point writes. -/
theorem fLse_at (r : Fin 1024) (l : Fin 256) :
    (fLse st (ix2 r l) : EReal) = ((Real.log (x.z ((256 * g + l) / 64) (1024 * qi + r)) / Real.log 2 : ℝ) : EReal) := by
  obtain ⟨μ, H⟩ := hst
  refine (pay81_at (headOf st.m (evenHead ⟨l.val / 128, by omega⟩)) (headOf st.l (evenHead ⟨l.val / 128, by omega⟩)) (headOf st.m (oddHead ⟨l.val / 128, by omega⟩)) (headOf st.l (oddHead ⟨l.val / 128, by omega⟩)) r ⟨l.val % 128, by omega⟩).trans ?_
  have hl := l.isLt
  split
  · rename_i hlt
    have h1 := H (evenHead ⟨l.val / 128, by omega⟩) r ⟨l.val % 128, by omega⟩
    rw [headOf_at, headOf_at, h1.1, h1.2.1, if_neg (Nat.succ_ne_zero _), log2e_eq,
      lse_eq x _ qi r hq8]
    rw [show (256 * g + l.val) / 64 = 4 * g + (evenHead ⟨l.val / 128, by omega⟩ : Fin 4).val by
      show _ = 4 * g + 2 * (l.val / 128); simp only at hlt; omega]
  · rename_i hlt
    have h1 := H (oddHead ⟨l.val / 128, by omega⟩) r ⟨l.val % 128, by omega⟩
    rw [headOf_at, headOf_at, h1.1, h1.2.1, if_neg (Nat.succ_ne_zero _), log2e_eq,
      lse_eq x _ qi r hq8]
    rw [show (256 * g + l.val) / 64 = 4 * g + (oddHead ⟨l.val / 128, by omega⟩ : Fin 4).val by
      show _ = 4 * g + (2 * (l.val / 128) + 1); simp only at hlt; omega]

end Out

end Cert.Attn
-- ==== Proof.ArrFwd.lean ====
/- The forward call's two result arrays: the attention's output and the logarithms of the softmax's sums. -/
module

public import proofs.«01_k».proof.Proof.InvFwd
public import proofs.«01_k».proof.Proof.DatFwd
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe
open Idealize.ShloMosaic.Pipeline (Dat Cfg Window)

/-- The query block and the key block of point `n` of the forward call. -/
def qi0 (n : ℕ) : ℕ := (lit0 ⟨n % 36, Nat.mod_lt _ (by decide)⟩).toNat
@[inherit_doc qi0] def ki0 (n : ℕ) : ℕ := (lit1 ⟨n % 36, Nat.mod_lt _ (by decide)⟩).toNat

theorem sched0 : ∀ t : Fin 72, qi0 t < 8 ∧ ki0 t ≤ qi0 t ∧ dg0 t = decide (ki0 t = qi0 t) ∧ in0 t = decide (ki0 t = 0)
    ∧ (ki0 t ≠ 0 → 0 < t.val ∧ qi0 (t.val - 1) = qi0 t ∧ ki0 (t.val - 1) + 1 = ki0 t ∧ (t.val - 1) / 36 = t.val / 36) := by
  decide +kernel

theorem index0_0 : ∀ t : Fin (cfgA0 Ideal).N, ∀ a, ((cfgA0 Ideal).win (0 : Fin 5)).index t a = (![qi0 t.val, t.val / 36] : Fin 2 → ℕ) a := by
  decide +kernel
theorem index0_1 : ∀ t : Fin (cfgA0 Ideal).N, ∀ a, ((cfgA0 Ideal).win (1 : Fin 5)).index t a = (![ki0 t.val, t.val / 36] : Fin 2 → ℕ) a := by
  decide +kernel
theorem index0_2 : ∀ t : Fin (cfgA0 Ideal).N, ∀ a, ((cfgA0 Ideal).win (2 : Fin 5)).index t a = (![ki0 t.val, t.val / 36] : Fin 2 → ℕ) a := by
  decide +kernel
theorem index0_3 : ∀ t : Fin (cfgA0 Ideal).N, ∀ a, ((cfgA0 Ideal).win (3 : Fin 5)).index t a = (![qi0 t.val, t.val / 36] : Fin 2 → ℕ) a := by
  decide +kernel
theorem index0_4 : ∀ t : Fin (cfgA0 Ideal).N, ∀ a, ((cfgA0 Ideal).win (4 : Fin 5)).index t a = (![qi0 t.val, t.val / 36] : Fin 2 → ℕ) a := by
  decide +kernel
theorem last0_3 : ∀ t : Fin (cfgA0 Ideal).N, ((cfgA0 Ideal).win (3 : Fin 5)).flush t = true → ki0 t.val = qi0 t.val := by decide +kernel
theorem last0_4 : ∀ t : Fin (cfgA0 Ideal).N, ((cfgA0 Ideal).win (4 : Fin 5)).flush t = true → ki0 t.val = qi0 t.val := by decide +kernel
theorem covers0_3 : ((cfgA0 Ideal).win (3 : Fin 5)).Covers := by decide +kernel
theorem covers0_4 : ((cfgA0 Ideal).win (4 : Fin 5)).Covers := by decide +kernel

section Run

variable (M : (ℓ : Loc nD τ sig) → Buf (Elt Ideal) ℓ) (c : Dev nD) (x : Inp)
  (hQ : ∀ (i : Fin 8192) (l : Fin 1024), (M ((c.tc : Thread nD τ).loc main_v5) (ix2 i l) : EReal) = ((x.Q i l * kap : ℝ) : EReal))
  (hK : ∀ (i : Fin 8192) (l : Fin 1024), (M ((c.tc : Thread nD τ).loc main_v6) (ix2 i l) : EReal) = ((x.K i l : ℝ) : EReal))
  (hV : ∀ (i : Fin 8192) (l : Fin 512), (M ((c.tc : Thread nD τ).loc main_v7) (ix2 i l) : EReal) = ((x.V i l : ℝ) : EReal))

theorem iblk0_0 (t : Fin (cfgA0 Ideal).N) (r : Fin 1024) (l : Fin 512) (h1 : 1024 * qi0 t.val + r.val < 8192) (h2 : 512 * (t.val / 36) + l.val < 1024) :
    iblk0 M c (0 : Fin 5) t (ix2 r l) = M ((c.tc : Thread nD τ).loc main_v5) (ix2 ⟨1024 * qi0 t.val + r.val, h1⟩ ⟨512 * (t.val / 36) + l.val, h2⟩) := by
  blk_ext [iblk0, index0_0 t]
theorem iblk0_1 (t : Fin (cfgA0 Ideal).N) (r : Fin 1024) (l : Fin 512) (h1 : 1024 * ki0 t.val + r.val < 8192) (h2 : 512 * (t.val / 36) + l.val < 1024) :
    iblk0 M c (1 : Fin 5) t (ix2 r l) = M ((c.tc : Thread nD τ).loc main_v6) (ix2 ⟨1024 * ki0 t.val + r.val, h1⟩ ⟨512 * (t.val / 36) + l.val, h2⟩) := by
  blk_ext [iblk0, index0_1 t]
theorem iblk0_2 (t : Fin (cfgA0 Ideal).N) (r : Fin 1024) (l : Fin 256) (h1 : 1024 * ki0 t.val + r.val < 8192) (h2 : 256 * (t.val / 36) + l.val < 512) :
    iblk0 M c (2 : Fin 5) t (ix2 r l) = M ((c.tc : Thread nD τ).loc main_v7) (ix2 ⟨1024 * ki0 t.val + r.val, h1⟩ ⟨256 * (t.val / 36) + l.val, h2⟩) := by
  blk_ext [iblk0, index0_2 t]

theorem N0 : (cfgA0 Ideal).N = 72 := by decide +kernel

include hQ hK hV in
/-- After point `t`, the key blocks up to the point's own are folded in. -/
theorem St0_inv : ∀ (n : ℕ) (hn : n < 72), FInv x (n / 36) (qi0 n) (ki0 n + 1) (St0 M c (n + 1)) := by
  intro n
  induction n using Nat.strong_induction_on with
  | _ n ih =>
    intro hn
    obtain ⟨hq8, hkq, hdg, hin, hprev⟩ := sched0 ⟨n, hn⟩
    simp only at hq8 hkq hdg hin hprev
    have hN : n < (cfgA0 Ideal).N := by rw [N0]; exact hn
    rw [show St0 M c (n + 1) = _ from St0_succ M c ⟨n, hN⟩]
    refine FInv_step x (n / 36) (qi0 n) (ki0 n) (dg0 n) (iblk0 M c (0 : Fin 5) ⟨n, hN⟩) (iblk0 M c (1 : Fin 5) ⟨n, hN⟩)
      (iblk0 M c (2 : Fin 5) ⟨n, hN⟩) hkq hdg (fun r l => ?_) (fun r l => ?_) (fun r l => ?_) _ ?_
    · exact (iblk0_0 M c ⟨n, hN⟩ r l (by simp only; omega) (by simp only; omega)).trans (hQ _ _)
    · exact (iblk0_1 M c ⟨n, hN⟩ r l (by simp only; omega) (by simp only; omega)).trans (hK _ _)
    · exact (iblk0_2 M c ⟨n, hN⟩ r l (by simp only; omega) (by simp only; omega)).trans (hV _ _)
    · by_cases h0 : ki0 n = 0
      · rw [show in0 (⟨n, hN⟩ : Fin (cfgA0 Ideal).N).val = true from hin.trans (decide_eq_true h0), if_pos rfl, h0]
        exact FInv_init x _ _
      · rw [show in0 (⟨n, hN⟩ : Fin (cfgA0 Ideal).N).val = false from hin.trans (decide_eq_false h0), if_neg (by decide)]
        obtain ⟨hpos, e1, e2, e3⟩ := hprev h0
        have := ih (n - 1) (by omega) (by omega)
        rw [e1, e2, e3, show n - 1 + 1 = n by omega] at this
        exact this

include hQ hK hV in
/-- The output array. -/
theorem arr0_3 : (dat0 M c).arrAt (3 : Fin 5) (cfgA0 Ideal).N = fun j : S8192x512.Idx => ((x.o (j 0).val (j 1).val : ℝ) : EReal) := by
  refine (dat0 M c).arrAt_eq_of_covers (3 : Fin 5) _ covers0_3 fun t hf y => ?_
  have ht : t.val < 72 := lt_of_lt_of_eq t.isLt N0
  have hl := last0_3 t hf
  have h8 := (sched0 ⟨t.val, ht⟩).1
  have inv := St0_inv M c x hQ hK hV t.val ht
  rw [hl] at inv
  blk_simp
  rw [after0_3, index0_3 t 0, index0_3 t 1]
  obtain ⟨r, l, rfl⟩ : ∃ (r : Fin 1024) (l : Fin 256), y = ix2 r l := ⟨y 0, y 1, eq_ix2 y⟩
  refine (fOut_at x (t.val / 36) (qi0 t.val) h8 _ inv r l).trans ?_
  show _ = ((x.o (qi0 t.val * 1024 + r.val) (t.val / 36 * 256 + l.val) : ℝ) : EReal)
  rw [mul_comm 1024, mul_comm 256]

include hQ hK hV in
/-- The array of the logarithms, to base two, of the softmax's sums. -/
theorem arr0_4 : (dat0 M c).arrAt (4 : Fin 5) (cfgA0 Ideal).N = fun j : S8192x512.Idx => ((Real.log (x.z ((j 1).val / 64) (j 0).val) / Real.log 2 : ℝ) : EReal) := by
  refine (dat0 M c).arrAt_eq_of_covers (4 : Fin 5) _ covers0_4 fun t hf y => ?_
  have ht : t.val < 72 := lt_of_lt_of_eq t.isLt N0
  have hl := last0_4 t hf
  have h8 := (sched0 ⟨t.val, ht⟩).1
  have inv := St0_inv M c x hQ hK hV t.val ht
  rw [hl] at inv
  blk_simp
  rw [after0_4, index0_4 t 0, index0_4 t 1]
  obtain ⟨r, l, rfl⟩ : ∃ (r : Fin 1024) (l : Fin 256), y = ix2 r l := ⟨y 0, y 1, eq_ix2 y⟩
  refine (fLse_at x (t.val / 36) (qi0 t.val) h8 _ inv r l).trans ?_
  show _ = ((Real.log (x.z ((t.val / 36 * 256 + l.val) / 64) (qi0 t.val * 1024 + r.val)) / Real.log 2 : ℝ) : EReal)
  rw [mul_comm 1024, mul_comm 256]

end Run

end Cert.Attn
-- ==== Proof.PayBwd.lean ====
/- The backward call's payloads read at an index, over the exact numbers. -/
module

public import proofs.«01_k».proof.Proof.Blocks
public import proofs.«01_k».proof.Proof.Math
public import Idealize.ShloMosaic.Lib.Pointwise

@[expose] public section

set_option maxRecDepth 16384

noncomputable section

namespace Cert.Attn

open Cert.KernelIdeal Cert.KernelIdeal.Gen
open Idealize.ShloMosaic

theorem bpay10_at (q k : S1024x128.Idx → EReal) (r j : Fin 1024) :
    k1_pay10 (F := Ideal) q k (ix2 r j) = ∑ l : Fin 128, q (ix2 r l) * k (ix2 j l) := by
  pointwise [k1_pay10]

theorem bpay12_at (o v : S1024x128.Idx → EReal) (r j : Fin 1024) :
    k1_pay12 (F := Ideal) o v (ix2 r j) = ∑ l : Fin 128, (if l.val < 64 then o (ix2 r l) else 0) * v (ix2 j l) := by
  refine Eq.trans (b := ∑ l : Fin 128, Scalar.select (IntOp.cmpi .slt (BitVec.ofNat 32 l.val) 64#32) (o (ix2 r l) * v (ix2 j l)) 0) (by pointwise [k1_pay12]) ?_
  refine Finset.sum_congr rfl fun l _ => ?_
  rw [show (64#32) = BitVec.ofNat 32 64 from rfl, select_slt (by omega) (by omega)]
  split
  · rfl
  · rw [zero_mul]

theorem bpay13_at (o v : S1024x128.Idx → EReal) (r j : Fin 1024) :
    k1_pay13 (F := Ideal) o v (ix2 r j) = ∑ l : Fin 128, (if 64 ≤ l.val then o (ix2 r l) else 0) * v (ix2 j l) := by
  refine Eq.trans (b := ∑ l : Fin 128, Scalar.select (IntOp.cmpi .sge (BitVec.ofNat 32 l.val) 64#32) (o (ix2 r l) * v (ix2 j l)) 0) (by pointwise [k1_pay13]) ?_
  refine Finset.sum_congr rfl fun l _ => ?_
  rw [show (64#32) = BitVec.ofNat 32 64 from rfl, select_sge (by omega) (by omega)]
  split
  · rfl
  · rw [zero_mul]

theorem bpay22_at (S : S1024x1024.Idx → EReal) (e : S1024x1.Idx → EReal) (r j : Fin 1024) :
    k1_pay22 (F := Ideal) S e (ix2 r j) = Ideal.exp2 (S (ix2 r j) - e (ix2 r 0)) := by
  pointwise [k1_pay22]
  rfl

theorem bpay37_at (S : S1024x1024.Idx → EReal) (e : S1024x1.Idx → EReal) (r j : Fin 1024) :
    k1_pay37 (F := Ideal) S k1_pay30 e (ix2 r j) = if j.val ≤ r.val then Ideal.exp2 (S (ix2 r j) - e (ix2 r 0)) else 0 := by
  pointwise [k1_pay37, k1_pay30]
  rw [select_sle (by omega) (by omega)]
  rfl

theorem bpay23_at (S dp : S1024x1024.Idx → EReal) (e dl : S1024x1.Idx → EReal) (r j : Fin 1024) :
    k1_pay23 (F := Ideal) S dp e dl (ix2 r j) = k1_pay22 (F := Ideal) S e (ix2 r j) * (dp (ix2 r j) - dl (ix2 r 0)) := by
  pointwise [k1_pay23]

theorem bpay38_at (S dp : S1024x1024.Idx → EReal) (e dl : S1024x1.Idx → EReal) (r j : Fin 1024) :
    k1_pay38 (F := Ideal) S dp k1_pay30 e dl (ix2 r j) = k1_pay37 (F := Ideal) S k1_pay30 e (ix2 r j) * (dp (ix2 r j) - dl (ix2 r 0)) := by
  pointwise [k1_pay38]

theorem bpay24_at (S : S1024x1024.Idx → EReal) (e : S1024x1.Idx → EReal) (old : S1x1024x128.Idx → EReal) (o : S1024x128.Idx → EReal) (j : Fin 1024) (l : Fin 128) :
    k1_pay24 (F := Ideal) S e old o (ix3 0 j l) = old (ix3 0 j l) + ∑ r : Fin 1024, k1_pay22 (F := Ideal) S e (ix2 r j) * o (ix2 r l) := by
  pointwise [k1_pay24]

theorem bpay39_at (S : S1024x1024.Idx → EReal) (e : S1024x1.Idx → EReal) (old : S1x1024x128.Idx → EReal) (o : S1024x128.Idx → EReal) (j : Fin 1024) (l : Fin 128) :
    k1_pay39 (F := Ideal) S k1_pay30 e old o (ix3 0 j l) = old (ix3 0 j l) + ∑ r : Fin 1024, k1_pay37 (F := Ideal) S k1_pay30 e (ix2 r j) * o (ix2 r l) := by
  pointwise [k1_pay39]

theorem bpay25_at (S dp : S1024x1024.Idx → EReal) (e dl : S1024x1.Idx → EReal) (old : S1x1024x128.Idx → EReal) (q : S1024x128.Idx → EReal) (j : Fin 1024) (l : Fin 128) :
    k1_pay25 (F := Ideal) S dp e dl old q (ix3 0 j l) = old (ix3 0 j l) + ∑ r : Fin 1024, k1_pay23 (F := Ideal) S dp e dl (ix2 r j) * q (ix2 r l) := by
  pointwise [k1_pay25]

theorem bpay32_eq : @k1_pay32 = @k1_pay38 := rfl

theorem bpay34_at (S dp : S1024x1024.Idx → EReal) (e dl : S1024x1.Idx → EReal) (old : S1x1024x128.Idx → EReal) (q : S1024x128.Idx → EReal) (j : Fin 1024) (l : Fin 128) :
    k1_pay34 (F := Ideal) S dp k1_pay30 e dl old q (ix3 0 j l)
      = old (ix3 0 j l) + ∑ r : Fin 1024, k1_pay38 (F := Ideal) S dp k1_pay30 e dl (ix2 r j) * q (ix2 r l) := by
  rw [← bpay32_eq]
  pointwise [k1_pay34]

theorem bpay4_at (d : S1024x1024.Idx → EReal) (old k : S1024x128.Idx → EReal) (r : Fin 1024) (l : Fin 128) :
    k1_pay4 (F := Ideal) d old k (ix2 r l) = old (ix2 r l) + ∑ j : Fin 1024, d (ix2 r j) * k (ix2 j l) := by
  pointwise [k1_pay4]

theorem bpay7_at (d : S1x1024x128.Idx → EReal) (r : Fin 1024) (l : Fin 128) :
    k1_pay7 (F := Ideal) d (ix2 r l) = d (ix3 0 r l) * (Named.named κ "ln2" (0x3F317218#32 : BitVec (FTy.bits .f32)) : Ideal .f32) := by
  pointwise [k1_pay7]

theorem bpay9_at (a b : S1x1024x128.Idx → EReal) (r : Fin 1024) (l : Fin 128) :
    k1_pay9 (F := Ideal) a b (ix2 r l) = if l.val < 64 then a (ix3 0 r l) else b (ix3 0 r l) := by
  pointwise [k1_pay9]
  rw [show (64#32) = BitVec.ofNat 32 64 from rfl, select_slt (by omega) (by omega)]

theorem bpay1_at (r : Fin 8192) (l : Fin 256) : k1_pay1 (F := Ideal) (ix2 r l) = (0 : EReal) := by
  pointwise [k1_pay1]
theorem bpay2_at (h : Fin 2) (r : Fin 1024) (l : Fin 128) : k1_pay2 (F := Ideal) (ix3 h r l) = (0 : EReal) := by
  pointwise [k1_pay2]
theorem bpay3_at (h : Fin 2) (r : Fin 1024) (l : Fin 128) : k1_pay3 (F := Ideal) (ix3 h r l) = (0 : EReal) := by
  pointwise [k1_pay3]

end Cert.Attn
-- ==== Proof.InvBwd.lean ====
/- What the backward call's gradients hold after a number of blocks. -/
module

public import proofs.«01_k».proof.Proof.PayBwd
public import proofs.«01_k».proof.Proof.InvFwd

@[expose] public section

set_option maxRecDepth 16384

noncomputable section

namespace Cert.Attn

open Cert.KernelIdeal Cert.KernelIdeal.Gen
open Idealize.ShloMosaic

/-- The softmax's weights of head `h`, as the backward call computes them. -/
def bW (dg : Bool) (X : BIn Ideal) (h : Fin 2) : S1024x1024.Idx → EReal :=
  match dg with
  | true => k1_pay37 (F := Ideal) (bS X h) k1_pay30 (colOf X.lse h)
  | false => k1_pay22 (F := Ideal) (bS X h) (colOf X.lse h)

theorem lane2_at {α : Type} (y : S1024x256.Idx → α) (h : Fin 2) (r : Fin 1024) (l : Fin 128) :
    lane2 y h (ix2 r l) = y (ix2 r ⟨128 * h.val + l.val, by omega⟩) := rfl
theorem colOf_at {α : Type} (y : S1024x128.Idx → α) (h : Fin 2) (r : Fin 1024) : colOf y h (ix2 r 0) = y (ix2 r ⟨64 * h.val, by omega⟩) := rfl

/-- A sum over 128 lanes of which only the first, or only the last, 64 count. -/
theorem sum_first (f : ℕ → ℝ) (g : ℕ → ℝ) : ∑ l : Fin 128, (if l.val < 64 then f l.val else 0) * g l.val = ∑ d : Fin 64, f d * g d := by
  rw [Fin.sum_univ_add (a := 64) (b := 64), add_eq_left.mpr]
  · exact Finset.sum_congr rfl fun d _ => by rw [if_pos (by simp)]; rfl
  · exact Finset.sum_eq_zero fun d _ => by rw [if_neg (by simp), zero_mul]
@[inherit_doc sum_first] theorem sum_last (f : ℕ → ℝ) (g : ℕ → ℝ) : ∑ l : Fin 128, (if 64 ≤ l.val then f l.val else 0) * g l.val = ∑ d : Fin 64, f (64 + d) * g (64 + d) := by
  rw [Fin.sum_univ_add (a := 64) (b := 64), add_eq_right.mpr]
  · exact Finset.sum_congr rfl fun d _ => by rw [if_pos (by simp)]; rfl
  · exact Finset.sum_eq_zero fun d _ => by rw [if_neg (by simp), zero_mul]

/-- Two to the difference of a scaled score and a row's logarithm is the weight. -/
theorem weight_eq (x : Inp) (h i j : ℕ) (hj : j ≤ i) :
    Ideal.exp2 (((kap * x.s h i j : ℝ) : EReal) - ((Real.log (x.z h i) / Real.log 2 : ℝ) : EReal)) = ((x.p h i j : ℝ) : EReal) := by
  have hl := log2_pos.ne'
  rw [exp2_sub, e2_kap, Inp.p, Inp.e, if_pos hj, e2, show Real.log 2 * -(Real.log (x.z h i) / Real.log 2) = -Real.log (x.z h i) by field_simp,
    Real.exp_neg, Real.exp_log (x.z_pos h i), div_eq_mul_inv]

section Step

variable (x : Inp) (g qi ki : ℕ) (dg : Bool) (X : BIn Ideal)
  (hle : ki ≤ qi) (hdg : dg = decide (qi = ki))
  (hq : ∀ (r : Fin 1024) (l : Fin 256), (X.q (ix2 r l) : EReal) = ((x.Q (1024 * qi + r) (256 * g + l) * kap : ℝ) : EReal))
  (hk : ∀ (r : Fin 1024) (l : Fin 256), (X.k (ix2 r l) : EReal) = ((x.K (1024 * ki + r) (256 * g + l) : ℝ) : EReal))
  (hv : ∀ (r : Fin 1024) (l : Fin 128), (X.v (ix2 r l) : EReal) = ((x.V (1024 * ki + r) (128 * g + l) : ℝ) : EReal))
  (ho : ∀ (r : Fin 1024) (l : Fin 128), (X.o (ix2 r l) : EReal) = ((x.D (1024 * qi + r) (128 * g + l) : ℝ) : EReal))
  (hl : ∀ (r : Fin 1024) (l : Fin 128), (X.lse (ix2 r l) : EReal) = ((Real.log (x.z ((128 * g + l) / 64) (1024 * qi + r)) / Real.log 2 : ℝ) : EReal))
  (hd : ∀ (r : Fin 1024) (l : Fin 128), (X.dl (ix2 r l) : EReal) = ((x.mean ((128 * g + l) / 64) (1024 * qi + r) : ℝ) : EReal))

include hq hk in
theorem bS_at (h : Fin 2) (r j : Fin 1024) : (bS X h (ix2 r j) : EReal) = ((kap * x.s (2 * g + h) (1024 * qi + r) (1024 * ki + j) : ℝ) : EReal) := by
  refine (bpay10_at (lane2 X.q h) (lane2 X.k h) r j).trans (dot_score x _ _ _ _ _ (fun l => ?_) fun l => ?_)
  · refine (hq r ⟨128 * h.val + l.val, by omega⟩).trans ?_
    rw [show 256 * g + (128 * h.val + l.val) = 128 * (2 * g + h.val) + l.val by ring]
  · refine (hk j ⟨128 * h.val + l.val, by omega⟩).trans ?_
    rw [show 256 * g + (128 * h.val + l.val) = 128 * (2 * g + h.val) + l.val by ring]

include hl in
theorem bLse_at (h : Fin 2) (r : Fin 1024) :
    (colOf X.lse h (ix2 r 0) : EReal) = ((Real.log (x.z (2 * g + h) (1024 * qi + r)) / Real.log 2 : ℝ) : EReal) := by
  refine (hl r ⟨64 * h.val, by omega⟩).trans ?_
  rw [show (128 * g + 64 * h.val) / 64 = 2 * g + h.val by omega]

include hd in
theorem bMean_at (h : Fin 2) (r : Fin 1024) : (colOf X.dl h (ix2 r 0) : EReal) = ((x.mean (2 * g + h) (1024 * qi + r) : ℝ) : EReal) := by
  refine (hd r ⟨64 * h.val, by omega⟩).trans ?_
  rw [show (128 * g + 64 * h.val) / 64 = 2 * g + h.val by omega]

include hle hdg hq hk hl in
theorem bW_at (h : Fin 2) (r j : Fin 1024) : bW dg X h (ix2 r j) = ((x.p (2 * g + h) (1024 * qi + r) (1024 * ki + j) : ℝ) : EReal) := by
  have hs := bS_at x g qi ki X hq hk h r j
  have he := bLse_at x g qi X hl h r
  by_cases hd : qi = ki
  · obtain rfl : dg = true := by rw [hdg]; exact decide_eq_true hd
    refine (bpay37_at (bS X h) (colOf X.lse h) r j).trans ?_
    split
    · rw [hs, he, weight_eq x _ _ _ (by omega)]
    · rw [x.p_of_lt (by omega)]; rfl
  · obtain rfl : dg = false := by rw [hdg]; exact decide_eq_false hd
    refine (bpay22_at (bS X h) (colOf X.lse h) r j).trans ?_
    rw [hs, he, weight_eq x _ _ _ (by omega)]

include hv ho in
theorem bDp_at (h : Fin 2) (r j : Fin 1024) : (bDp X h (ix2 r j) : EReal) = ((x.dp (2 * g + h) (1024 * qi + r) (1024 * ki + j) : ℝ) : EReal) := by
  by_cases h0 : h = 0
  · subst h0
    refine (bpay12_at X.o X.v r j).trans ?_
    rw [sum_coe_mul _ _ (fun l => if l.val < 64 then x.D (1024 * qi + r) (128 * g + l) else 0) (fun l => x.V (1024 * ki + j) (128 * g + l))
      (fun l => by split <;> first | exact ho r l | rfl) (fun l => hv j l)]
    refine congrArg _ ((sum_first (fun l => x.D (1024 * qi + r) (128 * g + l)) (fun l => x.V (1024 * ki + j) (128 * g + l))).trans ?_)
    refine Finset.sum_congr rfl fun d _ => ?_
    rw [show 64 * (2 * g + (0 : Fin 2).val) = 128 * g by simp; ring]
  · obtain rfl : h = 1 := by omega
    refine (bpay13_at X.o X.v r j).trans ?_
    rw [sum_coe_mul _ _ (fun l => if 64 ≤ l.val then x.D (1024 * qi + r) (128 * g + l) else 0) (fun l => x.V (1024 * ki + j) (128 * g + l))
      (fun l => by split <;> first | exact ho r l | rfl) (fun l => hv j l)]
    refine congrArg _ ((sum_last (fun l => x.D (1024 * qi + r) (128 * g + l)) (fun l => x.V (1024 * ki + j) (128 * g + l))).trans ?_)
    refine Finset.sum_congr rfl fun d _ => ?_
    rw [show 64 * (2 * g + (1 : Fin 2).val) + d.val = 128 * g + (64 + d.val) by simp; ring]

include hle hdg hq hk hv ho hl hd in
theorem bDs_at (h : Fin 2) (r j : Fin 1024) : (bDs dg X h (ix2 r j) : EReal) = ((x.ds (2 * g + h) (1024 * qi + r) (1024 * ki + j) : ℝ) : EReal) := by
  have hw := bW_at x g qi ki dg X hle hdg hq hk hl h r j
  have hp := bDp_at x g qi ki X hv ho h r j
  have hm := bMean_at x g qi X hd h r
  cases dg with
  | true =>
    refine (bpay38_at (bS X h) (bDp X h) (colOf X.lse h) (colOf X.dl h) r j).trans ?_
    rw [hp, hm, show k1_pay37 (F := Ideal) (bS X h) k1_pay30 (colOf X.lse h) (ix2 r j) = _ from hw, ← EReal.coe_sub, ← EReal.coe_mul]; rfl
  | false =>
    refine (bpay23_at (bS X h) (bDp X h) (colOf X.lse h) (colOf X.dl h) r j).trans ?_
    rw [hp, hm, show k1_pay22 (F := Ideal) (bS X h) (colOf X.lse h) (ix2 r j) = _ from hw, ← EReal.coe_sub, ← EReal.coe_mul]; rfl

/-- The gradients of a key block's values and keys hold the query blocks from the key block's own to before `n`. -/
def BInv (x : Inp) (g ki n : ℕ) (st : BSt Ideal) : Prop :=
  ∀ (h : Fin 2) (j : Fin 1024) (l : Fin 128),
    (st.dv (ix3 h j l) : EReal)
      = ((∑ b ∈ Finset.Ico ki n, ∑ r : Fin 1024, x.p (2 * g + h) (1024 * b + r) (1024 * ki + j) * x.D (1024 * b + r) (128 * g + l) : ℝ) : EReal)
    ∧ (st.dk (ix3 h j l) : EReal)
      = ((∑ b ∈ Finset.Ico ki n, ∑ r : Fin 1024, x.ds (2 * g + h) (1024 * b + r) (1024 * ki + j) * (x.Q (1024 * b + r) (128 * (2 * g + h) + l) * kap) : ℝ) : EReal)

theorem BInv_init : BInv x g ki ki bInit := fun h j l => by
  rw [Finset.Ico_self, Finset.sum_empty, Finset.sum_empty]
  exact ⟨bpay3_at h j l, bpay2_at h j l⟩

include hle hdg hq hk hl ho in
theorem bDv_at (h : Fin 2) (old : S1x1024x128.Idx → EReal) (j : Fin 1024) (l : Fin 128) : (bDv dg X h old (ix3 0 j l) : EReal)
    = old (ix3 0 j l) + ((∑ r : Fin 1024, x.p (2 * g + h) (1024 * qi + r) (1024 * ki + j) * x.D (1024 * qi + r) (128 * g + l) : ℝ) : EReal) := by
  have hw := fun r => bW_at x g qi ki dg X hle hdg hq hk hl h r j
  rw [← sum_coe_mul (fun r => bW dg X h (ix2 r j)) (fun r => X.o (ix2 r l)) _ _ hw fun r => ho r l]
  cases dg with
  | true => exact bpay39_at (bS X h) (colOf X.lse h) old X.o j l
  | false => exact bpay24_at (bS X h) (colOf X.lse h) old X.o j l

include hle hdg hq hk hv ho hl hd in
theorem bDk_at (h : Fin 2) (old : S1x1024x128.Idx → EReal) (j : Fin 1024) (l : Fin 128) : (bDk dg X h old (ix3 0 j l) : EReal)
    = old (ix3 0 j l) + ((∑ r : Fin 1024, x.ds (2 * g + h) (1024 * qi + r) (1024 * ki + j) * (x.Q (1024 * qi + r) (128 * (2 * g + h) + l) * kap) : ℝ) : EReal) := by
  have hw := fun r => bDs_at x g qi ki dg X hle hdg hq hk hv ho hl hd h r j
  rw [← sum_coe_mul (fun r => (bDs dg X h (ix2 r j) : EReal)) (fun r => (lane2 X.q h (ix2 r l) : EReal)) _ _ hw fun r => by
    refine (hq r ⟨128 * h.val + l.val, by omega⟩).trans ?_
    rw [show 256 * g + (128 * h.val + l.val) = 128 * (2 * g + h.val) + l.val by ring]]
  cases dg with
  | true => exact bpay34_at (bS X h) (bDp X h) (colOf X.lse h) (colOf X.dl h) old (lane2 X.q h) j l
  | false => exact bpay25_at (bS X h) (bDp X h) (colOf X.lse h) (colOf X.dl h) old (lane2 X.q h) j l

include hle hdg hq hk hv ho hl hd in
theorem BInv_step (st : BSt Ideal) (hst : BInv x g ki qi st) : BInv x g ki (qi + 1) (bStep dg X st) := by
  intro h j l
  constructor
  · refine (stackOf_at (fun h => bDv dg X h (headOf st.dv h)) h j l).trans ?_
    rw [bDv_at x g qi ki dg X hle hdg hq hk ho hl h (headOf st.dv h) j l, headOf_at, (hst h j l).1, ← EReal.coe_add, Finset.sum_Ico_succ_top hle]
  · refine (stackOf_at (fun h => bDk dg X h (headOf st.dk h)) h j l).trans ?_
    rw [bDk_at x g qi ki dg X hle hdg hq hk hv ho hl hd h (headOf st.dk h) j l, headOf_at, (hst h j l).2, ← EReal.coe_add, Finset.sum_Ico_succ_top hle]

/-- Block `a` of the rows of the queries' gradient holds the first `f a` key blocks. -/
def QInv (x : Inp) (g : ℕ) (f : ℕ → ℕ) (y : S8192x256.Idx → EReal) : Prop :=
  ∀ (i : Fin 8192) (l : Fin 256), y (ix2 i l)
    = ((∑ b ∈ Finset.range (f (i.val / 1024)), ∑ j : Fin 1024, x.ds (2 * g + l.val / 128) i (1024 * b + j) * x.K (1024 * b + j) (256 * g + l) : ℝ) : EReal)

theorem QInv_init (f : ℕ → ℕ) (hf : ∀ a < 8, f a = 0) : QInv x g f (k1_pay1 (F := Ideal)) := fun i l => by
  rw [hf _ (by omega), Finset.range_zero, Finset.sum_empty]
  exact bpay1_at i l

include hle hdg hq hk hv ho hl hd in
theorem QInv_step (b : Fin 8) (hb : b.val = qi) (f f' : ℕ → ℕ) (hf : f qi = ki) (hf' : ∀ a < 8, f' a = if a = qi then f a + 1 else f a)
    (y : S8192x256.Idx → EReal) (hy : QInv x g f y) : QInv x g f' (bDq dg X b y) := by
  intro i l
  have hi := i.isLt
  rw [hf' _ (by omega)]
  show (if i.val / 1024 = b.val then k1_pay4 (F := Ideal) (bDs dg X ⟨l.val / 128, by omega⟩) (rowsOf y b ⟨l.val / 128, by omega⟩) (lane2 X.k ⟨l.val / 128, by omega⟩)
    (ix2 ⟨i.val % 1024, by omega⟩ ⟨l.val % 128, by omega⟩) else y (ix2 i l)) = _
  rw [hb]
  by_cases hr : i.val / 1024 = qi
  · rw [if_pos hr, if_pos hr, hr, hf]
    refine (bpay4_at (bDs dg X ⟨l.val / 128, by omega⟩) (rowsOf y b ⟨l.val / 128, by omega⟩) (lane2 X.k ⟨l.val / 128, by omega⟩)
      ⟨i.val % 1024, by omega⟩ ⟨l.val % 128, by omega⟩).trans ?_
    have e1 : 1024 * qi + i.val % 1024 = i.val := by omega
    have e2 : rowsOf y b ⟨l.val / 128, by omega⟩ (ix2 ⟨i.val % 1024, by omega⟩ ⟨l.val % 128, by omega⟩) = y (ix2 i l) := by
      refine congrArg₂ (fun a c => y (ix2 a c)) (Fin.ext ?_) (Fin.ext ?_)
      · show 1024 * b.val + i.val % 1024 = i.val; omega
      · show 128 * (l.val / 128) + l.val % 128 = l.val; omega
    rw [e2, hy i l, hr, hf, Finset.sum_range_succ, EReal.coe_add]
    refine congrArg (_ + ·) (sum_coe_mul _ _ (fun j : Fin 1024 => x.ds (2 * g + l.val / 128) i (1024 * ki + j)) (fun j => x.K (1024 * ki + j) (256 * g + l)) (fun j => ?_) fun j => ?_)
    · refine (bDs_at x g qi ki dg X hle hdg hq hk hv ho hl hd ⟨l.val / 128, by omega⟩ ⟨i.val % 1024, by omega⟩ j).trans ?_
      show ((x.ds (2 * g + l.val / 128) (1024 * qi + i.val % 1024) (1024 * ki + j) : ℝ) : EReal) = _
      rw [e1]
    · refine (hk j ⟨128 * (l.val / 128) + l.val % 128, by omega⟩).trans ?_
      show ((x.K (1024 * ki + j) (256 * g + (128 * (l.val / 128) + l.val % 128)) : ℝ) : EReal) = _
      rw [show 128 * (l.val / 128) + l.val % 128 = l.val by omega]
  · rw [if_neg hr, if_neg hr]
    exact hy i l

end Step

theorem ln2_eq : (Named.named κ "ln2" (0x3F317218#32 : BitVec (FTy.bits .f32)) : Ideal .f32) = ((Real.log 2 : ℝ) : EReal) := rfl

theorem Inp.ds_of_lt (x : Inp) {h i j : ℕ} (hij : i < j) : x.ds h i j = 0 := by rw [Inp.ds, x.p_of_lt hij, zero_mul]

section Out

variable (x : Inp) (g ki : ℕ) (hk8 : ki < 8) (st : BSt Ideal) (hst : BInv x g ki 8 st)
include hk8 hst

/-- The block of the keys' gradient that a key block's last point writes. -/
theorem bOutK_at (r : Fin 1024) (l : Fin 256) : (bOutK st (ix2 r l) : EReal) = ((x.dk (1024 * ki + r) (256 * g + l) : ℝ) : EReal) := by
  have hl2 := log2_pos.ne'
  refine (bpay7_at (headOf st.dk ⟨l.val / 128, by omega⟩) r ⟨l.val % 128, by omega⟩).trans ?_
  rw [ln2_eq, headOf_at, (hst _ _ _).2, ← EReal.coe_mul]
  refine congrArg _ ?_
  rw [sum_rows_ge (fun i => x.ds (2 * g + l.val / 128) i (1024 * ki + r) * (x.Q i (128 * (2 * g + l.val / 128) + l.val % 128) * kap)) ki hk8
    (fun i hi => by simp only [x.ds_of_lt (show i < 1024 * ki + r.val by omega), zero_mul]),
    Inp.dk, show (256 * g + l.val) / 128 = 2 * g + l.val / 128 by omega, Finset.sum_mul, Finset.mul_sum]
  refine Finset.sum_congr rfl fun i _ => ?_
  rw [show 128 * (2 * g + l.val / 128) + l.val % 128 = 256 * g + l.val by omega, kap]
  field_simp

/-- The block of the values' gradient that a key block's last point writes. -/
theorem bOutV_at (r : Fin 1024) (l : Fin 128) : (bOutV st (ix2 r l) : EReal) = ((x.dv (1024 * ki + r) (128 * g + l) : ℝ) : EReal) := by
  have key : ∀ h : Fin 2, l.val / 64 = h.val → (st.dv (ix3 h r l) : EReal) = ((x.dv (1024 * ki + r) (128 * g + l) : ℝ) : EReal) := fun h hh => by
    rw [(hst h r l).1, sum_rows_ge (fun i => x.p (2 * g + h) i (1024 * ki + r) * x.D i (128 * g + l)) ki hk8
      (fun i hi => by simp only [x.p_of_lt (show i < 1024 * ki + r.val by omega), zero_mul]),
      Inp.dv, show (128 * g + l.val) / 64 = 2 * g + h.val by omega]
  refine (bpay9_at (headOf st.dv 0) (headOf st.dv 1) r l).trans ?_
  split
  · exact key 0 (by show l.val / 64 = 0; omega)
  · exact key 1 (by show l.val / 64 = 1; omega)

end Out

/-- A row of the queries' gradient that holds all its key blocks. -/
theorem dq_full (x : Inp) (g i l : ℕ) (hi : i < 8192) :
    ∑ b ∈ Finset.range (i / 1024 + 1), ∑ j : Fin 1024, x.ds (2 * g + l / 128) i (1024 * b + j) * x.K (1024 * b + j) (256 * g + l)
      = ∑ j : Fin 8192, x.ds ((256 * g + l) / 128) i j * x.K j (256 * g + l) := by
  rw [show (256 * g + l) / 128 = 2 * g + l / 128 by omega]
  exact sum_rows_le (fun j => x.ds (2 * g + l / 128) i j * x.K j (256 * g + l)) (i / 1024) (by omega)
    fun j hj => by simp only [x.ds_of_lt (show i < j by omega), zero_mul]

end Cert.Attn
-- ==== Proof.ArrBwd.lean ====
/- The backward call's three result arrays: the gradients of the queries, the keys and the values. -/
module

public import proofs.«01_k».proof.Proof.InvBwd
public import proofs.«01_k».proof.Proof.DatBwd
public import Idealize.ShloMosaic.Lib.Pipeline.ValueKit

@[expose] public section

set_option maxRecDepth 16384

noncomputable section

namespace Cert.Attn

open Cert.KernelIdeal Cert.KernelIdeal.Gen
open Idealize.ShloMosaic
open Idealize.ShloMosaic.TcCoe
open Idealize.ShloMosaic.Pipeline (Dat Cfg Window)

/-- The query block and the key block of point `n` of the backward call. -/
def qi1 (n : ℕ) : ℕ := (lit2 ⟨n % 36, Nat.mod_lt _ (by decide)⟩).toNat
@[inherit_doc qi1] def ki1 (n : ℕ) : ℕ := (lit3 ⟨n % 36, Nat.mod_lt _ (by decide)⟩).toNat

/-- How many key blocks the queries' gradient holds in block `a` of its rows: before point `n`, in the point's group of heads. -/
def qdone (n a : ℕ) : ℕ :=
  if n % 36 = 0 then 0 else if a < ki1 (n - 1) then a + 1 else if a ≤ qi1 (n - 1) then ki1 (n - 1) + 1 else ki1 (n - 1)
/-- The same after point `n`. -/
def qnext (n a : ℕ) : ℕ := if a < ki1 n then a + 1 else if a ≤ qi1 n then ki1 n + 1 else ki1 n

theorem sched1 : ∀ t : Fin 144, qi1 t < 8 ∧ ki1 t ≤ qi1 t ∧ dg1 t = decide (qi1 t = ki1 t) ∧ (qb1 t).val = qi1 t
    ∧ (qi1 t ≠ ki1 t → 0 < t.val ∧ ki1 (t.val - 1) = ki1 t ∧ qi1 (t.val - 1) + 1 = qi1 t ∧ (t.val - 1) / 36 = t.val / 36) := by
  decide +kernel
theorem done1 : ∀ t : Fin 144, qdone t (qi1 t) = ki1 t ∧ (∀ a < 8, qnext t a = if a = qi1 t then qdone t a + 1 else qdone t a)
    ∧ (t.val % 36 = 35 → ∀ a < 8, qnext t a = a + 1) := by
  decide +kernel

theorem index1_0 : ∀ t : Fin (cfgA1 Ideal).N, ∀ a, ((cfgA1 Ideal).win (0 : Fin 9)).index t a = (![qi1 t.val, t.val / 36] : Fin 2 → ℕ) a := by
  decide +kernel
theorem index1_1 : ∀ t : Fin (cfgA1 Ideal).N, ∀ a, ((cfgA1 Ideal).win (1 : Fin 9)).index t a = (![ki1 t.val, t.val / 36] : Fin 2 → ℕ) a := by
  decide +kernel
theorem index1_2 : ∀ t : Fin (cfgA1 Ideal).N, ∀ a, ((cfgA1 Ideal).win (2 : Fin 9)).index t a = (![ki1 t.val, t.val / 36] : Fin 2 → ℕ) a := by
  decide +kernel
theorem index1_3 : ∀ t : Fin (cfgA1 Ideal).N, ∀ a, ((cfgA1 Ideal).win (3 : Fin 9)).index t a = (![qi1 t.val, t.val / 36] : Fin 2 → ℕ) a := by
  decide +kernel
theorem index1_4 : ∀ t : Fin (cfgA1 Ideal).N, ∀ a, ((cfgA1 Ideal).win (4 : Fin 9)).index t a = (![qi1 t.val, t.val / 36] : Fin 2 → ℕ) a := by
  decide +kernel
theorem index1_5 : ∀ t : Fin (cfgA1 Ideal).N, ∀ a, ((cfgA1 Ideal).win (5 : Fin 9)).index t a = (![qi1 t.val, t.val / 36] : Fin 2 → ℕ) a := by
  decide +kernel
theorem index1_6 : ∀ t : Fin (cfgA1 Ideal).N, ∀ a, ((cfgA1 Ideal).win (6 : Fin 9)).index t a = (![0, t.val / 36] : Fin 2 → ℕ) a := by
  decide +kernel
theorem index1_7 : ∀ t : Fin (cfgA1 Ideal).N, ∀ a, ((cfgA1 Ideal).win (7 : Fin 9)).index t a = (![ki1 t.val, t.val / 36] : Fin 2 → ℕ) a := by
  decide +kernel
theorem index1_8 : ∀ t : Fin (cfgA1 Ideal).N, ∀ a, ((cfgA1 Ideal).win (8 : Fin 9)).index t a = (![ki1 t.val, t.val / 36] : Fin 2 → ℕ) a := by
  decide +kernel
theorem last1_6 : ∀ t : Fin (cfgA1 Ideal).N, ((cfgA1 Ideal).win (6 : Fin 9)).flush t = true → t.val % 36 = 35 := by decide +kernel
theorem last1_7 : ∀ t : Fin (cfgA1 Ideal).N, ((cfgA1 Ideal).win (7 : Fin 9)).flush t = true → qi1 t.val = 7 := by decide +kernel
theorem last1_8 : ∀ t : Fin (cfgA1 Ideal).N, ((cfgA1 Ideal).win (8 : Fin 9)).flush t = true → qi1 t.val = 7 := by decide +kernel
theorem covers1_6 : ((cfgA1 Ideal).win (6 : Fin 9)).Covers := by decide +kernel
theorem covers1_7 : ((cfgA1 Ideal).win (7 : Fin 9)).Covers := by decide +kernel
theorem covers1_8 : ((cfgA1 Ideal).win (8 : Fin 9)).Covers := by decide +kernel

theorem N1 : (cfgA1 Ideal).N = 144 := by decide +kernel

section Run

variable (M : (ℓ : Loc nD τ sig) → Buf (Elt Ideal) ℓ) (c : Dev nD) (x : Inp)
  (hQ : ∀ (i : Fin 8192) (l : Fin 1024), (M ((c.tc : Thread nD τ).loc main_v5) (ix2 i l) : EReal) = ((x.Q i l * kap : ℝ) : EReal))
  (hK : ∀ (i : Fin 8192) (l : Fin 1024), (M ((c.tc : Thread nD τ).loc main_v6) (ix2 i l) : EReal) = ((x.K i l : ℝ) : EReal))
  (hV : ∀ (i : Fin 8192) (l : Fin 512), (M ((c.tc : Thread nD τ).loc main_v7) (ix2 i l) : EReal) = ((x.V i l : ℝ) : EReal))
  (hD : ∀ (i : Fin 8192) (l : Fin 512), (M ((c.tc : Thread nD τ).loc main_v15) (ix2 i l) : EReal) = ((x.D i l : ℝ) : EReal))
  (hL : ∀ (i : Fin 8192) (l : Fin 512), (M ((c.tc : Thread nD τ).loc main_v8_1) (ix2 i l) : EReal) = ((Real.log (x.z (l.val / 64) i) / Real.log 2 : ℝ) : EReal))
  (hM : ∀ (i : Fin 8192) (l : Fin 512), (M ((c.tc : Thread nD τ).loc main_v14) (ix2 i l) : EReal) = ((x.mean (l.val / 64) i : ℝ) : EReal))

theorem iblk1_0 (t : Fin (cfgA1 Ideal).N) (r : Fin 1024) (l : Fin 256) (h1 : 1024 * qi1 t.val + r.val < 8192) (h2 : 256 * (t.val / 36) + l.val < 1024) :
    iblk1 M c (0 : Fin 9) t (ix2 r l) = M ((c.tc : Thread nD τ).loc main_v5) (ix2 ⟨1024 * qi1 t.val + r.val, h1⟩ ⟨256 * (t.val / 36) + l.val, h2⟩) := by
  blk_ext [iblk1, index1_0 t]
theorem iblk1_1 (t : Fin (cfgA1 Ideal).N) (r : Fin 1024) (l : Fin 256) (h1 : 1024 * ki1 t.val + r.val < 8192) (h2 : 256 * (t.val / 36) + l.val < 1024) :
    iblk1 M c (1 : Fin 9) t (ix2 r l) = M ((c.tc : Thread nD τ).loc main_v6) (ix2 ⟨1024 * ki1 t.val + r.val, h1⟩ ⟨256 * (t.val / 36) + l.val, h2⟩) := by
  blk_ext [iblk1, index1_1 t]
theorem iblk1_2 (t : Fin (cfgA1 Ideal).N) (r : Fin 1024) (l : Fin 128) (h1 : 1024 * ki1 t.val + r.val < 8192) (h2 : 128 * (t.val / 36) + l.val < 512) :
    iblk1 M c (2 : Fin 9) t (ix2 r l) = M ((c.tc : Thread nD τ).loc main_v7) (ix2 ⟨1024 * ki1 t.val + r.val, h1⟩ ⟨128 * (t.val / 36) + l.val, h2⟩) := by
  blk_ext [iblk1, index1_2 t]
theorem iblk1_3 (t : Fin (cfgA1 Ideal).N) (r : Fin 1024) (l : Fin 128) (h1 : 1024 * qi1 t.val + r.val < 8192) (h2 : 128 * (t.val / 36) + l.val < 512) :
    iblk1 M c (3 : Fin 9) t (ix2 r l) = M ((c.tc : Thread nD τ).loc main_v15) (ix2 ⟨1024 * qi1 t.val + r.val, h1⟩ ⟨128 * (t.val / 36) + l.val, h2⟩) := by
  blk_ext [iblk1, index1_3 t]
theorem iblk1_4 (t : Fin (cfgA1 Ideal).N) (r : Fin 1024) (l : Fin 128) (h1 : 1024 * qi1 t.val + r.val < 8192) (h2 : 128 * (t.val / 36) + l.val < 512) :
    iblk1 M c (4 : Fin 9) t (ix2 r l) = M ((c.tc : Thread nD τ).loc main_v8_1) (ix2 ⟨1024 * qi1 t.val + r.val, h1⟩ ⟨128 * (t.val / 36) + l.val, h2⟩) := by
  blk_ext [iblk1, index1_4 t]
theorem iblk1_5 (t : Fin (cfgA1 Ideal).N) (r : Fin 1024) (l : Fin 128) (h1 : 1024 * qi1 t.val + r.val < 8192) (h2 : 128 * (t.val / 36) + l.val < 512) :
    iblk1 M c (5 : Fin 9) t (ix2 r l) = M ((c.tc : Thread nD τ).loc main_v14) (ix2 ⟨1024 * qi1 t.val + r.val, h1⟩ ⟨128 * (t.val / 36) + l.val, h2⟩) := by
  blk_ext [iblk1, index1_5 t]

/-- What a point's input blocks hold. -/
structure Reads (x : Inp) (g qi ki : ℕ) (X : BIn Ideal) : Prop where
  q : ∀ (r : Fin 1024) (l : Fin 256), (X.q (ix2 r l) : EReal) = ((x.Q (1024 * qi + r) (256 * g + l) * kap : ℝ) : EReal)
  k : ∀ (r : Fin 1024) (l : Fin 256), (X.k (ix2 r l) : EReal) = ((x.K (1024 * ki + r) (256 * g + l) : ℝ) : EReal)
  v : ∀ (r : Fin 1024) (l : Fin 128), (X.v (ix2 r l) : EReal) = ((x.V (1024 * ki + r) (128 * g + l) : ℝ) : EReal)
  o : ∀ (r : Fin 1024) (l : Fin 128), (X.o (ix2 r l) : EReal) = ((x.D (1024 * qi + r) (128 * g + l) : ℝ) : EReal)
  e : ∀ (r : Fin 1024) (l : Fin 128), (X.lse (ix2 r l) : EReal) = ((Real.log (x.z ((128 * g + l) / 64) (1024 * qi + r)) / Real.log 2 : ℝ) : EReal)
  m : ∀ (r : Fin 1024) (l : Fin 128), (X.dl (ix2 r l) : EReal) = ((x.mean ((128 * g + l) / 64) (1024 * qi + r) : ℝ) : EReal)

include hQ hK hV hD hL hM in
theorem reads1 (n : ℕ) (hn : n < 144) (hN : n < (cfgA1 Ideal).N) : Reads x (n / 36) (qi1 n) (ki1 n) (X1 M c ⟨n, hN⟩) := by
  obtain ⟨hq8, hkq, -, -, -⟩ := sched1 ⟨n, hn⟩
  simp only at hq8 hkq
  exact {
    q := fun r l => (iblk1_0 M c ⟨n, hN⟩ r l (by simp only; omega) (by simp only; omega)).trans (hQ _ _)
    k := fun r l => (iblk1_1 M c ⟨n, hN⟩ r l (by simp only; omega) (by simp only; omega)).trans (hK _ _)
    v := fun r l => (iblk1_2 M c ⟨n, hN⟩ r l (by simp only; omega) (by simp only; omega)).trans (hV _ _)
    o := fun r l => (iblk1_3 M c ⟨n, hN⟩ r l (by simp only; omega) (by simp only; omega)).trans (hD _ _)
    e := fun r l => (iblk1_4 M c ⟨n, hN⟩ r l (by simp only; omega) (by simp only; omega)).trans (hL _ _)
    m := fun r l => (iblk1_5 M c ⟨n, hN⟩ r l (by simp only; omega) (by simp only; omega)).trans (hM _ _) }

include hQ hK hV hD hL hM in
/-- After point `n`, the query blocks up to the point's own are folded into the gradients of the key block. -/
theorem St1_inv : ∀ (n : ℕ) (_ : n < 144), BInv x (n / 36) (ki1 n) (qi1 n + 1) (St1 M c (n + 1)) := by
  intro n
  induction n using Nat.strong_induction_on with
  | _ n ih =>
    intro hn
    obtain ⟨hq8, hkq, hdg, -, hprev⟩ := sched1 ⟨n, hn⟩
    simp only at hq8 hkq hdg hprev
    have hN : n < (cfgA1 Ideal).N := by rw [N1]; exact hn
    have R := reads1 M c x hQ hK hV hD hL hM n hn hN
    rw [show St1 M c (n + 1) = _ from St1_succ M c ⟨n, hN⟩]
    refine BInv_step x (n / 36) (qi1 n) (ki1 n) (dg1 n) _ hkq hdg R.q R.k R.v R.o R.e R.m _ ?_
    by_cases h0 : qi1 n = ki1 n
    · rw [show dg1 (⟨n, hN⟩ : Fin (cfgA1 Ideal).N).val = true from hdg.trans (decide_eq_true h0), if_pos rfl, h0]
      exact BInv_init x _ _
    · rw [show dg1 (⟨n, hN⟩ : Fin (cfgA1 Ideal).N).val = false from hdg.trans (decide_eq_false h0), if_neg (by decide)]
      obtain ⟨hpos, e1, e2, e3⟩ := hprev h0
      have := ih (n - 1) (by omega) (by omega)
      rw [e1, e2, e3, show n - 1 + 1 = n by omega] at this
      exact this

include hQ hK hV hD hL hM in
/-- After point `n`, the queries' gradient holds the key blocks done. -/
theorem Q1_inv : ∀ (n : ℕ) (_ : n < 144), QInv x (n / 36) (qnext n) (Q1 M c (n + 1)) := by
  intro n
  induction n using Nat.strong_induction_on with
  | _ n ih =>
    intro hn
    obtain ⟨hq8, hkq, hdg, hqb, -⟩ := sched1 ⟨n, hn⟩
    obtain ⟨hd1, hd2, -⟩ := done1 ⟨n, hn⟩
    simp only at hq8 hkq hdg hqb hd1 hd2
    have hN : n < (cfgA1 Ideal).N := by rw [N1]; exact hn
    have R := reads1 M c x hQ hK hV hD hL hM n hn hN
    rw [show Q1 M c (n + 1) = _ from Q1_succ M c ⟨n, hN⟩]
    refine QInv_step x (n / 36) (qi1 n) (ki1 n) (dg1 n) _ hkq hdg R.q R.k R.v R.o R.e R.m (qb1 n) hqb (qdone n) (qnext n) hd1 hd2 _ ?_
    by_cases h0 : n % 36 = 0
    · rw [if_pos h0]
      exact QInv_init x _ _ fun a _ => if_pos h0
    · rw [if_neg h0]
      have := ih (n - 1) (by omega) (by omega)
      rw [show (n - 1) / 36 = n / 36 by omega, show n - 1 + 1 = n by omega] at this
      rw [show qdone n = qnext (n - 1) from funext fun a => if_neg h0]
      exact this

include hQ hK hV hD hL hM in
/-- The array of the queries' gradient, without the scores' factor. -/
theorem arr1_6 : (dat1 M c).arrAt (6 : Fin 9) (cfgA1 Ideal).N
    = fun j : S8192x1024.Idx => ((∑ k : Fin 8192, x.ds ((j 1).val / 128) (j 0).val k * x.K k (j 1).val : ℝ) : EReal) := by
  refine (dat1 M c).arrAt_eq_of_covers (6 : Fin 9) _ covers1_6 fun t hf y => ?_
  have ht : t.val < 144 := lt_of_lt_of_eq t.isLt N1
  have hl := last1_6 t hf
  have hfull := (done1 ⟨t.val, ht⟩).2.2 hl
  have inv := Q1_inv M c x hQ hK hV hD hL hM t.val ht
  blk_simp
  rw [after1_6, index1_6 t 0, index1_6 t 1]
  obtain ⟨r, l, rfl⟩ : ∃ (r : Fin 8192) (l : Fin 256), y = ix2 r l := ⟨y 0, y 1, eq_ix2 y⟩
  refine (inv r l).trans ?_
  show _ = ((∑ k : Fin 8192, x.ds ((t.val / 36 * 256 + l.val) / 128) (0 * 8192 + r.val) k * x.K k (t.val / 36 * 256 + l.val) : ℝ) : EReal)
  have hr := r.isLt
  rw [show qnext t.val (r.val / 1024) = r.val / 1024 + 1 from hfull _ (by omega), dq_full x _ _ _ r.isLt, mul_comm 256, Nat.zero_mul, Nat.zero_add]

include hQ hK hV hD hL hM in
/-- The array of the keys' gradient. -/
theorem arr1_7 : (dat1 M c).arrAt (7 : Fin 9) (cfgA1 Ideal).N = fun j : S8192x1024.Idx => ((x.dk (j 0).val (j 1).val : ℝ) : EReal) := by
  refine (dat1 M c).arrAt_eq_of_covers (7 : Fin 9) _ covers1_7 fun t hf y => ?_
  have ht : t.val < 144 := lt_of_lt_of_eq t.isLt N1
  have hl := last1_7 t hf
  obtain ⟨hq8, hkq, -, -, -⟩ := sched1 ⟨t.val, ht⟩
  have inv := St1_inv M c x hQ hK hV hD hL hM t.val ht
  rw [hl] at inv
  blk_simp
  rw [after1_7, index1_7 t 0, index1_7 t 1]
  obtain ⟨r, l, rfl⟩ : ∃ (r : Fin 1024) (l : Fin 256), y = ix2 r l := ⟨y 0, y 1, eq_ix2 y⟩
  refine (bOutK_at x (t.val / 36) (ki1 t.val) (lt_of_le_of_lt hkq hq8) _ inv r l).trans ?_
  show _ = ((x.dk (ki1 t.val * 1024 + r.val) (t.val / 36 * 256 + l.val) : ℝ) : EReal)
  rw [mul_comm 1024, mul_comm 256]

include hQ hK hV hD hL hM in
/-- The array of the values' gradient. -/
theorem arr1_8 : (dat1 M c).arrAt (8 : Fin 9) (cfgA1 Ideal).N = fun j : S8192x512.Idx => ((x.dv (j 0).val (j 1).val : ℝ) : EReal) := by
  refine (dat1 M c).arrAt_eq_of_covers (8 : Fin 9) _ covers1_8 fun t hf y => ?_
  have ht : t.val < 144 := lt_of_lt_of_eq t.isLt N1
  have hl := last1_8 t hf
  obtain ⟨hq8, hkq, -, -, -⟩ := sched1 ⟨t.val, ht⟩
  have inv := St1_inv M c x hQ hK hV hD hL hM t.val ht
  rw [hl] at inv
  blk_simp
  rw [after1_8, index1_8 t 0, index1_8 t 1]
  obtain ⟨r, l, rfl⟩ : ∃ (r : Fin 1024) (l : Fin 128), y = ix2 r l := ⟨y 0, y 1, eq_ix2 y⟩
  refine (bOutV_at x (t.val / 36) (ki1 t.val) (lt_of_le_of_lt hkq hq8) _ inv r l).trans ?_
  show _ = ((x.dv (ki1 t.val * 1024 + r.val) (t.val / 36 * 128 + l.val) : ℝ) : EReal)
  rw [mul_comm 1024, mul_comm 128]

end Run

end Cert.Attn
-- ==== Proof.Values.lean ====
/- What the kernel's program leaves in its four results, the arguments being real. -/
module

public import proofs.«01_k».proof.Proof.Launch
public import proofs.«01_k».proof.Proof.ArrFwd
public import proofs.«01_k».proof.Proof.ArrBwd

@[expose] public section

set_option maxRecDepth 16384

noncomputable section

namespace Cert.Attn

open Cert.KernelIdeal Cert.KernelIdeal.Gen
open Idealize.ShloMosaic
open Idealize.ShloMosaic.TcCoe Idealize.ShloMosaic.Tactic

attribute [local irreducible] W2 W3 W4 dat0 dat1

section Terms

variable {F : FTy → Type} [FloatOps F] [Named F] (m : (ℓ : Loc nD τ sig) → Buf (Elt F) ℓ) (c : Dev nD)

/-! ### The host operations' results -/

theorem V1_q : V1 m c main_v5 = truncf .bf16 (mulf (m ((c.tc : Thread nD τ).loc main_arg0)) (broadcastInDim S8192x1024 ![] bcast_S_S8192x1024
    (id (Host.divf (constant S_ .f32 0x3DD105EC#32) (Host.log (constant S_ .f32 0x40000000#32)))))) bitsLt_bf16_f32 := by
  unfold V1; after_results_simp <;> rfl
theorem V1_k : V1 m c main_v6 = truncf .bf16 (m ((c.tc : Thread nD τ).loc main_arg1)) bitsLt_bf16_f32 := by
  unfold V1; after_results_simp <;> rfl
theorem V1_v : V1 m c main_v7 = truncf .bf16 (m ((c.tc : Thread nD τ).loc main_arg2)) bitsLt_bf16_f32 := by
  unfold V1; after_results_simp <;> rfl
theorem W3_mean : W3 m c main_v14 = shapeCast S8192x512 (broadcastInDim S8192x8x64 ![0, 1, 2] bcast_S8192x8x1_S8192x8x64_0_1_2
    (broadcastInDim S8192x8x1 ![0, 1] bcast_S8192x8_S8192x8x1_0_1 (Host.reduceAdd (shapeCast S8192x8x64 (mulf (W2 m c main_arg3) (W2 m c main_v8_0)) shapeCasts_S8192x512_S8192x8x64)
      (constant S_ .f32 0x00000000#32) reducesTo_S8192x8x64_S8192x8_d2 h_S_))) shapeCasts_S8192x8x64_S8192x512 := by
  unfold W3; after_results_simp <;> rfl
theorem W3_d : W3 m c main_v15 = truncf .bf16 (W2 m c main_arg3) bitsLt_bf16_f32 := by
  unfold W3; after_results_simp <;> rfl
theorem W3_e : W3 m c main_v8_1 = W2 m c main_v8_1 := by
  unfold W3; after_results_simp <;> rfl
theorem W3_o : W3 m c main_v8_0 = W2 m c main_v8_0 := by
  unfold W3; after_results_simp <;> rfl
theorem W5_o : W5 m c main_v8_0 = W4 m c main_v8_0 := by
  unfold W5; after_results_simp <;> rfl
theorem W5_dq : W5 m c main_v18 = mulf (W4 m c main_v16_0) (broadcastInDim S8192x1024 ![] bcast_S_S8192x1024 (constant S_ .f32 0x3DD105EC#32)) := by
  unfold W5; after_results_simp <;> rfl
theorem W5_dk : W5 m c main_v16_1 = W4 m c main_v16_1 := by
  unfold W5; after_results_simp <;> rfl
theorem W5_dv : W5 m c main_v19 = extf .f32 (W4 m c main_v16_2) bitsLt_bf16_f32 := by
  unfold W5; after_results_simp <;> rfl
theorem V1_arg3 : V1 m c main_arg3 = m ((c.tc : Thread nD τ).loc main_arg3) := by
  unfold V1; after_results_simp <;> rfl

end Terms

/-! ### The words -/

theorem two_word : Ideal.ofBits FTy.f32 1073741824#32 = ((2 : ℝ) : EReal) := by
  simp [Ideal.ofBits, Ideal.ieee, -EReal.coe_mul]
  norm_num
theorem kap_eq : Ideal.div (Ideal.ofBits FTy.f32 1037108716#32) (Ideal.log (Ideal.ofBits FTy.f32 1073741824#32)) = ((kap : ℝ) : EReal) := by
  rw [cc_word, two_word, Ideal.log_coe, if_neg (by norm_num), Ideal.div_coe log2_pos.ne', ← EReal.coe_mul, kap]
  exact congrArg _ (by ring)

section Host

/-! ### The host operations at an index -/

theorem scaled_at (a : S8192x1024.Idx → EReal) (i : Fin 8192) (l : Fin 1024) :
    (truncf (F := Ideal) .bf16 (mulf (F := Ideal) (φ := .f32) a (broadcastInDim S8192x1024 ![] bcast_S_S8192x1024
      (id (Host.divf (F := Ideal) (constant S_ .f32 0x3DD105EC#32) (Host.log (constant S_ .f32 0x40000000#32)))))) bitsLt_bf16_f32 (ix2 i l) : EReal)
      = a (ix2 i l) * ((kap : ℝ) : EReal) := by
  rw [← kap_eq]
  pointwise []
  rfl

theorem rowdot_at (a b : S8192x512.Idx → EReal) (i : Fin 8192) (l : Fin 512) :
    (shapeCast S8192x512 (broadcastInDim S8192x8x64 ![0, 1, 2] bcast_S8192x8x1_S8192x8x64_0_1_2
      (broadcastInDim S8192x8x1 ![0, 1] bcast_S8192x8_S8192x8x1_0_1 (Host.reduceAdd (F := Ideal) (shapeCast S8192x8x64 (mulf (F := Ideal) (φ := .f32) a b) shapeCasts_S8192x512_S8192x8x64)
      (constant S_ .f32 0x00000000#32) reducesTo_S8192x8x64_S8192x8_d2 h_S_))) shapeCasts_S8192x8x64_S8192x512 (ix2 i l) : EReal)
      = ∑ d : Fin 64, a (ix2 i ⟨l.val / 64 * 64 + d.val, by omega⟩) * b (ix2 i ⟨l.val / 64 * 64 + d.val, by omega⟩) := by
  pointwise []

theorem factor_at (a : S8192x1024.Idx → EReal) (i : Fin 8192) (l : Fin 1024) :
    (mulf (F := Ideal) (φ := .f32) a (broadcastInDim S8192x1024 ![] bcast_S_S8192x1024 (constant S_ .f32 0x3DD105EC#32)) (ix2 i l) : EReal)
      = a (ix2 i l) * ((cc : ℝ) : EReal) := by
  rw [← cc_word]
  pointwise []

end Host

section Run

variable (m : (ℓ : Loc nD τ sig) → Buf (Elt Ideal) ℓ) (c : Dev nD) (x : Inp)
  (hQ : ∀ (i : Fin 8192) (l : Fin 1024), (m ((c.tc : Thread nD τ).loc main_arg0) (ix2 i l) : EReal) = ((x.Q i l : ℝ) : EReal))
  (hK : ∀ (i : Fin 8192) (l : Fin 1024), (m ((c.tc : Thread nD τ).loc main_arg1) (ix2 i l) : EReal) = ((x.K i l : ℝ) : EReal))
  (hV : ∀ (i : Fin 8192) (l : Fin 512), (m ((c.tc : Thread nD τ).loc main_arg2) (ix2 i l) : EReal) = ((x.V i l : ℝ) : EReal))
  (hD : ∀ (i : Fin 8192) (l : Fin 512), (m ((c.tc : Thread nD τ).loc main_arg3) (ix2 i l) : EReal) = ((x.D i l : ℝ) : EReal))

include hQ in
theorem in_q (i : Fin 8192) (l : Fin 1024) : (V1 m c main_v5 (ix2 i l) : EReal) = ((x.Q i l * kap : ℝ) : EReal) := by
  rw [V1_q]
  exact (scaled_at _ i l).trans (by rw [hQ, ← EReal.coe_mul])
include hK in
theorem in_k (i : Fin 8192) (l : Fin 1024) : (V1 m c main_v6 (ix2 i l) : EReal) = ((x.K i l : ℝ) : EReal) := by
  rw [V1_k]; exact hK i l
include hV in
theorem in_v (i : Fin 8192) (l : Fin 512) : (V1 m c main_v7 (ix2 i l) : EReal) = ((x.V i l : ℝ) : EReal) := by
  rw [V1_v]; exact hV i l

include hQ hK hV

theorem mid_o : W2 m c main_v8_0 = fun j : S8192x512.Idx => ((x.o (j 0).val (j 1).val : ℝ) : EReal) :=
  (W2_o m c).trans (arr0_3 (M0 m) c x (in_q m c x hQ) (in_k m c x hK) (in_v m c x hV))
theorem mid_e : W2 m c main_v8_1 = fun j : S8192x512.Idx => ((Real.log (x.z ((j 1).val / 64) (j 0).val) / Real.log 2 : ℝ) : EReal) :=
  (W2_e m c).trans (arr0_4 (M0 m) c x (in_q m c x hQ) (in_k m c x hK) (in_v m c x hV))

/-- The output. -/
theorem end_o : W5 m c main_v8_0 = fun j : S8192x512.Idx => ((x.o (j 0).val (j 1).val : ℝ) : EReal) :=
  (W5_o m c).trans ((W4_of m c main_v8_0 (by decide)).trans ((W3_o m c).trans (mid_o m c x hQ hK hV)))

theorem bwd_q (i : Fin 8192) (l : Fin 1024) : (M1 m ((c.tc : Thread nD τ).loc main_v5) (ix2 i l) : EReal) = ((x.Q i l * kap : ℝ) : EReal) := by
  show (W3 m c main_v5 (ix2 i l) : EReal) = _
  rw [W3_of m c main_v5 (by decide) (by decide)]; exact in_q m c x hQ i l
theorem bwd_k (i : Fin 8192) (l : Fin 1024) : (M1 m ((c.tc : Thread nD τ).loc main_v6) (ix2 i l) : EReal) = ((x.K i l : ℝ) : EReal) := by
  show (W3 m c main_v6 (ix2 i l) : EReal) = _
  rw [W3_of m c main_v6 (by decide) (by decide)]; exact in_k m c x hK i l
theorem bwd_v (i : Fin 8192) (l : Fin 512) : (M1 m ((c.tc : Thread nD τ).loc main_v7) (ix2 i l) : EReal) = ((x.V i l : ℝ) : EReal) := by
  show (W3 m c main_v7 (ix2 i l) : EReal) = _
  rw [W3_of m c main_v7 (by decide) (by decide)]; exact in_v m c x hV i l
theorem bwd_e (i : Fin 8192) (l : Fin 512) : (M1 m ((c.tc : Thread nD τ).loc main_v8_1) (ix2 i l) : EReal) = ((Real.log (x.z (l.val / 64) i) / Real.log 2 : ℝ) : EReal) := by
  show (W3 m c main_v8_1 (ix2 i l) : EReal) = _
  rw [W3_e, mid_e m c x hQ hK hV]; rfl

include hD

omit hQ hK hV in
theorem bwd_d (i : Fin 8192) (l : Fin 512) : (M1 m ((c.tc : Thread nD τ).loc main_v15) (ix2 i l) : EReal) = ((x.D i l : ℝ) : EReal) := by
  show (W3 m c main_v15 (ix2 i l) : EReal) = _
  rw [W3_d, W2_of m c main_arg3 (by decide), V1_arg3]; exact hD i l

theorem bwd_m (i : Fin 8192) (l : Fin 512) : (M1 m ((c.tc : Thread nD τ).loc main_v14) (ix2 i l) : EReal) = ((x.mean (l.val / 64) i : ℝ) : EReal) := by
  show (W3 m c main_v14 (ix2 i l) : EReal) = _
  rw [W3_mean, W2_of m c main_arg3 (by decide), V1_arg3, mid_o m c x hQ hK hV]
  refine (rowdot_at (m ((c.tc : Thread nD τ).loc main_arg3)) (fun j : S8192x512.Idx => ((x.o (j 0).val (j 1).val : ℝ) : EReal)) i l).trans ?_
  rw [sum_coe_mul _ _ _ _ (fun d : Fin 64 => hD i _) (fun d : Fin 64 => rfl), x.mean_eq]
  exact congrArg _ (Finset.sum_congr rfl fun d _ => by rw [mul_comm 64]; rfl)

/-- The gradient of the queries. -/
theorem end_dq : W5 m c main_v18 = fun j : S8192x1024.Idx => ((x.dq (j 0).val (j 1).val : ℝ) : EReal) := by
  rw [W5_dq, W4_q, arr1_6 (M1 m) c x (bwd_q m c x hQ hK hV) (bwd_k m c x hQ hK hV) (bwd_v m c x hQ hK hV) (bwd_d m c x hD) (bwd_e m c x hQ hK hV) (bwd_m m c x hQ hK hV hD)]
  funext j
  obtain ⟨i, l, rfl⟩ : ∃ (i : Fin 8192) (l : Fin 1024), j = ix2 i l := ⟨j 0, j 1, eq_ix2 j⟩
  refine (factor_at _ i l).trans ?_
  rw [← EReal.coe_mul, mul_comm]
  rfl

/-- The gradient of the keys. -/
theorem end_dk : W5 m c main_v16_1 = fun j : S8192x1024.Idx => ((x.dk (j 0).val (j 1).val : ℝ) : EReal) :=
  (W5_dk m c).trans ((W4_k m c).trans (arr1_7 (M1 m) c x (bwd_q m c x hQ hK hV) (bwd_k m c x hQ hK hV) (bwd_v m c x hQ hK hV) (bwd_d m c x hD) (bwd_e m c x hQ hK hV) (bwd_m m c x hQ hK hV hD)))

/-- The gradient of the values. -/
theorem end_dv : W5 m c main_v19 = fun j : S8192x512.Idx => ((x.dv (j 0).val (j 1).val : ℝ) : EReal) := by
  rw [W5_dv, W4_v, arr1_8 (M1 m) c x (bwd_q m c x hQ hK hV) (bwd_k m c x hQ hK hV) (bwd_v m c x hQ hK hV) (bwd_d m c x hD) (bwd_e m c x hQ hK hV) (bwd_m m c x hQ hK hV hD)]
  rfl

end Run

end Cert.Attn
-- ==== Proof.RefDefs.lean ====
/- The reference's arrays by name, and its results as functions of them. -/
module

public import proofs.«01_k».proof.Proof.Gen.ReferenceIdeal.Run
public import proofs.«01_k».proof.Proof.Math
public import Idealize.ShloMosaic.Lib.Pointwise

@[expose] public section

set_option maxRecDepth 16384

noncomputable section

namespace Cert.Attn.Ref

open Cert.ReferenceIdeal Cert.ReferenceIdeal.Gen Cert.ReferenceIdeal.Value
open Idealize.ShloMosaic
open Idealize.ShloMosaic.TcCoe

/-! The reference's arrays: the mask, the masked logits, the rows' maxima, the weights, their sums, the softmax, its gradient, the mean of
that, and the gradient of the scores. -/

def rMask : IVec S8192x8192 1 := (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
variable (a0 a1 : S8192x1024.Idx → Ideal .f32) (a2 a3 : S8192x512.Idx → Ideal .f32)
def rLog : S8x8192x8192.Idx → Ideal .f32 := (select (broadcastInDim S8x8192x8192 ![1, 2] bcast_S8192x8192_S8x8192x8192_1_2 rMask) (mulf (Host.dotGeneral dot_S8192x8x128_S8192x8x128_S8x8192x8192_2_2_0_0_1_1 none (shapeCast _ a0 shapeCasts_S8192x1024_S8192x8x128) (shapeCast _ a1 shapeCasts_S8192x1024_S8192x8x128)) (broadcastInDim S8x8192x8192 ![] bcast_S_S8x8192x8192 (constant S_ .f32 0x3DD105EC#32))) (broadcastInDim S8x8192x8192 ![] bcast_S_S8x8192x8192 (id (constant S_ .f32 0xFF800000#32))))
def rMax : S8x8192.Idx → Ideal .f32 := (maximumf (broadcastInDim S8x8192 ![] bcast_S_S8x8192 (constant S_ .f32 0xFF800000#32)) (Host.reduce FloatOps.maximumf (rLog a0 a1) (constant S_ .f32 0xFF800000#32) reducesTo_S8x8192x8192_S8x8192_d2 h_S_))
def rE : S8x8192x8192.Idx → Ideal .f32 := (Host.exp (subf (rLog a0 a1) (broadcastInDim S8x8192x8192 ![0, 1, 2] bcast_S8x8192x1_S8x8192x8192_0_1_2 (broadcastInDim S8x8192x1 ![0, 1] bcast_S8x8192_S8x8192x1_0_1 (rMax a0 a1)))))
def rZ : S8x8192.Idx → Ideal .f32 := (Host.reduceAdd (rE a0 a1) (constant S_ .f32 0x00000000#32) reducesTo_S8x8192x8192_S8x8192_d2 h_S_)
def rP : S8x8192x8192.Idx → Ideal .f32 := (Host.divf (rE a0 a1) (broadcastInDim S8x8192x8192 ![0, 1, 2] bcast_S8x8192x1_S8x8192x8192_0_1_2 (broadcastInDim S8x8192x1 ![0, 1] bcast_S8x8192_S8x8192x1_0_1 (rZ a0 a1))))
def rDp : S8x8192x8192.Idx → Ideal .f32 := (Host.dotGeneral dot_S8x64x8192_S8192x8x64_S8x8192x8192_1_2_2_0_0_1 none (transpose S8x64x8192 [1, 2, 0] (shapeCast _ a3 shapeCasts_S8192x512_S8192x8x64) transposes_S8192x8x64_S8x64x8192_1_2_0) (shapeCast _ a2 shapeCasts_S8192x512_S8192x8x64))
def rMean : S8x8192.Idx → Ideal .f32 := (Host.reduceAdd (mulf (mulf (rDp a2 a3) (broadcastInDim S8x8192x8192 ![0, 1, 2] bcast_S8x8192x1_S8x8192x8192_0_1_2 (Host.divf (broadcastInDim S8x8192x1 ![] bcast_S_S8x8192x1 (constant S_ .f32 0x3F800000#32)) (mulf (broadcastInDim S8x8192x1 ![0, 1] bcast_S8x8192_S8x8192x1_0_1 (rZ a0 a1)) (broadcastInDim S8x8192x1 ![0, 1] bcast_S8x8192_S8x8192x1_0_1 (rZ a0 a1)))))) (rE a0 a1)) (constant S_ .f32 0x00000000#32) reducesTo_S8x8192x8192_S8x8192_d2 h_S_)
def rDs : S8x8192x8192.Idx → Ideal .f32 := (mulf (select (broadcastInDim S8x8192x8192 ![1, 2] bcast_S8192x8192_S8x8192x8192_1_2 rMask) (mulf (addf (Host.divf (rDp a2 a3) (broadcastInDim S8x8192x8192 ![0, 1, 2] bcast_S8x8192x1_S8x8192x8192_0_1_2 (broadcastInDim S8x8192x1 ![0, 1] bcast_S8x8192_S8x8192x1_0_1 (rZ a0 a1)))) (broadcastInDim S8x8192x8192 ![0, 1] bcast_S8x8192_S8x8192x8192_0_1 (Host.reduceAdd (Host.negf (shapeCast _ (rMean a0 a1 a2 a3) shapeCasts_S8x8192_S8x8192x1)) (constant S_ .f32 0x00000000#32) reducesTo_S8x8192x1_S8x8192_d2 h_S_))) (rE a0 a1)) (broadcastInDim S8x8192x8192 ![] bcast_S_S8x8192x8192 (constant S_ .f32 0x00000000#32))) (broadcastInDim S8x8192x8192 ![] bcast_S_S8x8192x8192 (constant S_ .f32 0x3DD105EC#32)))
def rO : S8192x512.Idx → Ideal .f32 := shapeCast _ (transpose S8192x8x64 [2, 0, 1] (Host.dotGeneral dot_S8192x8x64_S8x8192x8192_S8x64x8192_0_2_2_1_1_0 none (shapeCast _ a2 shapeCasts_S8192x512_S8192x8x64) (rP a0 a1)) transposes_S8x64x8192_S8192x8x64_2_0_1) shapeCasts_S8192x8x64_S8192x512
def rDv : S8192x512.Idx → Ideal .f32 := shapeCast _ (transpose S8192x8x64 [2, 0, 1] (Host.dotGeneral dot_S8x64x8192_S8x8192x8192_S8x64x8192_2_1_1_2_0_0 none (transpose S8x64x8192 [1, 2, 0] (shapeCast _ a3 shapeCasts_S8192x512_S8192x8x64) transposes_S8192x8x64_S8x64x8192_1_2_0) (rP a0 a1)) transposes_S8x64x8192_S8192x8x64_2_0_1) shapeCasts_S8192x8x64_S8192x512
def rDk : S8192x1024.Idx → Ideal .f32 := shapeCast _ (transpose S8192x8x128 [1, 0, 2] (Host.dotGeneral dot_S8x8192x8192_S8192x8x128_S8x8192x128_1_0_2_2_0_1 none (rDs a0 a1 a2 a3) (shapeCast _ a0 shapeCasts_S8192x1024_S8192x8x128)) transposes_S8x8192x128_S8192x8x128_1_0_2) shapeCasts_S8192x8x128_S8192x1024
def rDq : S8192x1024.Idx → Ideal .f32 := shapeCast _ (transpose S8192x8x128 [1, 0, 2] (Host.dotGeneral dot_S8x8192x8192_S8192x8x128_S8x8192x128_2_0_1_2_0_1 none (rDs a0 a1 a2 a3) (shapeCast _ a1 shapeCasts_S8192x1024_S8192x8x128)) transposes_S8x8192x128_S8192x8x128_1_0_2) shapeCasts_S8192x8x128_S8192x1024

variable (m : (ℓ : Loc nD τ sig) → Buf (Elt Ideal) ℓ) (c : Dev nD)

theorem out_o : res_main_v43 m c = rO (m ((c.tc : Thread nD τ).loc main_arg0)) (m ((c.tc : Thread nD τ).loc main_arg1)) (m ((c.tc : Thread nD τ).loc main_arg2)) := by
  unfold res_main_v43; rfl
theorem out_dv : res_main_v68 m c = rDv (m ((c.tc : Thread nD τ).loc main_arg0)) (m ((c.tc : Thread nD τ).loc main_arg1)) (m ((c.tc : Thread nD τ).loc main_arg3)) := by
  unfold res_main_v68; rfl
theorem out_dk : res_main_v69 m c = rDk (m ((c.tc : Thread nD τ).loc main_arg0)) (m ((c.tc : Thread nD τ).loc main_arg1)) (m ((c.tc : Thread nD τ).loc main_arg2)) (m ((c.tc : Thread nD τ).loc main_arg3)) := by
  unfold res_main_v69; rfl
theorem out_dq : res_main_v70 m c = rDq (m ((c.tc : Thread nD τ).loc main_arg0)) (m ((c.tc : Thread nD τ).loc main_arg1)) (m ((c.tc : Thread nD τ).loc main_arg2)) (m ((c.tc : Thread nD τ).loc main_arg3)) := by
  unfold res_main_v70; rfl

end Cert.Attn.Ref
-- ==== Proof.RefVal.lean ====
/- The values of the reference's arrays, the arguments being real. -/
module

public import proofs.«01_k».proof.Proof.RefDefs

@[expose] public section

set_option maxRecDepth 16384

noncomputable section

namespace Cert.Attn.Ref

open Cert.ReferenceIdeal Cert.ReferenceIdeal.Gen
open Idealize.ShloMosaic

/-- The largest entry of a row, from −∞. -/
theorem rowMax {a b n : ℕ} (y : (⟨3, ![a, b, n]⟩ : Shape).Idx → Ideal .f32) (h' : (⟨3, ![a, b, n]⟩ : Shape).ReducesTo [2] (⟨2, ![a, b]⟩ : Shape))
    (h : (⟨3, ![a, b, n]⟩ : Shape).Reduces [2] (⟨2, ![a, b]⟩ : Shape)) (hu : 0 < (⟨0, ![]⟩ : Shape).numel) (i : Fin a) (j : Fin b) :
    (Host.reduce (FloatOps.maximumf (F := Ideal) (φ := .f32)) y (constant (F := Ideal) (⟨0, ![]⟩ : Shape) .f32 0xFF800000#32) h' hu (ix2 i j) : EReal)
      = Finset.univ.fold max ⊥ fun k : Fin n => y (ix3 i j k) := by
  rw [Host.reduce_eq_fold_single (FloatOps.maximumf (F := Ideal) (φ := .f32)) y _ h' h hu]
  have hf : (y ∘ h.lift (ix2 i j)) = fun k : Fin n => y (ix3 i j k) := funext fun k => congrArg y (by
    funext c; apply Fin.ext
    fin_cases c <;> rfl)
  refine Eq.trans ?_ (congrArg (fun f => Finset.fold max (⊥ : EReal) f (Finset.univ : Finset (Fin n))) hf)
  rw [← neg_inf_word]
  rfl

theorem max_at {s : Shape} (y z : s.Idx → Ideal .f32) (j : s.Idx) : (maximumf y z j : EReal) = max (y j : EReal) (z j) := rfl
theorem fill_at {s : Shape} (d) (h : (⟨0, ![]⟩ : Shape).BroadcastsInDim s d) (j : s.Idx) :
    (broadcastInDim s d h (constant (F := Ideal) (⟨0, ![]⟩ : Shape) .f32 0xFF800000#32) j : EReal) = ⊥ := neg_inf_word

variable (a0 a1 : S8192x1024.Idx → Ideal .f32) (a2 a3 : S8192x512.Idx → Ideal .f32)

/-! Each array at an index, by the arrays before it. -/

theorem mask_at (i j : Fin 8192) : rMask (ix2 i j) = IntOp.cmpi CmpIPredicate.sle (BitVec.ofNat 32 j.val) (BitVec.ofNat 32 i.val) := by
  pointwise [rMask]

theorem log_at (h : Fin 8) (i j : Fin 8192) : rLog a0 a1 (ix3 h i j) = (if j.val ≤ i.val then
    (∑ l : Fin 128, (a0 (ix2 i ⟨h.val * 128 + l.val, by omega⟩) : EReal) * a1 (ix2 j ⟨h.val * 128 + l.val, by omega⟩)) * ((cc : ℝ) : EReal) else ⊥ : EReal) := by
  refine Eq.trans (b := Scalar.select (rMask (ix2 i j)) ((∑ l : Fin 128, (a0 (ix2 i ⟨h.val * 128 + l.val, by omega⟩) : EReal)
    * a1 (ix2 j ⟨h.val * 128 + l.val, by omega⟩)) * Ideal.ofBits FTy.f32 1037108716#32) (Ideal.ofBits FTy.f32 4286578688#32)) (by pointwise [rLog]; rfl) ?_
  rw [mask_at, select_sle (by omega) (by omega), cc_word, neg_inf_word]

theorem e_at (h : Fin 8) (i j : Fin 8192) : (rE a0 a1 (ix3 h i j) : EReal) = Ideal.exp (rLog a0 a1 (ix3 h i j) - rMax a0 a1 (ix2 h i)) := by
  pointwise [rE]

theorem z_at (h : Fin 8) (i : Fin 8192) : (rZ a0 a1 (ix2 h i) : EReal) = ∑ j : Fin 8192, (rE a0 a1 (ix3 h i j) : EReal) := by
  pointwise [rZ]

theorem p_at (h : Fin 8) (i j : Fin 8192) : (rP a0 a1 (ix3 h i j) : EReal) = Ideal.div (rE a0 a1 (ix3 h i j)) (rZ a0 a1 (ix2 h i)) := by
  pointwise [rP]

theorem dp_at (h : Fin 8) (i j : Fin 8192) : (rDp a2 a3 (ix3 h i j) : EReal)
    = ∑ d : Fin 64, (a3 (ix2 i ⟨h.val * 64 + d.val, by omega⟩) : EReal) * a2 (ix2 j ⟨h.val * 64 + d.val, by omega⟩) := by
  pointwise [rDp]

theorem mean_at (h : Fin 8) (i : Fin 8192) : (rMean a0 a1 a2 a3 (ix2 h i) : EReal)
    = ∑ j : Fin 8192, (rDp a2 a3 (ix3 h i j) : EReal) * Ideal.div 1 ((rZ a0 a1 (ix2 h i) : EReal) * rZ a0 a1 (ix2 h i)) * rE a0 a1 (ix3 h i j) := by
  pointwise [rMean]

theorem ds_at (h : Fin 8) (i j : Fin 8192) : (rDs a0 a1 a2 a3 (ix3 h i j) : EReal) = (if j.val ≤ i.val then
    ((Ideal.div (rDp a2 a3 (ix3 h i j)) (rZ a0 a1 (ix2 h i)) : EReal) + -(rMean a0 a1 a2 a3 (ix2 h i) : EReal)) * rE a0 a1 (ix3 h i j) else 0) * ((cc : ℝ) : EReal) := by
  refine Eq.trans (b := Scalar.select (rMask (ix2 i j)) (((Ideal.div (rDp a2 a3 (ix3 h i j)) (rZ a0 a1 (ix2 h i)) : EReal)
    + ∑ _k : Fin 1, -(rMean a0 a1 a2 a3 (ix2 h i) : EReal)) * rE a0 a1 (ix3 h i j) * Ideal.ofBits FTy.f32 1037108716#32) 0) (by pointwise [rDs]) ?_
  rw [mask_at, select_sle (by omega) (by omega), cc_word, Fin.sum_univ_one]
  split
  · rfl
  · exact (zero_mul _).symm

theorem out_o_at (i : Fin 8192) (l : Fin 512) : (rO a0 a1 a2 (ix2 i l) : EReal)
    = ∑ j : Fin 8192, (a2 (ix2 j l) : EReal) * rP a0 a1 (ix3 ⟨l.val / 64, by omega⟩ i j) := by
  pointwise [rO]

theorem out_dv_at (j : Fin 8192) (l : Fin 512) : (rDv a0 a1 a3 (ix2 j l) : EReal)
    = ∑ i : Fin 8192, (a3 (ix2 i l) : EReal) * rP a0 a1 (ix3 ⟨l.val / 64, by omega⟩ i j) := by
  pointwise [rDv]

theorem out_dk_at (j : Fin 8192) (l : Fin 1024) : (rDk a0 a1 a2 a3 (ix2 j l) : EReal)
    = ∑ i : Fin 8192, (rDs a0 a1 a2 a3 (ix3 ⟨l.val / 128, by omega⟩ i j) : EReal) * a0 (ix2 i l) := by
  pointwise [rDk]

theorem out_dq_at (i : Fin 8192) (l : Fin 1024) : (rDq a0 a1 a2 a3 (ix2 i l) : EReal)
    = ∑ j : Fin 8192, (rDs a0 a1 a2 a3 (ix3 ⟨l.val / 128, by omega⟩ i j) : EReal) * a1 (ix2 j l) := by
  pointwise [rDq]

section Real

variable (x : Inp)
  (hQ : ∀ (i : Fin 8192) (l : Fin 1024), (a0 (ix2 i l) : EReal) = ((x.Q i l : ℝ) : EReal))
  (hK : ∀ (i : Fin 8192) (l : Fin 1024), (a1 (ix2 i l) : EReal) = ((x.K i l : ℝ) : EReal))
  (hV : ∀ (i : Fin 8192) (l : Fin 512), (a2 (ix2 i l) : EReal) = ((x.V i l : ℝ) : EReal))
  (hD : ∀ (i : Fin 8192) (l : Fin 512), (a3 (ix2 i l) : EReal) = ((x.D i l : ℝ) : EReal))

include hQ hK

theorem log_val (h : Fin 8) (i j : Fin 8192) :
    (rLog a0 a1 (ix3 h i j) : EReal) = if j.val ≤ i.val then ((cc * x.s h i j : ℝ) : EReal) else ⊥ := by
  rw [log_at, sum_coe_mul _ _ _ _ (fun l => hQ i _) (fun l => hK j _), ← EReal.coe_mul, mul_comm _ cc]
  refine if_congr Iff.rfl (congrArg (fun y : ℝ => ((cc * y : ℝ) : EReal)) ?_) rfl
  exact Finset.sum_congr rfl fun l _ => by rw [mul_comm 128]

theorem max_val (h : Fin 8) (i : Fin 8192) : ∃ μ : ℝ, (rMax a0 a1 (ix2 h i) : EReal) = (μ : EReal) := by
  obtain ⟨μ, hμ⟩ := soft_max (fun j : Fin 8192 => (rLog a0 a1 (ix3 h i j) : EReal)) (fun j => j.val ≤ i.val) (fun j => cc * x.s h i j)
    (fun j => log_val a0 a1 x hQ hK h i j) ⟨i, le_rfl⟩ ⊥ (.inl rfl)
  refine ⟨μ, Eq.trans (max_at _ _ _) (Eq.trans (congrArg₂ max (fill_at _ _ _) ?_) hμ)⟩
  exact rowMax (rLog a0 a1) reducesTo_S8x8192x8192_S8x8192_d2 ⟨rfl, Nat.succ_pos 1, reducesTo_S8x8192x8192_S8x8192_d2.2⟩ h_S_ h i

/-- A row's weights, up to the factor of the row's maximum, and their sum. -/
theorem row_val (h : Fin 8) (i : Fin 8192) : ∃ w : ℝ, 0 < w
    ∧ (∀ j : Fin 8192, (rE a0 a1 (ix3 h i j) : EReal) = ((x.e h i j * w : ℝ) : EReal)) ∧ (rZ a0 a1 (ix2 h i) : EReal) = ((x.z h i * w : ℝ) : EReal) := by
  obtain ⟨μ, hμ⟩ := max_val a0 a1 x hQ hK h i
  have he : ∀ j : Fin 8192, (rE a0 a1 (ix3 h i j) : EReal) = ((x.e h i j * Real.exp (-μ) : ℝ) : EReal) := fun j => by
    rw [e_at, log_val a0 a1 x hQ hK, hμ, Inp.e]
    split
    · rw [← EReal.coe_sub, Ideal.exp_coe, sub_eq_add_neg, Real.exp_add]
    · rw [bot_sub_real, Ideal.exp_bot, zero_mul]; rfl
  refine ⟨Real.exp (-μ), Real.exp_pos _, he, ?_⟩
  rw [z_at, Inp.z, Finset.sum_mul, coe_sum']
  exact Finset.sum_congr rfl fun j _ => he j

theorem p_val (h : Fin 8) (i j : Fin 8192) : (rP a0 a1 (ix3 h i j) : EReal) = ((x.p h i j : ℝ) : EReal) := by
  obtain ⟨w, hw, he, hz⟩ := row_val a0 a1 x hQ hK h i
  have := (x.z_pos h i).ne'
  rw [p_at, he, hz, Ideal.div_coe (mul_ne_zero this hw.ne'), ← EReal.coe_mul, Inp.p]
  refine congrArg _ ?_
  field_simp

include hV in
/-- The output. -/
theorem o_val (i : Fin 8192) (l : Fin 512) : (rO a0 a1 a2 (ix2 i l) : EReal) = ((x.o i l : ℝ) : EReal) := by
  rw [out_o_at, sum_coe_mul _ _ _ _ (fun j => hV j l) (fun j => p_val a0 a1 x hQ hK _ i j), Inp.o]
  exact congrArg _ (Finset.sum_congr rfl fun j _ => mul_comm _ _)

include hD in
/-- The gradient of the values. -/
theorem dv_val (j : Fin 8192) (l : Fin 512) : (rDv a0 a1 a3 (ix2 j l) : EReal) = ((x.dv j l : ℝ) : EReal) := by
  rw [out_dv_at, sum_coe_mul _ _ _ _ (fun i => hD i l) (fun i => p_val a0 a1 x hQ hK _ i j), Inp.dv]
  exact congrArg _ (Finset.sum_congr rfl fun j _ => mul_comm _ _)

omit hQ hK in
include hV hD in
theorem dp_val (h : Fin 8) (i j : Fin 8192) : (rDp a2 a3 (ix3 h i j) : EReal) = ((x.dp h i j : ℝ) : EReal) := by
  rw [dp_at, sum_coe_mul _ _ _ _ (fun d => hD i _) (fun d => hV j _), Inp.dp]
  exact congrArg _ (Finset.sum_congr rfl fun d _ => by rw [mul_comm 64])

include hV hD

theorem ds_val (h : Fin 8) (i j : Fin 8192) : (rDs a0 a1 a2 a3 (ix3 h i j) : EReal) = ((cc * x.ds h i j : ℝ) : EReal) := by
  obtain ⟨w, hw, he, hz⟩ := row_val a0 a1 x hQ hK h i
  have hz' := (x.z_pos h i).ne'
  have hm : (rMean a0 a1 a2 a3 (ix2 h i) : EReal) = ((x.mean h i / (x.z h i * w) : ℝ) : EReal) := by
    rw [mean_at, Inp.mean, Finset.sum_div, coe_sum']
    refine Finset.sum_congr rfl fun k _ => ?_
    rw [dp_val a2 a3 x hV hD, he, hz, ← EReal.coe_mul, ← EReal.coe_one,
      Ideal.div_coe (mul_ne_zero (mul_ne_zero hz' hw.ne') (mul_ne_zero hz' hw.ne')), ← EReal.coe_mul, ← EReal.coe_mul, ← EReal.coe_mul, Inp.p]
    refine congrArg _ ?_
    field_simp
  rw [ds_at, hm, dp_val a2 a3 x hV hD, hz, he]
  by_cases hj : j.val ≤ i.val
  · rw [if_pos hj, Ideal.div_coe (mul_ne_zero hz' hw.ne'), ← EReal.coe_mul, ← EReal.coe_neg, ← EReal.coe_add, ← EReal.coe_mul, ← EReal.coe_mul, Inp.ds, Inp.p]
    refine congrArg _ ?_
    field_simp
    ring
  · rw [if_neg hj, zero_mul, Inp.ds, x.p_of_lt (not_le.mp hj), zero_mul, mul_zero]; rfl

/-- The gradient of the keys. -/
theorem dk_val (j : Fin 8192) (l : Fin 1024) : (rDk a0 a1 a2 a3 (ix2 j l) : EReal) = ((x.dk j l : ℝ) : EReal) := by
  rw [out_dk_at, sum_coe_mul _ _ _ _ (fun i => ds_val a0 a1 a2 a3 x hQ hK hV hD _ i j) (fun i => hQ i l), Inp.dk, Finset.mul_sum]
  exact congrArg _ (Finset.sum_congr rfl fun i _ => mul_assoc _ _ _)

/-- The gradient of the queries. -/
theorem dq_val (i : Fin 8192) (l : Fin 1024) : (rDq a0 a1 a2 a3 (ix2 i l) : EReal) = ((x.dq i l : ℝ) : EReal) := by
  rw [out_dq_at, sum_coe_mul _ _ _ _ (fun j => ds_val a0 a1 a2 a3 x hQ hK hV hD _ i j) (fun j => hK j l), Inp.dq, Finset.mul_sum]
  exact congrArg _ (Finset.sum_congr rfl fun j _ => mul_assoc _ _ _)

end Real

end Cert.Attn.Ref
-- ==== Proof.Inputs.lean ====
/- The precondition read: every entry of the arguments is a real number, and the tables of those numbers. -/
module

public import proofs.«01_k».proof.Pre_finite
public import proofs.«01_k».proof.Proof.Math
public import Idealize.ShloMosaic.Lib.Pointwise
public import Idealize.ShloMosaic.PureOps.Ideal

@[expose] public section

noncomputable section

namespace Cert.Attn

open Idealize.ShloMosaic

/-- The table of the real numbers of a matrix. -/
def tab {n : ℕ} (a : (⟨2, ![8192, n]⟩ : Shape).Idx → EReal) (i l : ℕ) : ℝ :=
  if h : i < 8192 ∧ l < n then (a (ix2 ⟨i, h.1⟩ ⟨l, h.2⟩)).toReal else 0

theorem inf_word : Ideal.ofBits FTy.f32 0x7F800000#32 = (⊤ : EReal) := by
  simp [Ideal.ofBits, Ideal.ieee]

/-- An extended real whose absolute value is below infinity is a real number. -/
theorem real_of_below (y : EReal) (h : max y (-y) < ⊤) : y = ((y.toReal : ℝ) : EReal) := by
  refine (EReal.coe_toReal (fun e => ?_) fun e => ?_).symm
  · rw [e] at h; exact absurd (le_max_left _ _) (not_le.mpr h)
  · rw [e] at h; exact absurd (le_max_right ⊥ (-⊥)) (not_le.mpr h)

/-- A matrix that passes the comparison with infinity is its table. -/
theorem tab_at {n : ℕ} (a : (⟨2, ![8192, n]⟩ : Shape).Idx → Ideal .f32) (d) (hb : (⟨0, ![]⟩ : Shape).BroadcastsInDim (⟨2, ![8192, n]⟩ : Shape) d)
    (h : cmpf .olt (Host.absf a) (broadcastInDim (⟨2, ![8192, n]⟩ : Shape) d hb (constant (F := Ideal) (⟨0, ![]⟩ : Shape) .f32 0x7F800000#32)) = fun _ => 1#1)
    (i : Fin 8192) (l : Fin n) : (a (ix2 i l) : EReal) = ((tab a i l : ℝ) : EReal) := by
  rw [tab, dif_pos ⟨i.isLt, l.isLt⟩]
  refine real_of_below _ ?_
  rw [← inf_word]
  exact (Ideal.cmp_olt_eq_one _ _).1 (congrFun h (ix2 i l))

variable [Cert.Pre_finite.Facts] (a0 a1 : Cert.Pre_finite.S8192x1024.Idx → Ideal .f32) (a2 a3 : Cert.Pre_finite.S8192x512.Idx → Ideal .f32)

/-- The arguments' tables. -/
def inp : Inp := ⟨tab a0, tab a1, tab a2, tab a3⟩

theorem finite_q (h : (Cert.Pre_finite.fn (F := Ideal) a0 a1 a2 a3).1 = fun _ => 1#1) (i : Fin 8192) (l : Fin 1024) :
    (a0 (ix2 i l) : EReal) = (((inp a0 a1 a2 a3).Q i l : ℝ) : EReal) := tab_at a0 _ _ h i l
theorem finite_k (h : (Cert.Pre_finite.fn (F := Ideal) a0 a1 a2 a3).2.1 = fun _ => 1#1) (i : Fin 8192) (l : Fin 1024) :
    (a1 (ix2 i l) : EReal) = (((inp a0 a1 a2 a3).K i l : ℝ) : EReal) := tab_at a1 _ _ h i l
theorem finite_v (h : (Cert.Pre_finite.fn (F := Ideal) a0 a1 a2 a3).2.2.1 = fun _ => 1#1) (i : Fin 8192) (l : Fin 512) :
    (a2 (ix2 i l) : EReal) = (((inp a0 a1 a2 a3).V i l : ℝ) : EReal) := tab_at a2 _ _ h i l
theorem finite_d (h : (Cert.Pre_finite.fn (F := Ideal) a0 a1 a2 a3).2.2.2 = fun _ => 1#1) (i : Fin 8192) (l : Fin 512) :
    (a3 (ix2 i l) : EReal) = (((inp a0 a1 a2 a3).D i l : ℝ) : EReal) := tab_at a3 _ _ h i l

end Cert.Attn
-- ==== Proof.RmsRun.lean ====
/- The normalisation's backward call: what a grid point leaves in the four output blocks. -/
module

public import proofs.«01_k».proof.Proof.Gen.Kernel2Ideal.Value
public import Idealize.ShloMosaic.Lib.Pipeline.ValueKit
public import Idealize.ShloMosaic.Lib.Tactic

@[expose] public section

set_option maxRecDepth 16384

noncomputable section

namespace Cert.Rms

open Cert.Kernel2Ideal Cert.Kernel2Ideal.Gen
open Idealize.ShloMosaic Idealize.ShloMosaic.TcCoe

variable {F : FTy → Type} [FloatOps F] (m : (ℓ : Loc nD τ sig) → Buf (Elt F) ℓ) (c : Dev nD)

theorem zeros : (![0, 0] : Fin 2 → Nat) = fun _ => 0 := funext fun a => by fin_cases a <;> rfl

/-- The rows' gradient at a point. -/
abbrev dhB (t : Fin cfg0.N) : FVec F S512x1024 .f32 := k0_pay7 (iblk m c 0 t) (iblk m c 1 t) (iblk m c 2 t) (iblk m c 3 t) (iblk m c 4 t)
/-- A point's addition to the gain's gradient. -/
abbrev dgB (t : Fin cfg0.N) (acc : FVec F S1x1024 .f32) : FVec F S1x1024 .f32 := k0_pay1 (k0_pay4 (iblk m c 0 t) (iblk m c 1 t)) (k0_pay6 (iblk m c 2 t)) acc
/-- A point's addition to the weight's gradient. -/
abbrev dwB (t : Fin cfg0.N) (acc : FVec F S1024x1024 .f32) : FVec F S1024x1024 .f32 := k0_pay3 acc (iblk m c 5 t) (k0_pay2 (dhB m c t))

/-- What the first point leaves, and what a later one leaves over the one before. -/
theorem outs_A (t : Fin cfg0.N) (h0 : t.val % 16 = 0) :
    outsAt0 m c t.val t.isLt = (dhB m c t, dgB m c t k0_pay8, k0_pay2 (dhB m c t), dwB m c t k0_pay9) := by
  rw [outsAt0_A m c t h0]
  refine Prod.ext ?_ (Prod.ext ?_ (Prod.ext ?_ ?_)) <;> dsimp only
  on_goal 1 => unfold out0_A_6; rw [View.read_writes_eq_canon _ _ _ fun _ => cover0_A_6 ..]
  on_goal 2 => unfold out0_A_7; rw [View.read_writes_eq_canon _ _ _ fun _ => cover0_A_7 ..]
  on_goal 3 => unfold out0_A_8; rw [View.read_writes_eq_canon _ _ _ fun _ => cover0_A_8 ..]
  on_goal 4 => unfold out0_A_9; rw [View.read_writes_eq_canon _ _ _ fun _ => cover0_A_9 ..]
  all_goals
    unfold kernelRun0_A
    dsimp only
    sl_unfold_words
    simp only [View.readAt_eq_ld, Memref.IsWhole.read_unread, k0_pay10, shapeCast_self,
      View.ld_unit_zero (S := S512x4224) zeros, View.ld_unit_zero (S := S1024x4224) zeros, View.ld_unit_zero (S := S512x1024) zeros, View.ld_unit_zero (S := S1x1024) zeros, View.ld_unit_zero (S := S1024x1024) zeros,
      View.canon_cons_unit_zero (S := S512x1024) zeros, View.canon_cons_unit_zero (S := S1x1024) zeros, View.canon_cons_unit_zero (S := S1024x1024) zeros,
      View.readCov_unit_zero (S := S512x1024) _ zeros, View.readCov_unit_zero (S := S1x1024) _ zeros, View.readCov_unit_zero (S := S1024x1024) _ zeros]
@[inherit_doc outs_A] theorem outs_B (t : Fin cfg0.N) (h0 : ¬t.val % 16 = 0) :
    outsAt0 m c t.val t.isLt = (dhB m c t, dgB m c t (outsAt0 m c (t.val - 1) (Nat.lt_of_le_of_lt (Nat.sub_le _ _) t.isLt)).2.1, k0_pay2 (dhB m c t), dwB m c t (outsAt0 m c (t.val - 1) (Nat.lt_of_le_of_lt (Nat.sub_le _ _) t.isLt)).2.2.2) := by
  rw [outsAt0_B m c t h0]
  refine Prod.ext ?_ (Prod.ext ?_ (Prod.ext ?_ ?_)) <;> dsimp only
  on_goal 1 => unfold out0_B_6; rw [View.read_writes_eq_canon _ _ _ fun _ => cover0_B_6 ..]
  on_goal 2 => unfold out0_B_7; rw [View.read_writes_eq_canon _ _ _ fun _ => cover0_B_7 ..]
  on_goal 3 => unfold out0_B_8; rw [View.read_writes_eq_canon _ _ _ fun _ => cover0_B_8 ..]
  on_goal 4 => unfold out0_B_9; rw [View.read_writes_eq_canon _ _ _ fun _ => cover0_B_9 ..]
  all_goals
    unfold kernelRun0_B
    dsimp only
    sl_unfold_words
    simp only [View.readAt_eq_ld, Memref.IsWhole.read_unread, k0_pay10, shapeCast_self,
      View.ld_unit_zero (S := S512x4224) zeros, View.ld_unit_zero (S := S1024x4224) zeros, View.ld_unit_zero (S := S512x1024) zeros, View.ld_unit_zero (S := S1x1024) zeros, View.ld_unit_zero (S := S1024x1024) zeros,
      View.canon_cons_unit_zero (S := S512x1024) zeros, View.canon_cons_unit_zero (S := S1x1024) zeros, View.canon_cons_unit_zero (S := S1024x1024) zeros,
      View.readCov_unit_zero (S := S512x1024) _ zeros, View.readCov_unit_zero (S := S1x1024) _ zeros, View.readCov_unit_zero (S := S1024x1024) _ zeros]

end Cert.Rms
-- ==== Proof.RmsAt.lean ====
/- The normalisation's backward call, index by index: the kernel's and the reference's formulas, and why they agree. -/
module

public import proofs.«01_k».proof.Proof.RmsRun
public import proofs.«01_k».proof.Proof.Math
public import Idealize.ShloMosaic.Lib.Tactic.CleanTypes
public import proofs.«01_k».proof.Proof.Gen.Reference2Ideal.Run

@[expose] public section

set_option maxRecDepth 16384

noncomputable section

namespace Cert.Rms

open Idealize.ShloMosaic Idealize.ShloMosaic.TcCoe

/-- The word for 1024, and the one added to a mean square. -/
abbrev n1024 : EReal := Scalar.ofBits (F := Ideal) .f32 0x44800000#32
@[inherit_doc n1024] abbrev eps : EReal := Scalar.ofBits (F := Ideal) .f32 0x358637BD#32

@[inherit_doc n1024] abbrev mhalf : EReal := Scalar.ofBits (F := Ideal) .f32 0xBF000000#32

/-- The mean square of a row, and the row's factor. -/
def ms (h : Fin 1024 → EReal) : EReal := Ideal.div (∑ k, h k * h k) n1024 + eps
@[inherit_doc ms] def rr (h : Fin 1024 → EReal) : EReal := Ideal.rsqrt (ms h)

/-- A row's gradient, as the kernel and as the reference compute it. -/
def kd (h d : Fin 1024 → EReal) (s : EReal) (j : Fin 1024) : EReal :=
  s + rr h * (d j - h j * rr h * Ideal.div (∑ x, d x * (h x * rr h)) n1024)
@[inherit_doc kd] def rd (h d : Fin 1024 → EReal) (s : EReal) (j : Fin 1024) : EReal :=
  s + d j * rr h + h j * Ideal.div ((∑ x, h x * d x) * (mhalf * Ideal.div (rr h) (ms h))) n1024 + Ideal.div ((∑ x, h x * d x) * (mhalf * Ideal.div (rr h) (ms h))) n1024 * h j

theorem halves (b : EReal) : ((-1 / 2 : ℝ) : EReal) * b + ((-1 / 2 : ℝ) : EReal) * b = -b := by
  induction b with
  | bot => rw [EReal.coe_mul_bot_of_neg (by norm_num)]; rfl
  | top => rw [EReal.coe_mul_top_of_neg (by norm_num)]; rfl
  | coe b => rw [← EReal.coe_mul, ← EReal.coe_add, ← EReal.coe_neg]; congr 1; ring

theorem coe_mul_sum {r : ℝ} (hr : 0 ≤ r) {n : ℕ} (f : Fin n → EReal) : ∑ i, (r : EReal) * f i = r * ∑ i, f i := by
  induction (Finset.univ : Finset (Fin n)) using Finset.induction_on with
  | empty => simp
  | insert a s ha ih =>
    rw [Finset.sum_insert ha, Finset.sum_insert ha, ih, EReal.left_distrib_of_nonneg_of_ne_top (by exact_mod_cast hr) (EReal.coe_ne_top r)]

theorem n1024_eq : n1024 = ((1024 : ℝ) : EReal) := by
  simp [n1024, Ideal.ofBits, Ideal.ieee]; rw [← EReal.coe_mul]; norm_num
theorem mhalf_eq : mhalf = ((-1 / 2 : ℝ) : EReal) := by
  simp [mhalf, Ideal.ofBits, Ideal.ieee]; rw [← EReal.coe_mul]; norm_num
theorem eps_eq : eps = ((8796093 / 8796093022208 : ℝ) : EReal) := by
  simp [eps, Ideal.ofBits, Ideal.ieee]; rw [← EReal.coe_mul]; norm_num

theorem sq_nn (x : EReal) : 0 ≤ x * x := by
  induction x with
  | bot => simp
  | top => simp
  | coe x => exact_mod_cast mul_self_nonneg x

/-- A mean square is infinite or a positive real. -/
theorem ms_cases (h : Fin 1024 → EReal) : ms h = ⊤ ∨ ∃ q : ℝ, 0 < q ∧ ms h = (q : EReal) := by
  have h0 : 0 ≤ ∑ k, h k * h k := Finset.sum_nonneg fun k _ => sq_nn _
  unfold ms
  rw [n1024_eq, eps_eq, Ideal.div_coe (by norm_num)]
  induction h1 : ∑ k, h k * h k with
  | bot => rw [h1] at h0; exact absurd h0 (by simp)
  | top => left; rw [EReal.top_mul_coe_of_pos (by norm_num)]; rfl
  | coe q =>
    rw [h1] at h0
    have : 0 ≤ q := by exact_mod_cast h0
    right; exact ⟨q * (1 / 1024) + 8796093 / 8796093022208, by positivity, by rw [EReal.coe_add, EReal.coe_mul]⟩

theorem kd_eq (h d : Fin 1024 → EReal) (s : EReal) (j : Fin 1024) : kd h d s j = rd h d s j := by
  unfold kd rd
  rw [n1024_eq, mhalf_eq]
  simp only [Ideal.div_coe (show (1024 : ℝ) ≠ 0 by norm_num)]
  obtain h0 | ⟨q, hq, h0⟩ := ms_cases h
  · rw [show rr h = 0 by rw [rr, h0, Ideal.rsqrt_top], h0, show Ideal.div 0 ⊤ = 0 by simp [Ideal.div]]
    simp
  · obtain ⟨r, hr, h1, h2⟩ : ∃ r : ℝ, 0 < r ∧ rr h = (r : EReal) ∧ 1 / q = r * r := by
      refine ⟨(√q)⁻¹, by positivity, ?_, ?_⟩
      · rw [rr, h0, Ideal.rsqrt_coe, if_neg hq.not_gt, if_neg hq.ne']
      · rw [← mul_inv, Real.mul_self_sqrt hq.le, one_div]
    rw [h1, h0, Ideal.div_coe hq.ne', h2]
    have e1 : ∑ x, d x * (h x * (r : EReal)) = r * ∑ x, h x * d x := by
      rw [← coe_mul_sum hr.le]; exact Finset.sum_congr rfl fun x _ => by rw [mul_comm (d x), mul_comm (h x) r, mul_assoc]
    rw [e1]
    generalize ∑ x, h x * d x = t
    rw [sub_eq_add_neg, EReal.left_distrib_of_nonneg_of_ne_top (by exact_mod_cast hr.le) (EReal.coe_ne_top r), mul_neg, ← halves, mul_comm _ (h j), add_assoc (s + _), add_assoc s,
      mul_comm (d j)]
    have e2 : ((-1 / 2 : ℝ) : EReal) * ((r : EReal) * (h j * r * (r * t * ((1 / 1024 : ℝ) : EReal)))) = h j * (t * (((-1 / 2 : ℝ) : EReal) * (r * ((r * r : ℝ) : EReal))) * ((1 / 1024 : ℝ) : EReal)) := by
      rw [EReal.coe_mul]; ac_rfl
    rw [e2]

/-- A quantity to which every point adds its rows' terms ends as the sum over all rows. -/
theorem acc_sum {N P R : ℕ} (hN : N = P) (row : Fin N → Fin R → Fin 8192) (hr : ∀ t r, (row t r).val = R * t.val + r.val)
    (o : (n : ℕ) → n < N → EReal) (f : Fin 8192 → EReal) (hA : ∀ t : Fin N, t.val % P = 0 → o t.val t.isLt = 0 + ∑ r, f (row t r))
    (hB : ∀ t : Fin N, ¬t.val % P = 0 → o t.val t.isLt = o (t.val - 1) (Nat.lt_of_le_of_lt (Nat.sub_le _ _) t.isLt) + ∑ r, f (row t r))
    (t : Fin N) (ht : t.val % P = P - 1) (hPR : P * R = 8192 := by decide) : o t.val t.isLt = ∑ i, f i := by
  let g : ℕ → EReal := fun n => if h : n < 8192 then f ⟨n, h⟩ else 0
  have hg : ∀ (t : Fin N) r, f (row t r) = g (R * t.val + r.val) := fun t r => by
    rw [← hr]; simp only [g, (row t r).isLt, dite_true]
  have hf : ∀ i, f i = g i.val := fun i => by simp only [g, i.isLt, dite_true]
  have hP : 0 < P := hN ▸ t.pos
  rw [Pipeline.eq_sum_of_reset_step_single_of_mod o P 0 (fun k => ∑ r : Fin R, g (R * k + r.val)) (fun t h => by rw [hA t h]; simp only [hg])
    (fun t h => by rw [hB t h]; simp only [hg]) (le_of_eq hN) t ht, zero_add, Nat.sub_add_cancel hP, Finset.sum_range, ← Fintype.sum_prod_type' (f := fun (b : Fin P) (r : Fin R) => g (R * b + r))]
  refine Fintype.sum_equiv ((finProdFinEquiv (m := P) (n := R)).trans (finCongr hPR)) _ _ fun y => ?_
  rw [hf]
  simp only [Equiv.trans_apply, finCongr_apply, Fin.val_cast, finProdFinEquiv_apply_val, add_comm]

namespace K
open Cert.Kernel2Ideal Cert.Kernel2Ideal.Gen

variable (a : FVec Ideal S512x4224 .bf16) (w : FVec Ideal S1024x4224 .bf16) (h : FVec Ideal S512x1024 .f32) (g : FVec Ideal S1x1024 .f32) (s : FVec Ideal S512x1024 .f32)

theorem p4 (r : Fin 512) (j : Fin 1024) : k0_pay4 (F := Ideal) a w (ix2 r j) = (∑ k : Fin 4224, a (ix2 r k) * w (ix2 j k) : EReal) := by
  pointwise [k0_pay4]
theorem p5 (r : Fin 512) (z : Fin 1) : k0_pay5 (F := Ideal) h (ix2 r z) = rr fun k => h (ix2 r k) := by
  unfold rr ms
  pointwise [k0_pay5]
theorem p6 (r : Fin 512) (j : Fin 1024) : k0_pay6 h (ix2 r j) = h (ix2 r j) * rr fun k => h (ix2 r k) := by
  pointwise [k0_pay6]
  rw [p5]
theorem p7 (r : Fin 512) (j : Fin 1024) : k0_pay7 (F := Ideal) a w h g s (ix2 r j) = kd (fun k => h (ix2 r k)) (fun x => (∑ k : Fin 4224, a (ix2 r k) * w (ix2 x k)) * g (ix2 0 x)) (s (ix2 r j)) j := by
  unfold kd
  pointwise [k0_pay7]
  simp only [p4, p5, p6]
theorem p1 (x y : FVec Ideal S512x1024 .f32) (z : Fin 1) (j : Fin 1024) : k0_pay1 x y g (ix2 z j) = g (ix2 z j) + ∑ r : Fin 512, x (ix2 r j) * y (ix2 r j) := by
  pointwise [k0_pay1]
theorem p3 (v : FVec Ideal S1024x1024 .f32) (x y : FVec Ideal S512x1024 .bf16) (i j : Fin 1024) : k0_pay3 v x y (ix2 i j) = v (ix2 i j) + ∑ r : Fin 512, x (ix2 r i) * y (ix2 r j) := by
  pointwise [k0_pay3]
theorem p2 (r : Fin 512) (j : Fin 1024) : k0_pay2 s (ix2 r j) = s (ix2 r j) := by
  pointwise [k0_pay2]
theorem p8 (z : Fin 1) (j : Fin 1024) : k0_pay8 (F := Ideal) (ix2 z j) = (0 : EReal) := by
  pointwise [k0_pay8]
theorem p9 (i j : Fin 1024) : k0_pay9 (F := Ideal) (ix2 i j) = (0 : EReal) := by
  pointwise [k0_pay9]
end K

namespace R
open Cert.Reference2Ideal Cert.Reference2Ideal.Gen Cert.Reference2Ideal.Value
variable (m : (ℓ : Loc nD τ sig) → Buf (Elt Ideal) ℓ) (c : Dev nD)
  {A : FVec Ideal S8192x4224 .bf16} {W : FVec Ideal S1024x4224 .bf16} {H S : FVec Ideal S8192x1024 .f32} {G : FVec Ideal S1x1024 .f32} {Y : FVec Ideal S8192x1024 .bf16}
  (h0 : m ((c.tc : Thread nD τ).loc main_arg0) = A) (h1 : m ((c.tc : Thread nD τ).loc main_arg1) = W) (h2 : m ((c.tc : Thread nD τ).loc main_arg2) = H)
  (h3 : m ((c.tc : Thread nD τ).loc main_arg3) = G) (h4 : m ((c.tc : Thread nD τ).loc main_arg4) = S) (h5 : m ((c.tc : Thread nD τ).loc main_arg5) = Y)

/-- The reference's rows' gradient. -/
abbrev dh (A : FVec Ideal S8192x4224 .bf16) (W : FVec Ideal S1024x4224 .bf16) (H : FVec Ideal S8192x1024 .f32) (G : FVec Ideal S1x1024 .f32)
    (S : FVec Ideal S8192x1024 .f32) (i : Fin 8192) (j : Fin 1024) : EReal :=
  rd (fun k => H (ix2 i k)) (fun x => (∑ k : Fin 4224, A (ix2 i k) * W (ix2 x k)) * G (ix2 0 x)) (S (ix2 i j)) j

/-- The reference's gain's gradient. -/
abbrev dg (A : FVec Ideal S8192x4224 .bf16) (W : FVec Ideal S1024x4224 .bf16) (H : FVec Ideal S8192x1024 .f32) (j : Fin 1024) : EReal :=
  ∑ i : Fin 8192, (∑ k : Fin 4224, A (ix2 i k) * W (ix2 j k) : EReal) * (H (ix2 i j) * rr fun k => H (ix2 i k))

include h0 h1 h2 h3 h4 in
theorem v39 (i : Fin 8192) (j : Fin 1024) : res_main_v39 m c (ix2 i j) = dh A W H G S i j := by
  unfold res_main_v39 dh rd rr ms
  rw [h0, h1, h2, h3, h4]
  clean_types
  pointwise
  simp only [Finset.univ_unique, Finset.sum_singleton]
include h0 h1 h2 h3 h4 in
theorem v44 (i : Fin 8192) (j : Fin 1024) : res_main_v44 m c (ix2 i j) = dh A W H G S i j :=
  (show res_main_v44 m c (ix2 i j) = res_main_v39 m c (ix2 i j) by unfold res_main_v44 res_main_v39; clean_types; pointwise).trans (v39 m c h0 h1 h2 h3 h4 i j)
include h0 h1 h2 h3 h4 h5 in
theorem v43 (i j : Fin 1024) : res_main_v43 m c (ix2 i j) = (∑ r : Fin 8192, Y (ix2 r i) * dh A W H G S r j : EReal) := by
  refine Eq.trans (b := (∑ r : Fin 8192, Y (ix2 r i) * (show FVec Ideal S8192x1024 .f32 from res_main_v39 m c) (ix2 r j) : EReal)) ?_ (Finset.sum_congr rfl fun r _ => congrArg _ (v39 m c h0 h1 h2 h3 h4 r j))
  unfold res_main_v43
  change transpose S1024x1024 [1, 0] (Host.dotGeneral (F := Ideal) (φ₁ := .f32) dot_S8192x1024_S8192x1024_S1024x1024_0_0_1_1_n_n none (show FVec Ideal S8192x1024 .f32 from res_main_v39 m c) (extf .f32 (m ((c.tc : Thread nD τ).loc main_arg5)) bitsLt_bf16_f32)) transposes_S1024x1024_S1024x1024_1_0 (ix2 i j) = _
  rw [h5]
  generalize (show FVec Ideal S8192x1024 .f32 from res_main_v39 m c) = Z
  clean_types
  pointwise
  exact Finset.sum_congr rfl fun r _ => mul_comm (G := EReal) _ _
/-- The reference's gain's gradient, as its operations. -/
abbrev dgT (A : FVec Ideal S8192x4224 .bf16) (W : FVec Ideal S1024x4224 .bf16) (H : FVec Ideal S8192x1024 .f32) : FVec Ideal S1x1024 .f32 :=
  shapeCast S1x1024 (Host.reduceAdd (mulf (mulf H (broadcastInDim S8192x1024 ![0, 1] bcast_S8192x1_S8192x1024_0_1 (Host.rsqrt (addf (Host.divf (broadcastInDim S8192x1 ![0] bcast_S8192_S8192x1_0 (Host.reduceAdd (mulf H H) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (Host.dotGeneral dot_S8192x4224_S1024x4224_S8192x1024_1_1_0_0_n_n none (extf .f32 A bitsLt_bf16_f32) (extf .f32 W bitsLt_bf16_f32))) (constant S_ .f32 0x00000000#32) reducesTo_S8192x1024_S1024_d0 h_S_) shapeCasts_S1024_S1x1024
theorem v22 (z : Fin 1) (j : Fin 1024) : dgT A W H (ix2 z j) = dg A W H j := by
  unfold dg rr ms
  pointwise
  exact Finset.sum_congr rfl fun r _ => mul_comm (G := EReal) _ _
end R

end Cert.Rms
-- ==== Proof.RmsArr.lean ====
/- The normalisation's backward call: its four result arrays. -/
module

public import proofs.«01_k».proof.Proof.RmsAt

@[expose] public section

set_option maxRecDepth 16384

noncomputable section

namespace Cert.Rms

open Cert.Kernel2Ideal Cert.Kernel2Ideal.Gen
open Idealize.ShloMosaic Idealize.ShloMosaic.TcCoe
open Idealize.ShloMosaic.Pipeline (Dat)

theorem idx_row : ∀ t : Fin cfg0.N, ∀ a, (cfg0.win 0).index t a = (![t.val, 0] : Fin 2 → ℕ) a ∧ (cfg0.win 2).index t a = (![t.val, 0] : Fin 2 → ℕ) a
    ∧ (cfg0.win 4).index t a = (![t.val, 0] : Fin 2 → ℕ) a ∧ (cfg0.win 5).index t a = (![t.val, 0] : Fin 2 → ℕ) a
    ∧ (cfg0.win 6).index t a = (![t.val, 0] : Fin 2 → ℕ) a ∧ (cfg0.win 8).index t a = (![t.val, 0] : Fin 2 → ℕ) a := by
  decide +kernel
theorem idx_all : ∀ t : Fin cfg0.N, ∀ a, (cfg0.win 1).index t a = 0 ∧ (cfg0.win 3).index t a = 0 ∧ (cfg0.win 7).index t a = 0 ∧ (cfg0.win 9).index t a = 0 := by
  decide +kernel
theorem covs : (cfg0.win 6).Covers ∧ (cfg0.win 7).Covers ∧ (cfg0.win 8).Covers ∧ (cfg0.win 9).Covers := by decide +kernel
theorem lasts : ∀ t : Fin cfg0.N, ((cfg0.win 7).flush t = true → t.val % 16 = 15) ∧ ((cfg0.win 9).flush t = true → t.val % 16 = 15) := by decide +kernel

variable (m : (ℓ : Loc nD τ sig) → Buf (Elt Ideal) ℓ) (c : Dev nD)
  {A : FVec Ideal S8192x4224 .bf16} {W : FVec Ideal S1024x4224 .bf16} {H S : FVec Ideal S8192x1024 .f32} {G : FVec Ideal S1x1024 .f32} {Y : FVec Ideal S8192x1024 .bf16}
  (h0 : m ((c.tc : Thread nD τ).loc main_arg0) = A) (h1 : m ((c.tc : Thread nD τ).loc main_arg1) = W) (h2 : m ((c.tc : Thread nD τ).loc main_arg2) = H)
  (h3 : m ((c.tc : Thread nD τ).loc main_arg3) = G) (h4 : m ((c.tc : Thread nD τ).loc main_arg4) = S) (h5 : m ((c.tc : Thread nD τ).loc main_arg5) = Y)

theorem row_lt (t : Fin cfg0.N) (r : Fin 512) : 512 * t.val + r.val < 8192 := by
  have := lt_of_lt_of_eq t.isLt N_0; have := r.isLt; omega
/-- Row `r` of point `t`'s block. -/
abbrev row (t : Fin cfg0.N) (r : Fin 512) : Fin 8192 := ⟨512 * t.val + r.val, row_lt t r⟩

include h0 in
theorem ib0 (t : Fin cfg0.N) (r : Fin 512) (k : Fin 4224) : iblk m c 0 t (ix2 r k) = A (ix2 (row t r) k) := by
  subst h0; blk_ext [iblk, V, (idx_row t _).1]
include h1 in
theorem ib1 (t : Fin cfg0.N) (j : Fin 1024) (k : Fin 4224) : iblk m c 1 t (ix2 j k) = W (ix2 j k) := by
  subst h1; blk_ext [iblk, V, (idx_all t _).1]
include h2 in
theorem ib2 (t : Fin cfg0.N) (r : Fin 512) (k : Fin 1024) : iblk m c 2 t (ix2 r k) = H (ix2 (row t r) k) := by
  subst h2; blk_ext [iblk, V, (idx_row t _).2.1]
include h3 in
theorem ib3 (t : Fin cfg0.N) (z : Fin 1) (k : Fin 1024) : iblk m c 3 t (ix2 z k) = G (ix2 z k) := by
  subst h3; blk_ext [iblk, V, (idx_all t _).2.1]
include h4 in
theorem ib4 (t : Fin cfg0.N) (r : Fin 512) (k : Fin 1024) : iblk m c 4 t (ix2 r k) = S (ix2 (row t r) k) := by
  subst h4; blk_ext [iblk, V, (idx_row t _).2.2.1]
include h5 in
theorem ib5 (t : Fin cfg0.N) (r : Fin 512) (k : Fin 1024) : iblk m c 5 t (ix2 r k) = Y (ix2 (row t r) k) := by
  subst h5; blk_ext [iblk, V, (idx_row t _).2.2.2.1]

include h0 h1 h2 h3 h4 in
theorem dhB_at (t : Fin cfg0.N) (r : Fin 512) (j : Fin 1024) : dhB m c t (ix2 r j) = R.dh A W H G S (row t r) j := by
  refine (K.p7 _ _ _ _ _ r j).trans ((kd_eq _ _ _ _).trans ?_)
  unfold R.dh
  congr 1
  · exact funext fun k => ib2 m c h2 t r k
  · exact funext fun x => congrArg₂ (· * · : EReal → EReal → EReal) (Finset.sum_congr rfl fun k _ => congrArg₂ (· * · : EReal → EReal → EReal) (ib0 m c h0 t r k) (ib1 m c h1 t x k)) (ib3 m c h3 t 0 x)
  · exact ib4 m c h4 t r j
include h0 h1 h2 in
theorem dgB_at (t : Fin cfg0.N) (v) (z : Fin 1) (j : Fin 1024) : dgB m c t v (ix2 z j) = (v (ix2 z j) + ∑ r : Fin 512,
    (∑ k : Fin 4224, A (ix2 (row t r) k) * W (ix2 j k) : EReal) * (H (ix2 (row t r) j) * rr fun k => H (ix2 (row t r) k)) : EReal) := by
  refine (K.p1 _ _ _ z j).trans (congrArg (_ + · : EReal → EReal) (Finset.sum_congr rfl fun r _ => ?_))
  rw [K.p4, K.p6]
  simp only [ib0 m c h0, ib1 m c h1, ib2 m c h2]
include h0 h1 h2 h3 h4 h5 in
theorem dwB_at (t : Fin cfg0.N) (v) (i j : Fin 1024) : dwB m c t v (ix2 i j) = (v (ix2 i j) + ∑ r : Fin 512, Y (ix2 (row t r) i) * R.dh A W H G S (row t r) j : EReal) := by
  refine (K.p3 _ _ _ i j).trans (congrArg (_ + · : EReal → EReal) (Finset.sum_congr rfl fun r _ => ?_))
  rw [K.p2, dhB_at m c h0 h1 h2 h3 h4, ib5 m c h5]

theorem emb6 (t : Fin cfg0.N) (r : Fin 512) (l : Fin 1024) : ((cfg0.win 6).blk t).view.emb (ix2 r l) = ix2 (row t r) l := by
  refine funext fun a => Fin.ext ?_
  blk_simp
  rw [show win0_6.index t a = _ from (idx_row t a).2.2.2.2.1]
  fin_cases a
  · show t.val * 512 + r.val = 512 * t.val + r.val; omega
  · exact (congrArg (· + l.val) (Nat.zero_mul _)).trans (Nat.zero_add _)
theorem emb8 (t : Fin cfg0.N) (r : Fin 512) (l : Fin 1024) : ((cfg0.win 8).blk t).view.emb (ix2 r l) = ix2 (row t r) l := by
  refine funext fun a => Fin.ext ?_
  blk_simp
  rw [show win0_8.index t a = _ from (idx_row t a).2.2.2.2.2]
  fin_cases a
  · show t.val * 512 + r.val = 512 * t.val + r.val; omega
  · exact (congrArg (· + l.val) (Nat.zero_mul _)).trans (Nat.zero_add _)
theorem emb7 (t : Fin cfg0.N) (r : Fin 1) (l : Fin 1024) : ((cfg0.win 7).blk t).view.emb (ix2 r l) = ix2 r l := by
  refine funext fun a => Fin.ext ?_
  blk_simp
  rw [show win0_7.index t a = _ from (idx_all t a).2.2.1]
  fin_cases a
  · show 0 * 1 + r.val = r.val; omega
  · exact (congrArg (· + l.val) (Nat.zero_mul _)).trans (Nat.zero_add _)
theorem emb9 (t : Fin cfg0.N) (r : Fin 1024) (l : Fin 1024) : ((cfg0.win 9).blk t).view.emb (ix2 r l) = ix2 r l := by
  refine funext fun a => Fin.ext ?_
  blk_simp
  rw [show win0_9.index t a = _ from (idx_all t a).2.2.2]
  fin_cases a
  · show 0 * 1024 + r.val = r.val; omega
  · exact (congrArg (· + l.val) (Nat.zero_mul _)).trans (Nat.zero_add _)

theorem dhOut (t : Fin cfg0.N) : (outsAt0 m c t.val t.isLt).1 = dhB m c t ∧ (outsAt0 m c t.val t.isLt).2.2.1 = k0_pay2 (dhB m c t) := by
  by_cases h : t.val % 16 = 0
  · rw [outs_A m c t h]; exact ⟨rfl, rfl⟩
  · rw [outs_B m c t h]; exact ⟨rfl, rfl⟩

include h0 h1 h2 h3 h4 in
/-- The rows' gradient, in both formats. -/
theorem arr6 : (dats m 0 c).arrAt 6 cfg0.N = fun j : S8192x1024.Idx => R.dh A W H G S (j 0) (j 1) := by
  refine (dats m 0 c).arrAt_eq_of_covers 6 _ covs.1 fun t hf y => ?_
  obtain ⟨r, l, rfl⟩ : ∃ (r : Fin 512) (l : Fin 1024), y = ix2 r l := ⟨y 0, y 1, eq_ix2 y⟩
  rw [emb6, after0_6, (dhOut m c t).1]
  exact dhB_at m c h0 h1 h2 h3 h4 t r l
include h0 h1 h2 h3 h4 in
@[inherit_doc arr6] theorem arr8 : (dats m 0 c).arrAt 8 cfg0.N = fun j : S8192x1024.Idx => R.dh A W H G S (j 0) (j 1) := by
  refine (dats m 0 c).arrAt_eq_of_covers 8 _ covs.2.2.1 fun t hf y => ?_
  obtain ⟨r, l, rfl⟩ : ∃ (r : Fin 512) (l : Fin 1024), y = ix2 r l := ⟨y 0, y 1, eq_ix2 y⟩
  rw [emb8, after0_8, (dhOut m c t).2]
  exact (K.p2 _ r l).trans (dhB_at m c h0 h1 h2 h3 h4 t r l)
include h0 h1 h2 in
/-- The gain's gradient. -/
theorem arr7 : (dats m 0 c).arrAt 7 cfg0.N = fun j : S1x1024.Idx => R.dg A W H (j 1) := by
  refine (dats m 0 c).arrAt_eq_of_covers 7 _ covs.2.1 fun t hf y => ?_
  obtain ⟨z, j, rfl⟩ : ∃ (z : Fin 1) (j : Fin 1024), y = ix2 z j := ⟨y 0, y 1, eq_ix2 y⟩
  rw [emb7, after0_7]
  exact acc_sum N_0 row (fun _ _ => rfl) (fun n hn => (outsAt0 m c n hn).2.1 (ix2 z j)) _
    (fun t h => (congrFun (congrArg (·.2.1) (outs_A m c t h)) _).trans ((dgB_at m c h0 h1 h2 t _ z j).trans (by rw [K.p8]; rfl)))
    (fun t h => (congrFun (congrArg (·.2.1) (outs_B m c t h)) _).trans (dgB_at m c h0 h1 h2 t _ z j)) t ((lasts t).1 hf)
include h0 h1 h2 h3 h4 h5 in
/-- The weight's gradient. -/
theorem arr9 : (dats m 0 c).arrAt 9 cfg0.N = fun j : S1024x1024.Idx => (∑ r : Fin 8192, Y (ix2 r (j 0)) * R.dh A W H G S r (j 1) : EReal) := by
  refine (dats m 0 c).arrAt_eq_of_covers 9 _ covs.2.2.2 fun t hf y => ?_
  obtain ⟨i, j, rfl⟩ : ∃ (i j : Fin 1024), y = ix2 i j := ⟨y 0, y 1, eq_ix2 y⟩
  rw [emb9, after0_9]
  exact acc_sum N_0 row (fun _ _ => rfl) (fun n hn => (outsAt0 m c n hn).2.2.2 (ix2 i j)) _
    (fun t h => (congrFun (congrArg (·.2.2.2) (outs_A m c t h)) _).trans ((dwB_at m c h0 h1 h2 h3 h4 h5 t _ i j).trans (by rw [K.p9]; rfl)))
    (fun t h => (congrFun (congrArg (·.2.2.2) (outs_B m c t h)) _).trans (dwB_at m c h0 h1 h2 h3 h4 h5 t _ i j)) t ((lasts t).2 hf)

end Cert.Rms
-- ==== Proof.RmsEven.lean ====
/- The even layer's call of the normalisation's backward pass, which returns the rows' and the gain's gradients alone. -/
module

public import proofs.«01_k».proof.Proof.Gen.Kernel5Ideal.Value
public import proofs.«01_k».proof.Proof.Gen.Reference5Ideal.Run
public import proofs.«01_k».proof.Proof.RmsAt

@[expose] public section

set_option maxRecDepth 16384

noncomputable section

namespace Cert.RmsEven

open Idealize.ShloMosaic Idealize.ShloMosaic.TcCoe
open Cert.Rms (kd kd_eq rd rr ms acc_sum zeros)

section K
open Cert.Kernel5Ideal Cert.Kernel5Ideal.Gen

section
variable {F : FTy → Type} [FloatOps F] (m : (ℓ : Loc nD τ sig) → Buf (Elt F) ℓ) (c : Dev nD)

/-- The rows' gradient at a point. -/
abbrev dhB (t : Fin cfg0.N) : FVec F S512x1024 .f32 := k0_pay5 (iblk m c 0 t) (iblk m c 1 t) (iblk m c 2 t) (iblk m c 3 t) (iblk m c 4 t)
/-- A point's addition to the gain's gradient. -/
abbrev dgB (t : Fin cfg0.N) (acc : FVec F S1x1024 .f32) : FVec F S1x1024 .f32 := k0_pay1 (k0_pay2 (iblk m c 0 t) (iblk m c 1 t)) (k0_pay4 (iblk m c 2 t)) acc

/-- What the first point leaves, and what a later one leaves over the one before. -/
theorem outs_A (t : Fin cfg0.N) (h0 : t.val % 16 = 0) : outsAt0 m c t.val t.isLt = (dhB m c t, dgB m c t k0_pay6) := by
  rw [outsAt0_A m c t h0]
  refine Prod.ext ?_ ?_ <;> dsimp only
  on_goal 1 => unfold out0_A_5; rw [View.read_writes_eq_canon _ _ _ fun _ => cover0_A_5 ..]
  on_goal 2 => unfold out0_A_6; rw [View.read_writes_eq_canon _ _ _ fun _ => cover0_A_6 ..]
  all_goals
    unfold kernelRun0_A
    dsimp only
    sl_unfold_words
    simp only [View.readAt_eq_ld, Memref.IsWhole.read_unread, k0_pay7, shapeCast_self,
      View.ld_unit_zero (S := S512x2048) zeros, View.ld_unit_zero (S := S1024x2048) zeros, View.ld_unit_zero (S := S512x1024) zeros, View.ld_unit_zero (S := S1x1024) zeros,
      View.canon_cons_unit_zero (S := S512x1024) zeros, View.canon_cons_unit_zero (S := S1x1024) zeros,
      View.readCov_unit_zero (S := S512x1024) _ zeros, View.readCov_unit_zero (S := S1x1024) _ zeros]
@[inherit_doc outs_A] theorem outs_B (t : Fin cfg0.N) (h0 : ¬t.val % 16 = 0) :
    outsAt0 m c t.val t.isLt = (dhB m c t, dgB m c t (outsAt0 m c (t.val - 1) (Nat.lt_of_le_of_lt (Nat.sub_le _ _) t.isLt)).2) := by
  rw [outsAt0_B m c t h0]
  refine Prod.ext ?_ ?_ <;> dsimp only
  on_goal 1 => unfold out0_B_5; rw [View.read_writes_eq_canon _ _ _ fun _ => cover0_B_5 ..]
  on_goal 2 => unfold out0_B_6; rw [View.read_writes_eq_canon _ _ _ fun _ => cover0_B_6 ..]
  all_goals
    unfold kernelRun0_B
    dsimp only
    sl_unfold_words
    simp only [View.readAt_eq_ld, Memref.IsWhole.read_unread, k0_pay7, shapeCast_self,
      View.ld_unit_zero (S := S512x2048) zeros, View.ld_unit_zero (S := S1024x2048) zeros, View.ld_unit_zero (S := S512x1024) zeros, View.ld_unit_zero (S := S1x1024) zeros,
      View.canon_cons_unit_zero (S := S512x1024) zeros, View.canon_cons_unit_zero (S := S1x1024) zeros]
end

section
variable (a : FVec Ideal S512x2048 .bf16) (w : FVec Ideal S1024x2048 .bf16) (h : FVec Ideal S512x1024 .f32) (g : FVec Ideal S1x1024 .f32) (s : FVec Ideal S512x1024 .f32)

theorem p2 (r : Fin 512) (j : Fin 1024) : k0_pay2 (F := Ideal) a w (ix2 r j) = (∑ k : Fin 2048, a (ix2 r k) * w (ix2 j k) : EReal) := by
  pointwise [k0_pay2]
theorem p3 (r : Fin 512) (z : Fin 1) : k0_pay3 (F := Ideal) h (ix2 r z) = rr fun k => h (ix2 r k) := by
  unfold rr ms
  pointwise [k0_pay3]
theorem p4 (r : Fin 512) (j : Fin 1024) : k0_pay4 h (ix2 r j) = h (ix2 r j) * rr fun k => h (ix2 r k) := by
  pointwise [k0_pay4]
  rw [p3]
theorem p5 (r : Fin 512) (j : Fin 1024) : k0_pay5 (F := Ideal) a w h g s (ix2 r j) = kd (fun k => h (ix2 r k)) (fun x => (∑ k : Fin 2048, a (ix2 r k) * w (ix2 x k)) * g (ix2 0 x)) (s (ix2 r j)) j := by
  unfold kd
  pointwise [k0_pay5]
  simp only [p2, p3, p4]
theorem p1 (x y : FVec Ideal S512x1024 .f32) (z : Fin 1) (j : Fin 1024) : k0_pay1 x y g (ix2 z j) = g (ix2 z j) + ∑ r : Fin 512, x (ix2 r j) * y (ix2 r j) := by
  pointwise [k0_pay1]
theorem p6 (z : Fin 1) (j : Fin 1024) : k0_pay6 (F := Ideal) (ix2 z j) = (0 : EReal) := by
  pointwise [k0_pay6]
end

theorem idx_row : ∀ t : Fin cfg0.N, ∀ a, (cfg0.win 0).index t a = (![t.val, 0] : Fin 2 → ℕ) a ∧ (cfg0.win 2).index t a = (![t.val, 0] : Fin 2 → ℕ) a
    ∧ (cfg0.win 4).index t a = (![t.val, 0] : Fin 2 → ℕ) a ∧ (cfg0.win 5).index t a = (![t.val, 0] : Fin 2 → ℕ) a := by
  decide +kernel
theorem idx_all : ∀ t : Fin cfg0.N, ∀ a, (cfg0.win 1).index t a = 0 ∧ (cfg0.win 3).index t a = 0 ∧ (cfg0.win 6).index t a = 0 := by
  decide +kernel
theorem covs : (cfg0.win 5).Covers ∧ (cfg0.win 6).Covers := by decide +kernel
theorem last : ∀ t : Fin cfg0.N, (cfg0.win 6).flush t = true → t.val % 16 = 15 := by decide +kernel

/-- A row's gradient. -/
abbrev dh (A : FVec Ideal S8192x2048 .bf16) (W : FVec Ideal S1024x2048 .bf16) (H : FVec Ideal S8192x1024 .f32) (G : FVec Ideal S1x1024 .f32)
    (S : FVec Ideal S8192x1024 .f32) (i : Fin 8192) (j : Fin 1024) : EReal :=
  rd (fun k => H (ix2 i k)) (fun x => (∑ k : Fin 2048, A (ix2 i k) * W (ix2 x k)) * G (ix2 0 x)) (S (ix2 i j)) j
/-- The gain's gradient. -/
abbrev dg (A : FVec Ideal S8192x2048 .bf16) (W : FVec Ideal S1024x2048 .bf16) (H : FVec Ideal S8192x1024 .f32) (j : Fin 1024) : EReal :=
  ∑ i : Fin 8192, (∑ k : Fin 2048, A (ix2 i k) * W (ix2 j k) : EReal) * (H (ix2 i j) * rr fun k => H (ix2 i k))

variable (m : (ℓ : Loc nD τ sig) → Buf (Elt Ideal) ℓ) (c : Dev nD)
  {A : FVec Ideal S8192x2048 .bf16} {W : FVec Ideal S1024x2048 .bf16} {H S : FVec Ideal S8192x1024 .f32} {G : FVec Ideal S1x1024 .f32}
  (h0 : m ((c.tc : Thread nD τ).loc main_arg0) = A) (h1 : m ((c.tc : Thread nD τ).loc main_arg1) = W) (h2 : m ((c.tc : Thread nD τ).loc main_arg2) = H)
  (h3 : m ((c.tc : Thread nD τ).loc main_arg3) = G) (h4 : m ((c.tc : Thread nD τ).loc main_arg4) = S)

theorem row_lt (t : Fin cfg0.N) (r : Fin 512) : 512 * t.val + r.val < 8192 := by
  have := lt_of_lt_of_eq t.isLt N_0; have := r.isLt; omega
/-- Row `r` of point `t`'s block. -/
abbrev row (t : Fin cfg0.N) (r : Fin 512) : Fin 8192 := ⟨512 * t.val + r.val, row_lt t r⟩

include h0 in
theorem ib0 (t : Fin cfg0.N) (r : Fin 512) (k : Fin 2048) : iblk m c 0 t (ix2 r k) = A (ix2 (row t r) k) := by
  subst h0; blk_ext [iblk, V, (idx_row t _).1]
include h1 in
theorem ib1 (t : Fin cfg0.N) (j : Fin 1024) (k : Fin 2048) : iblk m c 1 t (ix2 j k) = W (ix2 j k) := by
  subst h1; blk_ext [iblk, V, (idx_all t _).1]
include h2 in
theorem ib2 (t : Fin cfg0.N) (r : Fin 512) (k : Fin 1024) : iblk m c 2 t (ix2 r k) = H (ix2 (row t r) k) := by
  subst h2; blk_ext [iblk, V, (idx_row t _).2.1]
include h3 in
theorem ib3 (t : Fin cfg0.N) (z : Fin 1) (k : Fin 1024) : iblk m c 3 t (ix2 z k) = G (ix2 z k) := by
  subst h3; blk_ext [iblk, V, (idx_all t _).2.1]
include h4 in
theorem ib4 (t : Fin cfg0.N) (r : Fin 512) (k : Fin 1024) : iblk m c 4 t (ix2 r k) = S (ix2 (row t r) k) := by
  subst h4; blk_ext [iblk, V, (idx_row t _).2.2.1]

include h0 h1 h2 h3 h4 in
theorem dhB_at (t : Fin cfg0.N) (r : Fin 512) (j : Fin 1024) : dhB m c t (ix2 r j) = dh A W H G S (row t r) j := by
  refine (p5 _ _ _ _ _ r j).trans ((kd_eq _ _ _ _).trans ?_)
  unfold dh
  congr 1
  · exact funext fun k => ib2 m c h2 t r k
  · exact funext fun x => congrArg₂ (· * · : EReal → EReal → EReal) (Finset.sum_congr rfl fun k _ => congrArg₂ (· * · : EReal → EReal → EReal) (ib0 m c h0 t r k) (ib1 m c h1 t x k)) (ib3 m c h3 t 0 x)
  · exact ib4 m c h4 t r j
include h0 h1 h2 in
theorem dgB_at (t : Fin cfg0.N) (v) (z : Fin 1) (j : Fin 1024) : dgB m c t v (ix2 z j) = (v (ix2 z j) + ∑ r : Fin 512,
    (∑ k : Fin 2048, A (ix2 (row t r) k) * W (ix2 j k) : EReal) * (H (ix2 (row t r) j) * rr fun k => H (ix2 (row t r) k)) : EReal) := by
  refine (p1 _ _ _ z j).trans (congrArg (_ + · : EReal → EReal) (Finset.sum_congr rfl fun r _ => ?_))
  rw [p2, p4]
  simp only [ib0 m c h0, ib1 m c h1, ib2 m c h2]

theorem emb5 (t : Fin cfg0.N) (r : Fin 512) (l : Fin 1024) : ((cfg0.win 5).blk t).view.emb (ix2 r l) = ix2 (row t r) l := by
  refine funext fun a => Fin.ext ?_
  blk_simp
  rw [show win0_5.index t a = _ from (idx_row t a).2.2.2]
  fin_cases a
  · show t.val * 512 + r.val = 512 * t.val + r.val; omega
  · exact (congrArg (· + l.val) (Nat.zero_mul _)).trans (Nat.zero_add _)
theorem emb6 (t : Fin cfg0.N) (r : Fin 1) (l : Fin 1024) : ((cfg0.win 6).blk t).view.emb (ix2 r l) = ix2 r l := by
  refine funext fun a => Fin.ext ?_
  blk_simp
  rw [show win0_6.index t a = _ from (idx_all t a).2.2]
  fin_cases a
  · show 0 * 1 + r.val = r.val; omega
  · exact (congrArg (· + l.val) (Nat.zero_mul _)).trans (Nat.zero_add _)

theorem dhOut (t : Fin cfg0.N) : (outsAt0 m c t.val t.isLt).1 = dhB m c t := by
  by_cases h : t.val % 16 = 0
  · rw [outs_A m c t h]
  · rw [outs_B m c t h]

include h0 h1 h2 h3 h4 in
/-- The array of the rows' gradient. -/
theorem arr5 : (dats m 0 c).arrAt 5 cfg0.N = fun j : S8192x1024.Idx => dh A W H G S (j 0) (j 1) := by
  refine (dats m 0 c).arrAt_eq_of_covers 5 _ covs.1 fun t hf y => ?_
  obtain ⟨r, l, rfl⟩ : ∃ (r : Fin 512) (l : Fin 1024), y = ix2 r l := ⟨y 0, y 1, eq_ix2 y⟩
  rw [emb5, after0_5, dhOut m c t]
  exact dhB_at m c h0 h1 h2 h3 h4 t r l
include h0 h1 h2 in
/-- The array of the gain's gradient. -/
theorem arr6 : (dats m 0 c).arrAt 6 cfg0.N = fun j : S1x1024.Idx => dg A W H (j 1) := by
  refine (dats m 0 c).arrAt_eq_of_covers 6 _ covs.2 fun t hf y => ?_
  obtain ⟨z, j, rfl⟩ : ∃ (z : Fin 1) (j : Fin 1024), y = ix2 z j := ⟨y 0, y 1, eq_ix2 y⟩
  rw [emb6, after0_6]
  exact acc_sum N_0 row (fun _ _ => rfl) (fun n hn => (outsAt0 m c n hn).2 (ix2 z j)) _
    (fun t h => (congrFun (congrArg (·.2) (outs_A m c t h)) _).trans ((dgB_at m c h0 h1 h2 t _ z j).trans (by rw [p6]; rfl)))
    (fun t h => (congrFun (congrArg (·.2) (outs_B m c t h)) _).trans (dgB_at m c h0 h1 h2 t _ z j)) t (last t hf)
end K

namespace R
open Cert.Reference5Ideal Cert.Reference5Ideal.Gen Cert.Reference5Ideal.Value
variable (m : (ℓ : Loc nD τ sig) → Buf (Elt Ideal) ℓ) (c : Dev nD)
  {A : FVec Ideal S8192x2048 .bf16} {W : FVec Ideal S1024x2048 .bf16} {H S : FVec Ideal S8192x1024 .f32} {G : FVec Ideal S1x1024 .f32}
  (h0 : m ((c.tc : Thread nD τ).loc main_arg0) = A) (h1 : m ((c.tc : Thread nD τ).loc main_arg1) = W) (h2 : m ((c.tc : Thread nD τ).loc main_arg2) = H)
  (h3 : m ((c.tc : Thread nD τ).loc main_arg3) = G) (h4 : m ((c.tc : Thread nD τ).loc main_arg4) = S)

include h0 h1 h2 h3 h4 in
theorem v38 (i : Fin 8192) (j : Fin 1024) : res_main_v38 m c (ix2 i j) = dh A W H G S i j := by
  unfold res_main_v38 dh rd rr ms
  rw [h0, h1, h2, h3, h4]
  clean_types
  pointwise
  simp only [Finset.univ_unique, Finset.sum_singleton]
/-- The reference's gain's gradient, as its operations. -/
abbrev dgT (A : FVec Ideal S8192x2048 .bf16) (W : FVec Ideal S1024x2048 .bf16) (H : FVec Ideal S8192x1024 .f32) : FVec Ideal S1x1024 .f32 :=
  shapeCast S1x1024 (Host.reduceAdd (mulf (mulf H (broadcastInDim S8192x1024 ![0, 1] bcast_S8192x1_S8192x1024_0_1 (Host.rsqrt (addf (Host.divf (broadcastInDim S8192x1 ![0] bcast_S8192_S8192x1_0 (Host.reduceAdd (mulf H H) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (Host.dotGeneral dot_S8192x2048_S1024x2048_S8192x1024_1_1_0_0_n_n none (extf .f32 A bitsLt_bf16_f32) (extf .f32 W bitsLt_bf16_f32))) (constant S_ .f32 0x00000000#32) reducesTo_S8192x1024_S1024_d0 h_S_) shapeCasts_S1024_S1x1024
theorem v21 (z : Fin 1) (j : Fin 1024) : dgT A W H (ix2 z j) = dg A W H j := by
  unfold dg rr ms
  pointwise
  exact Finset.sum_congr rfl fun r _ => mul_comm (G := EReal) _ _
end R

end Cert.RmsEven
-- ==== Proof.Gate.lean ====
/- The gates with the output projection and the residual: what the even layer's call and its reference compute. -/
module

public import proofs.«01_k».proof.Proof.Gen.Kernel6Ideal.Value
public import proofs.«01_k».proof.Proof.Gen.Reference6Ideal.Run
public import proofs.«01_k».proof.Proof.RmsAt

@[expose] public section

set_option maxRecDepth 16384

noncomputable section

namespace Cert.Gate

open Idealize.ShloMosaic Idealize.ShloMosaic.TcCoe
open Cert.Rms (zeros)

/-- The real identity behind the kernel's form of the logistic function. -/
theorem real_gate (r : ℝ) : 1 / 2 * Real.tanh (1 / 2 * r) + 1 / 2 = (1 + Real.exp (-r))⁻¹ := by
  have hb : Real.exp (-r) = Real.exp (-(1 / 2 * r)) * Real.exp (-(1 / 2 * r)) := by rw [← Real.exp_add]; ring_nf
  have hab : Real.exp (1 / 2 * r) * Real.exp (-(1 / 2 * r)) = 1 := by rw [← Real.exp_add]; simp
  rw [Real.tanh_eq, hb]
  have ha := Real.exp_pos (1 / 2 * r)
  have hp := Real.exp_pos (-(1 / 2 * r))
  generalize Real.exp (1 / 2 * r) = a at *
  generalize Real.exp (-(1 / 2 * r)) = b at *
  field_simp
  nlinarith
theorem half_eq : Ideal.ofBits .f32 0x3F000000#32 = ((1 / 2 : ℝ) : EReal) := by
  simp [Ideal.ofBits, Ideal.ieee]; rw [← EReal.coe_mul]; norm_num
/-- One half of tanh at half the argument, plus one half, is the logistic function, at the infinities too. -/
theorem gate_eq (x : EReal) : ((1 / 2 : ℝ) : EReal) * Ideal.tanh (((1 / 2 : ℝ) : EReal) * x) + ((1 / 2 : ℝ) : EReal) = Ideal.logistic x := by
  induction x using EReal.rec with
  | bot => rw [EReal.coe_mul_bot_of_pos (by norm_num), Ideal.tanh_bot, Ideal.logistic_bot]; rw [← EReal.coe_one, ← EReal.coe_neg, ← EReal.coe_mul, ← EReal.coe_add]; norm_num
  | top => rw [EReal.coe_mul_top_of_pos (by norm_num), Ideal.tanh_top, Ideal.logistic_top, mul_one, ← EReal.coe_add]; norm_num
  | coe r => rw [← EReal.coe_mul, Ideal.tanh_coe, Ideal.logistic_coe, ← EReal.coe_mul, ← EReal.coe_add, real_gate]

section
variable {F : FTy → Type} [FloatOps F] {n : ℕ} (hx : ∀ a, (![0, 512] : Fin 2 → ℕ) a + (![n, 512] : Fin 2 → ℕ) a ≤ (![n, 1024] : Fin 2 → ℕ) a) (hy : ∀ a, (![0, 0] : Fin 2 → ℕ) a + (![n, 512] : Fin 2 → ℕ) a ≤ (![n, 1024] : Fin 2 → ℕ) a)

/-- A block whose right half is `x` and whose left half is `y`. -/
abbrev two (x y : FVec F ⟨2, ![n, 512]⟩ .bf16) : FVec F ⟨2, ![n, 1024]⟩ .bf16 :=
  View.canon (Val := Elt F) [(⟨Rect.unit (s := ⟨2, ![n, 1024]⟩) ![0, 512] ![n, 512] hx, x⟩ : View.Piece (Elt F) ⟨2, ![n, 1024]⟩ .bf16),
    ⟨Rect.unit (s := ⟨2, ![n, 1024]⟩) ![0, 0] ![n, 512] hy, y⟩]
theorem two_at (x y : FVec F ⟨2, ![n, 512]⟩ .bf16) (r : Fin n) (j : Fin 1024) :
    two hx hy x y (ix2 r j) = if h : j.val < 512 then y (ix2 r ⟨j.val, h⟩) else x (ix2 r ⟨j.val - 512, by omega⟩) := by
  split
  · rename_i h
    refine (View.canon_cons_of_not_mem (Val := Elt F) _ _ fun hm => ?_).trans ?_
    · have h1 : 512 ≤ j.val := ((Rect.mem_set_unit (inb := hx)).mp hm (1 : Fin 2)).1
      omega
    · rw [show (ix2 r j : (⟨2, ![n, 1024]⟩ : Shape).Idx) = (Rect.unit (s := ⟨2, ![n, 1024]⟩) ![0, 0] ![n, 512] hy).emb (ix2 r ⟨j.val, h⟩) from
        funext fun a => Fin.ext (by fin_cases a; exacts [show r.val = 0 + 1 * r.val by omega, show j.val = 0 + 1 * j.val by omega])]
      exact View.canon_cons_emb (Val := Elt F) _ _ _ _
  · rename_i h
    rw [show (ix2 r j : (⟨2, ![n, 1024]⟩ : Shape).Idx) = (Rect.unit (s := ⟨2, ![n, 1024]⟩) ![0, 512] ![n, 512] hx).emb (ix2 r ⟨j.val - 512, by omega⟩) from
      funext fun a => Fin.ext (by fin_cases a; exacts [show r.val = 0 + 1 * r.val by omega, show j.val = 512 + 1 * (j.val - 512) by omega])]
    exact View.canon_cons_emb (Val := Elt F) _ _ _ _
end

section K
open Cert.Kernel6Ideal Cert.Kernel6Ideal.Gen

section
variable {F : FTy → Type} [FloatOps F] (m : (ℓ : Loc nD τ sig) → Buf (Elt F) ℓ) (c : Dev nD)

/-- The gated mixer output at a point. -/
def yB (t : Fin cfg0.N) : FVec F S512x1024 .bf16 := two (n := 512) (by decide) (by decide) (k0_pay3 (iblk m c 2 t) (iblk m c 1 t) (iblk m c 3 t)) (k0_pay2 (iblk m c 2 t) (iblk m c 0 t))
theorem outs (t : Fin cfg0.N) : outsAt0 m c t = (k0_pay4 (iblk m c 5 t) (yB m c t) (iblk m c 4 t), yB m c t) := by
  unfold outsAt0
  refine Prod.ext ?_ ?_ <;> dsimp only
  on_goal 1 => unfold out0_A_6; rw [View.read_writes_eq_canon _ _ _ fun _ => cover0_A_6 ..]
  on_goal 2 => unfold out0_A_7; rw [View.read_writes_eq_canon _ _ _ fun _ => cover0_A_7 ..]
  all_goals
    unfold kernelRun0_A
    dsimp only
    sl_unfold_words
    simp only [View.readAt_eq_ld, Memref.IsWhole.read_unread, shapeCast_self,
      View.ld_unit_zero (S := S512x512) zeros, View.ld_unit_zero (S := S1024x1024) zeros, View.ld_unit_zero (S := S512x1024) zeros, View.ld_unit_zero (S := S1x512) zeros,
      View.canon_cons_unit_zero (S := S512x1024) zeros]
  on_goal 2 => rfl
  rw [View.readCov_eq_canon']
  refine congrArg (k0_pay4 (iblk m c 5 t) · (iblk m c 4 t)) (funext fun y => congrArg (two (n := 512) (by decide) (by decide) _ _) (funext fun a => Fin.ext ?_))
  show (![0, 0] : Fin 2 → ℕ) a + 1 * (y a).val = (y a).val
  fin_cases a <;> exact (Nat.zero_add _).trans (Nat.one_mul _)
end

section
variable (z : FVec Ideal S512x1024 .f32) (o yb : FVec Ideal S512x512 .f32) (s : FVec Ideal S1x512 .f32) (y : FVec Ideal S512x1024 .bf16) (w : FVec Ideal S1024x1024 .bf16) (h : FVec Ideal S512x1024 .f32)

theorem p1 (r : Fin 512) (j : Fin 1024) : k0_pay1 (F := Ideal) z (ix2 r j) = z (ix2 r j) * Ideal.logistic (z (ix2 r j)) := by
  pointwise [k0_pay1]
  rw [half_eq, gate_eq]
theorem p2 (r : Fin 512) (j : Fin 512) : k0_pay2 (F := Ideal) z o (ix2 r j) = o (ix2 r j) * k0_pay1 (F := Ideal) z (ix2 r ⟨j.val, by omega⟩) := by
  pointwise [k0_pay2]
theorem p3 (r : Fin 512) (j : Fin 512) : k0_pay3 (F := Ideal) z yb s (ix2 r j) = yb (ix2 r j) * s (ix2 0 j) * k0_pay1 (F := Ideal) z (ix2 r ⟨512 + j.val, by omega⟩) := by
  pointwise [k0_pay3]
theorem p4 (r : Fin 512) (j : Fin 1024) : k0_pay4 (F := Ideal) h y w (ix2 r j) = h (ix2 r j) + ∑ k : Fin 1024, y (ix2 r k) * w (ix2 k j) := by
  pointwise [k0_pay4]
end

theorem idx_row : ∀ t : Fin cfg0.N, ∀ a, (cfg0.win 0).index t a = (![t.val, 0] : Fin 2 → ℕ) a ∧ (cfg0.win 1).index t a = (![t.val, 0] : Fin 2 → ℕ) a
    ∧ (cfg0.win 2).index t a = (![t.val, 1] : Fin 2 → ℕ) a ∧ (cfg0.win 5).index t a = (![t.val, 0] : Fin 2 → ℕ) a
    ∧ (cfg0.win 6).index t a = (![t.val, 0] : Fin 2 → ℕ) a ∧ (cfg0.win 7).index t a = (![t.val, 0] : Fin 2 → ℕ) a := by
  decide +kernel
theorem idx_all : ∀ t : Fin cfg0.N, ∀ a, (cfg0.win 3).index t a = 0 ∧ (cfg0.win 4).index t a = 0 := by
  decide +kernel
theorem covs : (cfg0.win 6).Covers ∧ (cfg0.win 7).Covers := by decide +kernel

/-- The mixer output at a column: the attention's half, or the pool's under its scale. -/
def mix (O Y : FVec Ideal S8192x512 .f32) (P : FVec Ideal S1x512 .f32) (i : Fin 8192) (j : Fin 1024) : EReal :=
  if h : j.val < 512 then O (ix2 i ⟨j.val, h⟩) else Y (ix2 i ⟨j.val - 512, by omega⟩) * P (ix2 0 ⟨j.val - 512, by omega⟩)
/-- The gated mixer output. -/
def gy (O Y : FVec Ideal S8192x512 .f32) (Z : FVec Ideal S8192x2048 .f32) (P : FVec Ideal S1x512 .f32) (i : Fin 8192) (j : Fin 1024) : EReal :=
  mix O Y P i j * (Z (ix2 i ⟨1024 + j.val, by omega⟩) * Ideal.logistic (Z (ix2 i ⟨1024 + j.val, by omega⟩)))
/-- The residual stream after the layer. -/
def gh (O Y : FVec Ideal S8192x512 .f32) (Z : FVec Ideal S8192x2048 .f32) (P : FVec Ideal S1x512 .f32) (W : FVec Ideal S1024x1024 .bf16)
    (H : FVec Ideal S8192x1024 .f32) (i : Fin 8192) (j : Fin 1024) : EReal :=
  H (ix2 i j) + ∑ k : Fin 1024, gy O Y Z P i k * W (ix2 k j)

variable (m : (ℓ : Loc nD τ sig) → Buf (Elt Ideal) ℓ) (c : Dev nD)
  {O Y : FVec Ideal S8192x512 .f32} {Z : FVec Ideal S8192x2048 .f32} {P : FVec Ideal S1x512 .f32} {W : FVec Ideal S1024x1024 .bf16} {H : FVec Ideal S8192x1024 .f32}
  (h0 : m ((c.tc : Thread nD τ).loc main_arg0) = O) (h1 : m ((c.tc : Thread nD τ).loc main_arg1) = Y) (h2 : m ((c.tc : Thread nD τ).loc main_arg2) = Z)
  (h3 : m ((c.tc : Thread nD τ).loc main_arg3) = P) (h4 : m ((c.tc : Thread nD τ).loc main_arg4) = W) (h5 : m ((c.tc : Thread nD τ).loc main_arg5) = H)

theorem row_lt (t : Fin cfg0.N) (r : Fin 512) : 512 * t.val + r.val < 8192 := by
  have := lt_of_lt_of_eq t.isLt N_0; have := r.isLt; omega
/-- Row `r` of point `t`'s block. -/
abbrev row (t : Fin cfg0.N) (r : Fin 512) : Fin 8192 := ⟨512 * t.val + r.val, row_lt t r⟩

include h0 in
theorem ib0 (t : Fin cfg0.N) (r k : Fin 512) : iblk m c 0 t (ix2 r k) = O (ix2 (row t r) k) := by
  subst h0; blk_ext [iblk, V, (idx_row t _).1]
include h1 in
theorem ib1 (t : Fin cfg0.N) (r k : Fin 512) : iblk m c 1 t (ix2 r k) = Y (ix2 (row t r) k) := by
  subst h1; blk_ext [iblk, V, (idx_row t _).2.1]
include h2 in
theorem ib2 (t : Fin cfg0.N) (r : Fin 512) (k : Fin 1024) : iblk m c 2 t (ix2 r k) = Z (ix2 (row t r) ⟨1024 + k.val, by omega⟩) := by
  subst h2; blk_ext [iblk, V, (idx_row t _).2.2.1]
include h3 in
theorem ib3 (t : Fin cfg0.N) (z : Fin 1) (k : Fin 512) : iblk m c 3 t (ix2 z k) = P (ix2 z k) := by
  subst h3; blk_ext [iblk, V, (idx_all t _).1]
include h4 in
theorem ib4 (t : Fin cfg0.N) (k j : Fin 1024) : iblk m c 4 t (ix2 k j) = W (ix2 k j) := by
  subst h4; blk_ext [iblk, V, (idx_all t _).2]
include h5 in
theorem ib5 (t : Fin cfg0.N) (r : Fin 512) (k : Fin 1024) : iblk m c 5 t (ix2 r k) = H (ix2 (row t r) k) := by
  subst h5; blk_ext [iblk, V, (idx_row t _).2.2.2.1]

include h0 h1 h2 h3 in
theorem yB_at (t : Fin cfg0.N) (r : Fin 512) (j : Fin 1024) : yB m c t (ix2 r j) = gy O Y Z P (row t r) j := by
  refine (two_at (n := 512) _ _ _ _ r j).trans ?_
  unfold gy mix
  by_cases h : j.val < 512
  · rw [dif_pos h, dif_pos h, p2, p1, ib0 m c h0, ib2 m c h2]
  · rw [dif_neg h, dif_neg h, p3, p1, ib1 m c h1, ib2 m c h2, ib3 m c h3]
    simp only [show 512 + (j.val - 512) = j.val by omega]

theorem emb6 (t : Fin cfg0.N) (r : Fin 512) (l : Fin 1024) : ((cfg0.win 6).blk t).view.emb (ix2 r l) = ix2 (row t r) l := by
  refine funext fun a => Fin.ext ?_
  blk_simp
  rw [show win0_6.index t a = _ from (idx_row t a).2.2.2.2.1]
  fin_cases a
  · show t.val * 512 + r.val = 512 * t.val + r.val; omega
  · exact (congrArg (· + l.val) (Nat.zero_mul _)).trans (Nat.zero_add _)
theorem emb7 (t : Fin cfg0.N) (r : Fin 512) (l : Fin 1024) : ((cfg0.win 7).blk t).view.emb (ix2 r l) = ix2 (row t r) l := by
  refine funext fun a => Fin.ext ?_
  blk_simp
  rw [show win0_7.index t a = _ from (idx_row t a).2.2.2.2.2]
  fin_cases a
  · show t.val * 512 + r.val = 512 * t.val + r.val; omega
  · exact (congrArg (· + l.val) (Nat.zero_mul _)).trans (Nat.zero_add _)

include h0 h1 h2 h3 h4 h5 in
theorem hB_at (t : Fin cfg0.N) (r : Fin 512) (j : Fin 1024) :
    k0_pay4 (F := Ideal) (iblk m c 5 t) (yB m c t) (iblk m c 4 t) (ix2 r j) = gh O Y Z P W H (row t r) j := by
  rw [p4, ib5 m c h5]
  unfold gh
  simp only [yB_at m c h0 h1 h2 h3, ib4 m c h4]
attribute [local irreducible] yB gy

include h0 h1 h2 h3 h4 h5 in
/-- The array of the residual stream. -/
theorem arr6 : (dats m 0 c).arrAt 6 cfg0.N = fun j : S8192x1024.Idx => gh O Y Z P W H (j 0) (j 1) := by
  refine (dats m 0 c).arrAt_eq_of_covers 6 _ covs.1 fun t hf y => ?_
  obtain ⟨r, l, rfl⟩ : ∃ (r : Fin 512) (l : Fin 1024), y = ix2 r l := ⟨y 0, y 1, eq_ix2 y⟩
  rw [emb6, after0_6]
  rw [outs m c t]
  exact hB_at m c h0 h1 h2 h3 h4 h5 t r l
include h0 h1 h2 h3 in
/-- The array of the gated mixer output. -/
theorem arr7 : (dats m 0 c).arrAt 7 cfg0.N = fun j : S8192x1024.Idx => gy O Y Z P (j 0) (j 1) := by
  refine (dats m 0 c).arrAt_eq_of_covers 7 _ covs.2 fun t hf y => ?_
  obtain ⟨r, l, rfl⟩ : ∃ (r : Fin 512) (l : Fin 1024), y = ix2 r l := ⟨y 0, y 1, eq_ix2 y⟩
  rw [emb7, after0_7]
  rw [outs m c t]
  exact yB_at m c h0 h1 h2 h3 t r l
end K

namespace R
open Cert.Reference6Ideal Cert.Reference6Ideal.Gen

/-- The reference's gated mixer output, as its operations. -/
abbrev gyT (O Y : FVec Ideal S8192x512 .f32) (Z : FVec Ideal S8192x2048 .f32) (P : FVec Ideal S1x512 .f32) : FVec Ideal S8192x1024 .f32 :=
  mulf (concatenate S8192x1024 1 [⟨S8192x512, O⟩, ⟨S8192x512, mulf Y (broadcastInDim S8192x512 ![0, 1] bcast_S1x512_S8192x512_0_1 P)⟩] concatenates_S8192x512_S8192x512_S8192x1024_d1)
    (mulf (extractStridedSlice S8192x1024 ![0, 1024] Z slices_S8192x2048_S8192x1024_0_1024) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] Z slices_S8192x2048_S8192x1024_0_1024))))))
/-- The reference's residual stream, as its operations. -/
abbrev ghT (O Y : FVec Ideal S8192x512 .f32) (Z : FVec Ideal S8192x2048 .f32) (P : FVec Ideal S1x512 .f32) (W : FVec Ideal S1024x1024 .bf16)
    (H : FVec Ideal S8192x1024 .f32) : FVec Ideal S8192x1024 .f32 :=
  addf H (Host.dotGeneral dot_S8192x1024_S1024x1024_S8192x1024_1_0_0_1_n_n none (gyT O Y Z P) (extf .f32 W bitsLt_bf16_f32))

variable (O Y : FVec Ideal S8192x512 .f32) (Z : FVec Ideal S8192x2048 .f32) (P : FVec Ideal S1x512 .f32) (W : FVec Ideal S1024x1024 .bf16) (H : FVec Ideal S8192x1024 .f32)

theorem gyT_at (i : Fin 8192) (j : Fin 1024) : gyT O Y Z P (ix2 i j) = gy O Y Z P i j := by
  unfold gy mix Ideal.logistic
  pointwise
theorem ghT_at (i : Fin 8192) (j : Fin 1024) : ghT O Y Z P W H (ix2 i j) = gh O Y Z P W H i j := by
  unfold gh ghT
  generalize hg : gyT O Y Z P = g
  pointwise
  simp only [← hg, gyT_at]
end R

end Cert.Gate
-- ==== Proof.GateBwd.lean ====
/- The backward pass of the even layer's gates: what the call and its reference compute, from finite arguments. -/
module

public import proofs.«01_k».proof.Proof.Gen.Kernel7Ideal.Value
public import proofs.«01_k».proof.Proof.Gen.Reference7Ideal.Run
public import proofs.«01_k».proof.Proof.Gate
public import proofs.«01_k».proof.Proof.Inputs

@[expose] public section

set_option maxRecDepth 16384

noncomputable section

namespace Cert.GateBwd

open Idealize.ShloMosaic Idealize.ShloMosaic.TcCoe
open Cert.Rms (acc_sum zeros)
open Cert.Gate (half_eq gate_eq two two_at mix)

section K
open Cert.Kernel7Ideal Cert.Kernel7Ideal.Gen

section
variable {F : FTy → Type} [FloatOps F] (m : (ℓ : Loc nD τ sig) → Buf (Elt F) ℓ) (c : Dev nD)

/-- The mixer output's cotangent at a point, and the five blocks made of it. -/
abbrev gtB (t : Fin cfg0.N) : FVec F S256x1024 .f32 := k0_pay6 (iblk m c 4 t) (iblk m c 0 t) (iblk m c 1 t)
def dzB (t : Fin cfg0.N) : FVec F S256x1024 .bf16 := two (n := 256) (by decide) (by decide)
  (k0_pay8 (iblk m c 4 t) (iblk m c 0 t) (iblk m c 1 t) (iblk m c 3 t) (iblk m c 5 t)) (k0_pay7 (iblk m c 4 t) (iblk m c 0 t) (iblk m c 1 t) (iblk m c 2 t))
@[inherit_doc gtB] abbrev outB (t : Fin cfg0.N) (acc : FVec F S1x512 .f32) : Vec F S256x512 .bf16 × Vec F S256x512 .f32 × Vec F S256x512 .bf16 × Vec F S256x1024 .bf16 × Vec F S1x512 .f32 :=
  (k0_pay10 (gtB m c t), k0_pay15 (iblk m c 2 t) (k0_pay9 (gtB m c t)) k0_pay12 k0_pay13 k0_pay14, k0_pay16 (gtB m c t) (iblk m c 5 t), dzB m c t, k0_pay2 (gtB m c t) acc (iblk m c 3 t))

/-- What the first point leaves, and what a later one leaves over the one before. -/
theorem outs_A (t : Fin cfg0.N) (h0 : t.val % 32 = 0) : outsAt0 m c t.val t.isLt = outB m c t k0_pay1 := by
  rw [outsAt0_A m c t h0]
  refine Prod.ext ?_ (Prod.ext ?_ (Prod.ext ?_ (Prod.ext ?_ ?_))) <;> dsimp only
  on_goal 1 => unfold out0_A_6; rw [View.read_writes_eq_canon _ _ _ fun _ => cover0_A_6 ..]
  on_goal 2 => unfold out0_A_7; rw [View.read_writes_eq_canon _ _ _ fun _ => cover0_A_7 ..]
  on_goal 3 => unfold out0_A_8; rw [View.read_writes_eq_canon _ _ _ fun _ => cover0_A_8 ..]
  on_goal 4 => unfold out0_A_9; rw [View.read_writes_eq_canon _ _ _ fun _ => cover0_A_9 ..]
  on_goal 5 => unfold out0_A_10; rw [View.read_writes_eq_canon _ _ _ fun _ => cover0_A_10 ..]
  all_goals
    unfold kernelRun0_A
    dsimp only
    sl_unfold_words
    simp only [View.readAt_eq_ld, Memref.IsWhole.read_unread, shapeCast_self,
      View.ld_unit_zero (S := S256x512) zeros, View.ld_unit_zero (S := S1024x1024) zeros, View.ld_unit_zero (S := S256x1024) zeros, View.ld_unit_zero (S := S1x512) zeros,
      View.canon_cons_unit_zero (S := S256x512) zeros, View.canon_cons_unit_zero (S := S1x512) zeros, View.readCov_unit_zero (S := S1x512) _ zeros]
  rfl
@[inherit_doc outs_A] theorem outs_B (t : Fin cfg0.N) (h0 : ¬t.val % 32 = 0) :
    outsAt0 m c t.val t.isLt = outB m c t (outsAt0 m c (t.val - 1) (Nat.lt_of_le_of_lt (Nat.sub_le _ _) t.isLt)).2.2.2.2 := by
  rw [outsAt0_B m c t h0]
  refine Prod.ext ?_ (Prod.ext ?_ (Prod.ext ?_ (Prod.ext ?_ ?_))) <;> dsimp only
  on_goal 1 => unfold out0_B_6; rw [View.read_writes_eq_canon _ _ _ fun _ => cover0_B_6 ..]
  on_goal 2 => unfold out0_B_7; rw [View.read_writes_eq_canon _ _ _ fun _ => cover0_B_7 ..]
  on_goal 3 => unfold out0_B_8; rw [View.read_writes_eq_canon _ _ _ fun _ => cover0_B_8 ..]
  on_goal 4 => unfold out0_B_9; rw [View.read_writes_eq_canon _ _ _ fun _ => cover0_B_9 ..]
  on_goal 5 => unfold out0_B_10; rw [View.read_writes_eq_canon _ _ _ fun _ => cover0_B_10 ..]
  all_goals
    unfold kernelRun0_B
    dsimp only
    sl_unfold_words
    simp only [View.readAt_eq_ld, Memref.IsWhole.read_unread, shapeCast_self,
      View.ld_unit_zero (S := S256x512) zeros, View.ld_unit_zero (S := S1024x1024) zeros, View.ld_unit_zero (S := S256x1024) zeros, View.ld_unit_zero (S := S1x512) zeros,
      View.canon_cons_unit_zero (S := S256x512) zeros, View.canon_cons_unit_zero (S := S1x512) zeros]
  rfl
end

section
variable (z v : FVec Ideal S256x1024 .f32) (a : FVec Ideal S256x1024 .bf16) (w : FVec Ideal S1024x1024 .bf16) (o y : FVec Ideal S256x512 .f32) (s : FVec Ideal S1x512 .f32)

theorem p1 (u : Fin 1) (j : Fin 512) : k0_pay1 (F := Ideal) (ix2 u j) = (0 : EReal) := by
  pointwise [k0_pay1]
theorem p2 (u : Fin 1) (j : Fin 512) : k0_pay2 (F := Ideal) v s y (ix2 u j) = s (ix2 u j) + ∑ r : Fin 256, v (ix2 r ⟨512 + j.val, by omega⟩) * y (ix2 r j) := by
  pointwise [k0_pay2]
theorem p3 (r : Fin 256) (j : Fin 1024) : k0_pay3 (F := Ideal) z (ix2 r j) = Ideal.logistic (z (ix2 r j)) := by
  pointwise [k0_pay3]
  rw [half_eq, gate_eq]
theorem p4 (r : Fin 256) (j : Fin 1024) : k0_pay4 (F := Ideal) z (ix2 r j) = Ideal.logistic (z (ix2 r j)) * (1 + z (ix2 r j) * (1 - Ideal.logistic (z (ix2 r j)))) := by
  pointwise [k0_pay4]
  simp only [p3]
theorem p5 (r : Fin 256) (j : Fin 1024) : k0_pay5 (F := Ideal) a w (ix2 r j) = (∑ k : Fin 1024, a (ix2 r k) * w (ix2 j k) : EReal) := by
  pointwise [k0_pay5]
theorem p6 (r : Fin 256) (j : Fin 1024) : k0_pay6 (F := Ideal) z a w (ix2 r j) = (∑ k : Fin 1024, a (ix2 r k) * w (ix2 j k)) * (z (ix2 r j) * Ideal.logistic (z (ix2 r j))) := by
  pointwise [k0_pay6]
  rw [p5, p3]
theorem p7 (r : Fin 256) (j : Fin 512) : k0_pay7 (F := Ideal) z a w o (ix2 r j) = k0_pay5 (F := Ideal) a w (ix2 r ⟨j.val, by omega⟩) * o (ix2 r j) * k0_pay4 (F := Ideal) z (ix2 r ⟨j.val, by omega⟩) := by
  pointwise [k0_pay7]
theorem p8 (r : Fin 256) (j : Fin 512) : k0_pay8 (F := Ideal) z a w y s (ix2 r j)
    = k0_pay5 (F := Ideal) a w (ix2 r ⟨512 + j.val, by omega⟩) * (y (ix2 r j) * s (ix2 0 j)) * k0_pay4 (F := Ideal) z (ix2 r ⟨512 + j.val, by omega⟩) := by
  pointwise [k0_pay8]
theorem p9 (r : Fin 256) (j : Fin 512) : k0_pay9 (F := Ideal) v (ix2 r j) = v (ix2 r ⟨j.val, by omega⟩) := by
  pointwise [k0_pay9]
theorem p10 (r : Fin 256) (j : Fin 512) : k0_pay10 (F := Ideal) v (ix2 r j) = v (ix2 r ⟨j.val, by omega⟩) := by
  pointwise [k0_pay10, k0_pay9]
theorem p16 (r : Fin 256) (j : Fin 512) : k0_pay16 (F := Ideal) v s (ix2 r j) = v (ix2 r ⟨512 + j.val, by omega⟩) * s (ix2 0 j) := by
  pointwise [k0_pay16]

/-- The group of 64 columns that a row of the summing matrix belongs to, and that a column does. -/
theorem pRow (k : Fin 1024) (j : Fin 512) : Scalar.select (k0_pay13 (ix2 k j)) (k0_pay14 (ix2 k j)) (k0_pay12 (ix2 k j)) = BitVec.ofNat 32 (k.val % 512 / 64) := by
  pointwise [k0_pay13, k0_pay14, k0_pay12, k0_pay11]
  revert k
  decide +kernel
@[inherit_doc pRow] theorem pCol : ∀ j : Fin 512, Scalar.select (IntOp.andi (IntOp.cmpi .ne (IntOp.subi (BitVec.setWidth 32 (IntOp.cmpi .sgt (BitVec.ofNat 32 j.val) 0#32))
    (BitVec.setWidth 32 (IntOp.cmpi .slt (BitVec.ofNat 32 j.val) 0#32))) (Scalar.subi (Scalar.extui (Scalar.cmpi .sgt 64#32 0#32)) (Scalar.extui (Scalar.cmpi .slt 64#32 0#32))))
    (IntOp.cmpi .ne (IntOp.remsi .vector (BitVec.ofNat 32 j.val) 64#32) 0#32)) (IntOp.subi (IntOp.divsi .vector (BitVec.ofNat 32 j.val) 64#32) 1#32)
    (IntOp.divsi .vector (BitVec.ofNat 32 j.val) 64#32) = BitVec.ofNat 32 (j.val / 64) := by
  decide +kernel
theorem one_hot : ∀ a b : Fin 8, (BitVec.setWidth 32 (IntOp.cmpi CmpIPredicate.eq (BitVec.ofNat 32 a.val) (BitVec.ofNat 32 b.val))).toInt = if a.val = b.val then 1 else 0 := by
  decide +kernel
theorem sum_head (f : Fin 512 → EReal) (j : Fin 512) : (∑ x : Fin 512, if x.val / 64 = j.val / 64 then f x else 0) = ∑ d : Fin 64, f ⟨j.val / 64 * 64 + d.val, by omega⟩ := by
  rw [← Finset.sum_filter]
  refine (Finset.sum_nbij (fun d : Fin 64 => (⟨j.val / 64 * 64 + d.val, by omega⟩ : Fin 512)) (fun d _ => ?_) (fun d _ e _ h => ?_) (fun x hx => ?_) fun _ _ => rfl).symm
  · simp only [Finset.mem_filter, Finset.mem_univ, true_and]; omega
  · simp only [Fin.mk.injEq] at h; exact Fin.ext (by omega)
  · simp only [Finset.coe_filter, Finset.mem_univ, true_and, Set.mem_setOf_eq] at hx
    exact ⟨⟨x.val % 64, by omega⟩, by simp, Fin.ext (by show j.val / 64 * 64 + x.val % 64 = x.val; omega)⟩
/-- The product with the summing matrix is the sum over a head's columns, where the products are real numbers. -/
theorem p15 (r : Fin 256) (j : Fin 512) (h : ∀ x, ∃ q : ℝ, (y (ix2 r x) * o (ix2 r x) : EReal) = q) :
    k0_pay15 (F := Ideal) o y k0_pay12 k0_pay13 k0_pay14 (ix2 r j) = ∑ l : Fin 64, (y (ix2 r ⟨j.val / 64 * 64 + l.val, by omega⟩) * o (ix2 r ⟨j.val / 64 * 64 + l.val, by omega⟩) : EReal) := by
  pointwise [k0_pay15]
  simp only [pRow, pCol]
  rw [← sum_head (fun x => y (ix2 r x) * o (ix2 r x)) j]
  refine (congrArg₂ (· + · : EReal → EReal → EReal) (Finset.sum_congr rfl fun x _ => ?_) (Finset.sum_eq_zero fun x _ => ?_)).trans (add_zero _)
  · refine (congrArg (fun n : ℤ => (y (ix2 r x) * o (ix2 r x) * ((n : ℝ) : EReal) : EReal)) (one_hot ⟨x.val % 512 / 64, by omega⟩ ⟨j.val / 64, by omega⟩)).trans ?_
    simp only [Nat.mod_eq_of_lt x.isLt]
    split
    · rw [Int.cast_one, EReal.coe_one, mul_one]
    · rw [Int.cast_zero, EReal.coe_zero, mul_zero]
  · obtain ⟨q, hq⟩ := h x
    rw [hq, ← EReal.coe_sub, sub_self, EReal.coe_zero, zero_mul]
end

theorem idx_row : ∀ t : Fin cfg0.N, ∀ a, (cfg0.win 0).index t a = (![t.val, 0] : Fin 2 → ℕ) a ∧ (cfg0.win 2).index t a = (![t.val, 0] : Fin 2 → ℕ) a
    ∧ (cfg0.win 3).index t a = (![t.val, 0] : Fin 2 → ℕ) a ∧ (cfg0.win 4).index t a = (![t.val, 1] : Fin 2 → ℕ) a
    ∧ (cfg0.win 6).index t a = (![t.val, 0] : Fin 2 → ℕ) a ∧ (cfg0.win 7).index t a = (![t.val, 0] : Fin 2 → ℕ) a
    ∧ (cfg0.win 8).index t a = (![t.val, 0] : Fin 2 → ℕ) a ∧ (cfg0.win 9).index t a = (![t.val, 0] : Fin 2 → ℕ) a := by
  decide +kernel
theorem idx_all : ∀ t : Fin cfg0.N, ∀ a, (cfg0.win 1).index t a = 0 ∧ (cfg0.win 5).index t a = 0 ∧ (cfg0.win 10).index t a = 0 := by
  decide +kernel
theorem covs : (cfg0.win 6).Covers ∧ (cfg0.win 7).Covers ∧ (cfg0.win 8).Covers ∧ (cfg0.win 9).Covers ∧ (cfg0.win 10).Covers := by decide +kernel
theorem last : ∀ t : Fin cfg0.N, (cfg0.win 10).flush t = true → t.val % 32 = 31 := by decide +kernel

/-- The product of the layer's cotangent with the transposed weight. -/
def dD (A : FVec Ideal S8192x1024 .bf16) (W : FVec Ideal S1024x1024 .bf16) (i : Fin 8192) (j : Fin 1024) : EReal := ∑ k : Fin 1024, A (ix2 i k) * W (ix2 j k)
/-- The gate's input. -/
abbrev gz (Z : FVec Ideal S8192x2048 .f32) (i : Fin 8192) (j : Fin 1024) : EReal := Z (ix2 i ⟨1024 + j.val, by omega⟩)
/-- The mixer output's cotangent. -/
def gt (A : FVec Ideal S8192x1024 .bf16) (W : FVec Ideal S1024x1024 .bf16) (Z : FVec Ideal S8192x2048 .f32) (i : Fin 8192) (j : Fin 1024) : EReal :=
  dD A W i j * (gz Z i j * Ideal.logistic (gz Z i j))
/-- The row sums over a head of the attention output's cotangent times that output. -/
def dl (A : FVec Ideal S8192x1024 .bf16) (W : FVec Ideal S1024x1024 .bf16) (O : FVec Ideal S8192x512 .f32) (Z : FVec Ideal S8192x2048 .f32) (i : Fin 8192) (j : Fin 512) : EReal :=
  ∑ l : Fin 64, gt A W Z i ⟨j.val / 64 * 64 + l.val, by omega⟩ * O (ix2 i ⟨j.val / 64 * 64 + l.val, by omega⟩)
/-- The pooled rows' cotangent. -/
def dd (A : FVec Ideal S8192x1024 .bf16) (W : FVec Ideal S1024x1024 .bf16) (Z : FVec Ideal S8192x2048 .f32) (P : FVec Ideal S1x512 .f32) (i : Fin 8192) (j : Fin 512) : EReal :=
  gt A W Z i ⟨512 + j.val, by omega⟩ * P (ix2 0 j)
/-- The gate's cotangent. -/
def dz (A : FVec Ideal S8192x1024 .bf16) (W : FVec Ideal S1024x1024 .bf16) (O Y : FVec Ideal S8192x512 .f32) (Z : FVec Ideal S8192x2048 .f32) (P : FVec Ideal S1x512 .f32)
    (i : Fin 8192) (j : Fin 1024) : EReal :=
  mix O Y P i j * dD A W i j * Ideal.logistic (gz Z i j) + gz Z i j * (mix O Y P i j * dD A W i j) * (Ideal.logistic (gz Z i j) * (1 - Ideal.logistic (gz Z i j)))
/-- The pool's scale's gradient. -/
def ps (A : FVec Ideal S8192x1024 .bf16) (W : FVec Ideal S1024x1024 .bf16) (Y : FVec Ideal S8192x512 .f32) (Z : FVec Ideal S8192x2048 .f32) (j : Fin 512) : EReal :=
  ∑ i : Fin 8192, gt A W Z i ⟨512 + j.val, by omega⟩ * Y (ix2 i j)

/-- A matrix of real numbers. -/
abbrev Reals {n k : ℕ} (a : (⟨2, ![n, k]⟩ : Shape).Idx → EReal) : Prop := ∀ i j, ∃ q : ℝ, a (ix2 i j) = q
/-- A matrix that passes the comparison with infinity is one of real numbers. -/
theorem reals_of {n k : ℕ} {φ : FTy} (a : (⟨2, ![n, k]⟩ : Shape).Idx → Ideal φ) (w) (hw : Ideal.ofBits φ w = (⊤ : EReal)) (d) (hb : (⟨0, ![]⟩ : Shape).BroadcastsInDim (⟨2, ![n, k]⟩ : Shape) d)
    (h : cmpf .olt (Host.absf a) (broadcastInDim (⟨2, ![n, k]⟩ : Shape) d hb (constant (F := Ideal) (⟨0, ![]⟩ : Shape) φ w)) = fun _ => 1#1) : Reals a := fun i j =>
  ⟨_, Cert.Attn.real_of_below _ (hw ▸ (Ideal.cmp_olt_eq_one _ _).1 (congrFun h (ix2 i j)))⟩
theorem inf_half : Ideal.ofBits FTy.bf16 0x7F80#16 = (⊤ : EReal) := by
  simp [Ideal.ofBits, Ideal.ieee]

section
variable {A : FVec Ideal S8192x1024 .bf16} {W : FVec Ideal S1024x1024 .bf16} {O Y : FVec Ideal S8192x512 .f32} {Z : FVec Ideal S8192x2048 .f32} {P : FVec Ideal S1x512 .f32}
  (rA : Reals A) (rW : Reals W) (rO : Reals O) (rY : Reals Y) (rZ : Reals Z) (rP : Reals P)
include rA rW in
theorem real_dD (i : Fin 8192) (j : Fin 1024) : ∃ q : ℝ, dD A W i j = q := by
  choose f hf using fun k => rA i k
  choose g hg using fun k => rW j k
  exact ⟨_, Cert.Attn.sum_coe_mul _ _ f g hf hg⟩
include rA rW rZ in
theorem real_gt (i : Fin 8192) (j : Fin 1024) : ∃ q : ℝ, gt A W Z i j = q := by
  obtain ⟨d, hd⟩ := real_dD rA rW i j
  obtain ⟨z, hz⟩ : ∃ z : ℝ, gz Z i j = z := rZ i _
  exact ⟨_, by rw [gt, hd, hz, Ideal.logistic_coe, ← EReal.coe_mul, ← EReal.coe_mul]⟩
include rO rY rP in
theorem real_mix (i : Fin 8192) (j : Fin 1024) : ∃ q : ℝ, mix O Y P i j = q := by
  unfold mix
  split
  · exact rO i _
  · obtain ⟨y, hy⟩ := rY i ⟨j.val - 512, by omega⟩
    obtain ⟨p, hp⟩ := rP 0 ⟨j.val - 512, by omega⟩
    exact ⟨_, by rw [hy, hp, ← EReal.coe_mul]⟩
include rA rW rO rY rZ rP in
/-- The kernel's form of the gate's cotangent, with the derivative of `silu` gathered. -/
theorem dz_eq (i : Fin 8192) (j : Fin 1024) : dD A W i j * mix O Y P i j * (Ideal.logistic (gz Z i j) * (1 + gz Z i j * (1 - Ideal.logistic (gz Z i j)))) = dz A W O Y Z P i j := by
  obtain ⟨d, hd⟩ := real_dD rA rW i j
  obtain ⟨z, hz⟩ : ∃ z : ℝ, gz Z i j = z := rZ i _
  obtain ⟨x, hx⟩ := real_mix rO rY rP i j
  rw [dz, hd, hz, hx, Ideal.logistic_coe]
  generalize (1 + Real.exp (-z))⁻¹ = s
  norm_cast
  ring
end

variable (m : (ℓ : Loc nD τ sig) → Buf (Elt Ideal) ℓ) (c : Dev nD)
  {A : FVec Ideal S8192x1024 .bf16} {W : FVec Ideal S1024x1024 .bf16} {O Y : FVec Ideal S8192x512 .f32} {Z : FVec Ideal S8192x2048 .f32} {P : FVec Ideal S1x512 .f32}
  (h0 : m ((c.tc : Thread nD τ).loc main_arg0) = A) (h1 : m ((c.tc : Thread nD τ).loc main_arg1) = W) (h2 : m ((c.tc : Thread nD τ).loc main_arg2) = O)
  (h3 : m ((c.tc : Thread nD τ).loc main_arg3) = Y) (h4 : m ((c.tc : Thread nD τ).loc main_arg4) = Z) (h5 : m ((c.tc : Thread nD τ).loc main_arg5) = P)
  (rA : Reals A) (rW : Reals W) (rO : Reals O) (rY : Reals Y) (rZ : Reals Z) (rP : Reals P)

theorem row_lt (t : Fin cfg0.N) (r : Fin 256) : 256 * t.val + r.val < 8192 := by
  have := lt_of_lt_of_eq t.isLt N_0; have := r.isLt; omega
/-- Row `r` of point `t`'s block. -/
abbrev row (t : Fin cfg0.N) (r : Fin 256) : Fin 8192 := ⟨256 * t.val + r.val, row_lt t r⟩

include h0 in
theorem ib0 (t : Fin cfg0.N) (r : Fin 256) (k : Fin 1024) : iblk m c 0 t (ix2 r k) = A (ix2 (row t r) k) := by
  subst h0; blk_ext [iblk, V, (idx_row t _).1]
include h1 in
theorem ib1 (t : Fin cfg0.N) (k j : Fin 1024) : iblk m c 1 t (ix2 k j) = W (ix2 k j) := by
  subst h1; blk_ext [iblk, V, (idx_all t _).1]
include h2 in
theorem ib2 (t : Fin cfg0.N) (r : Fin 256) (k : Fin 512) : iblk m c 2 t (ix2 r k) = O (ix2 (row t r) k) := by
  subst h2; blk_ext [iblk, V, (idx_row t _).2.1]
include h3 in
theorem ib3 (t : Fin cfg0.N) (r : Fin 256) (k : Fin 512) : iblk m c 3 t (ix2 r k) = Y (ix2 (row t r) k) := by
  subst h3; blk_ext [iblk, V, (idx_row t _).2.2.1]
include h4 in
theorem ib4 (t : Fin cfg0.N) (r : Fin 256) (k : Fin 1024) : iblk m c 4 t (ix2 r k) = gz Z (row t r) k := by
  subst h4; blk_ext [iblk, V, (idx_row t _).2.2.2.1]
include h5 in
theorem ib5 (t : Fin cfg0.N) (z : Fin 1) (k : Fin 512) : iblk m c 5 t (ix2 z k) = P (ix2 z k) := by
  subst h5; blk_ext [iblk, V, (idx_all t _).2.1]

include h0 h1 in
theorem dD_at (t : Fin cfg0.N) (r : Fin 256) (j : Fin 1024) : k0_pay5 (F := Ideal) (iblk m c 0 t) (iblk m c 1 t) (ix2 r j) = dD A W (row t r) j := by
  rw [p5]; unfold dD
  simp only [ib0 m c h0, ib1 m c h1]
include h0 h1 h4 in
theorem gt_at (t : Fin cfg0.N) (r : Fin 256) (j : Fin 1024) : gtB m c t (ix2 r j) = gt A W Z (row t r) j := by
  refine (p6 _ _ _ r j).trans ?_
  unfold gt dD
  simp only [ib0 m c h0, ib1 m c h1, ib4 m c h4]
include h0 h1 h2 h3 h4 h5 rA rW rO rY rZ rP in
theorem dz_at (t : Fin cfg0.N) (r : Fin 256) (j : Fin 1024) : dzB m c t (ix2 r j) = dz A W O Y Z P (row t r) j := by
  refine (two_at (n := 256) _ _ _ _ r j).trans ?_
  rw [← dz_eq rA rW rO rY rZ rP]
  unfold mix
  by_cases h : j.val < 512
  · rw [dif_pos h, dif_pos h, p7, p4, dD_at m c h0 h1, ib2 m c h2, ib4 m c h4]
  · rw [dif_neg h, dif_neg h, p8, p4, dD_at m c h0 h1, ib3 m c h3, ib4 m c h4, ib5 m c h5]
    simp only [show 512 + (j.val - 512) = j.val by omega]
include h0 h1 h2 h4 rA rW rO rZ in
theorem dl_at (t : Fin cfg0.N) (r : Fin 256) (j : Fin 512) : k0_pay15 (F := Ideal) (iblk m c 2 t) (k0_pay9 (gtB m c t)) k0_pay12 k0_pay13 k0_pay14 (ix2 r j) = dl A W O Z (row t r) j := by
  rw [p15 _ _ r j fun x => by
    rw [p9, gt_at m c h0 h1 h4, ib2 m c h2]
    obtain ⟨g, hg⟩ := real_gt rA rW rZ (row t r) ⟨x.val, by omega⟩
    obtain ⟨o, ho⟩ := rO (row t r) x
    exact ⟨_, by rw [hg, ho, ← EReal.coe_mul]⟩]
  unfold dl
  simp only [p9, gt_at m c h0 h1 h4, ib2 m c h2]

theorem outFst (t : Fin cfg0.N) : ∃ v, outsAt0 m c t.val t.isLt = outB m c t v := by
  by_cases h : t.val % 32 = 0
  · exact ⟨_, outs_A m c t h⟩
  · exact ⟨_, outs_B m c t h⟩
theorem cut (t : Fin cfg0.N) (r : Fin 256) {n k : ℕ} (l : Fin n) : ∀ a : Fin 2, (![t.val, 0] : Fin 2 → ℕ) a * (![256, k] : Fin 2 → ℕ) a + (ix2 r l a).val = (ix2 (row t r) l a).val := by
  intro a
  fin_cases a
  · show t.val * 256 + r.val = 256 * t.val + r.val; omega
  · exact (congrArg (· + l.val) (Nat.zero_mul _)).trans (Nat.zero_add _)
theorem emb6 (t : Fin cfg0.N) (r : Fin 256) (l : Fin 512) : ((cfg0.win 6).blk t).view.emb (ix2 r l) = ix2 (row t r) l := by
  refine funext fun a => Fin.ext ?_
  blk_simp
  rw [show win0_6.index t a = _ from (idx_row t a).2.2.2.2.1]
  exact cut t r l a
theorem emb7 (t : Fin cfg0.N) (r : Fin 256) (l : Fin 512) : ((cfg0.win 7).blk t).view.emb (ix2 r l) = ix2 (row t r) l := by
  refine funext fun a => Fin.ext ?_
  blk_simp
  rw [show win0_7.index t a = _ from (idx_row t a).2.2.2.2.2.1]
  exact cut t r l a
theorem emb8 (t : Fin cfg0.N) (r : Fin 256) (l : Fin 512) : ((cfg0.win 8).blk t).view.emb (ix2 r l) = ix2 (row t r) l := by
  refine funext fun a => Fin.ext ?_
  blk_simp
  rw [show win0_8.index t a = _ from (idx_row t a).2.2.2.2.2.2.1]
  exact cut t r l a
theorem emb9 (t : Fin cfg0.N) (r : Fin 256) (l : Fin 1024) : ((cfg0.win 9).blk t).view.emb (ix2 r l) = ix2 (row t r) l := by
  refine funext fun a => Fin.ext ?_
  blk_simp
  rw [show win0_9.index t a = _ from (idx_row t a).2.2.2.2.2.2.2]
  exact cut t r l a
theorem emb10 (t : Fin cfg0.N) (r : Fin 1) (l : Fin 512) : ((cfg0.win 10).blk t).view.emb (ix2 r l) = ix2 r l := by
  refine funext fun a => Fin.ext ?_
  blk_simp
  rw [show win0_10.index t a = _ from (idx_all t a).2.2]
  fin_cases a
  · show 0 * 1 + r.val = r.val; omega
  · exact (congrArg (· + l.val) (Nat.zero_mul _)).trans (Nat.zero_add _)

attribute [local irreducible] dzB gt dz dl

include h0 h1 h4 in
/-- The array of the attention output's cotangent. -/
theorem arr6 : (dats m 0 c).arrAt 6 cfg0.N = fun j : S8192x512.Idx => gt A W Z (j 0) ⟨(j 1).val, (j 1).isLt.trans (by decide)⟩ := by
  refine (dats m 0 c).arrAt_eq_of_covers 6 _ covs.1 fun t hf y => ?_
  obtain ⟨r, l, rfl⟩ : ∃ (r : Fin 256) (l : Fin 512), y = ix2 r l := ⟨y 0, y 1, eq_ix2 y⟩
  obtain ⟨v, hv⟩ := outFst m c t
  rw [emb6, after0_6, hv]
  exact (p10 _ r l).trans (gt_at m c h0 h1 h4 t r _)
include h0 h1 h2 h4 rA rW rO rZ in
/-- The array of the row sums. -/
theorem arr7 : (dats m 0 c).arrAt 7 cfg0.N = fun j : S8192x512.Idx => dl A W O Z (j 0) (j 1) := by
  refine (dats m 0 c).arrAt_eq_of_covers 7 _ covs.2.1 fun t hf y => ?_
  obtain ⟨r, l, rfl⟩ : ∃ (r : Fin 256) (l : Fin 512), y = ix2 r l := ⟨y 0, y 1, eq_ix2 y⟩
  obtain ⟨v, hv⟩ := outFst m c t
  rw [emb7, after0_7, hv]
  exact dl_at m c h0 h1 h2 h4 rA rW rO rZ t r l
include h0 h1 h4 h5 in
/-- The array of the pooled rows' cotangent. -/
theorem arr8 : (dats m 0 c).arrAt 8 cfg0.N = fun j : S8192x512.Idx => dd A W Z P (j 0) (j 1) := by
  refine (dats m 0 c).arrAt_eq_of_covers 8 _ covs.2.2.1 fun t hf y => ?_
  obtain ⟨r, l, rfl⟩ : ∃ (r : Fin 256) (l : Fin 512), y = ix2 r l := ⟨y 0, y 1, eq_ix2 y⟩
  obtain ⟨v, hv⟩ := outFst m c t
  rw [emb8, after0_8, hv]
  exact (p16 _ _ r l).trans (congrArg₂ (· * · : EReal → EReal → EReal) (gt_at m c h0 h1 h4 t r _) (ib5 m c h5 t 0 l))
include h0 h1 h2 h3 h4 h5 rA rW rO rY rZ rP in
/-- The array of the gate's cotangent. -/
theorem arr9 : (dats m 0 c).arrAt 9 cfg0.N = fun j : S8192x1024.Idx => dz A W O Y Z P (j 0) (j 1) := by
  refine (dats m 0 c).arrAt_eq_of_covers 9 _ covs.2.2.2.1 fun t hf y => ?_
  obtain ⟨r, l, rfl⟩ : ∃ (r : Fin 256) (l : Fin 1024), y = ix2 r l := ⟨y 0, y 1, eq_ix2 y⟩
  obtain ⟨v, hv⟩ := outFst m c t
  rw [emb9, after0_9, hv]
  exact dz_at m c h0 h1 h2 h3 h4 h5 rA rW rO rY rZ rP t r l
include h0 h1 h3 h4 in
theorem ps_at (t : Fin cfg0.N) (v) (u : Fin 1) (j : Fin 512) : (outB m c t v).2.2.2.2 (ix2 u j) = (v (ix2 u j) + ∑ r : Fin 256, gt A W Z (row t r) ⟨512 + j.val, by omega⟩ * Y (ix2 (row t r) j) : EReal) :=
  (p2 _ _ _ u j).trans (congrArg (_ + · : EReal → EReal) (Finset.sum_congr rfl fun r _ => congrArg₂ (· * · : EReal → EReal → EReal) (gt_at m c h0 h1 h4 t r _) (ib3 m c h3 t r j)))
include h0 h1 h3 h4 in
/-- The array of the pool's scale's gradient. -/
theorem arr10 : (dats m 0 c).arrAt 10 cfg0.N = fun j : S1x512.Idx => ps A W Y Z (j 1) := by
  refine (dats m 0 c).arrAt_eq_of_covers 10 _ covs.2.2.2.2 fun t hf y => ?_
  obtain ⟨z, j, rfl⟩ : ∃ (z : Fin 1) (j : Fin 512), y = ix2 z j := ⟨y 0, y 1, eq_ix2 y⟩
  rw [emb10, after0_10]
  exact acc_sum N_0 row (fun _ _ => rfl) (fun n hn => (outsAt0 m c n hn).2.2.2.2 (ix2 z j)) _
    (fun t h => (congrFun (congrArg (·.2.2.2.2) (outs_A m c t h)) _).trans ((ps_at m c h0 h1 h3 h4 t _ z j).trans (by rw [p1]; rfl)))
    (fun t h => (congrFun (congrArg (·.2.2.2.2) (outs_B m c t h)) _).trans (ps_at m c h0 h1 h3 h4 t _ z j)) t (last t hf)
end K

namespace R
open Cert.Reference7Ideal Cert.Reference7Ideal.Gen
variable (A : FVec Ideal S8192x1024 .bf16) (W : FVec Ideal S1024x1024 .bf16) (O Y : FVec Ideal S8192x512 .f32) (Z : FVec Ideal S8192x2048 .f32) (P : FVec Ideal S1x512 .f32)

/-- The reference's intermediate values, as its operations. -/
abbrev dT : FVec Ideal S8192x1024 .f32 := Host.dotGeneral dot_S8192x1024_S1024x1024_S8192x1024_1_0_0_1_n_n none (extf .f32 A bitsLt_bf16_f32) (transpose S1024x1024 [1, 0] (extf .f32 W bitsLt_bf16_f32) transposes_S1024x1024_S1024x1024_1_0)
@[inherit_doc dT] abbrev zT : FVec Ideal S8192x1024 .f32 := extractStridedSlice S8192x1024 ![0, 1024] Z slices_S8192x2048_S8192x1024_0_1024
@[inherit_doc dT] abbrev oneT : FVec Ideal S8192x1024 .f32 := broadcastInDim S8192x1024 ![] bcast_S_S8192x1024 (constant S_ .f32 0x3F800000#32)
@[inherit_doc dT] abbrev sT : FVec Ideal S8192x1024 .f32 := Host.divf oneT (addf oneT (Host.exp (Host.negf (zT Z))))
@[inherit_doc dT] abbrev gtT : FVec Ideal S8192x1024 .f32 := mulf (dT A W) (mulf (zT Z) (sT Z))
@[inherit_doc dT] abbrev doT : FVec Ideal S8192x512 .f32 := extractStridedSlice S8192x512 ![0, 0] (gtT A W Z) slices_S8192x1024_S8192x512_0_0
@[inherit_doc dT] abbrev dpT : FVec Ideal S8192x512 .f32 := extractStridedSlice S8192x512 ![0, 512] (gtT A W Z) slices_S8192x1024_S8192x512_0_512
@[inherit_doc dT] abbrev ctT : FVec Ideal S8192x1024 .f32 := mulf (concatenate S8192x1024 1 [⟨S8192x512, O⟩, ⟨S8192x512, mulf Y (broadcastInDim S8192x512 ![0, 1] bcast_S1x512_S8192x512_0_1 P)⟩] concatenates_S8192x512_S8192x512_S8192x1024_d1) (dT A W)
@[inherit_doc dT] abbrev dlT : FVec Ideal S8192x512 .f32 := shapeCast S8192x512 (broadcastInDim S8192x8x64 ![0, 1, 2] bcast_S8192x8x1_S8192x8x64_0_1_2 (broadcastInDim S8192x8x1 ![0, 1] bcast_S8192x8_S8192x8x1_0_1
  (Host.reduceAdd (shapeCast S8192x8x64 (mulf (doT A W Z) O) shapeCasts_S8192x512_S8192x8x64) (constant S_ .f32 0x00000000#32) reducesTo_S8192x8x64_S8192x8_d2 h_S_))) shapeCasts_S8192x8x64_S8192x512
@[inherit_doc dT] abbrev ddT : FVec Ideal S8192x512 .bf16 := truncf .bf16 (mulf (dpT A W Z) (broadcastInDim S8192x512 ![0, 1] bcast_S1x512_S8192x512_0_1 P)) bitsLt_bf16_f32
@[inherit_doc dT] abbrev dzT : FVec Ideal S8192x1024 .bf16 := truncf .bf16 (addf (mulf (ctT A W O Y P) (sT Z)) (mulf (mulf (zT Z) (ctT A W O Y P)) (mulf (sT Z) (subf oneT (sT Z))))) bitsLt_bf16_f32
@[inherit_doc dT] abbrev psT : FVec Ideal S1x512 .f32 := shapeCast S1x512 (Host.reduceAdd (mulf Y (dpT A W Z)) (constant S_ .f32 0x00000000#32) reducesTo_S8192x512_S512_d0 h_S_) shapeCasts_S512_S1x512

theorem gtT_at (i : Fin 8192) (j : Fin 1024) : gtT A W Z (ix2 i j) = gt A W Z i j := by
  unfold gt dD gz Ideal.logistic
  pointwise
theorem doT_at (i : Fin 8192) (j : Fin 512) : truncf .bf16 (doT A W Z) bitsLt_bf16_f32 (ix2 i j) = gt A W Z i ⟨j.val, by omega⟩ := by
  simp only [← gtT_at]
  unfold doT
  generalize gtT A W Z = g
  pointwise
theorem dlT_at (i : Fin 8192) (j : Fin 512) : dlT A W O Z (ix2 i j) = dl A W O Z i j := by
  unfold dl
  simp only [← gtT_at]
  unfold dlT doT
  generalize gtT A W Z = g
  pointwise
theorem ddT_at (i : Fin 8192) (j : Fin 512) : ddT A W Z P (ix2 i j) = dd A W Z P i j := by
  unfold dd
  simp only [← gtT_at]
  unfold ddT dpT
  generalize gtT A W Z = g
  pointwise
theorem dzT_at (i : Fin 8192) (j : Fin 1024) : dzT A W O Y Z P (ix2 i j) = dz A W O Y Z P i j := by
  unfold dz mix dD gz Ideal.logistic
  pointwise
theorem psT_at (u : Fin 1) (j : Fin 512) : psT A W Y Z (ix2 u j) = ps A W Y Z j := by
  unfold ps
  simp only [← gtT_at]
  unfold psT dpT
  generalize gtT A W Z = g
  pointwise
  exact Finset.sum_congr rfl fun r _ => mul_comm (G := EReal) _ _
end R

end Cert.GateBwd
-- ==== Proof.Dw.lean ====
/- The input projection's weight gradient: the product's blocks, and its whole. -/
module

public import proofs.«01_k».proof.Proof.Gen.Kernel3Ideal.Value
public import proofs.«01_k».proof.Proof.Gen.Reference3Ideal.Run
public import proofs.«01_k».proof.Proof.Math
public import Idealize.ShloMosaic.Lib.Pipeline.ValueKit
public import Idealize.ShloMosaic.Lib.Tactic.CleanTypes
public import Idealize.ShloMosaic.Lib.Tactic

@[expose] public section

set_option maxRecDepth 16384

noncomputable section

namespace Cert.Dw

open Cert.Kernel3Ideal Cert.Kernel3Ideal.Gen
open Idealize.ShloMosaic Idealize.ShloMosaic.TcCoe
open Idealize.ShloMosaic.Pipeline (Dat)

section
variable {F : FTy → Type} [FloatOps F] (m : (ℓ : Loc nD τ sig) → Buf (Elt F) ℓ) (c : Dev nD)

theorem zeros : (![0, 0] : Fin 2 → Nat) = fun _ => 0 := funext fun a => by fin_cases a <;> rfl

/-- A point's addition to the running sum. -/
abbrev add (t : Fin cfg0.N) (acc : FVec F S1408x1024 .f32) : FVec F S1408x1024 .f32 := k0_pay2 acc (iblk m c 0 t) (iblk m c 1 t)
/-- What the point before left in the running sum. -/
abbrev prev (t : Fin cfg0.N) : FVec F S1408x1024 .f32 := (outsAt0 m c (t.val - 1) (Nat.lt_of_le_of_lt (Nat.sub_le _ _) t.isLt)).2

/-- The running sum after a point: from zero at a block's first, over the point before at the others; the last writes it out. -/
theorem scr_A (t : Fin cfg0.N) (h0 : t.val % 4 = 0) : (outsAt0 m c t.val t.isLt).2 = add m c t k0_pay1 := by
  rw [outsAt0_A m c t h0 (by omega)]
  dsimp only
  unfold sout0_A_0
  rw [View.read_writes_eq_canon _ _ _ fun _ => scover0_A_0 ..]
  unfold kernelRun0_A
  dsimp only
  sl_unfold_words
  simp only [View.readAt_eq_ld, Memref.IsWhole.read_unread, shapeCast_self, View.ld_unit_zero (S := S2048x1408) zeros, View.ld_unit_zero (S := S2048x1024) zeros,
    View.ld_unit_zero (S := S1408x1024) zeros, View.canon_cons_unit_zero (S := S1408x1024) zeros, View.readCov_unit_zero (S := S1408x1024) _ zeros]
@[inherit_doc scr_A] theorem scr_B (t : Fin cfg0.N) (h0 : ¬t.val % 4 = 0) (h1 : ¬t.val % 4 = 3) : (outsAt0 m c t.val t.isLt).2 = add m c t (prev m c t) := by
  rw [outsAt0_B m c t h0 h1]
  dsimp only
  unfold sout0_B_0
  rw [View.read_writes_eq_canon _ _ _ fun _ => scover0_B_0 ..]
  unfold kernelRun0_B
  dsimp only
  sl_unfold_words
  simp only [View.readAt_eq_ld, Memref.IsWhole.read_unread, shapeCast_self, View.ld_unit_zero (S := S2048x1408) zeros, View.ld_unit_zero (S := S2048x1024) zeros,
    View.ld_unit_zero (S := S1408x1024) zeros, View.canon_cons_unit_zero (S := S1408x1024) zeros, View.readCov_unit_zero (S := S1408x1024) _ zeros]
  exact congrArg (k0_pay2 · _ _) ((Memref.isWhole_whole _).read_unread _)
@[inherit_doc scr_A] theorem out_C (t : Fin cfg0.N) (h1 : t.val % 4 = 3) : (outsAt0 m c t.val t.isLt).1 = add m c t (prev m c t) := by
  rw [outsAt0_C m c t (by omega) h1]
  dsimp only
  unfold out0_C_2
  rw [View.read_writes_eq_canon _ _ _ fun _ => cover0_C_2 ..]
  unfold kernelRun0_C
  dsimp only
  sl_unfold_words
  simp only [View.readAt_eq_ld, Memref.IsWhole.read_unread, shapeCast_self, View.ld_unit_zero (S := S2048x1408) zeros, View.ld_unit_zero (S := S2048x1024) zeros,
    View.ld_unit_zero (S := S1408x1024) zeros, View.canon_cons_unit_zero (S := S1408x1024) zeros, View.readCov_unit_zero (S := S1408x1024) _ zeros]
  exact congrArg (k0_pay2 · _ _) ((Memref.isWhole_whole _).read_unread _)
end

theorem p1 (i : Fin 1408) (j : Fin 1024) : k0_pay1 (F := Ideal) (ix2 i j) = (0 : EReal) := by
  pointwise [k0_pay1]
theorem p2 (v : FVec Ideal S1408x1024 .f32) (a : FVec Ideal S2048x1408 .bf16) (b : FVec Ideal S2048x1024 .bf16) (i : Fin 1408) (j : Fin 1024) :
    k0_pay2 v a b (ix2 i j) = v (ix2 i j) + ∑ r : Fin 2048, a (ix2 r i) * b (ix2 r j) := by
  pointwise [k0_pay2]

theorem idx : ∀ t : Fin cfg0.N, ∀ a, (cfg0.win 0).index t a = (![t.val % 4, t.val / 4] : Fin 2 → ℕ) a ∧ (cfg0.win 1).index t a = (![t.val % 4, 0] : Fin 2 → ℕ) a
    ∧ (cfg0.win 2).index t a = (![t.val / 4, 0] : Fin 2 → ℕ) a := by
  decide +kernel
theorem cov : (cfg0.win 2).Covers := by decide +kernel

variable (m : (ℓ : Loc nD τ sig) → Buf (Elt Ideal) ℓ) (c : Dev nD) {A : FVec Ideal S8192x4224 .bf16} {N : FVec Ideal S8192x1024 .bf16}
  (h0 : m ((c.tc : Thread nD τ).loc main_arg0) = A) (h1 : m ((c.tc : Thread nD τ).loc main_arg1) = N)

/-- Row `r` of the `k`-th block of rows, and column `i` of point `t`'s block of columns. -/
abbrev row (k : Fin 4) (r : Fin 2048) : Fin 8192 := ⟨2048 * k.val + r.val, by omega⟩
theorem col_lt (t : Fin cfg0.N) (i : Fin 1408) : 1408 * (t.val / 4) + i.val < 4224 := by
  have := lt_of_lt_of_eq t.isLt N_0; have := i.isLt; omega
@[inherit_doc row] abbrev col (t : Fin cfg0.N) (i : Fin 1408) : Fin 4224 := ⟨1408 * (t.val / 4) + i.val, col_lt t i⟩
/-- A point's block of rows. -/
abbrev kk (t : Fin cfg0.N) : Fin 4 := ⟨t.val % 4, Nat.mod_lt _ (by decide)⟩

include h0 in
theorem ib0 (t : Fin cfg0.N) (r : Fin 2048) (i : Fin 1408) : iblk m c 0 t (ix2 r i) = A (ix2 (row (kk t) r) (col t i)) := by
  subst h0; blk_ext [iblk, V, (idx t _).1]
include h1 in
theorem ib1 (t : Fin cfg0.N) (r : Fin 2048) (j : Fin 1024) : iblk m c 1 t (ix2 r j) = N (ix2 (row (kk t) r) j) := by
  subst h1; blk_ext [iblk, V, (idx t _).2.1]

include h0 h1 in
theorem add_at (t : Fin cfg0.N) (v) (i : Fin 1408) (j : Fin 1024) :
    add m c t v (ix2 i j) = (v (ix2 i j) + ∑ r : Fin 2048, A (ix2 (row (kk t) r) (col t i)) * N (ix2 (row (kk t) r) j) : EReal) := by
  refine (p2 _ _ _ i j).trans (congrArg (_ + · : EReal → EReal) (Finset.sum_congr rfl fun r _ => ?_))
  rw [ib0 m c h0, ib1 m c h1]

theorem sum_rows (f : Fin 8192 → EReal) : ∑ k : Fin 4, ∑ r : Fin 2048, f (row k r) = ∑ r, f r := by
  rw [← Fintype.sum_prod_type' (f := fun k r => f (row k r))]
  refine Fintype.sum_equiv (finProdFinEquiv (m := 4) (n := 2048)) _ _ fun y => congrArg f (Fin.ext ?_)
  rw [finProdFinEquiv_apply_val, add_comm]

/-- What the `k`-th block of rows adds to the sum at row `a` and column `j`. -/
def part (A : FVec Ideal S8192x4224 .bf16) (N : FVec Ideal S8192x1024 .bf16) (a : Fin 4224) (j : Fin 1024) (k : Fin 4) : EReal :=
  ∑ r : Fin 2048, A (ix2 (row k r) a) * N (ix2 (row k r) j)

include h0 h1 in
/-- The running sum after a block's first point, after a later one over the one before, and what the last writes out. -/
theorem scr0 (t : Fin cfg0.N) (i : Fin 1408) (j : Fin 1024) (h : t.val % 4 = 0) : (outsAt0 m c t.val t.isLt).2 (ix2 i j) = part A N (col t i) j 0 := by
  rw [scr_A m c t h]
  refine (add_at m c h0 h1 t _ i j).trans ?_
  rw [p1, show kk t = 0 from Fin.ext h, zero_add]
  rfl
include h0 h1 in
@[inherit_doc scr0] theorem scr1 (t u : Fin cfg0.N) (hu : u.val = t.val - 1) (i : Fin 1408) (j : Fin 1024) (k : Fin 4) (h : t.val % 4 = k.val) (hk : k = 1 ∨ k = 2) :
    (outsAt0 m c t.val t.isLt).2 (ix2 i j) = (outsAt0 m c u.val u.isLt).2 (ix2 i j) + part A N (col t i) j k := by
  obtain rfl : u = ⟨t.val - 1, Nat.lt_of_le_of_lt (Nat.sub_le _ _) t.isLt⟩ := Fin.ext hu
  have h2 : t.val % 4 = 1 ∨ t.val % 4 = 2 := by rcases hk with rfl | rfl <;> [left; right] <;> exact h
  rw [scr_B m c t (by omega) (by omega)]
  refine (add_at m c h0 h1 t _ i j).trans ?_
  rw [show kk t = k from Fin.ext h]
  rfl
include h0 h1 in
@[inherit_doc scr0] theorem out3 (t : Fin cfg0.N) (i : Fin 1408) (j : Fin 1024) (h : t.val % 4 = 3) :
    (outsAt0 m c t.val t.isLt).1 (ix2 i j) = (∑ r : Fin 8192, A (ix2 r (col t i)) * N (ix2 r j) : EReal) := by
  have ht := t.isLt
  let t2 : Fin cfg0.N := ⟨t.val - 1, by omega⟩
  let t1 : Fin cfg0.N := ⟨t.val - 2, by omega⟩
  let t0 : Fin cfg0.N := ⟨t.val - 3, by omega⟩
  have e2 : col t2 i = col t i := Fin.ext (show 1408 * ((t.val - 1) / 4) + i.val = 1408 * (t.val / 4) + i.val by omega)
  have e1 : col t1 i = col t i := Fin.ext (show 1408 * ((t.val - 2) / 4) + i.val = 1408 * (t.val / 4) + i.val by omega)
  have e0 : col t0 i = col t i := Fin.ext (show 1408 * ((t.val - 3) / 4) + i.val = 1408 * (t.val / 4) + i.val by omega)
  have s2 := scr1 m c h0 h1 t2 t1 (show t.val - 2 = t.val - 1 - 1 by omega) i j 2 (show (t.val - 1) % 4 = 2 by omega) (.inr rfl)
  have s1 := scr1 m c h0 h1 t1 t0 (show t.val - 3 = t.val - 2 - 1 by omega) i j 1 (show (t.val - 2) % 4 = 1 by omega) (.inl rfl)
  have s0 := scr0 m c h0 h1 t0 i j (show (t.val - 3) % 4 = 0 by omega)
  rw [s1, s0, e0, e1, e2] at s2
  rw [out_C m c t h]
  refine (add_at m c h0 h1 t _ i j).trans ?_
  rw [← sum_rows (fun r => A (ix2 r (col t i)) * N (ix2 r j)), Fin.sum_univ_four, show kk t = 3 from Fin.ext h]
  exact congrArg (· + _ : EReal → EReal) s2

theorem emb (t : Fin cfg0.N) (i : Fin 1408) (j : Fin 1024) : ((cfg0.win 2).blk t).view.emb (ix2 i j) = ix2 (col t i) j := by
  refine funext fun a => Fin.ext ?_
  blk_simp
  rw [show win0_2.index t a = _ from (idx t a).2.2]
  fin_cases a
  · show t.val / 4 * 1408 + i.val = 1408 * (t.val / 4) + i.val; omega
  · exact (congrArg (· + j.val) (Nat.zero_mul _)).trans (Nat.zero_add _)

include h0 h1 in
/-- The gradient's array after the run. -/
theorem arr : (dats m 0 c).arrAt 2 cfg0.N = fun j : S4224x1024.Idx => (∑ r : Fin 8192, A (ix2 r (j 0)) * N (ix2 r (j 1)) : EReal) := by
  refine (dats m 0 c).arrAt_eq_of_covers 2 _ cov fun t hf y => ?_
  obtain ⟨i, j, rfl⟩ : ∃ (i : Fin 1408) (j : Fin 1024), y = ix2 i j := ⟨y 0, y 1, eq_ix2 y⟩
  rw [emb, after0_2]
  exact out3 m c h0 h1 t i j ((flush0_2 t).1 hf)

end Cert.Dw

namespace Cert.Dw.Ref

open Cert.Reference3Ideal Cert.Reference3Ideal.Gen
open Idealize.ShloMosaic

/-- The reference's gradient, index by index. -/
theorem at_ix (A : FVec Ideal S8192x4224 .bf16) (N : FVec Ideal S8192x1024 .bf16) (i : Fin 4224) (j : Fin 1024) :
    transpose S4224x1024 [1, 0] (transpose S1024x4224 [1, 0] (Host.dotGeneral dot_S8192x4224_S8192x1024_S4224x1024_0_0_1_1_n_n none (extf .f32 A bitsLt_bf16_f32) (extf .f32 N bitsLt_bf16_f32))
      transposes_S4224x1024_S1024x4224_1_0) transposes_S1024x4224_S4224x1024_1_0 (ix2 i j) = (∑ r : Fin 8192, A (ix2 r i) * N (ix2 r j) : EReal) := by
  clean_types
  pointwise

end Cert.Dw.Ref
-- ==== Proof.Rin.lean ====
/- The input projection with its norm: what a grid point leaves, and the run. -/
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Rin

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros : (![0, 0] : Fin 2 → Nat) = fun _ => 0 := funext fun a => by fin_cases a <;> rfl

/-- The body's branch is taken at the first of a row block's three points. -/
theorem hcond : ∀ t : Fin cfg0.N, k0_cond1 (grid0.coords t) = 1#1 ↔ t.val % 3 = 0 := by decide +kernel
theorem idle4 : ∀ t : Fin cfg0.N, cfg0.idle 4 (grid0.coords t) = !decide (t.val % 3 = 0) := by decide +kernel
theorem fresh4 : ∀ t : Fin cfg0.N, ¬t.val % 3 = 0 → cfg0.fresh 4 t.val = false := by decide +kernel

set_option maxHeartbeats 1000000 in
/-- The body where it norms the rows: the pieces it stores, and its run. -/
def runA (c : Dev nD) (i : grid0.Coords) (a2 : Memref sig .tc .vmem S1024x1024 .f32) (w2 : a2.IsWhole) (a3 : Memref sig .tc .vmem S1x1024 .f32) (w3 : a3.IsWhole)
    (a4 : Memref sig .tc .vmem S1024x1408 .bf16) (w4 : a4.IsWhole) (a5 : Memref sig .tc .vmem S1024x1408 .f32) (w5 : a5.IsWhole) (a6 : Memref sig .tc .vmem S1024x1024 .bf16) (w6 : a6.IsWhole)
    (hc : k0_cond1 i = 1#1) (x0 : Vec F S1024x1024 .f32) (x1 : Vec F S1x1024 .f32) (x2 : Vec F S1024x1408 .bf16) :
    Σ' (L3 : List (View.Piece (Elt F) S1024x1408 .f32)), { L4 : List (View.Piece (Elt F) S1024x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ (∃ d, owns (c : Thread nD τ) a6 fullShare d)
            ∗ (iprop(owns (c : Thread nD τ) a2 fullShare x0 ∗ owns (c : Thread nD τ) a3 fullShare x1 ∗ owns (c : Thread nD τ) a4 fullShare x2
              ∗ (∃ f, a5.view.loc (c : Thread nD τ) ↦[a5.view.set]{fullShare} a5.view.writes (Elt F) f L3)
              ∗ (∃ f, a6.view.loc (c : Thread nD τ) ↦[a6.view.set]{fullShare} a6.view.writes (Elt F) f L4)) -∗ K ⟨⟩))
          ⊢ wp frame (wpE (defs₀ (F := F)) Variants.none c none) E (cc0_rms_in_c i a2 w2 a3 w3 a4 w4 a5 w5 a6 w6) K } := by
  refine ⟨?_, ?_, fun E K => ?run⟩
  case run =>
    simp only [cc0_rms_in_c_eq_skeleton]; unfold cc0_rms_in_c_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := w2.eq_unread hf0; obtain rfl := w3.eq_unread hf1; obtain rfl := w4.eq_unread hf2
    sl_exec (disch := sl_exact hc)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; iexact H3
    iexists _; iexact H4

set_option maxHeartbeats 1000000 in
/-- The body where the rows are normed already. -/
def runB (c : Dev nD) (i : grid0.Coords) (a2 : Memref sig .tc .vmem S1024x1024 .f32) (w2 : a2.IsWhole) (a3 : Memref sig .tc .vmem S1x1024 .f32) (w3 : a3.IsWhole)
    (a4 : Memref sig .tc .vmem S1024x1408 .bf16) (w4 : a4.IsWhole) (a5 : Memref sig .tc .vmem S1024x1408 .f32) (w5 : a5.IsWhole) (a6 : Memref sig .tc .vmem S1024x1024 .bf16) (w6 : a6.IsWhole)
    (hc : ¬k0_cond1 i = 1#1) (x2 : Vec F S1024x1408 .bf16) (x4 : Vec F S1024x1024 .bf16) :
    { L3 : List (View.Piece (Elt F) S1024x1408 .f32) //
      ∀ (E : Set ℕ) (K : PUnit → sProp 𝕄),
        iprop(owns (c : Thread nD τ) a4 fullShare x2 ∗ (∃ d, owns (c : Thread nD τ) a5 fullShare d) ∗ owns (c : Thread nD τ) a6 fullShare x4
            ∗ (iprop(owns (c : Thread nD τ) a4 fullShare x2 ∗ (∃ f, a5.view.loc (c : Thread nD τ) ↦[a5.view.set]{fullShare} a5.view.writes (Elt F) f L3)
              ∗ owns (c : Thread nD τ) a6 fullShare x4) -∗ K ⟨⟩))
          ⊢ wp frame (wpE (defs₀ (F := F)) Variants.none c none) E (cc0_rms_in_c i a2 w2 a3 w3 a4 w4 a5 w5 a6 w6) K } := by
  refine ⟨?_, fun E K => ?run⟩
  case run =>
    simp only [cc0_rms_in_c_eq_skeleton]; unfold cc0_rms_in_c_skel
    unfold owns
    iintro ⟨⟨%f2, %hf2, H2⟩, ⟨%d3, %f3, -, H3⟩, ⟨%f4, %hf4, H4⟩, Hk⟩
    obtain rfl := w4.eq_unread hf2; obtain rfl := w6.eq_unread hf4
    sl_exec (disch := sl_exact hc)
    sl_step
    iapply Hk
    isplitl [H2]
    · iexists _; isplitr; · ipureintro; exact w4.read_unread _
      iexact H2
    isplitl [H3]
    · iexists _; iexact H3
    iexists _; isplitr; · ipureintro; exact w6.read_unread _
    iexact H4

section
variable (c : Dev nD) (i : grid0.Coords) (a2 : Memref sig .tc .vmem S1024x1024 .f32) (w2 : a2.IsWhole) (a3 : Memref sig .tc .vmem S1x1024 .f32) (w3 : a3.IsWhole)
    (a4 : Memref sig .tc .vmem S1024x1408 .bf16) (w4 : a4.IsWhole) (a5 : Memref sig .tc .vmem S1024x1408 .f32) (w5 : a5.IsWhole) (a6 : Memref sig .tc .vmem S1024x1024 .bf16) (w6 : a6.IsWhole)
    (x0 : Vec F S1024x1024 .f32) (x1 : Vec F S1x1024 .f32) (x2 : Vec F S1024x1408 .bf16) (x4 : Vec F S1024x1024 .bf16)
/-- What the stored pieces read back as. -/
theorem outA3 (hc) (f) : a5.view.read (Elt F) (a5.view.writes (Elt F) f (runA c i a2 w2 a3 w3 a4 w4 a5 w5 a6 w6 hc x0 x1 x2).1) = k0_pay2 (k0_pay1 x0 x1) x2 := by
  rw [View.read_writes_eq_canon _ _ _ (View.cover_of_tiledL _ S1024x1408.size (by sl_kernel_rfl))]
  unfold runA
  dsimp only
  sl_unfold_words
  simp only [View.readAt_eq_ld, Memref.IsWhole.read_unread, shapeCast_self, View.ld_unit_zero (S := S1024x1024) zeros, View.ld_unit_zero (S := S1x1024) zeros, View.ld_unit_zero (S := S1024x1408) zeros,
    View.canon_cons_unit_zero (S := S1024x1408) zeros, View.readCov_unit_zero (S := S1024x1024) _ zeros]
@[inherit_doc outA3] theorem outA4 (hc) (f) : a6.view.read (Elt F) (a6.view.writes (Elt F) f (runA c i a2 w2 a3 w3 a4 w4 a5 w5 a6 w6 hc x0 x1 x2).2.1) = k0_pay1 x0 x1 := by
  rw [View.read_writes_eq_canon _ _ _ (View.cover_of_tiledL _ S1024x1024.size (by sl_kernel_rfl))]
  unfold runA
  dsimp only
  sl_unfold_words
  simp only [View.readAt_eq_ld, Memref.IsWhole.read_unread, shapeCast_self, View.ld_unit_zero (S := S1024x1024) zeros, View.ld_unit_zero (S := S1x1024) zeros,
    View.canon_cons_unit_zero (S := S1024x1024) zeros]
@[inherit_doc outA3] theorem outB3 (hc) (f) : a5.view.read (Elt F) (a5.view.writes (Elt F) f (runB c i a2 w2 a3 w3 a4 w4 a5 w5 a6 w6 hc x2 x4).1) = k0_pay2 x4 x2 := by
  rw [View.read_writes_eq_canon _ _ _ (View.cover_of_tiledL _ S1024x1408.size (by sl_kernel_rfl))]
  unfold runB
  dsimp only
  sl_unfold_words
  simp only [View.readAt_eq_ld, Memref.IsWhole.read_unread, shapeCast_self, View.ld_unit_zero (S := S1024x1024) zeros, View.ld_unit_zero (S := S1024x1408) zeros,
    View.canon_cons_unit_zero (S := S1024x1408) zeros]
end

/-- The first of the three points of `t`'s row block. -/
abbrev tb (t : Fin cfg0.N) : Fin cfg0.N := ⟨3 * (t.val / 3), lt_of_le_of_lt (Nat.mul_div_le _ _) t.isLt⟩
/-- The normed rows at a point, and their product with the weight's block. -/
abbrev hnB (c : Dev nD) (t : Fin cfg0.N) : FVec F S1024x1024 .bf16 := k0_pay1 (iblk m c 0 (tb t)) (iblk m c 1 (tb t))
@[inherit_doc hnB] abbrev prB (c : Dev nD) (t : Fin cfg0.N) : FVec F S1024x1408 .f32 := k0_pay2 (hnB m c t) (iblk m c 2 t)

/-- The call's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prB m c t
    | ⟨4, _⟩ => hnB m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = prB m c t := by dsimp only [dats]
theorem after4 (c : Dev nD) (t : Fin cfg0.N) : (dats m 0 c).after 4 t = hnB m c t := by dsimp only [dats]
theorem tb_pred (t : Fin cfg0.N) (h : ¬t.val % 3 = 0) : tb ⟨t.val - 1, by omega⟩ = tb t := Fin.ext (show 3 * ((t.val - 1) / 3) = 3 * (t.val / 3) by omega)
/-- The normed rows stay between the points of a row block. -/
theorem before4 (c : Dev nD) (t : Fin cfg0.N) (h : ¬t.val % 3 = 0) (d) : (dats m 0 c).before 4 t d = hnB m c t := by
  rw [(dats m 0 c).before_out_traj 4 rfl (fun _ _ => rfl) (fun u _ hi _ => ?_) t.val t rfl d, if_neg (by rw [fresh4 t h]; exact Bool.false_ne_true), after4]
  · unfold hnB; rw [tb_pred t h]
  · have hu : ¬u.val % 3 = 0 := by rw [idle4] at hi; simpa using hi
    rw [after4, after4]; unfold hnB; rw [tb_pred u hu]

set_option maxHeartbeats 2000000 in
/-- The body at any point. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) fun _ =>
      iprop((dats m 0 c).Φ t.succ ∗ (dats m 0 c).owesAt () t.succ ∗ (dats m 0 c).leavesExact 0 t ∗ (dats m 0 c).leavesExact 1 t ∗ (dats m 0 c).leavesExact 2 t
        ∗ (dats m 0 c).leavesExact 3 t ∗ (dats m 0 c).leavesExact 4 t) := by
  simp only [before0_0_of m (dats m 0 c) (A_eq m c 0) (after0 m c), before0_1_of m (dats m 0 c) (A_eq m c 1) (after1 m c), before0_2_of m (dats m 0 c) (A_eq m c 2) (after2 m c)]
  rw [show (dats m 0 c).owesAt () t.succ = (dats m 0 c).owesAt () t.castSucc from rfl, show (dats m 0 c).Φ t.succ = (dats m 0 c).Φ t.castSucc from rfl,
    show (dats m 0 c).leavesExact 0 t = owns (c : Thread nD τ) (st0_0 t) fullShare (iblk m c 0 t) from by rw [← after0 m c t],
    show (dats m 0 c).leavesExact 1 t = owns (c : Thread nD τ) (st0_1 t) fullShare (iblk m c 1 t) from by rw [← after1 m c t],
    show (dats m 0 c).leavesExact 2 t = owns (c : Thread nD τ) (st0_2 t) fullShare (iblk m c 2 t) from by rw [← after2 m c t],
    show (dats m 0 c).leavesExact 3 t = owns (c : Thread nD τ) (st0_3 t) fullShare (prB m c t) from by rw [← after3 m c t]]
  by_cases h : t.val % 3 = 0
  · have e : tb t = t := Fin.ext (show 3 * (t.val / 3) = t.val by omega)
    rw [show (dats m 0 c).leavesExact 4 t = owns (c : Thread nD τ) (st0_4 t) fullShare (hnB m c t) from by
      rw [← after4 m c t]; unfold Dat.leavesExact; rw [show cfg0.idle 4 (cfg0.grid.coords t) = false from by rw [idle4 t, decide_eq_true h]; rfl]]
    unfold prB hnB
    rw [e]
    iintro ⟨HP, Ho, ⟨%d0, H0⟩, ⟨%d1, H1⟩, ⟨%d2, H2⟩, ⟨%d3, H3⟩, ⟨%d4, H4⟩⟩
    iapply ((runA c (grid0.coords t) _ _ _ _ _ _ _ _ _ _ ((hcond t).mpr h) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HP]; · iexact HP
    isplitl [Ho]; · iexact Ho
    isplitl [H0]; · iexact H0
    isplitl [H1]; · iexact H1
    isplitl [H2]; · iexact H2
    isplitl [H3]
    · unfold owns; iexists _; isplitr; swap; · iexact H3
      ipureintro; exact outA3 ..
    unfold owns; iexists _; isplitr; swap; · iexact H4
    ipureintro; exact outA4 ..
  · have i4 : cfg0.idle 4 (cfg0.grid.coords t) = true := by rw [idle4 t, decide_eq_false h]; rfl
    have l4 : owns (c : Thread nD τ) (st0_4 t) fullShare (hnB m c t) ⊢ (dats m 0 c).leavesExact 4 t := by
      by_cases f : (cfg0.win 4).flush t = true
      · rw [← after4 m c t]; unfold Dat.leavesExact; rw [i4, f]
      · rw [Dat.leavesExact_idle (dats m 0 c) 4 t i4 (Bool.eq_false_iff.mpr f)]
        simp only [before4 m c t h]
        iintro H; iexists fun _ => Classical.arbitrary _; iexact H
    simp only [before4 m c t h]
    iintro ⟨HP, Ho, ⟨%d0, H0⟩, ⟨%d1, H1⟩, ⟨%d2, H2⟩, ⟨%d3, H3⟩, ⟨%d4, H4⟩⟩
    iapply ((runB c (grid0.coords t) _ _ _ _ _ _ _ _ _ _ (fun e => h ((hcond t).mp e)) (iblk m c 2 t) (hnB m c t)).2 Set.univ _)
    isplitl [H2]; · iexact H2
    isplitl [H3]; · iexists _; iexact H3
    isplitl [H4]; · iexact H4
    iintro ⟨H2, ⟨%e3, H3⟩, H4⟩
    isplitl [HP]; · iexact HP
    isplitl [Ho]; · iexact Ho
    isplitl [H0]; · iexact H0
    isplitl [H1]; · iexact H1
    isplitl [H2]; · iexact H2
    isplitl [H3]
    · unfold owns; iexists _; isplitr; swap; · iexact H3
      ipureintro; exact outB3 ..
    iapply l4; iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The program's run: its arrays at what the proof data say, every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)
/-- The program leaves its arguments alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Rin
-- ==== Proof.RinArr.lean ====
/- The input projection with its norm: its two result arrays, and the reference's. -/
module

public import proofs.«01_k».proof.Proof.Rin
public import proofs.«01_k».proof.Proof.RmsAt
public import proofs.«01_k».proof.Proof.Gen.Reference4Ideal.Run

@[expose] public section

set_option maxRecDepth 16384

noncomputable section

namespace Cert.Rin

open Cert.Kernel4Ideal Cert.Kernel4Ideal.Gen Cert.Rms
open Idealize.ShloMosaic Idealize.ShloMosaic.TcCoe
open Idealize.ShloMosaic.Pipeline (Dat)

/-- A normed row, and its product with the weight. -/
abbrev hn (H : FVec Ideal S8192x1024 .f32) (G : FVec Ideal S1x1024 .f32) (i : Fin 8192) (k : Fin 1024) : EReal :=
  H (ix2 i k) * rr (fun k => H (ix2 i k)) * G (ix2 0 k)
@[inherit_doc hn] abbrev pr (H : FVec Ideal S8192x1024 .f32) (G : FVec Ideal S1x1024 .f32) (W : FVec Ideal S1024x4224 .bf16) (i : Fin 8192) (l : Fin 4224) : EReal :=
  ∑ k : Fin 1024, hn H G i k * W (ix2 k l)

theorem p1 (h : FVec Ideal S1024x1024 .f32) (g : FVec Ideal S1x1024 .f32) (r k : Fin 1024) :
    (show EReal from k0_pay1 (F := Ideal) h g (ix2 r k)) = (h (ix2 r k) * rr (fun k => h (ix2 r k)) * g (ix2 0 k) : EReal) := by
  unfold rr ms
  pointwise [k0_pay1]
theorem p2 (x : FVec Ideal S1024x1024 .bf16) (w : FVec Ideal S1024x1408 .bf16) (r : Fin 1024) (l : Fin 1408) :
    k0_pay2 (F := Ideal) x w (ix2 r l) = (∑ k : Fin 1024, x (ix2 r k) * w (ix2 k l) : EReal) := by
  pointwise [k0_pay2]

theorem idx : ∀ t : Fin cfg0.N, ∀ a, (cfg0.win 0).index t a = (![t.val / 3, 0] : Fin 2 → ℕ) a ∧ (cfg0.win 1).index t a = 0
    ∧ (cfg0.win 2).index t a = (![0, t.val % 3] : Fin 2 → ℕ) a ∧ (cfg0.win 3).index t a = (![t.val / 3, t.val % 3] : Fin 2 → ℕ) a
    ∧ (cfg0.win 4).index t a = (![t.val / 3, 0] : Fin 2 → ℕ) a := by
  decide +kernel
theorem covs : (cfg0.win 3).Covers ∧ (cfg0.win 4).Covers := by decide +kernel

variable (m : (ℓ : Loc nD τ sig) → Buf (Elt Ideal) ℓ) (c : Dev nD) {H : FVec Ideal S8192x1024 .f32} {G : FVec Ideal S1x1024 .f32} {W : FVec Ideal S1024x4224 .bf16}
  (h0 : m ((c.tc : Thread nD τ).loc main_arg0) = H) (h1 : m ((c.tc : Thread nD τ).loc main_arg1) = G) (h2 : m ((c.tc : Thread nD τ).loc main_arg2) = W)

theorem row_lt (t : Fin cfg0.N) (r : Fin 1024) : 1024 * (t.val / 3) + r.val < 8192 := by
  have := lt_of_lt_of_eq t.isLt N_0; have := r.isLt; omega
/-- Row `r` and column `l` of point `t`'s blocks. -/
abbrev row (t : Fin cfg0.N) (r : Fin 1024) : Fin 8192 := ⟨1024 * (t.val / 3) + r.val, row_lt t r⟩
@[inherit_doc row] abbrev col (t : Fin cfg0.N) (l : Fin 1408) : Fin 4224 := ⟨1408 * (t.val % 3) + l.val, by omega⟩

include h0 in
theorem ib0 (t : Fin cfg0.N) (r k : Fin 1024) : iblk m c 0 t (ix2 r k) = H (ix2 (row t r) k) := by
  subst h0; blk_ext [iblk, V, (idx t _).1]
include h1 in
theorem ib1 (t : Fin cfg0.N) (z : Fin 1) (k : Fin 1024) : iblk m c 1 t (ix2 z k) = G (ix2 z k) := by
  subst h1; blk_ext [iblk, V, (idx t _).2.1]
include h2 in
theorem ib2 (t : Fin cfg0.N) (k : Fin 1024) (l : Fin 1408) : iblk m c 2 t (ix2 k l) = W (ix2 k (col t l)) := by
  subst h2; blk_ext [iblk, V, (idx t _).2.2.1]

include h0 h1 in
theorem hnB_at (t : Fin cfg0.N) (r k : Fin 1024) : hnB m c t (ix2 r k) = hn H G (row t r) k := by
  refine (p1 _ _ r k).trans ?_
  simp only [ib0 m c h0, ib1 m c h1]
  rw [show row (tb t) r = row t r from Fin.ext (show 1024 * (3 * (t.val / 3) / 3) + r.val = 1024 * (t.val / 3) + r.val by omega)]
include h0 h1 h2 in
theorem prB_at (t : Fin cfg0.N) (r : Fin 1024) (l : Fin 1408) : prB m c t (ix2 r l) = pr H G W (row t r) (col t l) :=
  (p2 _ _ r l).trans (Finset.sum_congr rfl fun k _ => congrArg₂ (· * · : EReal → EReal → EReal) (hnB_at m c h0 h1 t r k) (ib2 m c h2 t k l))

theorem emb3 (t : Fin cfg0.N) (r : Fin 1024) (l : Fin 1408) : ((cfg0.win 3).blk t).view.emb (ix2 r l) = ix2 (row t r) (col t l) := by
  refine funext fun a => Fin.ext ?_
  blk_simp
  rw [show win0_3.index t a = _ from (idx t a).2.2.2.1]
  fin_cases a
  · show t.val / 3 * 1024 + r.val = 1024 * (t.val / 3) + r.val; omega
  · show t.val % 3 * 1408 + l.val = 1408 * (t.val % 3) + l.val; omega
theorem emb4 (t : Fin cfg0.N) (r k : Fin 1024) : ((cfg0.win 4).blk t).view.emb (ix2 r k) = ix2 (row t r) k := by
  refine funext fun a => Fin.ext ?_
  blk_simp
  rw [show win0_4.index t a = _ from (idx t a).2.2.2.2]
  fin_cases a
  · show t.val / 3 * 1024 + r.val = 1024 * (t.val / 3) + r.val; omega
  · exact (congrArg (· + k.val) (Nat.zero_mul _)).trans (Nat.zero_add _)

include h0 h1 h2 in
/-- The projection's array and the normed rows' after the run. -/
theorem arr3 : (dats m 0 c).arrAt 3 cfg0.N = fun j : S8192x4224.Idx => pr H G W (j 0) (j 1) := by
  refine (dats m 0 c).arrAt_eq_of_covers 3 _ covs.1 fun t _ y => ?_
  obtain ⟨r, l, rfl⟩ : ∃ (r : Fin 1024) (l : Fin 1408), y = ix2 r l := ⟨y 0, y 1, eq_ix2 y⟩
  rw [emb3, after3]
  exact prB_at m c h0 h1 h2 t r l
include h0 h1 in
@[inherit_doc arr3] theorem arr4 : (dats m 0 c).arrAt 4 cfg0.N = fun j : S8192x1024.Idx => hn H G (j 0) (j 1) := by
  refine (dats m 0 c).arrAt_eq_of_covers 4 _ covs.2 fun t _ y => ?_
  obtain ⟨r, l, rfl⟩ : ∃ (r l : Fin 1024), y = ix2 r l := ⟨y 0, y 1, eq_ix2 y⟩
  rw [emb4, after4]
  exact hnB_at m c h0 h1 t r l

/-- The program's run, its results named. -/
theorem run_arr (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 3 cfg0.N ∧ r.2.mem ((c.tc : Thread nD τ).loc main_v0_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.1 c).1 3, (h.1.1 c).1 4, h.2.1 c⟩) (θ_run_and (run m ρ) (frame m ρ))

end Cert.Rin

namespace Cert.Rin.Ref

open Cert.Reference4Ideal Cert.Reference4Ideal.Gen Cert.Rms
open Idealize.ShloMosaic

variable (H : FVec Ideal S8192x1024 .f32) (G : FVec Ideal S1x1024 .f32) (W : FVec Ideal S1024x4224 .bf16)

/-- The reference's normed rows, as its operations. -/
abbrev hnT : FVec Ideal S8192x1024 .f32 :=
  mulf (mulf H (broadcastInDim S8192x1024 ![0, 1] bcast_S8192x1_S8192x1024_0_1 (Host.rsqrt (addf (Host.divf (broadcastInDim S8192x1 ![0] bcast_S8192_S8192x1_0 (Host.reduceAdd (mulf H H) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)
theorem hnT_at (i : Fin 8192) (k : Fin 1024) : hnT H G (ix2 i k) = hn H G i k := by
  unfold hn rr ms
  pointwise
theorem hnT16_at (i : Fin 8192) (k : Fin 1024) : truncf .bf16 (hnT H G) bitsLt_bf16_f32 (ix2 i k) = hn H G i k :=
  (show truncf .bf16 (hnT H G) bitsLt_bf16_f32 (ix2 i k) = hnT H G (ix2 i k) from rfl).trans (hnT_at H G i k)
theorem prT_at (i : Fin 8192) (l : Fin 4224) : Host.dotGeneral dot_S8192x1024_S1024x4224_S8192x4224_1_0_0_1_n_n none (hnT H G) (extf .f32 W bitsLt_bf16_f32) (ix2 i l) = pr H G W i l := by
  refine Eq.trans (b := (∑ k : Fin 1024, hnT H G (ix2 i k) * W (ix2 k l) : EReal)) ?_ (Finset.sum_congr rfl fun k _ => congrArg (· * W (ix2 k l) : EReal → EReal) (hnT_at H G i k))
  generalize hnT H G = Z
  pointwise

end Cert.Rin.Ref
-- ==== Proof.RinSame.lean ====
/- The printed input projection with its norm, at the machine's own floats, is the idealized program's text read there. -/
module

public import proofs.«01_k».proof.Defs
public import proofs.«01_k».proof.Proof.Gen.Kernel4
public import proofs.«01_k».proof.Proof.Rin

@[expose] public section

set_option maxHeartbeats 800000

noncomputable section

namespace Cert.Proof

open Idealize.ShloMosaic Idealize.SL.Sem

attribute [local instance] Cert.Kernel4.Gen.facts Cert.Kernel4Ideal.Gen.facts

theorem e4_body : @Eq (type_of% (Cert.Kernel4Ideal.cc0_rms_in_c (F := Bits))) (Cert.Kernel4.cc0_rms_in_c (F := Bits)) (Cert.Kernel4Ideal.cc0_rms_in_c (F := Bits)) := rfl
theorem e4_defs₀ : @Eq (Idealize.ShloMosaic.Defs Cert.Kernel4Ideal.nD Cert.Kernel4Ideal.τ Cert.Kernel4Ideal.sig (Elt Bits) Cert.Kernel4Ideal.Λ₀) (Cert.Kernel4.defs₀ (F := Bits)) (Cert.Kernel4Ideal.defs₀ (F := Bits)) := by
  unfold Cert.Kernel4.defs₀ Cert.Kernel4Ideal.defs₀
  refine congrArg (Defs.onTc (nD := Cert.Kernel4Ideal.nD) (τ := Cert.Kernel4Ideal.τ) (sig := Cert.Kernel4Ideal.sig) (Val := Elt Bits) (Λ := Cert.Kernel4Ideal.Λ₀)) (funext fun l => funext fun x => ?_)
  match l, x with
  | ⟨0, _⟩, (t, s) => exact congrFun (congrFun (congrFun (congrFun (congrFun (congrFun (congrFun (congrFun (congrFun (congrFun (congrFun (e4_body) _) _) _) _) _) _) _) _) _) _) _
theorem e4_pcfgs : @Eq (Fin 1 → Pipeline.PCfg Cert.Kernel4Ideal.sig Cert.Kernel4Ideal.Λ₀ (Elt Bits)) (Cert.Kernel4.pcfgs (F := Bits)) (Cert.Kernel4Ideal.pcfgs (F := Bits)) := rfl

section
variable {nD : Nat} {τ : Topo} {sig : RefSig} {Λ₀ : Labels} {Val : EltTy → Type} [∀ e, Nonempty (Val e)]

/-- A run of one pipelined call, as a function of its parts. -/
def Run1 (pcs : Fin 1 → Pipeline.PCfg sig Λ₀ Val) (d : Defs nD τ sig Val Λ₀) (s : MemSt nD τ sig Val) (Q : PUnit × MemSt nD τ sig Val → Prop) : Prop :=
  θ_run (Pipeline.defs pcs d) (onTc (τ := τ) fun _ : Dev nD => do Prog.lift (.customCall (Pipeline.entry 0) ()); pure ⟨⟩) s Q
end

theorem run1_eq (s : MemSt Cert.Kernel4Ideal.nD Cert.Kernel4Ideal.τ Cert.Kernel4Ideal.sig (Elt Bits)) (Q : PUnit × MemSt Cert.Kernel4Ideal.nD Cert.Kernel4Ideal.τ Cert.Kernel4Ideal.sig (Elt Bits) → Prop)
    (h : Run1 (Cert.Kernel4Ideal.pcfgs (F := Bits)) Cert.Kernel4Ideal.defs₀ s Q) :
    Run1 (sig := Cert.Kernel4Ideal.sig) (Λ₀ := Cert.Kernel4Ideal.Λ₀) (Cert.Kernel4.pcfgs (F := Bits)) (Cert.Kernel4.defs₀ (F := Bits)) s Q := by
  rw [e4_pcfgs, e4_defs₀]
  exact h

theorem frame_kernel4 : Cert.quiescent_Kernel4 (hKernel4 := Cert.Kernel4.Gen.facts) := fun m ρ _ =>
  show Run1 (Cert.Kernel4.pcfgs (F := Bits)) Cert.Kernel4.defs₀ _ _ from run1_eq _ _ (Cert.Rin.frame (F := Bits) m ρ)

end Cert.Proof
-- ==== Proof.lean ====
/- The certificate: the runs of the kernel programs and of their references, and the claims about them. -/
module

public import proofs.«01_k».proof.Defs
public import proofs.«01_k».proof.Proof.Gen.Kernel
public import proofs.«01_k».proof.Proof.Gen.Kernel.Regions
public import proofs.«01_k».proof.Proof.Gen.KernelIdeal
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite7
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel7
public import proofs.«01_k».proof.Proof.Gen.Kernel6.Frame
public import proofs.«01_k».proof.Proof.Gen.Kernel7.Frame
public import proofs.«01_k».proof.Proof.Gen.Kernel6Ideal
public import proofs.«01_k».proof.Proof.Gen.Kernel7Ideal
public import proofs.«01_k».proof.Proof.Gen.Kernel6Ideal.Frame
public import proofs.«01_k».proof.Proof.Gen.Kernel7Ideal.Frame
public import proofs.«01_k».proof.Proof.Gen.Kernel6Ideal.Value
public import proofs.«01_k».proof.Proof.Gen.Kernel7Ideal.Value
public import proofs.«01_k».proof.Proof.Gen.Reference6Ideal
public import proofs.«01_k».proof.Proof.Gen.Reference7Ideal
public import proofs.«01_k».proof.Proof.Gen.Reference6Ideal.Run
public import proofs.«01_k».proof.Proof.Gen.Reference7Ideal.Run
public import proofs.«01_k».proof.Proof.Same
public import proofs.«01_k».proof.Proof.Values
public import proofs.«01_k».proof.Proof.RefVal
public import proofs.«01_k».proof.Proof.Inputs
public import proofs.«01_k».proof.Proof.RmsArr
public import proofs.«01_k».proof.Proof.RmsEven
public import proofs.«01_k».proof.Proof.Gate
public import proofs.«01_k».proof.Proof.GateBwd
public import proofs.«01_k».proof.Proof.Dw
public import proofs.«01_k».proof.Proof.RinArr
public import proofs.«01_k».proof.Proof.RinSame
public import Idealize.ShloMosaic.Adequacy
public import Idealize.ShloMosaic.Init

@[expose] public section

noncomputable section

namespace Cert.Proof

open Idealize.ShloMosaic Idealize.SL.Sem

theorem frame_ideal : Cert.quiescent_KernelIdeal (hKernelIdeal := Cert.KernelIdeal.Gen.facts) := fun m ρ _ => Cert.Attn.frame (F := Ideal) m ρ
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The two named constants are what they are named. -/
theorem preserves : Cert.preserves_Kernel_KernelIdeal :=
  ⟨IdealRules.named_const.statement Cert.KernelIdeal.κ "log2e" .f32 0x3FB8AA3B#32 _ rfl,
    IdealRules.named_const.statement Cert.KernelIdeal.κ "ln2" .f32 0x3F317218#32 _ rfl⟩

/-- An array of extended reals that is a table of reals at every pair of indices. -/
theorem matrix_eq {n : ℕ} (y : (⟨2, ![8192, n]⟩ : Shape).Idx → EReal) (f : ℕ → ℕ → ℝ) (h : ∀ (i : Fin 8192) (l : Fin n), y (ix2 i l) = ((f i l : ℝ) : EReal)) :
    y = fun j => ((f (j 0).val (j 1).val : ℝ) : EReal) := by
  funext j
  obtain ⟨i, l, rfl⟩ : ∃ (i : Fin 8192) (l : Fin n), j = ix2 i l := ⟨j 0, j 1, eq_ix2 j⟩
  exact h i l

/-- From arguments without infinities the kernel's program and the reference leave the same four results. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  letI := Cert.Pre_finite.Gen.facts
  let x : Dev Cert.KernelIdeal.nD → Cert.Attn.Inp := fun c => Cert.Attn.inp
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  have hq := fun c => Cert.Attn.finite_q _ _ _ _ (hpre c).1
  have hk := fun c => Cert.Attn.finite_k _ _ _ _ (hpre c).2.1
  have hv := fun c => Cert.Attn.finite_v _ _ _ _ (hpre c).2.2.1
  have hd := fun c => Cert.Attn.finite_d _ _ _ _ (hpre c).2.2.2
  refine ⟨fun c j => (((x c).o (j 0).val (j 1).val : ℝ) : EReal), fun c j => (((x c).dq (j 0).val (j 1).val : ℝ) : EReal),
    fun c j => (((x c).dk (j 0).val (j 1).val : ℝ) : EReal), fun c j => (((x c).dv (j 0).val (j 1).val : ℝ) : EReal), ?_, ?_⟩
  · refine (θ_run Cert.KernelIdeal.defs _ _).mono (fun r h c => ?_) (Cert.Attn.run_main (F := Ideal) m g)
    exact ⟨(h.1 c Cert.KernelIdeal.main_v8_0 rfl).trans (Cert.Attn.end_o m c (x c) (hq c) (hk c) (hv c)),
      (h.1 c Cert.KernelIdeal.main_v18 rfl).trans (Cert.Attn.end_dq m c (x c) (hq c) (hk c) (hv c) (hd c)),
      (h.1 c Cert.KernelIdeal.main_v16_1 rfl).trans (Cert.Attn.end_dk m c (x c) (hq c) (hk c) (hv c) (hd c)),
      (h.1 c Cert.KernelIdeal.main_v19 rfl).trans (Cert.Attn.end_dv m c (x c) (hq c) (hk c) (hv c) (hd c)),
      (h.1 c Cert.KernelIdeal.main_arg0 rfl).trans (Cert.Attn.W5_arg0 m c), (h.1 c Cert.KernelIdeal.main_arg1 rfl).trans (Cert.Attn.W5_arg1 m c),
      (h.1 c Cert.KernelIdeal.main_arg2 rfl).trans (Cert.Attn.W5_arg2 m c), (h.1 c Cert.KernelIdeal.main_arg3 rfl).trans (Cert.Attn.W5_arg3 m c)⟩
  · refine (θ_run Cert.ReferenceIdeal.defs _ _).mono (fun r h c => ?_) (Cert.ReferenceIdeal.Value.run (F := Ideal) m' g')
    obtain ⟨e0, e1, e2, e3⟩ := hargs c
    obtain ⟨h0, h1, h2, h3, h4⟩ := h c
    refine ⟨h0.trans ?_, h1.trans ?_, h2.trans ?_, h3.trans ?_, h4⟩
    · rw [Cert.Attn.Ref.out_o, e0, e1, e2]
      exact matrix_eq _ _ fun i l => Cert.Attn.Ref.o_val _ _ _ (x c) (hq c) (hk c) (hv c) i l
    · rw [Cert.Attn.Ref.out_dq, e0, e1, e2, e3]
      exact matrix_eq _ _ fun i l => Cert.Attn.Ref.dq_val _ _ _ _ (x c) (hq c) (hk c) (hv c) (hd c) i l
    · rw [Cert.Attn.Ref.out_dk, e0, e1, e2, e3]
      exact matrix_eq _ _ fun i l => Cert.Attn.Ref.dk_val _ _ _ _ (x c) (hq c) (hk c) (hv c) (hd c) i l
    · rw [Cert.Attn.Ref.out_dv, e0, e1, e3]
      exact matrix_eq _ _ fun i l => Cert.Attn.Ref.dv_val _ _ _ (x c) (hq c) (hk c) (hd c) i l

theorem frame_kernel2 : Cert.quiescent_Kernel2 (hKernel2 := Cert.Kernel2.Gen.facts) := fun m ρ _ => Cert.Kernel2.Gen.frame m ρ
theorem frame_ideal2 : Cert.quiescent_Kernel2Ideal (hKernel2Ideal := Cert.Kernel2Ideal.Gen.facts) := fun m ρ _ => Cert.Kernel2Ideal.Gen.frame m ρ
theorem frame_reference2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The normalisation's backward call and its reference leave the same four results, from any arguments. -/
theorem same_results2 : Cert.algebraic_Kernel2Ideal_Reference2Ideal (hKernel2Ideal := Cert.Kernel2Ideal.Gen.facts)
    (hReference2Ideal := Cert.Reference2Ideal.Gen.facts) := by
  intro m g m' g' _ hargs
  let A : ∀ c : Dev Cert.Kernel2Ideal.nD, FVec Ideal Cert.Kernel2Ideal.S8192x4224 .bf16 := fun c => m ((c.tc : Thread Cert.Kernel2Ideal.nD Cert.Kernel2Ideal.τ).loc Cert.Kernel2Ideal.main_arg0)
  let W : ∀ c : Dev Cert.Kernel2Ideal.nD, FVec Ideal Cert.Kernel2Ideal.S1024x4224 .bf16 := fun c => m ((c.tc : Thread Cert.Kernel2Ideal.nD Cert.Kernel2Ideal.τ).loc Cert.Kernel2Ideal.main_arg1)
  let H : ∀ c : Dev Cert.Kernel2Ideal.nD, FVec Ideal Cert.Kernel2Ideal.S8192x1024 .f32 := fun c => m ((c.tc : Thread Cert.Kernel2Ideal.nD Cert.Kernel2Ideal.τ).loc Cert.Kernel2Ideal.main_arg2)
  let G : ∀ c : Dev Cert.Kernel2Ideal.nD, FVec Ideal Cert.Kernel2Ideal.S1x1024 .f32 := fun c => m ((c.tc : Thread Cert.Kernel2Ideal.nD Cert.Kernel2Ideal.τ).loc Cert.Kernel2Ideal.main_arg3)
  let S : ∀ c : Dev Cert.Kernel2Ideal.nD, FVec Ideal Cert.Kernel2Ideal.S8192x1024 .f32 := fun c => m ((c.tc : Thread Cert.Kernel2Ideal.nD Cert.Kernel2Ideal.τ).loc Cert.Kernel2Ideal.main_arg4)
  let Y : ∀ c : Dev Cert.Kernel2Ideal.nD, FVec Ideal Cert.Kernel2Ideal.S8192x1024 .bf16 := fun c => m ((c.tc : Thread Cert.Kernel2Ideal.nD Cert.Kernel2Ideal.τ).loc Cert.Kernel2Ideal.main_arg5)
  refine ⟨fun c j => Cert.Rms.R.dh (A c) (W c) (H c) (G c) (S c) (j 0) (j 1), fun c j => Cert.Rms.R.dg (A c) (W c) (H c) (j 1),
    fun c j => Cert.Rms.R.dh (A c) (W c) (H c) (G c) (S c) (j 0) (j 1),
    fun c j => (∑ r : Fin 8192, Y c (ix2 r (j 0)) * Cert.Rms.R.dh (A c) (W c) (H c) (G c) (S c) r (j 1) : EReal), ?_, ?_⟩
  · refine (θ_run Cert.Kernel2Ideal.defs _ _).mono (fun r h c => ?_) (Cert.Kernel2Ideal.Value.run_blocks (F := Ideal) m g)
    obtain ⟨h0, h1, h2, h3, h4⟩ := h c
    exact ⟨h0.trans (Cert.Rms.arr6 m c (A := A c) (W := W c) (H := H c) (G := G c) (S := S c) rfl rfl rfl rfl rfl),
      h1.trans (Cert.Rms.arr7 m c (A := A c) (W := W c) (H := H c) rfl rfl rfl),
      h2.trans (Cert.Rms.arr8 m c (A := A c) (W := W c) (H := H c) (G := G c) (S := S c) rfl rfl rfl rfl rfl),
      h3.trans (Cert.Rms.arr9 m c (A := A c) (W := W c) (H := H c) (G := G c) (S := S c) (Y := Y c) rfl rfl rfl rfl rfl rfl), h4⟩
  · refine (θ_run Cert.Reference2Ideal.defs _ _).mono (fun r h c => ?_) (Cert.Reference2Ideal.Value.run (F := Ideal) m' g')
    obtain ⟨e0, e1, e2, e3, e4, e5⟩ := hargs c
    obtain ⟨h0, h1, h2, h3, h4⟩ := h c
    refine ⟨h0.trans ?_, h1.trans ?_, h2.trans ?_, h3.trans ?_, h4⟩
    · funext j
      obtain ⟨i, l, rfl⟩ : ∃ (i : Fin 8192) (l : Fin 1024), j = ix2 i l := ⟨j 0, j 1, eq_ix2 j⟩
      exact Cert.Rms.R.v39 m' c e0 e1 e2 e3 e4 i l
    · rw [e0, e1, e2]
      funext j
      obtain ⟨i, l, rfl⟩ : ∃ (i : Fin 1) (l : Fin 1024), j = ix2 i l := ⟨j 0, j 1, eq_ix2 j⟩
      exact Cert.Rms.R.v22 i l
    · funext j
      obtain ⟨i, l, rfl⟩ : ∃ (i : Fin 8192) (l : Fin 1024), j = ix2 i l := ⟨j 0, j 1, eq_ix2 j⟩
      exact Cert.Rms.R.v44 m' c e0 e1 e2 e3 e4 i l
    · funext j
      obtain ⟨i, l, rfl⟩ : ∃ (i : Fin 1024) (l : Fin 1024), j = ix2 i l := ⟨j 0, j 1, eq_ix2 j⟩
      exact Cert.Rms.R.v43 m' c e0 e1 e2 e3 e4 e5 i l

theorem frame_kernel3 : Cert.quiescent_Kernel3 (hKernel3 := Cert.Kernel3.Gen.facts) := fun m ρ _ => Cert.Kernel3.Gen.frame m ρ
theorem frame_ideal3 : Cert.quiescent_Kernel3Ideal (hKernel3Ideal := Cert.Kernel3Ideal.Gen.facts) := fun m ρ _ => Cert.Kernel3Ideal.Gen.frame m ρ
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The product for the input projection's weight gradient and its reference leave the same result, from any arguments. -/
theorem same_results3 : Cert.algebraic_Kernel3Ideal_Reference3Ideal (hKernel3Ideal := Cert.Kernel3Ideal.Gen.facts)
    (hReference3Ideal := Cert.Reference3Ideal.Gen.facts) := by
  intro m g m' g' _ hargs
  let A : ∀ c : Dev Cert.Kernel3Ideal.nD, FVec Ideal Cert.Kernel3Ideal.S8192x4224 .bf16 := fun c => m ((c.tc : Thread Cert.Kernel3Ideal.nD Cert.Kernel3Ideal.τ).loc Cert.Kernel3Ideal.main_arg0)
  let N : ∀ c : Dev Cert.Kernel3Ideal.nD, FVec Ideal Cert.Kernel3Ideal.S8192x1024 .bf16 := fun c => m ((c.tc : Thread Cert.Kernel3Ideal.nD Cert.Kernel3Ideal.τ).loc Cert.Kernel3Ideal.main_arg1)
  refine ⟨fun c j => (∑ r : Fin 8192, A c (ix2 r (j 0)) * N c (ix2 r (j 1)) : EReal), ?_, ?_⟩
  · refine (θ_run Cert.Kernel3Ideal.defs _ _).mono (fun r h c => ?_) (Cert.Kernel3Ideal.Value.run_blocks (F := Ideal) m g)
    exact ⟨(h c).1.trans (Cert.Dw.arr m c (A := A c) (N := N c) rfl rfl), (h c).2⟩
  · refine (θ_run Cert.Reference3Ideal.defs _ _).mono (fun r h c => ?_) (Cert.Reference3Ideal.Value.run (F := Ideal) m' g')
    obtain ⟨e0, e1⟩ := hargs c
    refine ⟨(h c).1.trans ?_, (h c).2⟩
    rw [e0, e1]
    funext j
    obtain ⟨i, l, rfl⟩ : ∃ (i : Fin 4224) (l : Fin 1024), j = ix2 i l := ⟨j 0, j 1, eq_ix2 j⟩
    exact Cert.Dw.Ref.at_ix (A c) (N c) i l

theorem frame_ideal4 : Cert.quiescent_Kernel4Ideal (hKernel4Ideal := Cert.Kernel4Ideal.Gen.facts) := fun m ρ _ => Cert.Rin.frame m ρ
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection with its norm and its reference leave the same two results, from any arguments. -/
theorem same_results4 : Cert.algebraic_Kernel4Ideal_Reference4Ideal (hKernel4Ideal := Cert.Kernel4Ideal.Gen.facts)
    (hReference4Ideal := Cert.Reference4Ideal.Gen.facts) := by
  intro m g m' g' _ hargs
  let H : ∀ c : Dev Cert.Kernel4Ideal.nD, FVec Ideal Cert.Kernel4Ideal.S8192x1024 .f32 := fun c => m ((c.tc : Thread Cert.Kernel4Ideal.nD Cert.Kernel4Ideal.τ).loc Cert.Kernel4Ideal.main_arg0)
  let G : ∀ c : Dev Cert.Kernel4Ideal.nD, FVec Ideal Cert.Kernel4Ideal.S1x1024 .f32 := fun c => m ((c.tc : Thread Cert.Kernel4Ideal.nD Cert.Kernel4Ideal.τ).loc Cert.Kernel4Ideal.main_arg1)
  let W : ∀ c : Dev Cert.Kernel4Ideal.nD, FVec Ideal Cert.Kernel4Ideal.S1024x4224 .bf16 := fun c => m ((c.tc : Thread Cert.Kernel4Ideal.nD Cert.Kernel4Ideal.τ).loc Cert.Kernel4Ideal.main_arg2)
  refine ⟨fun c j => Cert.Rin.pr (H c) (G c) (W c) (j 0) (j 1), fun c j => Cert.Rin.hn (H c) (G c) (j 0) (j 1), ?_, ?_⟩
  · refine (θ_run Cert.Kernel4Ideal.defs _ _).mono (fun r h c => ?_) (Cert.Rin.run_arr m g)
    exact ⟨(h c).1.trans (Cert.Rin.arr3 m c (H := H c) (G := G c) (W := W c) rfl rfl rfl), (h c).2.1.trans (Cert.Rin.arr4 m c (H := H c) (G := G c) rfl rfl), (h c).2.2⟩
  · refine (θ_run Cert.Reference4Ideal.defs _ _).mono (fun r h c => ?_) (Cert.Reference4Ideal.Value.run (F := Ideal) m' g')
    obtain ⟨e0, e1, e2⟩ := hargs c
    refine ⟨(h c).1.trans ?_, (h c).2.1.trans ?_, (h c).2.2⟩
    · rw [e0, e1, e2]
      funext j
      obtain ⟨i, l, rfl⟩ : ∃ (i : Fin 8192) (l : Fin 4224), j = ix2 i l := ⟨j 0, j 1, eq_ix2 j⟩
      exact Cert.Rin.Ref.prT_at (H c) (G c) (W c) i l
    · rw [e0, e1]
      funext j
      obtain ⟨i, l, rfl⟩ : ∃ (i : Fin 8192) (l : Fin 1024), j = ix2 i l := ⟨j 0, j 1, eq_ix2 j⟩
      exact Cert.Rin.Ref.hnT16_at (H c) (G c) i l

theorem frame_kernel5 : Cert.quiescent_Kernel5 (hKernel5 := Cert.Kernel5.Gen.facts) := fun m ρ _ => Cert.Kernel5.Gen.frame m ρ
theorem frame_ideal5 : Cert.quiescent_Kernel5Ideal (hKernel5Ideal := Cert.Kernel5Ideal.Gen.facts) := fun m ρ _ => Cert.Kernel5Ideal.Gen.frame m ρ
theorem frame_reference5 : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The even layer's backward call of the normalisation and its reference leave the same two results, from any arguments. -/
theorem same_results5 : Cert.algebraic_Kernel5Ideal_Reference5Ideal (hKernel5Ideal := Cert.Kernel5Ideal.Gen.facts)
    (hReference5Ideal := Cert.Reference5Ideal.Gen.facts) := by
  intro m g m' g' _ hargs
  let A : ∀ c : Dev Cert.Kernel5Ideal.nD, FVec Ideal Cert.Kernel5Ideal.S8192x2048 .bf16 := fun c => m ((c.tc : Thread Cert.Kernel5Ideal.nD Cert.Kernel5Ideal.τ).loc Cert.Kernel5Ideal.main_arg0)
  let W : ∀ c : Dev Cert.Kernel5Ideal.nD, FVec Ideal Cert.Kernel5Ideal.S1024x2048 .bf16 := fun c => m ((c.tc : Thread Cert.Kernel5Ideal.nD Cert.Kernel5Ideal.τ).loc Cert.Kernel5Ideal.main_arg1)
  let H : ∀ c : Dev Cert.Kernel5Ideal.nD, FVec Ideal Cert.Kernel5Ideal.S8192x1024 .f32 := fun c => m ((c.tc : Thread Cert.Kernel5Ideal.nD Cert.Kernel5Ideal.τ).loc Cert.Kernel5Ideal.main_arg2)
  let G : ∀ c : Dev Cert.Kernel5Ideal.nD, FVec Ideal Cert.Kernel5Ideal.S1x1024 .f32 := fun c => m ((c.tc : Thread Cert.Kernel5Ideal.nD Cert.Kernel5Ideal.τ).loc Cert.Kernel5Ideal.main_arg3)
  let S : ∀ c : Dev Cert.Kernel5Ideal.nD, FVec Ideal Cert.Kernel5Ideal.S8192x1024 .f32 := fun c => m ((c.tc : Thread Cert.Kernel5Ideal.nD Cert.Kernel5Ideal.τ).loc Cert.Kernel5Ideal.main_arg4)
  refine ⟨fun c j => Cert.RmsEven.dh (A c) (W c) (H c) (G c) (S c) (j 0) (j 1), fun c j => Cert.RmsEven.dg (A c) (W c) (H c) (j 1), ?_, ?_⟩
  · refine (θ_run Cert.Kernel5Ideal.defs _ _).mono (fun r h c => ?_) (Cert.Kernel5Ideal.Value.run_blocks (F := Ideal) m g)
    exact ⟨(h c).1.trans (Cert.RmsEven.arr5 m c (A := A c) (W := W c) (H := H c) (G := G c) (S := S c) rfl rfl rfl rfl rfl),
      (h c).2.1.trans (Cert.RmsEven.arr6 m c (A := A c) (W := W c) (H := H c) rfl rfl rfl), (h c).2.2⟩
  · refine (θ_run Cert.Reference5Ideal.defs _ _).mono (fun r h c => ?_) (Cert.Reference5Ideal.Value.run (F := Ideal) m' g')
    obtain ⟨e0, e1, e2, e3, e4⟩ := hargs c
    refine ⟨(h c).1.trans ?_, (h c).2.1.trans ?_, (h c).2.2⟩
    · funext j
      obtain ⟨i, l, rfl⟩ : ∃ (i : Fin 8192) (l : Fin 1024), j = ix2 i l := ⟨j 0, j 1, eq_ix2 j⟩
      exact Cert.RmsEven.R.v38 m' c e0 e1 e2 e3 e4 i l
    · rw [e0, e1, e2]
      funext j
      obtain ⟨i, l, rfl⟩ : ∃ (i : Fin 1) (l : Fin 1024), j = ix2 i l := ⟨j 0, j 1, eq_ix2 j⟩
      exact Cert.RmsEven.R.v21 i l

theorem frame_kernel6 : Cert.quiescent_Kernel6 (hKernel6 := Cert.Kernel6.Gen.facts) := fun m ρ _ => Cert.Kernel6.Gen.frame m ρ
theorem frame_ideal6 : Cert.quiescent_Kernel6Ideal (hKernel6Ideal := Cert.Kernel6Ideal.Gen.facts) := fun m ρ _ => Cert.Kernel6Ideal.Gen.frame m ρ
theorem frame_reference6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The even layer's gates with the output projection and their reference leave the same two results, from any arguments. -/
theorem same_results6 : Cert.algebraic_Kernel6Ideal_Reference6Ideal (hKernel6Ideal := Cert.Kernel6Ideal.Gen.facts)
    (hReference6Ideal := Cert.Reference6Ideal.Gen.facts) := by
  intro m g m' g' _ hargs
  let O : ∀ c : Dev Cert.Kernel6Ideal.nD, FVec Ideal Cert.Kernel6Ideal.S8192x512 .f32 := fun c => m ((c.tc : Thread Cert.Kernel6Ideal.nD Cert.Kernel6Ideal.τ).loc Cert.Kernel6Ideal.main_arg0)
  let Y : ∀ c : Dev Cert.Kernel6Ideal.nD, FVec Ideal Cert.Kernel6Ideal.S8192x512 .f32 := fun c => m ((c.tc : Thread Cert.Kernel6Ideal.nD Cert.Kernel6Ideal.τ).loc Cert.Kernel6Ideal.main_arg1)
  let Z : ∀ c : Dev Cert.Kernel6Ideal.nD, FVec Ideal Cert.Kernel6Ideal.S8192x2048 .f32 := fun c => m ((c.tc : Thread Cert.Kernel6Ideal.nD Cert.Kernel6Ideal.τ).loc Cert.Kernel6Ideal.main_arg2)
  let P : ∀ c : Dev Cert.Kernel6Ideal.nD, FVec Ideal Cert.Kernel6Ideal.S1x512 .f32 := fun c => m ((c.tc : Thread Cert.Kernel6Ideal.nD Cert.Kernel6Ideal.τ).loc Cert.Kernel6Ideal.main_arg3)
  let W : ∀ c : Dev Cert.Kernel6Ideal.nD, FVec Ideal Cert.Kernel6Ideal.S1024x1024 .bf16 := fun c => m ((c.tc : Thread Cert.Kernel6Ideal.nD Cert.Kernel6Ideal.τ).loc Cert.Kernel6Ideal.main_arg4)
  let H : ∀ c : Dev Cert.Kernel6Ideal.nD, FVec Ideal Cert.Kernel6Ideal.S8192x1024 .f32 := fun c => m ((c.tc : Thread Cert.Kernel6Ideal.nD Cert.Kernel6Ideal.τ).loc Cert.Kernel6Ideal.main_arg5)
  refine ⟨fun c j => Cert.Gate.gh (O c) (Y c) (Z c) (P c) (W c) (H c) (j 0) (j 1), fun c j => Cert.Gate.gy (O c) (Y c) (Z c) (P c) (j 0) (j 1), ?_, ?_⟩
  · refine (θ_run Cert.Kernel6Ideal.defs _ _).mono (fun r h c => ?_) (Cert.Kernel6Ideal.Value.run_blocks (F := Ideal) m g)
    exact ⟨(h c).1.trans (Cert.Gate.arr6 m c (O := O c) (Y := Y c) (Z := Z c) (P := P c) (W := W c) (H := H c) rfl rfl rfl rfl rfl rfl),
      (h c).2.1.trans (Cert.Gate.arr7 m c (O := O c) (Y := Y c) (Z := Z c) (P := P c) rfl rfl rfl rfl), (h c).2.2⟩
  · refine (θ_run Cert.Reference6Ideal.defs _ _).mono (fun r h c => ?_) (Cert.Reference6Ideal.Value.run (F := Ideal) m' g')
    obtain ⟨e0, e1, e2, e3, e4, e5⟩ := hargs c
    refine ⟨(h c).1.trans ?_, (h c).2.1.trans ?_, (h c).2.2⟩
    · rw [e0, e1, e2, e3, e4, e5]
      funext j
      obtain ⟨i, l, rfl⟩ : ∃ (i : Fin 8192) (l : Fin 1024), j = ix2 i l := ⟨j 0, j 1, eq_ix2 j⟩
      exact Cert.Gate.R.ghT_at (O c) (Y c) (Z c) (P c) (W c) (H c) i l
    · rw [e0, e1, e2, e3]
      funext j
      obtain ⟨i, l, rfl⟩ : ∃ (i : Fin 8192) (l : Fin 1024), j = ix2 i l := ⟨j 0, j 1, eq_ix2 j⟩
      exact Cert.Gate.R.gyT_at (O c) (Y c) (Z c) (P c) i l

theorem frame_kernel7 : Cert.quiescent_Kernel7 (hKernel7 := Cert.Kernel7.Gen.facts) := fun m ρ _ => Cert.Kernel7.Gen.frame m ρ
theorem frame_ideal7 : Cert.quiescent_Kernel7Ideal (hKernel7Ideal := Cert.Kernel7Ideal.Gen.facts) := fun m ρ _ => Cert.Kernel7Ideal.Gen.frame m ρ
theorem frame_reference7 : Cert.quiescent_Reference7Ideal (hReference7Ideal := Cert.Reference7Ideal.Gen.facts) := fun m ρ _ =>
  (θ_run Cert.Reference7Ideal.defs _ _).mono (fun r h => ⟨fun c => (h c).2.2.2.2.2, sem_eq_zero_of_no_sems (by decide) r.2⟩)
    (Cert.Reference7Ideal.Value.run (F := Ideal) m ρ)

/-- The backward pass of the even layer's gates and its reference leave the same five results, from finite arguments. -/
theorem same_results7 : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m g m' g' hpre hargs
  letI := Cert.Pre_finite7.Gen.facts
  let A : ∀ c : Dev Cert.Kernel7Ideal.nD, FVec Ideal Cert.Kernel7Ideal.S8192x1024 .bf16 := fun c => m ((c.tc : Thread Cert.Kernel7Ideal.nD Cert.Kernel7Ideal.τ).loc Cert.Kernel7Ideal.main_arg0)
  let W : ∀ c : Dev Cert.Kernel7Ideal.nD, FVec Ideal Cert.Kernel7Ideal.S1024x1024 .bf16 := fun c => m ((c.tc : Thread Cert.Kernel7Ideal.nD Cert.Kernel7Ideal.τ).loc Cert.Kernel7Ideal.main_arg1)
  let O : ∀ c : Dev Cert.Kernel7Ideal.nD, FVec Ideal Cert.Kernel7Ideal.S8192x512 .f32 := fun c => m ((c.tc : Thread Cert.Kernel7Ideal.nD Cert.Kernel7Ideal.τ).loc Cert.Kernel7Ideal.main_arg2)
  let Y : ∀ c : Dev Cert.Kernel7Ideal.nD, FVec Ideal Cert.Kernel7Ideal.S8192x512 .f32 := fun c => m ((c.tc : Thread Cert.Kernel7Ideal.nD Cert.Kernel7Ideal.τ).loc Cert.Kernel7Ideal.main_arg3)
  let Z : ∀ c : Dev Cert.Kernel7Ideal.nD, FVec Ideal Cert.Kernel7Ideal.S8192x2048 .f32 := fun c => m ((c.tc : Thread Cert.Kernel7Ideal.nD Cert.Kernel7Ideal.τ).loc Cert.Kernel7Ideal.main_arg4)
  let P : ∀ c : Dev Cert.Kernel7Ideal.nD, FVec Ideal Cert.Kernel7Ideal.S1x512 .f32 := fun c => m ((c.tc : Thread Cert.Kernel7Ideal.nD Cert.Kernel7Ideal.τ).loc Cert.Kernel7Ideal.main_arg5)
  have rA : ∀ c, Cert.GateBwd.Reals (A c) := fun c => Cert.GateBwd.reals_of _ _ Cert.GateBwd.inf_half _ _ (hpre c).1
  have rW : ∀ c, Cert.GateBwd.Reals (W c) := fun c => Cert.GateBwd.reals_of _ _ Cert.GateBwd.inf_half _ _ (hpre c).2.1
  have rO : ∀ c, Cert.GateBwd.Reals (O c) := fun c => Cert.GateBwd.reals_of _ _ Cert.Attn.inf_word _ _ (hpre c).2.2.1
  have rY : ∀ c, Cert.GateBwd.Reals (Y c) := fun c => Cert.GateBwd.reals_of _ _ Cert.Attn.inf_word _ _ (hpre c).2.2.2.1
  have rZ : ∀ c, Cert.GateBwd.Reals (Z c) := fun c => Cert.GateBwd.reals_of _ _ Cert.Attn.inf_word _ _ (hpre c).2.2.2.2.1
  have rP : ∀ c, Cert.GateBwd.Reals (P c) := fun c => Cert.GateBwd.reals_of _ _ Cert.Attn.inf_word _ _ (hpre c).2.2.2.2.2
  refine ⟨fun c j => Cert.GateBwd.gt (A c) (W c) (Z c) (j 0) ⟨(j 1).val, lt_trans (j 1).isLt (show 512 < 1024 by decide)⟩, fun c j => Cert.GateBwd.dl (A c) (W c) (O c) (Z c) (j 0) (j 1),
    fun c j => Cert.GateBwd.dd (A c) (W c) (Z c) (P c) (j 0) (j 1), fun c j => Cert.GateBwd.dz (A c) (W c) (O c) (Y c) (Z c) (P c) (j 0) (j 1),
    fun c j => Cert.GateBwd.ps (A c) (W c) (Y c) (Z c) (j 1), ?_, ?_⟩
  · refine (θ_run Cert.Kernel7Ideal.defs _ _).mono (fun r h c => ?_) (Cert.Kernel7Ideal.Value.run_blocks (F := Ideal) m g)
    exact ⟨(h c).1.trans (Cert.GateBwd.arr6 m c rfl rfl rfl), (h c).2.1.trans (Cert.GateBwd.arr7 m c rfl rfl rfl rfl (rA c) (rW c) (rO c) (rZ c)),
      (h c).2.2.1.trans (Cert.GateBwd.arr8 m c rfl rfl rfl rfl), (h c).2.2.2.1.trans (Cert.GateBwd.arr9 m c rfl rfl rfl rfl rfl rfl (rA c) (rW c) (rO c) (rY c) (rZ c) (rP c)),
      (h c).2.2.2.2.1.trans (Cert.GateBwd.arr10 m c rfl rfl rfl rfl), (h c).2.2.2.2.2⟩
  · refine (θ_run Cert.Reference7Ideal.defs _ _).mono (fun r h c => ?_) (Cert.Reference7Ideal.Value.run (F := Ideal) m' g')
    obtain ⟨e0, e1, e2, e3, e4, e5⟩ := hargs c
    refine ⟨(h c).1.trans ?_, (h c).2.1.trans ?_, (h c).2.2.1.trans ?_, (h c).2.2.2.1.trans ?_, (h c).2.2.2.2.1.trans ?_, (h c).2.2.2.2.2⟩
    · rw [e0, e1, e4]
      funext j
      obtain ⟨i, l, rfl⟩ : ∃ (i : Fin 8192) (l : Fin 512), j = ix2 i l := ⟨j 0, j 1, eq_ix2 j⟩
      exact Cert.GateBwd.R.doT_at (A c) (W c) (Z c) i l
    · rw [e0, e1, e2, e4]
      funext j
      obtain ⟨i, l, rfl⟩ : ∃ (i : Fin 8192) (l : Fin 512), j = ix2 i l := ⟨j 0, j 1, eq_ix2 j⟩
      exact Cert.GateBwd.R.dlT_at (A c) (W c) (O c) (Z c) i l
    · rw [e0, e1, e4, e5]
      funext j
      obtain ⟨i, l, rfl⟩ : ∃ (i : Fin 8192) (l : Fin 512), j = ix2 i l := ⟨j 0, j 1, eq_ix2 j⟩
      exact Cert.GateBwd.R.ddT_at (A c) (W c) (Z c) (P c) i l
    · rw [e0, e1, e2, e3, e4, e5]
      funext j
      obtain ⟨i, l, rfl⟩ : ∃ (i : Fin 8192) (l : Fin 1024), j = ix2 i l := ⟨j 0, j 1, eq_ix2 j⟩
      exact Cert.GateBwd.R.dzT_at (A c) (W c) (O c) (Y c) (Z c) (P c) i l
    · rw [e0, e1, e3, e4]
      funext j
      obtain ⟨i, l, rfl⟩ : ∃ (i : Fin 1) (l : Fin 512), j = ix2 i l := ⟨j 0, j 1, eq_ix2 j⟩
      exact Cert.GateBwd.R.psT_at (A c) (W c) (Y c) (Z c) i l

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite7.Gen.facts,
  frame_kernel, frame_ideal, fun m ρ _ => frame_ideal m ρ trivial, frame_reference, fun m ρ _ => frame_reference m ρ trivial,
  frame_kernel2, frame_ideal2, frame_reference2, frame_kernel3, frame_ideal3, frame_reference3,
  frame_kernel4, frame_ideal4, frame_reference4, frame_kernel5, frame_ideal5, frame_reference5,
  frame_kernel6, frame_ideal6, frame_reference6,
  frame_kernel7, frame_ideal7, fun m ρ _ => frame_ideal7 m ρ trivial, frame_reference7, fun m ρ _ => frame_reference7 m ρ trivial,
  preserves, same_results, trivial, same_results2, trivial, same_results3, trivial, same_results4, trivial, same_results5, trivial, same_results6, trivial, same_results7⟩

end Cert.Proof
